-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_RetS (m : (ℓ : Loc Cert.RetS.nD Cert.RetS.τ Cert.RetS.sig) → Buf (Elt Bits) ℓ) : Prop :=
  True

def Pre_RetSIdeal (m : (ℓ : Loc Cert.RetSIdeal.nD Cert.RetSIdeal.τ Cert.RetSIdeal.sig) → Buf (Elt Ideal) ℓ) : Prop :=
  True

def Pre_RetSRefIdeal (m : (ℓ : Loc Cert.RetSRefIdeal.nD Cert.RetSRefIdeal.τ Cert.RetSRefIdeal.sig) → Buf (Elt Ideal) ℓ) : Prop :=
  True

def Pre_BandS (m : (ℓ : Loc Cert.BandS.nD Cert.BandS.τ Cert.BandS.sig) → Buf (Elt Bits) ℓ) : Prop :=
  True

def Pre_BandSIdeal (m : (ℓ : Loc Cert.BandSIdeal.nD Cert.BandSIdeal.τ Cert.BandSIdeal.sig) → Buf (Elt Ideal) ℓ) : Prop :=
  True

def Pre_BandSRefIdeal (m : (ℓ : Loc Cert.BandSRefIdeal.nD Cert.BandSRefIdeal.τ Cert.BandSRefIdeal.sig) → Buf (Elt Ideal) ℓ) : Prop :=
  True

def Pre_FoxS (m : (ℓ : Loc Cert.FoxS.nD Cert.FoxS.τ Cert.FoxS.sig) → Buf (Elt Bits) ℓ) : Prop :=
  True

def Pre_FoxSIdeal (m : (ℓ : Loc Cert.FoxSIdeal.nD Cert.FoxSIdeal.τ Cert.FoxSIdeal.sig) → Buf (Elt Ideal) ℓ) : Prop :=
  True

def Pre_FoxSRefIdeal (m : (ℓ : Loc Cert.FoxSRefIdeal.nD Cert.FoxSRefIdeal.τ Cert.FoxSRefIdeal.sig) → Buf (Elt Ideal) ℓ) : Prop :=
  True

def Pre_FoxP (m : (ℓ : Loc Cert.FoxP.nD Cert.FoxP.τ Cert.FoxP.sig) → Buf (Elt Bits) ℓ) : Prop :=
  True

def Pre_FoxPIdeal (m : (ℓ : Loc Cert.FoxPIdeal.nD Cert.FoxPIdeal.τ Cert.FoxPIdeal.sig) → Buf (Elt Ideal) ℓ) : Prop :=
  True

def Pre_FoxPRefIdeal (m : (ℓ : Loc Cert.FoxPRefIdeal.nD Cert.FoxPRefIdeal.τ Cert.FoxPRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4)
      ∧ r.2.mem ((c.tc : Thread Cert.OutS.nD Cert.OutS.τ).loc Cert.OutS.main_arg5) = m ((c.tc : Thread Cert.OutS.nD Cert.OutS.τ).loc Cert.OutS.main_arg5))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
      ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4)
      ∧ r.2.mem ((c.tc : Thread Cert.OutSRefIdeal.nD Cert.OutSRefIdeal.τ).loc Cert.OutSRefIdeal.main_arg5) = m ((c.tc : Thread Cert.OutSRefIdeal.nD Cert.OutSRefIdeal.τ).loc Cert.OutSRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3))
      ∧ r.2.sem = fun _ => 0)

def quiescent_RetS [hRetS : Cert.RetS.Facts] : Prop :=
  ∀ (m : (ℓ : Loc Cert.RetS.nD Cert.RetS.τ Cert.RetS.sig) → Buf (Elt Bits) ℓ) (g : Dev Cert.RetS.nD → PrngReg), Pre_RetS m →
    θ_run (Cert.RetS.defs (F := Bits)) (onTc (τ := Cert.RetS.τ) (Cert.RetS.main (F := Bits))) ⟨m, fun _ => 0, g⟩ (fun r => (∀ c : Dev Cert.RetS.nD,
      r.2.mem ((c.tc : Thread Cert.RetS.nD Cert.RetS.τ).loc Cert.RetS.main_arg0) = m ((c.tc : Thread Cert.RetS.nD Cert.RetS.τ).loc Cert.RetS.main_arg0)
      ∧ r.2.mem ((c.tc : Thread Cert.RetS.nD Cert.RetS.τ).loc Cert.RetS.main_arg1) = m ((c.tc : Thread Cert.RetS.nD Cert.RetS.τ).loc Cert.RetS.main_arg1)
      ∧ r.2.mem ((c.tc : Thread Cert.RetS.nD Cert.RetS.τ).loc Cert.RetS.main_arg2) = m ((c.tc : Thread Cert.RetS.nD Cert.RetS.τ).loc Cert.RetS.main_arg2)
      ∧ r.2.mem ((c.tc : Thread Cert.RetS.nD Cert.RetS.τ).loc Cert.RetS.main_arg3) = m ((c.tc : Thread Cert.RetS.nD Cert.RetS.τ).loc Cert.RetS.main_arg3)
      ∧ r.2.mem ((c.tc : Thread Cert.RetS.nD Cert.RetS.τ).loc Cert.RetS.main_arg4) = m ((c.tc : Thread Cert.RetS.nD Cert.RetS.τ).loc Cert.RetS.main_arg4)
      ∧ r.2.mem ((c.tc : Thread Cert.RetS.nD Cert.RetS.τ).loc Cert.RetS.main_arg5) = m ((c.tc : Thread Cert.RetS.nD Cert.RetS.τ).loc Cert.RetS.main_arg5))
      ∧ r.2.sem = fun _ => 0)

def quiescent_RetSIdeal [hRetSIdeal : Cert.RetSIdeal.Facts] : Prop :=
  ∀ (m : (ℓ : Loc Cert.RetSIdeal.nD Cert.RetSIdeal.τ Cert.RetSIdeal.sig) → Buf (Elt Ideal) ℓ) (g : Dev Cert.RetSIdeal.nD → PrngReg), Pre_RetSIdeal m →
    θ_run (Cert.RetSIdeal.defs (F := Ideal)) (onTc (τ := Cert.RetSIdeal.τ) (Cert.RetSIdeal.main (F := Ideal))) ⟨m, fun _ => 0, g⟩ (fun r => (∀ c : Dev Cert.RetSIdeal.nD,
      r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
      ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
      ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2)
      ∧ r.2.mem ((c.tc : Thread Cert.RetSIdeal.nD Cert.RetSIdeal.τ).loc Cert.RetSIdeal.main_arg3) = m ((c.tc : Thread Cert.RetSIdeal.nD Cert.RetSIdeal.τ).loc Cert.RetSIdeal.main_arg3)
      ∧ r.2.mem ((c.tc : Thread Cert.RetSIdeal.nD Cert.RetSIdeal.τ).loc Cert.RetSIdeal.main_arg4) = m ((c.tc : Thread Cert.RetSIdeal.nD Cert.RetSIdeal.τ).loc Cert.RetSIdeal.main_arg4)
      ∧ r.2.mem ((c.tc : Thread Cert.RetSIdeal.nD Cert.RetSIdeal.τ).loc Cert.RetSIdeal.main_arg5) = m ((c.tc : Thread Cert.RetSIdeal.nD Cert.RetSIdeal.τ).loc Cert.RetSIdeal.main_arg5))
      ∧ r.2.sem = fun _ => 0)

def quiescent_RetSRefIdeal [hRetSRefIdeal : Cert.RetSRefIdeal.Facts] : Prop :=
  ∀ (m : (ℓ : Loc Cert.RetSRefIdeal.nD Cert.RetSRefIdeal.τ Cert.RetSRefIdeal.sig) → Buf (Elt Ideal) ℓ) (g : Dev Cert.RetSRefIdeal.nD → PrngReg), Pre_RetSRefIdeal m →
    θ_run (Cert.RetSRefIdeal.defs (F := Ideal)) (onTc (τ := Cert.RetSRefIdeal.τ) (Cert.RetSRefIdeal.main (F := Ideal))) ⟨m, fun _ => 0, g⟩ (fun r => (∀ c : Dev Cert.RetSRefIdeal.nD,
      r.2.mem ((c.tc : Thread Cert.RetSRefIdeal.nD Cert.RetSRefIdeal.τ).loc Cert.RetSRefIdeal.main_arg0) = m ((c.tc : Thread Cert.RetSRefIdeal.nD Cert.RetSRefIdeal.τ).loc Cert.RetSRefIdeal.main_arg0)
      ∧ r.2.mem ((c.tc : Thread Cert.RetSRefIdeal.nD Cert.RetSRefIdeal.τ).loc Cert.RetSRefIdeal.main_arg1) = m ((c.tc : Thread Cert.RetSRefIdeal.nD Cert.RetSRefIdeal.τ).loc Cert.RetSRefIdeal.main_arg1)
      ∧ r.2.mem ((c.tc : Thread Cert.RetSRefIdeal.nD Cert.RetSRefIdeal.τ).loc Cert.RetSRefIdeal.main_arg2) = m ((c.tc : Thread Cert.RetSRefIdeal.nD Cert.RetSRefIdeal.τ).loc Cert.RetSRefIdeal.main_arg2)
      ∧ r.2.mem ((c.tc : Thread Cert.RetSRefIdeal.nD Cert.RetSRefIdeal.τ).loc Cert.RetSRefIdeal.main_arg3) = m ((c.tc : Thread Cert.RetSRefIdeal.nD Cert.RetSRefIdeal.τ).loc Cert.RetSRefIdeal.main_arg3)
      ∧ r.2.mem ((c.tc : Thread Cert.RetSRefIdeal.nD Cert.RetSRefIdeal.τ).loc Cert.RetSRefIdeal.main_arg4) = m ((c.tc : Thread Cert.RetSRefIdeal.nD Cert.RetSRefIdeal.τ).loc Cert.RetSRefIdeal.main_arg4)
      ∧ r.2.mem ((c.tc : Thread Cert.RetSRefIdeal.nD Cert.RetSRefIdeal.τ).loc Cert.RetSRefIdeal.main_arg5) = m ((c.tc : Thread Cert.RetSRefIdeal.nD Cert.RetSRefIdeal.τ).loc Cert.RetSRefIdeal.main_arg5))
      ∧ r.2.sem = fun _ => 0)

def quiescent_BandS [hBandS : Cert.BandS.Facts] : Prop :=
  ∀ (m : (ℓ : Loc Cert.BandS.nD Cert.BandS.τ Cert.BandS.sig) → Buf (Elt Bits) ℓ) (g : Dev Cert.BandS.nD → PrngReg), Pre_BandS m →
    θ_run (Cert.BandS.defs (F := Bits)) (onTc (τ := Cert.BandS.τ) (Cert.BandS.main (F := Bits))) ⟨m, fun _ => 0, g⟩ (fun r => (∀ c : Dev Cert.BandS.nD,
      r.2.mem ((c.tc : Thread Cert.BandS.nD Cert.BandS.τ).loc Cert.BandS.main_arg0) = m ((c.tc : Thread Cert.BandS.nD Cert.BandS.τ).loc Cert.BandS.main_arg0)
      ∧ r.2.mem ((c.tc : Thread Cert.BandS.nD Cert.BandS.τ).loc Cert.BandS.main_arg1) = m ((c.tc : Thread Cert.BandS.nD Cert.BandS.τ).loc Cert.BandS.main_arg1)
      ∧ r.2.mem ((c.tc : Thread Cert.BandS.nD Cert.BandS.τ).loc Cert.BandS.main_arg2) = m ((c.tc : Thread Cert.BandS.nD Cert.BandS.τ).loc Cert.BandS.main_arg2)
      ∧ r.2.mem ((c.tc : Thread Cert.BandS.nD Cert.BandS.τ).loc Cert.BandS.main_arg3) = m ((c.tc : Thread Cert.BandS.nD Cert.BandS.τ).loc Cert.BandS.main_arg3))
      ∧ r.2.sem = fun _ => 0)

def quiescent_BandSIdeal [hBandSIdeal : Cert.BandSIdeal.Facts] : Prop :=
  ∀ (m : (ℓ : Loc Cert.BandSIdeal.nD Cert.BandSIdeal.τ Cert.BandSIdeal.sig) → Buf (Elt Ideal) ℓ) (g : Dev Cert.BandSIdeal.nD → PrngReg), Pre_BandSIdeal m →
    θ_run (Cert.BandSIdeal.defs (F := Ideal)) (onTc (τ := Cert.BandSIdeal.τ) (Cert.BandSIdeal.main (F := Ideal))) ⟨m, fun _ => 0, g⟩ (fun r => (∀ c : Dev Cert.BandSIdeal.nD,
      r.2.mem ((c.tc : Thread Cert.BandSIdeal.nD Cert.BandSIdeal.τ).loc Cert.BandSIdeal.main_arg0) = m ((c.tc : Thread Cert.BandSIdeal.nD Cert.BandSIdeal.τ).loc Cert.BandSIdeal.main_arg0)
      ∧ r.2.mem ((c.tc : Thread Cert.BandSIdeal.nD Cert.BandSIdeal.τ).loc Cert.BandSIdeal.main_arg1) = m ((c.tc : Thread Cert.BandSIdeal.nD Cert.BandSIdeal.τ).loc Cert.BandSIdeal.main_arg1)
      ∧ r.2.mem ((c.tc : Thread Cert.BandSIdeal.nD Cert.BandSIdeal.τ).loc Cert.BandSIdeal.main_arg2) = m ((c.tc : Thread Cert.BandSIdeal.nD Cert.BandSIdeal.τ).loc Cert.BandSIdeal.main_arg2)
      ∧ r.2.mem ((c.tc : Thread Cert.BandSIdeal.nD Cert.BandSIdeal.τ).loc Cert.BandSIdeal.main_arg3) = m ((c.tc : Thread Cert.BandSIdeal.nD Cert.BandSIdeal.τ).loc Cert.BandSIdeal.main_arg3))
      ∧ r.2.sem = fun _ => 0)

def quiescent_BandSRefIdeal [hBandSRefIdeal : Cert.BandSRefIdeal.Facts] : Prop :=
  ∀ (m : (ℓ : Loc Cert.BandSRefIdeal.nD Cert.BandSRefIdeal.τ Cert.BandSRefIdeal.sig) → Buf (Elt Ideal) ℓ) (g : Dev Cert.BandSRefIdeal.nD → PrngReg), Pre_BandSRefIdeal m →
    θ_run (Cert.BandSRefIdeal.defs (F := Ideal)) (onTc (τ := Cert.BandSRefIdeal.τ) (Cert.BandSRefIdeal.main (F := Ideal))) ⟨m, fun _ => 0, g⟩ (fun r => (∀ c : Dev Cert.BandSRefIdeal.nD,
      r.2.mem ((c.tc : Thread Cert.BandSRefIdeal.nD Cert.BandSRefIdeal.τ).loc Cert.BandSRefIdeal.main_arg0) = m ((c.tc : Thread Cert.BandSRefIdeal.nD Cert.BandSRefIdeal.τ).loc Cert.BandSRefIdeal.main_arg0)
      ∧ r.2.mem ((c.tc : Thread Cert.BandSRefIdeal.nD Cert.BandSRefIdeal.τ).loc Cert.BandSRefIdeal.main_arg1) = m ((c.tc : Thread Cert.BandSRefIdeal.nD Cert.BandSRefIdeal.τ).loc Cert.BandSRefIdeal.main_arg1)
      ∧ r.2.mem ((c.tc : Thread Cert.BandSRefIdeal.nD Cert.BandSRefIdeal.τ).loc Cert.BandSRefIdeal.main_arg2) = m ((c.tc : Thread Cert.BandSRefIdeal.nD Cert.BandSRefIdeal.τ).loc Cert.BandSRefIdeal.main_arg2)
      ∧ r.2.mem ((c.tc : Thread Cert.BandSRefIdeal.nD Cert.BandSRefIdeal.τ).loc Cert.BandSRefIdeal.main_arg3) = m ((c.tc : Thread Cert.BandSRefIdeal.nD Cert.BandSRefIdeal.τ).loc Cert.BandSRefIdeal.main_arg3))
      ∧ r.2.sem = fun _ => 0)

def quiescent_FoxS [hFoxS : Cert.FoxS.Facts] : Prop :=
  ∀ (m : (ℓ : Loc Cert.FoxS.nD Cert.FoxS.τ Cert.FoxS.sig) → Buf (Elt Bits) ℓ) (g : Dev Cert.FoxS.nD → PrngReg), Pre_FoxS m →
    θ_run (Cert.FoxS.defs (F := Bits)) (onTc (τ := Cert.FoxS.τ) (Cert.FoxS.main (F := Bits))) ⟨m, fun _ => 0, g⟩ (fun r => (∀ c : Dev Cert.FoxS.nD,
      r.2.mem ((c.tc : Thread Cert.FoxS.nD Cert.FoxS.τ).loc Cert.FoxS.main_arg0) = m ((c.tc : Thread Cert.FoxS.nD Cert.FoxS.τ).loc Cert.FoxS.main_arg0)
      ∧ r.2.mem ((c.tc : Thread Cert.FoxS.nD Cert.FoxS.τ).loc Cert.FoxS.main_arg1) = m ((c.tc : Thread Cert.FoxS.nD Cert.FoxS.τ).loc Cert.FoxS.main_arg1)
      ∧ r.2.mem ((c.tc : Thread Cert.FoxS.nD Cert.FoxS.τ).loc Cert.FoxS.main_arg2) = m ((c.tc : Thread Cert.FoxS.nD Cert.FoxS.τ).loc Cert.FoxS.main_arg2)
      ∧ r.2.mem ((c.tc : Thread Cert.FoxS.nD Cert.FoxS.τ).loc Cert.FoxS.main_arg3) = m ((c.tc : Thread Cert.FoxS.nD Cert.FoxS.τ).loc Cert.FoxS.main_arg3)
      ∧ r.2.mem ((c.tc : Thread Cert.FoxS.nD Cert.FoxS.τ).loc Cert.FoxS.main_arg4) = m ((c.tc : Thread Cert.FoxS.nD Cert.FoxS.τ).loc Cert.FoxS.main_arg4)
      ∧ r.2.mem ((c.tc : Thread Cert.FoxS.nD Cert.FoxS.τ).loc Cert.FoxS.main_arg5) = m ((c.tc : Thread Cert.FoxS.nD Cert.FoxS.τ).loc Cert.FoxS.main_arg5))
      ∧ r.2.sem = fun _ => 0)

def quiescent_FoxSIdeal [hFoxSIdeal : Cert.FoxSIdeal.Facts] : Prop :=
  ∀ (m : (ℓ : Loc Cert.FoxSIdeal.nD Cert.FoxSIdeal.τ Cert.FoxSIdeal.sig) → Buf (Elt Ideal) ℓ) (g : Dev Cert.FoxSIdeal.nD → PrngReg), Pre_FoxSIdeal m →
    θ_run (Cert.FoxSIdeal.defs (F := Ideal)) (onTc (τ := Cert.FoxSIdeal.τ) (Cert.FoxSIdeal.main (F := Ideal))) ⟨m, fun _ => 0, g⟩ (fun r => (∀ c : Dev Cert.FoxSIdeal.nD,
      r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
      ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
      ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
      ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
      ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
      ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ r.2.sem = fun _ => 0)

def quiescent_FoxSRefIdeal [hFoxSRefIdeal : Cert.FoxSRefIdeal.Facts] : Prop :=
  ∀ (m : (ℓ : Loc Cert.FoxSRefIdeal.nD Cert.FoxSRefIdeal.τ Cert.FoxSRefIdeal.sig) → Buf (Elt Ideal) ℓ) (g : Dev Cert.FoxSRefIdeal.nD → PrngReg), Pre_FoxSRefIdeal m →
    θ_run (Cert.FoxSRefIdeal.defs (F := Ideal)) (onTc (τ := Cert.FoxSRefIdeal.τ) (Cert.FoxSRefIdeal.main (F := Ideal))) ⟨m, fun _ => 0, g⟩ (fun r => (∀ c : Dev Cert.FoxSRefIdeal.nD,
      r.2.mem ((c.tc : Thread Cert.FoxSRefIdeal.nD Cert.FoxSRefIdeal.τ).loc Cert.FoxSRefIdeal.main_arg0) = m ((c.tc : Thread Cert.FoxSRefIdeal.nD Cert.FoxSRefIdeal.τ).loc Cert.FoxSRefIdeal.main_arg0)
      ∧ r.2.mem ((c.tc : Thread Cert.FoxSRefIdeal.nD Cert.FoxSRefIdeal.τ).loc Cert.FoxSRefIdeal.main_arg1) = m ((c.tc : Thread Cert.FoxSRefIdeal.nD Cert.FoxSRefIdeal.τ).loc Cert.FoxSRefIdeal.main_arg1)
      ∧ r.2.mem ((c.tc : Thread Cert.FoxSRefIdeal.nD Cert.FoxSRefIdeal.τ).loc Cert.FoxSRefIdeal.main_arg2) = m ((c.tc : Thread Cert.FoxSRefIdeal.nD Cert.FoxSRefIdeal.τ).loc Cert.FoxSRefIdeal.main_arg2)
      ∧ r.2.mem ((c.tc : Thread Cert.FoxSRefIdeal.nD Cert.FoxSRefIdeal.τ).loc Cert.FoxSRefIdeal.main_arg3) = m ((c.tc : Thread Cert.FoxSRefIdeal.nD Cert.FoxSRefIdeal.τ).loc Cert.FoxSRefIdeal.main_arg3)
      ∧ r.2.mem ((c.tc : Thread Cert.FoxSRefIdeal.nD Cert.FoxSRefIdeal.τ).loc Cert.FoxSRefIdeal.main_arg4) = m ((c.tc : Thread Cert.FoxSRefIdeal.nD Cert.FoxSRefIdeal.τ).loc Cert.FoxSRefIdeal.main_arg4)
      ∧ r.2.mem ((c.tc : Thread Cert.FoxSRefIdeal.nD Cert.FoxSRefIdeal.τ).loc Cert.FoxSRefIdeal.main_arg5) = m ((c.tc : Thread Cert.FoxSRefIdeal.nD Cert.FoxSRefIdeal.τ).loc Cert.FoxSRefIdeal.main_arg5))
      ∧ r.2.sem = fun _ => 0)

def quiescent_FoxP [hFoxP : Cert.FoxP.Facts] : Prop :=
  ∀ (m : (ℓ : Loc Cert.FoxP.nD Cert.FoxP.τ Cert.FoxP.sig) → Buf (Elt Bits) ℓ) (g : Dev Cert.FoxP.nD → PrngReg), Pre_FoxP m →
    θ_run (Cert.FoxP.defs (F := Bits)) (onTc (τ := Cert.FoxP.τ) (Cert.FoxP.main (F := Bits))) ⟨m, fun _ => 0, g⟩ (fun r => (∀ c : Dev Cert.FoxP.nD,
      r.2.mem ((c.tc : Thread Cert.FoxP.nD Cert.FoxP.τ).loc Cert.FoxP.main_arg0) = m ((c.tc : Thread Cert.FoxP.nD Cert.FoxP.τ).loc Cert.FoxP.main_arg0)
      ∧ r.2.mem ((c.tc : Thread Cert.FoxP.nD Cert.FoxP.τ).loc Cert.FoxP.main_arg1) = m ((c.tc : Thread Cert.FoxP.nD Cert.FoxP.τ).loc Cert.FoxP.main_arg1)
      ∧ r.2.mem ((c.tc : Thread Cert.FoxP.nD Cert.FoxP.τ).loc Cert.FoxP.main_arg2) = m ((c.tc : Thread Cert.FoxP.nD Cert.FoxP.τ).loc Cert.FoxP.main_arg2)
      ∧ r.2.mem ((c.tc : Thread Cert.FoxP.nD Cert.FoxP.τ).loc Cert.FoxP.main_arg3) = m ((c.tc : Thread Cert.FoxP.nD Cert.FoxP.τ).loc Cert.FoxP.main_arg3)
      ∧ r.2.mem ((c.tc : Thread Cert.FoxP.nD Cert.FoxP.τ).loc Cert.FoxP.main_arg4) = m ((c.tc : Thread Cert.FoxP.nD Cert.FoxP.τ).loc Cert.FoxP.main_arg4)
      ∧ r.2.mem ((c.tc : Thread Cert.FoxP.nD Cert.FoxP.τ).loc Cert.FoxP.main_arg5) = m ((c.tc : Thread Cert.FoxP.nD Cert.FoxP.τ).loc Cert.FoxP.main_arg5))
      ∧ r.2.sem = fun _ => 0)

def quiescent_FoxPIdeal [hFoxPIdeal : Cert.FoxPIdeal.Facts] : Prop :=
  ∀ (m : (ℓ : Loc Cert.FoxPIdeal.nD Cert.FoxPIdeal.τ Cert.FoxPIdeal.sig) → Buf (Elt Ideal) ℓ) (g : Dev Cert.FoxPIdeal.nD → PrngReg), Pre_FoxPIdeal m →
    θ_run (Cert.FoxPIdeal.defs (F := Ideal)) (onTc (τ := Cert.FoxPIdeal.τ) (Cert.FoxPIdeal.main (F := Ideal))) ⟨m, fun _ => 0, g⟩ (fun r => (∀ c : Dev Cert.FoxPIdeal.nD,
      r.2.mem ((c.tc : Thread Cert.FoxPIdeal.nD Cert.FoxPIdeal.τ).loc Cert.FoxPIdeal.main_arg0) = m ((c.tc : Thread Cert.FoxPIdeal.nD Cert.FoxPIdeal.τ).loc Cert.FoxPIdeal.main_arg0)
      ∧ r.2.mem ((c.tc : Thread Cert.FoxPIdeal.nD Cert.FoxPIdeal.τ).loc Cert.FoxPIdeal.main_arg1) = m ((c.tc : Thread Cert.FoxPIdeal.nD Cert.FoxPIdeal.τ).loc Cert.FoxPIdeal.main_arg1)
      ∧ r.2.mem ((c.tc : Thread Cert.FoxPIdeal.nD Cert.FoxPIdeal.τ).loc Cert.FoxPIdeal.main_arg2) = m ((c.tc : Thread Cert.FoxPIdeal.nD Cert.FoxPIdeal.τ).loc Cert.FoxPIdeal.main_arg2)
      ∧ r.2.mem ((c.tc : Thread Cert.FoxPIdeal.nD Cert.FoxPIdeal.τ).loc Cert.FoxPIdeal.main_arg3) = m ((c.tc : Thread Cert.FoxPIdeal.nD Cert.FoxPIdeal.τ).loc Cert.FoxPIdeal.main_arg3)
      ∧ r.2.mem ((c.tc : Thread Cert.FoxPIdeal.nD Cert.FoxPIdeal.τ).loc Cert.FoxPIdeal.main_arg4) = m ((c.tc : Thread Cert.FoxPIdeal.nD Cert.FoxPIdeal.τ).loc Cert.FoxPIdeal.main_arg4)
      ∧ r.2.mem ((c.tc : Thread Cert.FoxPIdeal.nD Cert.FoxPIdeal.τ).loc Cert.FoxPIdeal.main_arg5) = m ((c.tc : Thread Cert.FoxPIdeal.nD Cert.FoxPIdeal.τ).loc Cert.FoxPIdeal.main_arg5))
      ∧ r.2.sem = fun _ => 0)

def quiescent_FoxPRefIdeal [hFoxPRefIdeal : Cert.FoxPRefIdeal.Facts] : Prop :=
  ∀ (m : (ℓ : Loc Cert.FoxPRefIdeal.nD Cert.FoxPRefIdeal.τ Cert.FoxPRefIdeal.sig) → Buf (Elt Ideal) ℓ) (g : Dev Cert.FoxPRefIdeal.nD → PrngReg), Pre_FoxPRefIdeal m →
    θ_run (Cert.FoxPRefIdeal.defs (F := Ideal)) (onTc (τ := Cert.FoxPRefIdeal.τ) (Cert.FoxPRefIdeal.main (F := Ideal))) ⟨m, fun _ => 0, g⟩ (fun r => (∀ c : Dev Cert.FoxPRefIdeal.nD,
      r.2.mem ((c.tc : Thread Cert.FoxPRefIdeal.nD Cert.FoxPRefIdeal.τ).loc Cert.FoxPRefIdeal.main_arg0) = m ((c.tc : Thread Cert.FoxPRefIdeal.nD Cert.FoxPRefIdeal.τ).loc Cert.FoxPRefIdeal.main_arg0)
      ∧ r.2.mem ((c.tc : Thread Cert.FoxPRefIdeal.nD Cert.FoxPRefIdeal.τ).loc Cert.FoxPRefIdeal.main_arg1) = m ((c.tc : Thread Cert.FoxPRefIdeal.nD Cert.FoxPRefIdeal.τ).loc Cert.FoxPRefIdeal.main_arg1)
      ∧ r.2.mem ((c.tc : Thread Cert.FoxPRefIdeal.nD Cert.FoxPRefIdeal.τ).loc Cert.FoxPRefIdeal.main_arg2) = m ((c.tc : Thread Cert.FoxPRefIdeal.nD Cert.FoxPRefIdeal.τ).loc Cert.FoxPRefIdeal.main_arg2)
      ∧ r.2.mem ((c.tc : Thread Cert.FoxPRefIdeal.nD Cert.FoxPRefIdeal.τ).loc Cert.FoxPRefIdeal.main_arg3) = m ((c.tc : Thread Cert.FoxPRefIdeal.nD Cert.FoxPRefIdeal.τ).loc Cert.FoxPRefIdeal.main_arg3)
      ∧ r.2.mem ((c.tc : Thread Cert.FoxPRefIdeal.nD Cert.FoxPRefIdeal.τ).loc Cert.FoxPRefIdeal.main_arg4) = m ((c.tc : Thread Cert.FoxPRefIdeal.nD Cert.FoxPRefIdeal.τ).loc Cert.FoxPRefIdeal.main_arg4)
      ∧ r.2.mem ((c.tc : Thread Cert.FoxPRefIdeal.nD Cert.FoxPRefIdeal.τ).loc Cert.FoxPRefIdeal.main_arg5) = m ((c.tc : Thread Cert.FoxPRefIdeal.nD Cert.FoxPRefIdeal.τ).loc Cert.FoxPRefIdeal.main_arg5))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v22_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_v41) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v44) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v44) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)
      ∧ m' ((c.tc : Thread Cert.OutSRefIdeal.nD Cert.OutSRefIdeal.τ).loc Cert.OutSRefIdeal.main_arg5) = m ((c.tc : Thread Cert.OutSIdeal.nD Cert.OutSIdeal.τ).loc Cert.OutSIdeal.main_arg5)) →
    ∃ (v0 : (c : Dev Cert.OutSIdeal.nD) → Buf (Elt Ideal) ((c.tc : Thread Cert.OutSIdeal.nD Cert.OutSIdeal.τ).loc Cert.OutSIdeal.main_v0)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v0) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
          ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v44) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4)
          ∧ r.2.mem ((c.tc : Thread Cert.OutSRefIdeal.nD Cert.OutSRefIdeal.τ).loc Cert.OutSRefIdeal.main_arg5) = m' ((c.tc : Thread Cert.OutSRefIdeal.nD Cert.OutSRefIdeal.τ).loc Cert.OutSRefIdeal.main_arg5))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)) →
    ∃ (v0 : (c : Dev Cert.FfnSIdeal.nD) → Buf (Elt Ideal) ((c.tc : Thread Cert.FfnSIdeal.nD Cert.FfnSIdeal.τ).loc Cert.FfnSIdeal.main_v0_0)) (v1 : (c : Dev Cert.FfnSIdeal.nD) → Buf (Elt Ideal) ((c.tc : Thread Cert.FfnSIdeal.nD Cert.FfnSIdeal.τ).loc Cert.FfnSIdeal.main_v0_1)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v0_0) = v0 c
          ∧ r.2.mem ((c.tc : Thread Cert.FfnSIdeal.nD Cert.FfnSIdeal.τ).loc Cert.FfnSIdeal.main_v0_1) = v1 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v25) = v0 c
          ∧ r.2.mem ((c.tc : Thread Cert.FfnSRefIdeal.nD Cert.FfnSRefIdeal.τ).loc Cert.FfnSRefIdeal.main_v41) = v1 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3))

def preserves_RetS_RetSIdeal : Prop :=
  True

def algebraic_RetSIdeal_RetSRefIdeal [hRetSIdeal : Cert.RetSIdeal.Facts] [hRetSRefIdeal : Cert.RetSRefIdeal.Facts] : Prop :=
  ∀ (m : (ℓ : Loc Cert.RetSIdeal.nD Cert.RetSIdeal.τ Cert.RetSIdeal.sig) → Buf (Elt Ideal) ℓ) (g : Dev Cert.RetSIdeal.nD → PrngReg)
    (m' : (ℓ : Loc Cert.RetSRefIdeal.nD Cert.RetSRefIdeal.τ Cert.RetSRefIdeal.sig) → Buf (Elt Ideal) ℓ) (g' : Dev Cert.RetSRefIdeal.nD → PrngReg), Pre_RetSIdeal m →
    (∀ c : Dev Cert.RetSIdeal.nD,
      m' ((c.tc : Thread Cert.RetSRefIdeal.nD Cert.RetSRefIdeal.τ).loc Cert.RetSRefIdeal.main_arg0) = m ((c.tc : Thread Cert.RetSIdeal.nD Cert.RetSIdeal.τ).loc Cert.RetSIdeal.main_arg0)
      ∧ m' ((c.tc : Thread Cert.RetSRefIdeal.nD Cert.RetSRefIdeal.τ).loc Cert.RetSRefIdeal.main_arg1) = m ((c.tc : Thread Cert.RetSIdeal.nD Cert.RetSIdeal.τ).loc Cert.RetSIdeal.main_arg1)
      ∧ m' ((c.tc : Thread Cert.RetSRefIdeal.nD Cert.RetSRefIdeal.τ).loc Cert.RetSRefIdeal.main_arg2) = m ((c.tc : Thread Cert.RetSIdeal.nD Cert.RetSIdeal.τ).loc Cert.RetSIdeal.main_arg2)
      ∧ m' ((c.tc : Thread Cert.RetSRefIdeal.nD Cert.RetSRefIdeal.τ).loc Cert.RetSRefIdeal.main_arg3) = m ((c.tc : Thread Cert.RetSIdeal.nD Cert.RetSIdeal.τ).loc Cert.RetSIdeal.main_arg3)
      ∧ m' ((c.tc : Thread Cert.RetSRefIdeal.nD Cert.RetSRefIdeal.τ).loc Cert.RetSRefIdeal.main_arg4) = m ((c.tc : Thread Cert.RetSIdeal.nD Cert.RetSIdeal.τ).loc Cert.RetSIdeal.main_arg4)
      ∧ m' ((c.tc : Thread Cert.RetSRefIdeal.nD Cert.RetSRefIdeal.τ).loc Cert.RetSRefIdeal.main_arg5) = m ((c.tc : Thread Cert.RetSIdeal.nD Cert.RetSIdeal.τ).loc Cert.RetSIdeal.main_arg5)) →
    ∃ (v0 : (c : Dev Cert.RetSIdeal.nD) → Buf (Elt Ideal) ((c.tc : Thread Cert.RetSIdeal.nD Cert.RetSIdeal.τ).loc Cert.RetSIdeal.main_v48_0)) (v1 : (c : Dev Cert.RetSIdeal.nD) → Buf (Elt Ideal) ((c.tc : Thread Cert.RetSIdeal.nD Cert.RetSIdeal.τ).loc Cert.RetSIdeal.main_v48_1)),
      θ_run (Cert.RetSIdeal.defs (F := Ideal)) (onTc (τ := Cert.RetSIdeal.τ) (Cert.RetSIdeal.main (F := Ideal))) ⟨m, fun _ => 0, g⟩ (fun r => ∀ c : Dev Cert.RetSIdeal.nD,
          r.2.mem ((c.tc : Thread Cert.RetSIdeal.nD Cert.RetSIdeal.τ).loc Cert.RetSIdeal.main_v48_0) = v0 c
          ∧ r.2.mem ((c.tc : Thread Cert.RetSIdeal.nD Cert.RetSIdeal.τ).loc Cert.RetSIdeal.main_v48_1) = v1 c
          ∧ r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
          ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
          ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2)
          ∧ r.2.mem ((c.tc : Thread Cert.RetSIdeal.nD Cert.RetSIdeal.τ).loc Cert.RetSIdeal.main_arg3) = m ((c.tc : Thread Cert.RetSIdeal.nD Cert.RetSIdeal.τ).loc Cert.RetSIdeal.main_arg3)
          ∧ r.2.mem ((c.tc : Thread Cert.RetSIdeal.nD Cert.RetSIdeal.τ).loc Cert.RetSIdeal.main_arg4) = m ((c.tc : Thread Cert.RetSIdeal.nD Cert.RetSIdeal.τ).loc Cert.RetSIdeal.main_arg4)
          ∧ r.2.mem ((c.tc : Thread Cert.RetSIdeal.nD Cert.RetSIdeal.τ).loc Cert.RetSIdeal.main_arg5) = m ((c.tc : Thread Cert.RetSIdeal.nD Cert.RetSIdeal.τ).loc Cert.RetSIdeal.main_arg5))
      ∧ θ_run (Cert.RetSRefIdeal.defs (F := Ideal)) (onTc (τ := Cert.RetSRefIdeal.τ) (Cert.RetSRefIdeal.main (F := Ideal))) ⟨m', fun _ => 0, g'⟩ (fun r => ∀ c : Dev Cert.RetSRefIdeal.nD,
          r.2.mem ((c.tc : Thread Cert.RetSRefIdeal.nD Cert.RetSRefIdeal.τ).loc Cert.RetSRefIdeal.main_v96) = v0 c
          ∧ r.2.mem ((c.tc : Thread Cert.RetSRefIdeal.nD Cert.RetSRefIdeal.τ).loc Cert.RetSRefIdeal.main_v68) = v1 c
          ∧ r.2.mem ((c.tc : Thread Cert.RetSRefIdeal.nD Cert.RetSRefIdeal.τ).loc Cert.RetSRefIdeal.main_arg0) = m' ((c.tc : Thread Cert.RetSRefIdeal.nD Cert.RetSRefIdeal.τ).loc Cert.RetSRefIdeal.main_arg0)
          ∧ r.2.mem ((c.tc : Thread Cert.RetSRefIdeal.nD Cert.RetSRefIdeal.τ).loc Cert.RetSRefIdeal.main_arg1) = m' ((c.tc : Thread Cert.RetSRefIdeal.nD Cert.RetSRefIdeal.τ).loc Cert.RetSRefIdeal.main_arg1)
          ∧ r.2.mem ((c.tc : Thread Cert.RetSRefIdeal.nD Cert.RetSRefIdeal.τ).loc Cert.RetSRefIdeal.main_arg2) = m' ((c.tc : Thread Cert.RetSRefIdeal.nD Cert.RetSRefIdeal.τ).loc Cert.RetSRefIdeal.main_arg2)
          ∧ r.2.mem ((c.tc : Thread Cert.RetSRefIdeal.nD Cert.RetSRefIdeal.τ).loc Cert.RetSRefIdeal.main_arg3) = m' ((c.tc : Thread Cert.RetSRefIdeal.nD Cert.RetSRefIdeal.τ).loc Cert.RetSRefIdeal.main_arg3)
          ∧ r.2.mem ((c.tc : Thread Cert.RetSRefIdeal.nD Cert.RetSRefIdeal.τ).loc Cert.RetSRefIdeal.main_arg4) = m' ((c.tc : Thread Cert.RetSRefIdeal.nD Cert.RetSRefIdeal.τ).loc Cert.RetSRefIdeal.main_arg4)
          ∧ r.2.mem ((c.tc : Thread Cert.RetSRefIdeal.nD Cert.RetSRefIdeal.τ).loc Cert.RetSRefIdeal.main_arg5) = m' ((c.tc : Thread Cert.RetSRefIdeal.nD Cert.RetSRefIdeal.τ).loc Cert.RetSRefIdeal.main_arg5))

def preserves_BandS_BandSIdeal : Prop :=
  True

def algebraic_BandSIdeal_BandSRefIdeal [hBandSIdeal : Cert.BandSIdeal.Facts] [hBandSRefIdeal : Cert.BandSRefIdeal.Facts] : Prop :=
  ∀ (m : (ℓ : Loc Cert.BandSIdeal.nD Cert.BandSIdeal.τ Cert.BandSIdeal.sig) → Buf (Elt Ideal) ℓ) (g : Dev Cert.BandSIdeal.nD → PrngReg)
    (m' : (ℓ : Loc Cert.BandSRefIdeal.nD Cert.BandSRefIdeal.τ Cert.BandSRefIdeal.sig) → Buf (Elt Ideal) ℓ) (g' : Dev Cert.BandSRefIdeal.nD → PrngReg), Pre_BandSIdeal m →
    (∀ c : Dev Cert.BandSIdeal.nD,
      m' ((c.tc : Thread Cert.BandSRefIdeal.nD Cert.BandSRefIdeal.τ).loc Cert.BandSRefIdeal.main_arg0) = m ((c.tc : Thread Cert.BandSIdeal.nD Cert.BandSIdeal.τ).loc Cert.BandSIdeal.main_arg0)
      ∧ m' ((c.tc : Thread Cert.BandSRefIdeal.nD Cert.BandSRefIdeal.τ).loc Cert.BandSRefIdeal.main_arg1) = m ((c.tc : Thread Cert.BandSIdeal.nD Cert.BandSIdeal.τ).loc Cert.BandSIdeal.main_arg1)
      ∧ m' ((c.tc : Thread Cert.BandSRefIdeal.nD Cert.BandSRefIdeal.τ).loc Cert.BandSRefIdeal.main_arg2) = m ((c.tc : Thread Cert.BandSIdeal.nD Cert.BandSIdeal.τ).loc Cert.BandSIdeal.main_arg2)
      ∧ m' ((c.tc : Thread Cert.BandSRefIdeal.nD Cert.BandSRefIdeal.τ).loc Cert.BandSRefIdeal.main_arg3) = m ((c.tc : Thread Cert.BandSIdeal.nD Cert.BandSIdeal.τ).loc Cert.BandSIdeal.main_arg3)) →
    ∃ (v0 : (c : Dev Cert.BandSIdeal.nD) → Buf (Elt Ideal) ((c.tc : Thread Cert.BandSIdeal.nD Cert.BandSIdeal.τ).loc Cert.BandSIdeal.main_v16_0)) (v1 : (c : Dev Cert.BandSIdeal.nD) → Buf (Elt Ideal) ((c.tc : Thread Cert.BandSIdeal.nD Cert.BandSIdeal.τ).loc Cert.BandSIdeal.main_v16_1)) (v2 : (c : Dev Cert.BandSIdeal.nD) → Buf (Elt Ideal) ((c.tc : Thread Cert.BandSIdeal.nD Cert.BandSIdeal.τ).loc Cert.BandSIdeal.main_v16_2)) (v3 : (c : Dev Cert.BandSIdeal.nD) → Buf (Elt Ideal) ((c.tc : Thread Cert.BandSIdeal.nD Cert.BandSIdeal.τ).loc Cert.BandSIdeal.main_v16_3)) (v4 : (c : Dev Cert.BandSIdeal.nD) → Buf (Elt Ideal) ((c.tc : Thread Cert.BandSIdeal.nD Cert.BandSIdeal.τ).loc Cert.BandSIdeal.main_v16_4)),
      θ_run (Cert.BandSIdeal.defs (F := Ideal)) (onTc (τ := Cert.BandSIdeal.τ) (Cert.BandSIdeal.main (F := Ideal))) ⟨m, fun _ => 0, g⟩ (fun r => ∀ c : Dev Cert.BandSIdeal.nD,
          r.2.mem ((c.tc : Thread Cert.BandSIdeal.nD Cert.BandSIdeal.τ).loc Cert.BandSIdeal.main_v16_0) = v0 c
          ∧ r.2.mem ((c.tc : Thread Cert.BandSIdeal.nD Cert.BandSIdeal.τ).loc Cert.BandSIdeal.main_v16_1) = v1 c
          ∧ r.2.mem ((c.tc : Thread Cert.BandSIdeal.nD Cert.BandSIdeal.τ).loc Cert.BandSIdeal.main_v16_2) = v2 c
          ∧ r.2.mem ((c.tc : Thread Cert.BandSIdeal.nD Cert.BandSIdeal.τ).loc Cert.BandSIdeal.main_v16_3) = v3 c
          ∧ r.2.mem ((c.tc : Thread Cert.BandSIdeal.nD Cert.BandSIdeal.τ).loc Cert.BandSIdeal.main_v16_4) = v4 c
          ∧ r.2.mem ((c.tc : Thread Cert.BandSIdeal.nD Cert.BandSIdeal.τ).loc Cert.BandSIdeal.main_arg0) = m ((c.tc : Thread Cert.BandSIdeal.nD Cert.BandSIdeal.τ).loc Cert.BandSIdeal.main_arg0)
          ∧ r.2.mem ((c.tc : Thread Cert.BandSIdeal.nD Cert.BandSIdeal.τ).loc Cert.BandSIdeal.main_arg1) = m ((c.tc : Thread Cert.BandSIdeal.nD Cert.BandSIdeal.τ).loc Cert.BandSIdeal.main_arg1)
          ∧ r.2.mem ((c.tc : Thread Cert.BandSIdeal.nD Cert.BandSIdeal.τ).loc Cert.BandSIdeal.main_arg2) = m ((c.tc : Thread Cert.BandSIdeal.nD Cert.BandSIdeal.τ).loc Cert.BandSIdeal.main_arg2)
          ∧ r.2.mem ((c.tc : Thread Cert.BandSIdeal.nD Cert.BandSIdeal.τ).loc Cert.BandSIdeal.main_arg3) = m ((c.tc : Thread Cert.BandSIdeal.nD Cert.BandSIdeal.τ).loc Cert.BandSIdeal.main_arg3))
      ∧ θ_run (Cert.BandSRefIdeal.defs (F := Ideal)) (onTc (τ := Cert.BandSRefIdeal.τ) (Cert.BandSRefIdeal.main (F := Ideal))) ⟨m', fun _ => 0, g'⟩ (fun r => ∀ c : Dev Cert.BandSRefIdeal.nD,
          r.2.mem ((c.tc : Thread Cert.BandSRefIdeal.nD Cert.BandSRefIdeal.τ).loc Cert.BandSRefIdeal.main_v40) = v0 c
          ∧ r.2.mem ((c.tc : Thread Cert.BandSRefIdeal.nD Cert.BandSRefIdeal.τ).loc Cert.BandSRefIdeal.main_v41) = v1 c
          ∧ r.2.mem ((c.tc : Thread Cert.BandSRefIdeal.nD Cert.BandSRefIdeal.τ).loc Cert.BandSRefIdeal.main_v42) = v2 c
          ∧ r.2.mem ((c.tc : Thread Cert.BandSRefIdeal.nD Cert.BandSRefIdeal.τ).loc Cert.BandSRefIdeal.main_v38) = v3 c
          ∧ r.2.mem ((c.tc : Thread Cert.BandSRefIdeal.nD Cert.BandSRefIdeal.τ).loc Cert.BandSRefIdeal.main_v39) = v4 c
          ∧ r.2.mem ((c.tc : Thread Cert.BandSRefIdeal.nD Cert.BandSRefIdeal.τ).loc Cert.BandSRefIdeal.main_arg0) = m' ((c.tc : Thread Cert.BandSRefIdeal.nD Cert.BandSRefIdeal.τ).loc Cert.BandSRefIdeal.main_arg0)
          ∧ r.2.mem ((c.tc : Thread Cert.BandSRefIdeal.nD Cert.BandSRefIdeal.τ).loc Cert.BandSRefIdeal.main_arg1) = m' ((c.tc : Thread Cert.BandSRefIdeal.nD Cert.BandSRefIdeal.τ).loc Cert.BandSRefIdeal.main_arg1)
          ∧ r.2.mem ((c.tc : Thread Cert.BandSRefIdeal.nD Cert.BandSRefIdeal.τ).loc Cert.BandSRefIdeal.main_arg2) = m' ((c.tc : Thread Cert.BandSRefIdeal.nD Cert.BandSRefIdeal.τ).loc Cert.BandSRefIdeal.main_arg2)
          ∧ r.2.mem ((c.tc : Thread Cert.BandSRefIdeal.nD Cert.BandSRefIdeal.τ).loc Cert.BandSRefIdeal.main_arg3) = m' ((c.tc : Thread Cert.BandSRefIdeal.nD Cert.BandSRefIdeal.τ).loc Cert.BandSRefIdeal.main_arg3))

def preserves_FoxS_FoxSIdeal : Prop :=
  True

def algebraic_FoxSIdeal_FoxSRefIdeal [hFoxSIdeal : Cert.FoxSIdeal.Facts] [hFoxSRefIdeal : Cert.FoxSRefIdeal.Facts] : Prop :=
  ∀ (m : (ℓ : Loc Cert.FoxSIdeal.nD Cert.FoxSIdeal.τ Cert.FoxSIdeal.sig) → Buf (Elt Ideal) ℓ) (g : Dev Cert.FoxSIdeal.nD → PrngReg)
    (m' : (ℓ : Loc Cert.FoxSRefIdeal.nD Cert.FoxSRefIdeal.τ Cert.FoxSRefIdeal.sig) → Buf (Elt Ideal) ℓ) (g' : Dev Cert.FoxSRefIdeal.nD → PrngReg), Pre_FoxSIdeal m →
    (∀ c : Dev Cert.FoxSIdeal.nD,
      m' ((c.tc : Thread Cert.FoxSRefIdeal.nD Cert.FoxSRefIdeal.τ).loc Cert.FoxSRefIdeal.main_arg0) = m ((c.tc : Thread Cert.FoxSIdeal.nD Cert.FoxSIdeal.τ).loc Cert.FoxSIdeal.main_arg0)
      ∧ m' ((c.tc : Thread Cert.FoxSRefIdeal.nD Cert.FoxSRefIdeal.τ).loc Cert.FoxSRefIdeal.main_arg1) = m ((c.tc : Thread Cert.FoxSIdeal.nD Cert.FoxSIdeal.τ).loc Cert.FoxSIdeal.main_arg1)
      ∧ m' ((c.tc : Thread Cert.FoxSRefIdeal.nD Cert.FoxSRefIdeal.τ).loc Cert.FoxSRefIdeal.main_arg2) = m ((c.tc : Thread Cert.FoxSIdeal.nD Cert.FoxSIdeal.τ).loc Cert.FoxSIdeal.main_arg2)
      ∧ m' ((c.tc : Thread Cert.FoxSRefIdeal.nD Cert.FoxSRefIdeal.τ).loc Cert.FoxSRefIdeal.main_arg3) = m ((c.tc : Thread Cert.FoxSIdeal.nD Cert.FoxSIdeal.τ).loc Cert.FoxSIdeal.main_arg3)
      ∧ m' ((c.tc : Thread Cert.FoxSRefIdeal.nD Cert.FoxSRefIdeal.τ).loc Cert.FoxSRefIdeal.main_arg4) = m ((c.tc : Thread Cert.FoxSIdeal.nD Cert.FoxSIdeal.τ).loc Cert.FoxSIdeal.main_arg4)
      ∧ m' ((c.tc : Thread Cert.FoxSRefIdeal.nD Cert.FoxSRefIdeal.τ).loc Cert.FoxSRefIdeal.main_arg5) = m ((c.tc : Thread Cert.FoxSIdeal.nD Cert.FoxSIdeal.τ).loc Cert.FoxSIdeal.main_arg5)) →
    ∃ (v0 : (c : Dev Cert.FoxSIdeal.nD) → Buf (Elt Ideal) ((c.tc : Thread Cert.FoxSIdeal.nD Cert.FoxSIdeal.τ).loc Cert.FoxSIdeal.main_v18_0)) (v1 : (c : Dev Cert.FoxSIdeal.nD) → Buf (Elt Ideal) ((c.tc : Thread Cert.FoxSIdeal.nD Cert.FoxSIdeal.τ).loc Cert.FoxSIdeal.main_v18_1)) (v2 : (c : Dev Cert.FoxSIdeal.nD) → Buf (Elt Ideal) ((c.tc : Thread Cert.FoxSIdeal.nD Cert.FoxSIdeal.τ).loc Cert.FoxSIdeal.main_v18_2)) (v3 : (c : Dev Cert.FoxSIdeal.nD) → Buf (Elt Ideal) ((c.tc : Thread Cert.FoxSIdeal.nD Cert.FoxSIdeal.τ).loc Cert.FoxSIdeal.main_v18_3)) (v4 : (c : Dev Cert.FoxSIdeal.nD) → Buf (Elt Ideal) ((c.tc : Thread Cert.FoxSIdeal.nD Cert.FoxSIdeal.τ).loc Cert.FoxSIdeal.main_v18_4)) (v5 : (c : Dev Cert.FoxSIdeal.nD) → Buf (Elt Ideal) ((c.tc : Thread Cert.FoxSIdeal.nD Cert.FoxSIdeal.τ).loc Cert.FoxSIdeal.main_v18_5)),
      θ_run (Cert.FoxSIdeal.defs (F := Ideal)) (onTc (τ := Cert.FoxSIdeal.τ) (Cert.FoxSIdeal.main (F := Ideal))) ⟨m, fun _ => 0, g⟩ (fun r => ∀ c : Dev Cert.FoxSIdeal.nD,
          r.2.mem ((c.tc : Thread Cert.FoxSIdeal.nD Cert.FoxSIdeal.τ).loc Cert.FoxSIdeal.main_v18_0) = v0 c
          ∧ r.2.mem ((c.tc : Thread Cert.FoxSIdeal.nD Cert.FoxSIdeal.τ).loc Cert.FoxSIdeal.main_v18_1) = v1 c
          ∧ r.2.mem ((c.tc : Thread Cert.FoxSIdeal.nD Cert.FoxSIdeal.τ).loc Cert.FoxSIdeal.main_v18_2) = v2 c
          ∧ r.2.mem ((c.tc : Thread Cert.FoxSIdeal.nD Cert.FoxSIdeal.τ).loc Cert.FoxSIdeal.main_v18_3) = v3 c
          ∧ r.2.mem ((c.tc : Thread Cert.FoxSIdeal.nD Cert.FoxSIdeal.τ).loc Cert.FoxSIdeal.main_v18_4) = v4 c
          ∧ r.2.mem ((c.tc : Thread Cert.FoxSIdeal.nD Cert.FoxSIdeal.τ).loc Cert.FoxSIdeal.main_v18_5) = v5 c
          ∧ r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
          ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
          ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
          ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
          ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
          ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ θ_run (Cert.FoxSRefIdeal.defs (F := Ideal)) (onTc (τ := Cert.FoxSRefIdeal.τ) (Cert.FoxSRefIdeal.main (F := Ideal))) ⟨m', fun _ => 0, g'⟩ (fun r => ∀ c : Dev Cert.FoxSRefIdeal.nD,
          r.2.mem ((c.tc : Thread Cert.FoxSRefIdeal.nD Cert.FoxSRefIdeal.τ).loc Cert.FoxSRefIdeal.main_v45) = v0 c
          ∧ r.2.mem ((c.tc : Thread Cert.FoxSRefIdeal.nD Cert.FoxSRefIdeal.τ).loc Cert.FoxSRefIdeal.main_v46) = v1 c
          ∧ r.2.mem ((c.tc : Thread Cert.FoxSRefIdeal.nD Cert.FoxSRefIdeal.τ).loc Cert.FoxSRefIdeal.main_v47) = v2 c
          ∧ r.2.mem ((c.tc : Thread Cert.FoxSRefIdeal.nD Cert.FoxSRefIdeal.τ).loc Cert.FoxSRefIdeal.main_v43) = v3 c
          ∧ r.2.mem ((c.tc : Thread Cert.FoxSRefIdeal.nD Cert.FoxSRefIdeal.τ).loc Cert.FoxSRefIdeal.main_v44) = v4 c
          ∧ r.2.mem ((c.tc : Thread Cert.FoxSRefIdeal.nD Cert.FoxSRefIdeal.τ).loc Cert.FoxSRefIdeal.main_v48) = v5 c
          ∧ r.2.mem ((c.tc : Thread Cert.FoxSRefIdeal.nD Cert.FoxSRefIdeal.τ).loc Cert.FoxSRefIdeal.main_arg0) = m' ((c.tc : Thread Cert.FoxSRefIdeal.nD Cert.FoxSRefIdeal.τ).loc Cert.FoxSRefIdeal.main_arg0)
          ∧ r.2.mem ((c.tc : Thread Cert.FoxSRefIdeal.nD Cert.FoxSRefIdeal.τ).loc Cert.FoxSRefIdeal.main_arg1) = m' ((c.tc : Thread Cert.FoxSRefIdeal.nD Cert.FoxSRefIdeal.τ).loc Cert.FoxSRefIdeal.main_arg1)
          ∧ r.2.mem ((c.tc : Thread Cert.FoxSRefIdeal.nD Cert.FoxSRefIdeal.τ).loc Cert.FoxSRefIdeal.main_arg2) = m' ((c.tc : Thread Cert.FoxSRefIdeal.nD Cert.FoxSRefIdeal.τ).loc Cert.FoxSRefIdeal.main_arg2)
          ∧ r.2.mem ((c.tc : Thread Cert.FoxSRefIdeal.nD Cert.FoxSRefIdeal.τ).loc Cert.FoxSRefIdeal.main_arg3) = m' ((c.tc : Thread Cert.FoxSRefIdeal.nD Cert.FoxSRefIdeal.τ).loc Cert.FoxSRefIdeal.main_arg3)
          ∧ r.2.mem ((c.tc : Thread Cert.FoxSRefIdeal.nD Cert.FoxSRefIdeal.τ).loc Cert.FoxSRefIdeal.main_arg4) = m' ((c.tc : Thread Cert.FoxSRefIdeal.nD Cert.FoxSRefIdeal.τ).loc Cert.FoxSRefIdeal.main_arg4)
          ∧ r.2.mem ((c.tc : Thread Cert.FoxSRefIdeal.nD Cert.FoxSRefIdeal.τ).loc Cert.FoxSRefIdeal.main_arg5) = m' ((c.tc : Thread Cert.FoxSRefIdeal.nD Cert.FoxSRefIdeal.τ).loc Cert.FoxSRefIdeal.main_arg5))

def preserves_FoxP_FoxPIdeal : Prop :=
  True

def algebraic_FoxPIdeal_FoxPRefIdeal [hFoxPIdeal : Cert.FoxPIdeal.Facts] [hFoxPRefIdeal : Cert.FoxPRefIdeal.Facts] : Prop :=
  ∀ (m : (ℓ : Loc Cert.FoxPIdeal.nD Cert.FoxPIdeal.τ Cert.FoxPIdeal.sig) → Buf (Elt Ideal) ℓ) (g : Dev Cert.FoxPIdeal.nD → PrngReg)
    (m' : (ℓ : Loc Cert.FoxPRefIdeal.nD Cert.FoxPRefIdeal.τ Cert.FoxPRefIdeal.sig) → Buf (Elt Ideal) ℓ) (g' : Dev Cert.FoxPRefIdeal.nD → PrngReg), Pre_FoxPIdeal m →
    (∀ c : Dev Cert.FoxPIdeal.nD,
      m' ((c.tc : Thread Cert.FoxPRefIdeal.nD Cert.FoxPRefIdeal.τ).loc Cert.FoxPRefIdeal.main_arg0) = m ((c.tc : Thread Cert.FoxPIdeal.nD Cert.FoxPIdeal.τ).loc Cert.FoxPIdeal.main_arg0)
      ∧ m' ((c.tc : Thread Cert.FoxPRefIdeal.nD Cert.FoxPRefIdeal.τ).loc Cert.FoxPRefIdeal.main_arg1) = m ((c.tc : Thread Cert.FoxPIdeal.nD Cert.FoxPIdeal.τ).loc Cert.FoxPIdeal.main_arg1)
      ∧ m' ((c.tc : Thread Cert.FoxPRefIdeal.nD Cert.FoxPRefIdeal.τ).loc Cert.FoxPRefIdeal.main_arg2) = m ((c.tc : Thread Cert.FoxPIdeal.nD Cert.FoxPIdeal.τ).loc Cert.FoxPIdeal.main_arg2)
      ∧ m' ((c.tc : Thread Cert.FoxPRefIdeal.nD Cert.FoxPRefIdeal.τ).loc Cert.FoxPRefIdeal.main_arg3) = m ((c.tc : Thread Cert.FoxPIdeal.nD Cert.FoxPIdeal.τ).loc Cert.FoxPIdeal.main_arg3)
      ∧ m' ((c.tc : Thread Cert.FoxPRefIdeal.nD Cert.FoxPRefIdeal.τ).loc Cert.FoxPRefIdeal.main_arg4) = m ((c.tc : Thread Cert.FoxPIdeal.nD Cert.FoxPIdeal.τ).loc Cert.FoxPIdeal.main_arg4)
      ∧ m' ((c.tc : Thread Cert.FoxPRefIdeal.nD Cert.FoxPRefIdeal.τ).loc Cert.FoxPRefIdeal.main_arg5) = m ((c.tc : Thread Cert.FoxPIdeal.nD Cert.FoxPIdeal.τ).loc Cert.FoxPIdeal.main_arg5)) →
    ∃ (v0 : (c : Dev Cert.FoxPIdeal.nD) → Buf (Elt Ideal) ((c.tc : Thread Cert.FoxPIdeal.nD Cert.FoxPIdeal.τ).loc Cert.FoxPIdeal.main_v21_0)) (v1 : (c : Dev Cert.FoxPIdeal.nD) → Buf (Elt Ideal) ((c.tc : Thread Cert.FoxPIdeal.nD Cert.FoxPIdeal.τ).loc Cert.FoxPIdeal.main_v21_1)) (v2 : (c : Dev Cert.FoxPIdeal.nD) → Buf (Elt Ideal) ((c.tc : Thread Cert.FoxPIdeal.nD Cert.FoxPIdeal.τ).loc Cert.FoxPIdeal.main_v21_2)) (v3 : (c : Dev Cert.FoxPIdeal.nD) → Buf (Elt Ideal) ((c.tc : Thread Cert.FoxPIdeal.nD Cert.FoxPIdeal.τ).loc Cert.FoxPIdeal.main_v21_3)) (v4 : (c : Dev Cert.FoxPIdeal.nD) → Buf (Elt Ideal) ((c.tc : Thread Cert.FoxPIdeal.nD Cert.FoxPIdeal.τ).loc Cert.FoxPIdeal.main_v21_4)) (v5 : (c : Dev Cert.FoxPIdeal.nD) → Buf (Elt Ideal) ((c.tc : Thread Cert.FoxPIdeal.nD Cert.FoxPIdeal.τ).loc Cert.FoxPIdeal.main_v21_5)),
      θ_run (Cert.FoxPIdeal.defs (F := Ideal)) (onTc (τ := Cert.FoxPIdeal.τ) (Cert.FoxPIdeal.main (F := Ideal))) ⟨m, fun _ => 0, g⟩ (fun r => ∀ c : Dev Cert.FoxPIdeal.nD,
          r.2.mem ((c.tc : Thread Cert.FoxPIdeal.nD Cert.FoxPIdeal.τ).loc Cert.FoxPIdeal.main_v21_0) = v0 c
          ∧ r.2.mem ((c.tc : Thread Cert.FoxPIdeal.nD Cert.FoxPIdeal.τ).loc Cert.FoxPIdeal.main_v21_1) = v1 c
          ∧ r.2.mem ((c.tc : Thread Cert.FoxPIdeal.nD Cert.FoxPIdeal.τ).loc Cert.FoxPIdeal.main_v21_2) = v2 c
          ∧ r.2.mem ((c.tc : Thread Cert.FoxPIdeal.nD Cert.FoxPIdeal.τ).loc Cert.FoxPIdeal.main_v21_3) = v3 c
          ∧ r.2.mem ((c.tc : Thread Cert.FoxPIdeal.nD Cert.FoxPIdeal.τ).loc Cert.FoxPIdeal.main_v21_4) = v4 c
          ∧ r.2.mem ((c.tc : Thread Cert.FoxPIdeal.nD Cert.FoxPIdeal.τ).loc Cert.FoxPIdeal.main_v21_5) = v5 c
          ∧ r.2.mem ((c.tc : Thread Cert.FoxPIdeal.nD Cert.FoxPIdeal.τ).loc Cert.FoxPIdeal.main_arg0) = m ((c.tc : Thread Cert.FoxPIdeal.nD Cert.FoxPIdeal.τ).loc Cert.FoxPIdeal.main_arg0)
          ∧ r.2.mem ((c.tc : Thread Cert.FoxPIdeal.nD Cert.FoxPIdeal.τ).loc Cert.FoxPIdeal.main_arg1) = m ((c.tc : Thread Cert.FoxPIdeal.nD Cert.FoxPIdeal.τ).loc Cert.FoxPIdeal.main_arg1)
          ∧ r.2.mem ((c.tc : Thread Cert.FoxPIdeal.nD Cert.FoxPIdeal.τ).loc Cert.FoxPIdeal.main_arg2) = m ((c.tc : Thread Cert.FoxPIdeal.nD Cert.FoxPIdeal.τ).loc Cert.FoxPIdeal.main_arg2)
          ∧ r.2.mem ((c.tc : Thread Cert.FoxPIdeal.nD Cert.FoxPIdeal.τ).loc Cert.FoxPIdeal.main_arg3) = m ((c.tc : Thread Cert.FoxPIdeal.nD Cert.FoxPIdeal.τ).loc Cert.FoxPIdeal.main_arg3)
          ∧ r.2.mem ((c.tc : Thread Cert.FoxPIdeal.nD Cert.FoxPIdeal.τ).loc Cert.FoxPIdeal.main_arg4) = m ((c.tc : Thread Cert.FoxPIdeal.nD Cert.FoxPIdeal.τ).loc Cert.FoxPIdeal.main_arg4)
          ∧ r.2.mem ((c.tc : Thread Cert.FoxPIdeal.nD Cert.FoxPIdeal.τ).loc Cert.FoxPIdeal.main_arg5) = m ((c.tc : Thread Cert.FoxPIdeal.nD Cert.FoxPIdeal.τ).loc Cert.FoxPIdeal.main_arg5))
      ∧ θ_run (Cert.FoxPRefIdeal.defs (F := Ideal)) (onTc (τ := Cert.FoxPRefIdeal.τ) (Cert.FoxPRefIdeal.main (F := Ideal))) ⟨m', fun _ => 0, g'⟩ (fun r => ∀ c : Dev Cert.FoxPRefIdeal.nD,
          r.2.mem ((c.tc : Thread Cert.FoxPRefIdeal.nD Cert.FoxPRefIdeal.τ).loc Cert.FoxPRefIdeal.main_v47) = v0 c
          ∧ r.2.mem ((c.tc : Thread Cert.FoxPRefIdeal.nD Cert.FoxPRefIdeal.τ).loc Cert.FoxPRefIdeal.main_v48) = v1 c
          ∧ r.2.mem ((c.tc : Thread Cert.FoxPRefIdeal.nD Cert.FoxPRefIdeal.τ).loc Cert.FoxPRefIdeal.main_v49) = v2 c
          ∧ r.2.mem ((c.tc : Thread Cert.FoxPRefIdeal.nD Cert.FoxPRefIdeal.τ).loc Cert.FoxPRefIdeal.main_v50) = v3 c
          ∧ r.2.mem ((c.tc : Thread Cert.FoxPRefIdeal.nD Cert.FoxPRefIdeal.τ).loc Cert.FoxPRefIdeal.main_v51) = v4 c
          ∧ r.2.mem ((c.tc : Thread Cert.FoxPRefIdeal.nD Cert.FoxPRefIdeal.τ).loc Cert.FoxPRefIdeal.main_v52) = v5 c
          ∧ r.2.mem ((c.tc : Thread Cert.FoxPRefIdeal.nD Cert.FoxPRefIdeal.τ).loc Cert.FoxPRefIdeal.main_arg0) = m' ((c.tc : Thread Cert.FoxPRefIdeal.nD Cert.FoxPRefIdeal.τ).loc Cert.FoxPRefIdeal.main_arg0)
          ∧ r.2.mem ((c.tc : Thread Cert.FoxPRefIdeal.nD Cert.FoxPRefIdeal.τ).loc Cert.FoxPRefIdeal.main_arg1) = m' ((c.tc : Thread Cert.FoxPRefIdeal.nD Cert.FoxPRefIdeal.τ).loc Cert.FoxPRefIdeal.main_arg1)
          ∧ r.2.mem ((c.tc : Thread Cert.FoxPRefIdeal.nD Cert.FoxPRefIdeal.τ).loc Cert.FoxPRefIdeal.main_arg2) = m' ((c.tc : Thread Cert.FoxPRefIdeal.nD Cert.FoxPRefIdeal.τ).loc Cert.FoxPRefIdeal.main_arg2)
          ∧ r.2.mem ((c.tc : Thread Cert.FoxPRefIdeal.nD Cert.FoxPRefIdeal.τ).loc Cert.FoxPRefIdeal.main_arg3) = m' ((c.tc : Thread Cert.FoxPRefIdeal.nD Cert.FoxPRefIdeal.τ).loc Cert.FoxPRefIdeal.main_arg3)
          ∧ r.2.mem ((c.tc : Thread Cert.FoxPRefIdeal.nD Cert.FoxPRefIdeal.τ).loc Cert.FoxPRefIdeal.main_arg4) = m' ((c.tc : Thread Cert.FoxPRefIdeal.nD Cert.FoxPRefIdeal.τ).loc Cert.FoxPRefIdeal.main_arg4)
          ∧ r.2.mem ((c.tc : Thread Cert.FoxPRefIdeal.nD Cert.FoxPRefIdeal.τ).loc Cert.FoxPRefIdeal.main_arg5) = m' ((c.tc : Thread Cert.FoxPRefIdeal.nD Cert.FoxPRefIdeal.τ).loc Cert.FoxPRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hOutS : Cert.OutS.Facts) (hOutSIdeal : Cert.OutSIdeal.Facts) (hOutSRefIdeal : Cert.OutSRefIdeal.Facts) (hFfnS : Cert.FfnS.Facts) (hFfnSIdeal : Cert.FfnSIdeal.Facts) (hFfnSRefIdeal : Cert.FfnSRefIdeal.Facts) (hRetS : Cert.RetS.Facts) (hRetSIdeal : Cert.RetSIdeal.Facts) (hRetSRefIdeal : Cert.RetSRefIdeal.Facts) (hBandS : Cert.BandS.Facts) (hBandSIdeal : Cert.BandSIdeal.Facts) (hBandSRefIdeal : Cert.BandSRefIdeal.Facts) (hFoxS : Cert.FoxS.Facts) (hFoxSIdeal : Cert.FoxSIdeal.Facts) (hFoxSRefIdeal : Cert.FoxSRefIdeal.Facts) (hFoxP : Cert.FoxP.Facts) (hFoxPIdeal : Cert.FoxPIdeal.Facts) (hFoxPRefIdeal : Cert.FoxPRefIdeal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Out (hOut := hOut)
    ∧ quiescent_OutIdeal (hOutIdeal := hOutIdeal)
    ∧ quiescent_OutRefIdeal (hOutRefIdeal := hOutRefIdeal)
    ∧ quiescent_OutS (hOutS := hOutS)
    ∧ quiescent_OutSIdeal (hOutSIdeal := hOutSIdeal)
    ∧ quiescent_OutSRefIdeal (hOutSRefIdeal := hOutSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_RetS (hRetS := hRetS)
    ∧ quiescent_RetSIdeal (hRetSIdeal := hRetSIdeal)
    ∧ quiescent_RetSRefIdeal (hRetSRefIdeal := hRetSRefIdeal)
    ∧ quiescent_BandS (hBandS := hBandS)
    ∧ quiescent_BandSIdeal (hBandSIdeal := hBandSIdeal)
    ∧ quiescent_BandSRefIdeal (hBandSRefIdeal := hBandSRefIdeal)
    ∧ quiescent_FoxS (hFoxS := hFoxS)
    ∧ quiescent_FoxSIdeal (hFoxSIdeal := hFoxSIdeal)
    ∧ quiescent_FoxSRefIdeal (hFoxSRefIdeal := hFoxSRefIdeal)
    ∧ quiescent_FoxP (hFoxP := hFoxP)
    ∧ quiescent_FoxPIdeal (hFoxPIdeal := hFoxPIdeal)
    ∧ quiescent_FoxPRefIdeal (hFoxPRefIdeal := hFoxPRefIdeal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Out_OutIdeal
    ∧ algebraic_OutIdeal_OutRefIdeal (hOutIdeal := hOutIdeal) (hOutRefIdeal := hOutRefIdeal)
    ∧ preserves_OutS_OutSIdeal
    ∧ algebraic_OutSIdeal_OutSRefIdeal (hOutSIdeal := hOutSIdeal) (hOutSRefIdeal := hOutSRefIdeal)
    ∧ preserves_FfnS_FfnSIdeal
    ∧ algebraic_FfnSIdeal_FfnSRefIdeal (hFfnSIdeal := hFfnSIdeal) (hFfnSRefIdeal := hFfnSRefIdeal)
    ∧ preserves_RetS_RetSIdeal
    ∧ algebraic_RetSIdeal_RetSRefIdeal (hRetSIdeal := hRetSIdeal) (hRetSRefIdeal := hRetSRefIdeal)
    ∧ preserves_BandS_BandSIdeal
    ∧ algebraic_BandSIdeal_BandSRefIdeal (hBandSIdeal := hBandSIdeal) (hBandSRefIdeal := hBandSRefIdeal)
    ∧ preserves_FoxS_FoxSIdeal
    ∧ algebraic_FoxSIdeal_FoxSRefIdeal (hFoxSIdeal := hFoxSIdeal) (hFoxSRefIdeal := hFoxSRefIdeal)
    ∧ preserves_FoxP_FoxPIdeal
    ∧ algebraic_FoxPIdeal_FoxPRefIdeal (hFoxPIdeal := hFoxPIdeal) (hFoxPRefIdeal := hFoxPRefIdeal)
-- ==== Pre_finite_qkv.lean ====
abbrev S65536x1024 : Shape := ⟨2, ![65536, 1024]⟩
abbrev S65536x2048 : Shape := ⟨2, ![65536, 2048]⟩
abbrev S2048 : Shape := ⟨1, ![2048]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_

variable [Facts]

def fn {F : FTy → Type} [FloatOps F] (main_arg0 : FVec F S65536x1024 .bf16) (main_arg1 : FVec F S65536x1024 .bf16) (main_arg2 : FVec F S65536x2048 .bf16) (main_arg3 : FVec F S65536x2048 .bf16) (main_arg4 : FVec F S2048 .f32) : IVec S_ 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_c : IVec S_ 1 := constantI S_ 1 1#1
  let main_v4 : IVec S_ 1 := (fun x v => Host.reduce IntOp.andi x v reducesTo_S65536x1024_S_d0_1 h_S_) main_v3 main_c
  let main_v5 : FVec F S65536x1024 .f32 := (extf .f32 · bitsLt_bf16_f32) main_arg1
  let main_v6 : FVec F S65536x1024 .f32 := Host.absf main_v5
  let main_cst_0 : FVec F S_ .f32 := constant S_ .f32 0x7F800000#32
  let main_v7 : FVec F S65536x1024 .f32 := broadcastInDim S65536x1024 ![] bcast_S_S65536x1024 main_cst_0
  let main_v8 : IVec S65536x1024 1 := cmpf .olt main_v6 main_v7
  let main_c_1 : IVec S_ 1 := constantI S_ 1 1#1
  let main_v9 : IVec S_ 1 := (fun x v => Host.reduce IntOp.andi x v reducesTo_S65536x1024_S_d0_1 h_S_) main_v8 main_c_1
  let main_v10 : IVec S_ 1 := andi main_v4 main_v9
  let main_v11 : FVec F S65536x2048 .f32 := (extf .f32 · bitsLt_bf16_f32) main_arg2
  let main_v12 : FVec F S65536x2048 .f32 := Host.absf main_v11
  let main_cst_2 : FVec F S_ .f32 := constant S_ .f32 0x7F800000#32
  let main_v13 : FVec F S65536x2048 .f32 := broadcastInDim S65536x2048 ![] bcast_S_S65536x2048 main_cst_2
  let main_v14 : IVec S65536x2048 1 := cmpf .olt main_v12 main_v13
  let main_c_3 : IVec S_ 1 := constantI S_ 1 1#1
  let main_v15 : IVec S_ 1 := (fun x v => Host.reduce IntOp.andi x v reducesTo_S65536x2048_S_d0_1 h_S_) main_v14 main_c_3
  let main_v16 : IVec S_ 1 := andi main_v10 main_v15
  main_v16
-- ==== Kernel.lean ====
abbrev S65536x1024 : Shape := ⟨2, ![65536, 1024]⟩
abbrev S65536x2048 : Shape := ⟨2, ![65536, 2048]⟩
abbrev S2048 : Shape := ⟨1, ![2048]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x2048 : Shape := ⟨2, ![1, 2048]⟩
abbrev S32x4x256x512 : Shape := ⟨4, ![32, 4, 256, 512]⟩
abbrev S2048x256 : Shape := ⟨2, ![2048, 256]⟩
abbrev S2048x512 : Shape := ⟨2, ![2048, 512]⟩
abbrev S1x512 : Shape := ⟨2, ![1, 512]⟩
abbrev S1x256x1 : Shape := ⟨3, ![1, 256, 1]⟩
abbrev S1x1x1 : Shape := ⟨3, ![1, 1, 1]⟩
abbrev S1x1x256x512 : Shape := ⟨4, ![1, 1, 256, 512]⟩
abbrev S256x512 : Shape := ⟨2, ![256, 512]⟩
abbrev S1x1 : Shape := ⟨2, ![1, 1]⟩

abbrev nBuf : Space → Nat
  | .hbm => 66
  | .vmem => 23
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x2048, .bf16⟩
  | .hbm, ⟨3, _⟩ => ⟨S65536x2048, .bf16⟩
  | .hbm, ⟨4, _⟩ => ⟨S2048, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S256, .f32⟩
  | .hbm, ⟨16, _⟩ => ⟨S256x1, .f32⟩
  | .hbm, ⟨17, _⟩ => ⟨S1x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .i1⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S1x256x256, .f32⟩
  | .hbm, ⟨28, _⟩ => ⟨S4x1x1, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S_, .f32⟩
  | .hbm, ⟨34, _⟩ => ⟨S_, .f32⟩
  | .hbm, ⟨35, _⟩ => ⟨S4x256x256, .i1⟩
  | .hbm, ⟨36, _⟩ => ⟨S4x256x256, .f32⟩
  | .hbm, ⟨37, _⟩ => ⟨S4x256x256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S4x1, .f32⟩
  | .hbm, ⟨43, _⟩ => ⟨S4x256, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S4x256x1, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S4x1, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S4x256, .f32⟩
  | .hbm, ⟨57, _⟩ => ⟨S4x256x1, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S4x1x1, .f32⟩
  | .hbm, ⟨63, _⟩ => ⟨S1x2048, .f32⟩
  | .hbm, ⟨64, _⟩ => ⟨S65536x2048, .bf16⟩
  | .hbm, ⟨65, _⟩ => ⟨S32x4x256x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S1x256x256, .f32⟩
  | .local _ .vmem, ⟨11, _⟩ => ⟨S1x256x256, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S1x256x1, .f32⟩
  | .local _ .vmem, ⟨16, _⟩ => ⟨S1x1x1, .f32⟩
  | .local _ .vmem, ⟨17, _⟩ => ⟨S1x1x1, .f32⟩
  | .local _ .vmem, ⟨18, _⟩ => ⟨S2048x512, .bf16⟩
  | .local _ .vmem, ⟨19, _⟩ => ⟨S2048x512, .bf16⟩
  | .local _ .vmem, ⟨20, _⟩ => ⟨S1x1x256x512, .f32⟩
  | .local _ .vmem, ⟨21, _⟩ => ⟨S1x1x256x512, .f32⟩
  | .local _ .vmem, ⟨22, _⟩ => ⟨S256x512, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48_0 : Ref sig .tc := ⟨.hbm, 64, rfl⟩
abbrev main_v48_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S65536x1024 : Shape := ⟨2, ![65536, 1024]⟩
abbrev S65536x2048 : Shape := ⟨2, ![65536, 2048]⟩
abbrev S2048 : Shape := ⟨1, ![2048]⟩
abbrev S32x2048x4x256 : Shape := ⟨4, ![32, 2048, 4, 256]⟩
abbrev S32x2048x4x512 : Shape := ⟨4, ![32, 2048, 4, 512]⟩
abbrev S4 : Shape := ⟨1, ![4]⟩
abbrev S_ : Shape := ⟨0, ![]⟩
abbrev S32x4x256x512 : Shape := ⟨4, ![32, 4, 256, 512]⟩
abbrev S32x32x64x4x256 : Shape := ⟨5, ![32, 32, 64, 4, 256]⟩
abbrev S32x32x64x4x512 : Shape := ⟨5, ![32, 32, 64, 4, 512]⟩
abbrev S1x32x64x4x256 : Shape := ⟨5, ![1, 32, 64, 4, 256]⟩
abbrev S32x64x4x256 : Shape := ⟨4, ![32, 64, 4, 256]⟩
abbrev S1x32x64x4x512 : Shape := ⟨5, ![1, 32, 64, 4, 512]⟩
abbrev S32x64x4x512 : Shape := ⟨4, ![32, 64, 4, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S32x4x64x64 : Shape := ⟨4, ![32, 4, 64, 64]⟩
abbrev S1x4x64x64 : Shape := ⟨4, ![1, 4, 64, 64]⟩
abbrev S32x4x512x64 : Shape := ⟨4, ![32, 4, 512, 64]⟩
abbrev S1x4 : Shape := ⟨2, ![1, 4]⟩
abbrev S64x4 : Shape := ⟨2, ![64, 4]⟩
abbrev S1x64x4x1 : Shape := ⟨4, ![1, 64, 4, 1]⟩
abbrev S1x4x1x1 : Shape := ⟨4, ![1, 4, 1, 1]⟩
abbrev S32x2048x4 : Shape := ⟨3, ![32, 2048, 4]⟩
abbrev S32x2048x4x1 : Shape := ⟨4, ![32, 2048, 4, 1]⟩
abbrev S32x2048x2048 : Shape := ⟨3, ![32, 2048, 2048]⟩
abbrev S1x1x2048 : Shape := ⟨3, ![1, 1, 2048]⟩

abbrev nBuf : Space → Nat
  | .hbm => 166
  | .vmem => 0
  | .smem => 0
  | _ => 0

abbrev hbmTy0_0 (i : Nat) : BufTy := match i % 128 with
  | 0 => ⟨S65536x1024, .bf16⟩
  | 1 => ⟨S65536x1024, .bf16⟩
  | 2 => ⟨S65536x2048, .bf16⟩
  | 3 => ⟨S65536x2048, .bf16⟩
  | 4 => ⟨S2048, .f32⟩
  | 5 => ⟨S65536x1024, .f32⟩
  | 6 => ⟨S32x2048x4x256, .f32⟩
  | 7 => ⟨S65536x1024, .f32⟩
  | 8 => ⟨S32x2048x4x256, .f32⟩
  | 9 => ⟨S65536x2048, .f32⟩
  | 10 => ⟨S32x2048x4x512, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S4, .f32⟩
  | 21 => ⟨S_, .f32⟩
  | 22 => ⟨S32x4x256x512, .f32⟩
  | 23 => ⟨S32x32x64x4x256, .f32⟩
  | 24 => ⟨S32x32x64x4x256, .f32⟩
  | 25 => ⟨S32x32x64x4x256, .f32⟩
  | 26 => ⟨S32x32x64x4x256, .f32⟩
  | 27 => ⟨S32x32x64x4x512, .f32⟩
  | 28 => ⟨S32x32x64x4x512, .f32⟩
  | 29 => ⟨S_, .f32⟩
  | 30 => ⟨S32x32x64x4x512, .f32⟩
  | 31 => ⟨S_, .i32⟩
  | 32 => ⟨S32x32x64x4x256, .f32⟩
  | 33 => ⟨S32x32x64x4x256, .f32⟩
  | 34 => ⟨S32x32x64x4x512, .f32⟩
  | 35 => ⟨S4, .f32⟩
  | 36 => ⟨S_, .i32⟩
  | 37 => ⟨S32x4x256x512, .f32⟩
  | 38 => ⟨S32x32x64x4x512, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x32x64x4x256, .f32⟩
  | 46 => ⟨S32x64x4x256, .f32⟩
  | 47 => ⟨S_, .i32⟩
  | 48 => ⟨S_, .i32⟩
  | 49 => ⟨S_, .i32⟩
  | 50 => ⟨S_, .i32⟩
  | 51 => ⟨S1x32x64x4x256, .f32⟩
  | 52 => ⟨S32x64x4x256, .f32⟩
  | 53 => ⟨S_, .i32⟩
  | 54 => ⟨S_, .i32⟩
  | 55 => ⟨S_, .i32⟩
  | 56 => ⟨S_, .i32⟩
  | 57 => ⟨S1x32x64x4x512, .f32⟩
  | 58 => ⟨S32x64x4x512, .f32⟩
  | 59 => ⟨S64, .f32⟩
  | 60 => ⟨S64x1, .f32⟩
  | 61 => ⟨S1x64, .f32⟩
  | 62 => ⟨S64x64, .f32⟩
  | 63 => ⟨S64x64, .f32⟩
  | 64 => ⟨S64x64, .f32⟩
  | 65 => ⟨S_, .f32⟩
  | 66 => ⟨S64x64, .f32⟩
  | 67 => ⟨S64x64, .i1⟩
  | 68 => ⟨S_, .f32⟩
  | 69 => ⟨S64x64, .f32⟩
  | 70 => ⟨S64x64, .f32⟩
  | 71 => ⟨S1x64x64, .f32⟩
  | 72 => ⟨S4x1x1, .f32⟩
  | 73 => ⟨S4x64x64, .f32⟩
  | 74 => ⟨S4x64x64, .f32⟩
  | 75 => ⟨S4x64x64, .f32⟩
  | 76 => ⟨S4x64x64, .f32⟩
  | 77 => ⟨S_, .f32⟩
  | 78 => ⟨S_, .f32⟩
  | 79 => ⟨S4x64x64, .i1⟩
  | 80 => ⟨S4x64x64, .f32⟩
  | 81 => ⟨S4x64x64, .f32⟩
  | 82 => ⟨S32x4x64x64, .f32⟩
  | 83 => ⟨S1x4x64x64, .f32⟩
  | 84 => ⟨S32x4x64x64, .f32⟩
  | 85 => ⟨S32x4x64x64, .f32⟩
  | 86 => ⟨S32x4x512x64, .f32⟩
  | 87 => ⟨S32x64x4x512, .f32⟩
  | 88 => ⟨S_, .f32⟩
  | 89 => ⟨S64, .f32⟩
  | 90 => ⟨S64, .f32⟩
  | 91 => ⟨S64x1, .f32⟩
  | 92 => ⟨S1x4, .f32⟩
  | 93 => ⟨S64x4, .f32⟩
  | 94 => ⟨S64x4, .f32⟩
  | 95 => ⟨S64x4, .f32⟩
  | 96 => ⟨S64x4, .f32⟩
  | 97 => ⟨S32x4x512x64, .f32⟩
  | 98 => ⟨S32x64x4x512, .f32⟩
  | 99 => ⟨S1x64x4x1, .f32⟩
  | 100 => ⟨S32x64x4x512, .f32⟩
  | 101 => ⟨S32x64x4x512, .f32⟩
  | 102 => ⟨S_, .f32⟩
  | 103 => ⟨S64, .f32⟩
  | 104 => ⟨S64, .f32⟩
  | 105 => ⟨S64x1, .f32⟩
  | 106 => ⟨S1x4, .f32⟩
  | 107 => ⟨S64x4, .f32⟩
  | 108 => ⟨S64x4, .f32⟩
  | 109 => ⟨S64x4, .f32⟩
  | 110 => ⟨S64x4, .f32⟩
  | 111 => ⟨S_, .f32⟩
  | 112 => ⟨S4, .f32⟩
  | 113 => ⟨S4, .f32⟩
  | 114 => ⟨S4, .f32⟩
  | 115 => ⟨S1x4x1x1, .f32⟩
  | 116 => ⟨S32x4x256x512, .f32⟩
  | 117 => ⟨S32x4x256x512, .f32⟩
  | 118 => ⟨S1x64x4x1, .f32⟩
  | 119 => ⟨S32x64x4x256, .f32⟩
  | 120 => ⟨S32x64x4x256, .f32⟩
  | 121 => ⟨S32x4x256x512, .f32⟩
  | 122 => ⟨S32x4x256x512, .f32⟩
  | 123 => ⟨S32x64x4x512, .f32⟩
  | 124 => ⟨S1x32x64x4x512, .f32⟩
  | 125 => ⟨S_, .i32⟩
  | 126 => ⟨S_, .i32⟩
  | 127 => ⟨S_, .i32⟩
  | _ => ⟨S65536x1024, .bf16⟩

abbrev hbmTy0_1 (i : Nat) : BufTy := match i % 128 with
  | 0 => ⟨S_, .i32⟩
  | 1 => ⟨S32x32x64x4x512, .f32⟩
  | 2 => ⟨S_, .i32⟩
  | 3 => ⟨S_, .i32⟩
  | 4 => ⟨S32x32x64x4x512, .f32⟩
  | 5 => ⟨S32x2048x4x512, .f32⟩
  | 6 => ⟨S_, .f32⟩
  | 7 => ⟨S32x2048x4, .f32⟩
  | 8 => ⟨S32x2048x4x1, .f32⟩
  | 9 => ⟨S_, .f32⟩
  | 10 => ⟨S32x2048x4x1, .f32⟩
  | 11 => ⟨S32x2048x4x1, .f32⟩
  | 12 => ⟨S32x2048x4x512, .f32⟩
  | 13 => ⟨S32x2048x4x512, .f32⟩
  | 14 => ⟨S32x2048x4x512, .f32⟩
  | 15 => ⟨S_, .f32⟩
  | 16 => ⟨S32x2048x4, .f32⟩
  | 17 => ⟨S32x2048x4x1, .f32⟩
  | 18 => ⟨S_, .f32⟩
  | 19 => ⟨S32x2048x4x1, .f32⟩
  | 20 => ⟨S32x2048x4x1, .f32⟩
  | 21 => ⟨S32x2048x4x512, .f32⟩
  | 22 => ⟨S32x2048x4x512, .f32⟩
  | 23 => ⟨S_, .f32⟩
  | 24 => ⟨S32x2048x4x1, .f32⟩
  | 25 => ⟨S32x2048x4x1, .f32⟩
  | 26 => ⟨S32x2048x4x1, .f32⟩
  | 27 => ⟨S32x2048x4x512, .f32⟩
  | 28 => ⟨S32x2048x4x512, .f32⟩
  | 29 => ⟨S32x2048x2048, .f32⟩
  | 30 => ⟨S1x1x2048, .f32⟩
  | 31 => ⟨S32x2048x2048, .f32⟩
  | 32 => ⟨S32x2048x2048, .f32⟩
  | 33 => ⟨S65536x2048, .f32⟩
  | 34 => ⟨S32x2048x2048, .f32⟩
  | 35 => ⟨S32x2048x2048, .f32⟩
  | 36 => ⟨S32x2048x2048, .bf16⟩
  | 37 => ⟨S65536x2048, .bf16⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_c : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev main_v22_6 : Ref sig .tc := ⟨.hbm, 38, rfl⟩
abbrev main_while0c_c_14 : Ref sig .tc := ⟨.hbm, 39, rfl⟩
abbrev main_while0c_v52 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v0 : Ref sig .tc := ⟨.hbm, 45, rfl⟩
abbrev main_while0b_v52 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_c_2 : Ref sig .tc := ⟨.hbm, 50, rfl⟩
abbrev main_while0b_call1_v0 : Ref sig .tc := ⟨.hbm, 51, rfl⟩
abbrev main_while0b_v53 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v54 : Ref sig .tc := ⟨.hbm, 58, rfl⟩
abbrev main_while0b_v55 : Ref sig .tc := ⟨.hbm, 59, rfl⟩
abbrev main_while0b_v56 : Ref sig .tc := ⟨.hbm, 60, rfl⟩
abbrev main_while0b_v57 : Ref sig .tc := ⟨.hbm, 61, rfl⟩
abbrev main_while0b_v58 : Ref sig .tc := ⟨.hbm, 62, rfl⟩
abbrev main_while0b_v59 : Ref sig .tc := ⟨.hbm, 63, rfl⟩
abbrev main_while0b_v60 : Ref sig .tc := ⟨.hbm, 64, rfl⟩
abbrev main_while0b_cst_14 : Ref sig .tc := ⟨.hbm, 65, rfl⟩
abbrev main_while0b_v61 : Ref sig .tc := ⟨.hbm, 66, rfl⟩
abbrev main_while0b_v62 : Ref sig .tc := ⟨.hbm, 67, rfl⟩
abbrev main_while0b_cst_15 : Ref sig .tc := ⟨.hbm, 68, rfl⟩
abbrev main_while0b_v63 : Ref sig .tc := ⟨.hbm, 69, rfl⟩
abbrev main_while0b_v64 : Ref sig .tc := ⟨.hbm, 70, rfl⟩
abbrev main_while0b_v65 : Ref sig .tc := ⟨.hbm, 71, rfl⟩
abbrev main_while0b_v66 : Ref sig .tc := ⟨.hbm, 72, rfl⟩
abbrev main_while0b_v67 : Ref sig .tc := ⟨.hbm, 73, rfl⟩
abbrev main_while0b_v68 : Ref sig .tc := ⟨.hbm, 74, rfl⟩
abbrev main_while0b_v69 : Ref sig .tc := ⟨.hbm, 75, rfl⟩
abbrev main_while0b_v70 : Ref sig .tc := ⟨.hbm, 76, rfl⟩
abbrev main_while0b_cst_16 : Ref sig .tc := ⟨.hbm, 77, rfl⟩
abbrev main_while0b_call3_v0 : Ref sig .tc := ⟨.hbm, 78, rfl⟩
abbrev main_while0b_call3_v1 : Ref sig .tc := ⟨.hbm, 79, rfl⟩
abbrev main_while0b_call3_v2 : Ref sig .tc := ⟨.hbm, 80, rfl⟩
abbrev main_while0b_v71 : Ref sig .tc := ⟨.hbm, 81, rfl⟩
abbrev main_while0b_v72 : Ref sig .tc := ⟨.hbm, 82, rfl⟩
abbrev main_while0b_v73 : Ref sig .tc := ⟨.hbm, 83, rfl⟩
abbrev main_while0b_v74 : Ref sig .tc := ⟨.hbm, 84, rfl⟩
abbrev main_while0b_v75 : Ref sig .tc := ⟨.hbm, 85, rfl⟩
abbrev main_while0b_v76 : Ref sig .tc := ⟨.hbm, 86, rfl⟩
abbrev main_while0b_v77 : Ref sig .tc := ⟨.hbm, 87, rfl⟩
abbrev main_while0b_cst_17 : Ref sig .tc := ⟨.hbm, 88, rfl⟩
abbrev main_while0b_v78 : Ref sig .tc := ⟨.hbm, 89, rfl⟩
abbrev main_while0b_v79 : Ref sig .tc := ⟨.hbm, 90, rfl⟩
abbrev main_while0b_v80 : Ref sig .tc := ⟨.hbm, 91, rfl⟩
abbrev main_while0b_v81 : Ref sig .tc := ⟨.hbm, 92, rfl⟩
abbrev main_while0b_v82 : Ref sig .tc := ⟨.hbm, 93, rfl⟩
abbrev main_while0b_v83 : Ref sig .tc := ⟨.hbm, 94, rfl⟩
abbrev main_while0b_v84 : Ref sig .tc := ⟨.hbm, 95, rfl⟩
abbrev main_while0b_v85 : Ref sig .tc := ⟨.hbm, 96, rfl⟩
abbrev main_while0b_v86 : Ref sig .tc := ⟨.hbm, 97, rfl⟩
abbrev main_while0b_v87 : Ref sig .tc := ⟨.hbm, 98, rfl⟩
abbrev main_while0b_v88 : Ref sig .tc := ⟨.hbm, 99, rfl⟩
abbrev main_while0b_v89 : Ref sig .tc := ⟨.hbm, 100, rfl⟩
abbrev main_while0b_v90 : Ref sig .tc := ⟨.hbm, 101, rfl⟩
abbrev main_while0b_cst_18 : Ref sig .tc := ⟨.hbm, 102, rfl⟩
abbrev main_while0b_v91 : Ref sig .tc := ⟨.hbm, 103, rfl⟩
abbrev main_while0b_v92 : Ref sig .tc := ⟨.hbm, 104, rfl⟩
abbrev main_while0b_v93 : Ref sig .tc := ⟨.hbm, 105, rfl⟩
abbrev main_while0b_v94 : Ref sig .tc := ⟨.hbm, 106, rfl⟩
abbrev main_while0b_v95 : Ref sig .tc := ⟨.hbm, 107, rfl⟩
abbrev main_while0b_v96 : Ref sig .tc := ⟨.hbm, 108, rfl⟩
abbrev main_while0b_v97 : Ref sig .tc := ⟨.hbm, 109, rfl⟩
abbrev main_while0b_v98 : Ref sig .tc := ⟨.hbm, 110, rfl⟩
abbrev main_while0b_cst_19 : Ref sig .tc := ⟨.hbm, 111, rfl⟩
abbrev main_while0b_v99 : Ref sig .tc := ⟨.hbm, 112, rfl⟩
abbrev main_while0b_v100 : Ref sig .tc := ⟨.hbm, 113, rfl⟩
abbrev main_while0b_v101 : Ref sig .tc := ⟨.hbm, 114, rfl⟩
abbrev main_while0b_v102 : Ref sig .tc := ⟨.hbm, 115, rfl⟩
abbrev main_while0b_v103 : Ref sig .tc := ⟨.hbm, 116, rfl⟩
abbrev main_while0b_v104 : Ref sig .tc := ⟨.hbm, 117, rfl⟩
abbrev main_while0b_v105 : Ref sig .tc := ⟨.hbm, 118, rfl⟩
abbrev main_while0b_v106 : Ref sig .tc := ⟨.hbm, 119, rfl⟩
abbrev main_while0b_v107 : Ref sig .tc := ⟨.hbm, 120, rfl⟩
abbrev main_while0b_v108 : Ref sig .tc := ⟨.hbm, 121, rfl⟩
abbrev main_while0b_v109 : Ref sig .tc := ⟨.hbm, 122, rfl⟩
abbrev main_while0b_v110 : Ref sig .tc := ⟨.hbm, 123, rfl⟩
abbrev main_while0b_call4_v0 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_v111 : Ref sig .tc := ⟨.hbm, 129, rfl⟩
abbrev main_while0b_c_20 : Ref sig .tc := ⟨.hbm, 130, rfl⟩
abbrev main_while0b_v112 : Ref sig .tc := ⟨.hbm, 131, rfl⟩
abbrev main_v23 : Ref sig .tc := ⟨.hbm, 132, rfl⟩
abbrev main_v24 : Ref sig .tc := ⟨.hbm, 133, rfl⟩
abbrev main_cst_3 : Ref sig .tc := ⟨.hbm, 134, rfl⟩
abbrev main_v25 : Ref sig .tc := ⟨.hbm, 135, rfl⟩
abbrev main_v26 : Ref sig .tc := ⟨.hbm, 136, rfl⟩
abbrev main_cst_4 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_cst_5 : Ref sig .tc := ⟨.hbm, 143, rfl⟩
abbrev main_v32 : Ref sig .tc := ⟨.hbm, 144, rfl⟩
abbrev main_v33 : Ref sig .tc := ⟨.hbm, 145, rfl⟩
abbrev main_cst_6 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_cst_7 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S65536x1024 : Shape := ⟨2, ![65536, 1024]⟩
abbrev S3x1024 : Shape := ⟨2, ![3, 1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 6
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S3x1024, .f32⟩
  | .hbm, ⟨2, _⟩ => ⟨S1024x5632, .bf16⟩
  | .hbm, ⟨3, _⟩ => ⟨S2816x1024, .bf16⟩
  | .hbm, ⟨4, _⟩ => ⟨S65536x1024, .f32⟩
  | .hbm, ⟨5, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
abbrev S65536x1024 : Shape := ⟨2, ![65536, 1024]⟩
abbrev S3x1024 : Shape := ⟨2, ![3, 1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 6
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S3x1024, .f32⟩
  | .hbm, ⟨2, _⟩ => ⟨S1024x5632, .bf16⟩
  | .hbm, ⟨3, _⟩ => ⟨S2816x1024, .bf16⟩
  | .hbm, ⟨4, _⟩ => ⟨S65536x1024, .f32⟩
  | .hbm, ⟨5, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S3x1024 : Shape := ⟨2, ![3, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x5632 : Shape := ⟨2, ![65536, 5632]⟩
abbrev S65536x2816 : Shape := ⟨2, ![65536, 2816]⟩

abbrev nBuf : Space → Nat
  | .hbm => 61
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S3x1024, .f32⟩
  | .hbm, ⟨2, _⟩ => ⟨S1024x5632, .bf16⟩
  | .hbm, ⟨3, _⟩ => ⟨S2816x1024, .bf16⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x5632, .f32⟩
  | .hbm, ⟨25, _⟩ => ⟨S65536x2816, .f32⟩
  | .hbm, ⟨26, _⟩ => ⟨S65536x2816, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S1024, .f32⟩
  | .hbm, ⟨44, _⟩ => ⟨S65536x1024, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Mix.lean ====
abbrev S65536x1024 : Shape := ⟨2, ![65536, 1024]⟩
abbrev S65536x2048 : Shape := ⟨2, ![65536, 2048]⟩
abbrev S2048x1024 : Shape := ⟨2, ![2048, 1024]⟩
abbrev S3x1024 : Shape := ⟨2, ![3, 1024]⟩
abbrev S1024x5632 : Shape := ⟨2, ![1024, 5632]⟩
abbrev S2816x1024 : Shape := ⟨2, ![2816, 1024]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S1x1024 : Shape := ⟨2, ![1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S2048x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixIdeal.lean ====
abbrev S65536x1024 : Shape := ⟨2, ![65536, 1024]⟩
abbrev S65536x2048 : Shape := ⟨2, ![65536, 2048]⟩
abbrev S2048x1024 : Shape := ⟨2, ![2048, 1024]⟩
abbrev S3x1024 : Shape := ⟨2, ![3, 1024]⟩
abbrev S1024x5632 : Shape := ⟨2, ![1024, 5632]⟩
abbrev S2816x1024 : Shape := ⟨2, ![2816, 1024]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S1x1024 : Shape := ⟨2, ![1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S2048x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixRefIdeal.lean ====
abbrev S65536x1024 : Shape := ⟨2, ![65536, 1024]⟩
abbrev S65536x2048 : Shape := ⟨2, ![65536, 2048]⟩
abbrev S2048x1024 : Shape := ⟨2, ![2048, 1024]⟩
abbrev S3x1024 : Shape := ⟨2, ![3, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x5632 : Shape := ⟨2, ![65536, 5632]⟩
abbrev S65536x2816 : Shape := ⟨2, ![65536, 2816]⟩

abbrev nBuf : Space → Nat
  | .hbm => 66
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S2048x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S1024x5632, .f32⟩
  | .hbm, ⟨7, _⟩ => ⟨S2816x1024, .f32⟩
  | .hbm, ⟨8, _⟩ => ⟨S65536x2048, .f32⟩
  | .hbm, ⟨9, _⟩ => ⟨S2048x1024, .f32⟩
  | .hbm, ⟨10, _⟩ => ⟨S65536x1024, .f32⟩
  | .hbm, ⟨11, _⟩ => ⟨S65536x1024, .f32⟩
  | .hbm, ⟨12, _⟩ => ⟨S1x1024, .f32⟩
  | .hbm, ⟨13, _⟩ => ⟨S1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S65536x5632, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S_, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S65536x2816, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S1x1024, .f32⟩
  | .hbm, ⟨64, _⟩ => ⟨S65536x1024, .f32⟩
  | .hbm, ⟨65, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Out.lean ====
abbrev S65536x1024 : Shape := ⟨2, ![65536, 1024]⟩
abbrev S1024x1024 : Shape := ⟨2, ![1024, 1024]⟩
abbrev S3x1024 : Shape := ⟨2, ![3, 1024]⟩
abbrev S1024x5632 : Shape := ⟨2, ![1024, 5632]⟩
abbrev S2816x1024 : Shape := ⟨2, ![2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutIdeal.lean ====
abbrev S65536x1024 : Shape := ⟨2, ![65536, 1024]⟩
abbrev S1024x1024 : Shape := ⟨2, ![1024, 1024]⟩
abbrev S3x1024 : Shape := ⟨2, ![3, 1024]⟩
abbrev S1024x5632 : Shape := ⟨2, ![1024, 5632]⟩
abbrev S2816x1024 : Shape := ⟨2, ![2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S65536x1024 : Shape := ⟨2, ![65536, 1024]⟩
abbrev S1024x1024 : Shape := ⟨2, ![1024, 1024]⟩
abbrev S3x1024 : Shape := ⟨2, ![3, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x5632 : Shape := ⟨2, ![65536, 5632]⟩
abbrev S65536x2816 : Shape := ⟨2, ![65536, 2816]⟩

abbrev nBuf : Space → Nat
  | .hbm => 66
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S1024x5632, .f32⟩
  | .hbm, ⟨7, _⟩ => ⟨S2816x1024, .f32⟩
  | .hbm, ⟨8, _⟩ => ⟨S65536x1024, .f32⟩
  | .hbm, ⟨9, _⟩ => ⟨S1024x1024, .f32⟩
  | .hbm, ⟨10, _⟩ => ⟨S65536x1024, .f32⟩
  | .hbm, ⟨11, _⟩ => ⟨S65536x1024, .f32⟩
  | .hbm, ⟨12, _⟩ => ⟨S1x1024, .f32⟩
  | .hbm, ⟨13, _⟩ => ⟨S1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S65536x5632, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S_, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S65536x2816, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S1x1024, .f32⟩
  | .hbm, ⟨64, _⟩ => ⟨S65536x1024, .f32⟩
  | .hbm, ⟨65, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== OutS.lean ====
abbrev S512x1024 : Shape := ⟨2, ![512, 1024]⟩
abbrev S1024x1024 : Shape := ⟨2, ![1024, 1024]⟩
abbrev S3x1024 : Shape := ⟨2, ![3, 1024]⟩
abbrev S1024x5632 : Shape := ⟨2, ![1024, 5632]⟩
abbrev S2816x1024 : Shape := ⟨2, ![2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .bf16⟩
  | .hbm, ⟨2, _⟩ => ⟨S1024x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S1024x1024, .bf16⟩
  | .local _ .vmem, ⟨3, _⟩ => ⟨S3x1024, .f32⟩
  | .local _ .vmem, ⟨4, _⟩ => ⟨S1024x5632, .bf16⟩
  | .local _ .vmem, ⟨5, _⟩ => ⟨S2816x1024, .bf16⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutSRefIdeal.lean ====
abbrev S512x1024 : Shape := ⟨2, ![512, 1024]⟩
abbrev S1024x1024 : Shape := ⟨2, ![1024, 1024]⟩
abbrev S3x1024 : Shape := ⟨2, ![3, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 66
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .bf16⟩
  | .hbm, ⟨2, _⟩ => ⟨S1024x1024, .bf16⟩
  | .hbm, ⟨3, _⟩ => ⟨S3x1024, .f32⟩
  | .hbm, ⟨4, _⟩ => ⟨S1024x5632, .bf16⟩
  | .hbm, ⟨5, _⟩ => ⟨S2816x1024, .bf16⟩
  | .hbm, ⟨6, _⟩ => ⟨S1024x5632, .f32⟩
  | .hbm, ⟨7, _⟩ => ⟨S2816x1024, .f32⟩
  | .hbm, ⟨8, _⟩ => ⟨S512x1024, .f32⟩
  | .hbm, ⟨9, _⟩ => ⟨S1024x1024, .f32⟩
  | .hbm, ⟨10, _⟩ => ⟨S512x1024, .f32⟩
  | .hbm, ⟨11, _⟩ => ⟨S512x1024, .f32⟩
  | .hbm, ⟨12, _⟩ => ⟨S1x1024, .f32⟩
  | .hbm, ⟨13, _⟩ => ⟨S1024, .f32⟩
  | .hbm, ⟨14, _⟩ => ⟨S512x1024, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S_, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S512x1024, .f32⟩
  | .hbm, ⟨26, _⟩ => ⟨S512x1024, .f32⟩
  | .hbm, ⟨27, _⟩ => ⟨S1x1024, .f32⟩
  | .hbm, ⟨28, _⟩ => ⟨S512x1024, .f32⟩
  | .hbm, ⟨29, _⟩ => ⟨S512x1024, .f32⟩
  | .hbm, ⟨30, _⟩ => ⟨S512x5632, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S512x2816, .f32⟩
  | .hbm, ⟨35, _⟩ => ⟨S_, .f32⟩
  | .hbm, ⟨36, _⟩ => ⟨S512x2816, .f32⟩
  | .hbm, ⟨37, _⟩ => ⟨S512x2816, .f32⟩
  | .hbm, ⟨38, _⟩ => ⟨S_, .f32⟩
  | .hbm, ⟨39, _⟩ => ⟨S512x2816, .f32⟩
  | .hbm, ⟨40, _⟩ => ⟨S512x2816, .f32⟩
  | .hbm, ⟨41, _⟩ => ⟨S512x2816, .f32⟩
  | .hbm, ⟨42, _⟩ => ⟨S512x2816, .f32⟩
  | .hbm, ⟨43, _⟩ => ⟨S512x1024, .f32⟩
  | .hbm, ⟨44, _⟩ => ⟨S_, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S1x1024, .f32⟩
  | .hbm, ⟨49, _⟩ => ⟨S1024, .f32⟩
  | .hbm, ⟨50, _⟩ => ⟨S512x1024, .f32⟩
  | .hbm, ⟨51, _⟩ => ⟨S_, .f32⟩
  | .hbm, ⟨52, _⟩ => ⟨S512, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S_, .f32⟩
  | .hbm, ⟨58, _⟩ => ⟨S512x1, .f32⟩
  | .hbm, ⟨59, _⟩ => ⟨S512x1, .f32⟩
  | .hbm, ⟨60, _⟩ => ⟨S512x1, .f32⟩
  | .hbm, ⟨61, _⟩ => ⟨S512x1024, .f32⟩
  | .hbm, ⟨62, _⟩ => ⟨S512x1024, .f32⟩
  | .hbm, ⟨63, _⟩ => ⟨S1x1024, .f32⟩
  | .hbm, ⟨64, _⟩ => ⟨S512x1024, .f32⟩
  | .hbm, ⟨65, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== FfnS.lean ====
abbrev S512x1024 : Shape := ⟨2, ![512, 1024]⟩
abbrev S3x1024 : Shape := ⟨2, ![3, 1024]⟩
abbrev S1024x5632 : Shape := ⟨2, ![1024, 5632]⟩
abbrev S2816x1024 : Shape := ⟨2, ![2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S3x1024, .f32⟩
  | .hbm, ⟨2, _⟩ => ⟨S1024x5632, .bf16⟩
  | .hbm, ⟨3, _⟩ => ⟨S2816x1024, .bf16⟩
  | .hbm, ⟨4, _⟩ => ⟨S512x1024, .f32⟩
  | .hbm, ⟨5, _⟩ => ⟨S512x1024, .bf16⟩
  | .local _ .vmem, ⟨0, _⟩ => ⟨S512x1024, .f32⟩
  | .local _ .vmem, ⟨1, _⟩ => ⟨S3x1024, .f32⟩
  | .local _ .vmem, ⟨2, _⟩ => ⟨S1024x5632, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnSRefIdeal.lean ====
abbrev S512x1024 : Shape := ⟨2, ![512, 1024]⟩
abbrev S3x1024 : Shape := ⟨2, ![3, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 61
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x1024, .f32⟩
  | .hbm, ⟨2, _⟩ => ⟨S1024x5632, .bf16⟩
  | .hbm, ⟨3, _⟩ => ⟨S2816x1024, .bf16⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S512x1024, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x1024, .f32⟩
  | .hbm, ⟨20, _⟩ => ⟨S512x1024, .f32⟩
  | .hbm, ⟨21, _⟩ => ⟨S1x1024, .f32⟩
  | .hbm, ⟨22, _⟩ => ⟨S512x1024, .f32⟩
  | .hbm, ⟨23, _⟩ => ⟨S512x1024, .f32⟩
  | .hbm, ⟨24, _⟩ => ⟨S512x5632, .f32⟩
  | .hbm, ⟨25, _⟩ => ⟨S512x2816, .f32⟩
  | .hbm, ⟨26, _⟩ => ⟨S512x2816, .f32⟩
  | .hbm, ⟨27, _⟩ => ⟨S512x2816, .f32⟩
  | .hbm, ⟨28, _⟩ => ⟨S512x2816, .f32⟩
  | .hbm, ⟨29, _⟩ => ⟨S_, .f32⟩
  | .hbm, ⟨30, _⟩ => ⟨S512x2816, .f32⟩
  | .hbm, ⟨31, _⟩ => ⟨S512x2816, .f32⟩
  | .hbm, ⟨32, _⟩ => ⟨S_, .f32⟩
  | .hbm, ⟨33, _⟩ => ⟨S512x2816, .f32⟩
  | .hbm, ⟨34, _⟩ => ⟨S512x2816, .f32⟩
  | .hbm, ⟨35, _⟩ => ⟨S512x2816, .f32⟩
  | .hbm, ⟨36, _⟩ => ⟨S512x2816, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S1x1024, .f32⟩
  | .hbm, ⟨43, _⟩ => ⟨S1024, .f32⟩
  | .hbm, ⟨44, _⟩ => ⟨S512x1024, .f32⟩
  | .hbm, ⟨45, _⟩ => ⟨S_, .f32⟩
  | .hbm, ⟨46, _⟩ => ⟨S512, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S512x1, .f32⟩
  | .hbm, ⟨55, _⟩ => ⟨S512x1024, .f32⟩
  | .hbm, ⟨56, _⟩ => ⟨S512x1024, .f32⟩
  | .hbm, ⟨57, _⟩ => ⟨S1x1024, .f32⟩
  | .hbm, ⟨58, _⟩ => ⟨S512x1024, .f32⟩
  | .hbm, ⟨59, _⟩ => ⟨S512x1024, .f32⟩
  | .hbm, ⟨60, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== RetS.lean ====
abbrev S512x1024 : Shape := ⟨2, ![512, 1024]⟩
abbrev S512x2048 : Shape := ⟨2, ![512, 2048]⟩
abbrev S2048 : Shape := ⟨1, ![2048]⟩
abbrev S32x4x256x512 : Shape := ⟨4, ![32, 4, 256, 512]⟩
abbrev S4 : Shape := ⟨1, ![4]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S4x1 : Shape := ⟨2, ![4, 1]⟩
abbrev S4x16 : Shape := ⟨2, ![4, 16]⟩
abbrev S4x16x1 : Shape := ⟨3, ![4, 16, 1]⟩
abbrev S1x2048 : Shape := ⟨2, ![1, 2048]⟩
abbrev S16x256 : Shape := ⟨2, ![16, 256]⟩
abbrev S16x512 : Shape := ⟨2, ![16, 512]⟩
abbrev S1x512 : Shape := ⟨2, ![1, 512]⟩
abbrev S1x16x1 : Shape := ⟨3, ![1, 16, 1]⟩
abbrev S1x1x1 : Shape := ⟨3, ![1, 1, 1]⟩
abbrev S1x1x256x512 : Shape := ⟨4, ![1, 1, 256, 512]⟩
abbrev S256x512 : Shape := ⟨2, ![256, 512]⟩
abbrev S1x1 : Shape := ⟨2, ![1, 1]⟩

abbrev nBuf : Space → Nat
  | .hbm => 67
  | .vmem => 25
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x2048, .bf16⟩
  | .hbm, ⟨3, _⟩ => ⟨S512x2048, .bf16⟩
  | .hbm, ⟨4, _⟩ => ⟨S2048, .f32⟩
  | .hbm, ⟨5, _⟩ => ⟨S32x4x256x512, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S16, .f32⟩
  | .hbm, ⟨17, _⟩ => ⟨S16x1, .f32⟩
  | .hbm, ⟨18, _⟩ => ⟨S1x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .i1⟩
  | .hbm, ⟨25, _⟩ => ⟨S_, .f32⟩
  | .hbm, ⟨26, _⟩ => ⟨S16x16, .f32⟩
  | .hbm, ⟨27, _⟩ => ⟨S16x16, .f32⟩
  | .hbm, ⟨28, _⟩ => ⟨S1x16x16, .f32⟩
  | .hbm, ⟨29, _⟩ => ⟨S4x1x1, .f32⟩
  | .hbm, ⟨30, _⟩ => ⟨S4x16x16, .f32⟩
  | .hbm, ⟨31, _⟩ => ⟨S4x16x16, .f32⟩
  | .hbm, ⟨32, _⟩ => ⟨S4x16x16, .f32⟩
  | .hbm, ⟨33, _⟩ => ⟨S4x16x16, .f32⟩
  | .hbm, ⟨34, _⟩ => ⟨S_, .f32⟩
  | .hbm, ⟨35, _⟩ => ⟨S_, .f32⟩
  | .hbm, ⟨36, _⟩ => ⟨S4x16x16, .i1⟩
  | .hbm, ⟨37, _⟩ => ⟨S4x16x16, .f32⟩
  | .hbm, ⟨38, _⟩ => ⟨S4x16x16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S1x16, .f32⟩
  | .hbm, ⟨43, _⟩ => ⟨S4x1, .f32⟩
  | .hbm, ⟨44, _⟩ => ⟨S4x16, .f32⟩
  | .hbm, ⟨45, _⟩ => ⟨S4x16, .f32⟩
  | .hbm, ⟨46, _⟩ => ⟨S4x16, .f32⟩
  | .hbm, ⟨47, _⟩ => ⟨S4x16, .f32⟩
  | .hbm, ⟨48, _⟩ => ⟨S4x16x1, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S1x16, .f32⟩
  | .hbm, ⟨53, _⟩ => ⟨S4x1, .f32⟩
  | .hbm, ⟨54, _⟩ => ⟨S4x16, .f32⟩
  | .hbm, ⟨55, _⟩ => ⟨S4x16, .f32⟩
  | .hbm, ⟨56, _⟩ => ⟨S4x16, .f32⟩
  | .hbm, ⟨57, _⟩ => ⟨S4x16, .f32⟩
  | .hbm, ⟨58, _⟩ => ⟨S4x16x1, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4x1x1, .f32⟩
  | .hbm, ⟨64, _⟩ => ⟨S1x2048, .f32⟩
  | .hbm, ⟨65, _⟩ => ⟨S512x2048, .bf16⟩
  | .hbm, ⟨66, _⟩ => ⟨S32x4x256x512, .f32⟩
  | .local _ .vmem, ⟨0, _⟩ => ⟨S16x256, .bf16⟩
  | .local _ .vmem, ⟨1, _⟩ => ⟨S16x256, .bf16⟩
  | .local _ .vmem, ⟨2, _⟩ => ⟨S16x256, .bf16⟩
  | .local _ .vmem, ⟨3, _⟩ => ⟨S16x256, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S16x512, .bf16⟩
  | .local _ .vmem, ⟨8, _⟩ => ⟨S1x512, .f32⟩
  | .local _ .vmem, ⟨9, _⟩ => ⟨S1x512, .f32⟩
  | .local _ .vmem, ⟨10, _⟩ => ⟨S1x16x16, .f32⟩
  | .local _ .vmem, ⟨11, _⟩ => ⟨S1x16x16, .f32⟩
  | .local _ .vmem, ⟨12, _⟩ => ⟨S1x16x1, .f32⟩
  | .local _ .vmem, ⟨13, _⟩ => ⟨S1x16x1, .f32⟩
  | .local _ .vmem, ⟨14, _⟩ => ⟨S1x16x1, .f32⟩
  | .local _ .vmem, ⟨15, _⟩ => ⟨S1x16x1, .f32⟩
  | .local _ .vmem, ⟨16, _⟩ => ⟨S1x1x1, .f32⟩
  | .local _ .vmem, ⟨17, _⟩ => ⟨S1x1x1, .f32⟩
  | .local _ .vmem, ⟨18, _⟩ => ⟨S1x1x256x512, .f32⟩
  | .local _ .vmem, ⟨19, _⟩ => ⟨S1x1x256x512, .f32⟩
  | .local _ .vmem, ⟨20, _⟩ => ⟨S16x512, .bf16⟩
  | .local _ .vmem, ⟨21, _⟩ => ⟨S16x512, .bf16⟩
  | .local _ .vmem, ⟨22, _⟩ => ⟨S1x1x256x512, .f32⟩
  | .local _ .vmem, ⟨23, _⟩ => ⟨S1x1x256x512, .f32⟩
  | .local _ .vmem, ⟨24, _⟩ => ⟨S256x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetSRefIdeal.lean ====
abbrev S512x1024 : Shape := ⟨2, ![512, 1024]⟩
abbrev S512x2048 : Shape := ⟨2, ![512, 2048]⟩
abbrev S2048 : Shape := ⟨1, ![2048]⟩
abbrev S32x4x256x512 : Shape := ⟨4, ![32, 4, 256, 512]⟩
abbrev S32x16x4x256 : Shape := ⟨4, ![32, 16, 4, 256]⟩
abbrev S32x16x4x512 : Shape := ⟨4, ![32, 16, 4, 512]⟩
abbrev S4 : Shape := ⟨1, ![4]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S32x4x16x16 : Shape := ⟨4, ![32, 4, 16, 16]⟩
abbrev S1x4x16x16 : Shape := ⟨4, ![1, 4, 16, 16]⟩
abbrev S32x4x512x16 : Shape := ⟨4, ![32, 4, 512, 16]⟩
abbrev S1x4 : Shape := ⟨2, ![1, 4]⟩
abbrev S16x4 : Shape := ⟨2, ![16, 4]⟩
abbrev S1x16x4x1 : Shape := ⟨4, ![1, 16, 4, 1]⟩
abbrev S1x4x1x1 : Shape := ⟨4, ![1, 4, 1, 1]⟩
abbrev S32x16x4 : Shape := ⟨3, ![32, 16, 4]⟩
abbrev S32x16x4x1 : Shape := ⟨4, ![32, 16, 4, 1]⟩
abbrev S32x16x2048 : Shape := ⟨3, ![32, 16, 2048]⟩
abbrev S1x1x2048 : Shape := ⟨3, ![1, 1, 2048]⟩

abbrev nBuf : Space → Nat
  | .hbm => 119
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x2048, .bf16⟩
  | .hbm, ⟨3, _⟩ => ⟨S512x2048, .bf16⟩
  | .hbm, ⟨4, _⟩ => ⟨S2048, .f32⟩
  | .hbm, ⟨5, _⟩ => ⟨S32x4x256x512, .f32⟩
  | .hbm, ⟨6, _⟩ => ⟨S512x1024, .f32⟩
  | .hbm, ⟨7, _⟩ => ⟨S32x16x4x256, .f32⟩
  | .hbm, ⟨8, _⟩ => ⟨S512x1024, .f32⟩
  | .hbm, ⟨9, _⟩ => ⟨S32x16x4x256, .f32⟩
  | .hbm, ⟨10, _⟩ => ⟨S512x2048, .f32⟩
  | .hbm, ⟨11, _⟩ => ⟨S32x16x4x512, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S16, .f32⟩
  | .hbm, ⟨23, _⟩ => ⟨S16x1, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S_, .f32⟩
  | .hbm, ⟨29, _⟩ => ⟨S16x16, .f32⟩
  | .hbm, ⟨30, _⟩ => ⟨S16x16, .i1⟩
  | .hbm, ⟨31, _⟩ => ⟨S_, .f32⟩
  | .hbm, ⟨32, _⟩ => ⟨S16x16, .f32⟩
  | .hbm, ⟨33, _⟩ => ⟨S16x16, .f32⟩
  | .hbm, ⟨34, _⟩ => ⟨S1x16x16, .f32⟩
  | .hbm, ⟨35, _⟩ => ⟨S4x1x1, .f32⟩
  | .hbm, ⟨36, _⟩ => ⟨S4x16x16, .f32⟩
  | .hbm, ⟨37, _⟩ => ⟨S4x16x16, .f32⟩
  | .hbm, ⟨38, _⟩ => ⟨S4x16x16, .f32⟩
  | .hbm, ⟨39, _⟩ => ⟨S4x16x16, .f32⟩
  | .hbm, ⟨40, _⟩ => ⟨S_, .f32⟩
  | .hbm, ⟨41, _⟩ => ⟨S_, .f32⟩
  | .hbm, ⟨42, _⟩ => ⟨S4x16x16, .i1⟩
  | .hbm, ⟨43, _⟩ => ⟨S4x16x16, .f32⟩
  | .hbm, ⟨44, _⟩ => ⟨S4x16x16, .f32⟩
  | .hbm, ⟨45, _⟩ => ⟨S32x4x16x16, .f32⟩
  | .hbm, ⟨46, _⟩ => ⟨S1x4x16x16, .f32⟩
  | .hbm, ⟨47, _⟩ => ⟨S32x4x16x16, .f32⟩
  | .hbm, ⟨48, _⟩ => ⟨S32x4x16x16, .f32⟩
  | .hbm, ⟨49, _⟩ => ⟨S32x4x512x16, .f32⟩
  | .hbm, ⟨50, _⟩ => ⟨S32x16x4x512, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16x1, .f32⟩
  | .hbm, ⟨55, _⟩ => ⟨S1x4, .f32⟩
  | .hbm, ⟨56, _⟩ => ⟨S16x4, .f32⟩
  | .hbm, ⟨57, _⟩ => ⟨S16x4, .f32⟩
  | .hbm, ⟨58, _⟩ => ⟨S16x4, .f32⟩
  | .hbm, ⟨59, _⟩ => ⟨S16x4, .f32⟩
  | .hbm, ⟨60, _⟩ => ⟨S32x4x512x16, .f32⟩
  | .hbm, ⟨61, _⟩ => ⟨S32x16x4x512, .f32⟩
  | .hbm, ⟨62, _⟩ => ⟨S1x16x4x1, .f32⟩
  | .hbm, ⟨63, _⟩ => ⟨S32x16x4x512, .f32⟩
  | .hbm, ⟨64, _⟩ => ⟨S32x16x4x512, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16x1, .f32⟩
  | .hbm, ⟨69, _⟩ => ⟨S1x4, .f32⟩
  | .hbm, ⟨70, _⟩ => ⟨S16x4, .f32⟩
  | .hbm, ⟨71, _⟩ => ⟨S16x4, .f32⟩
  | .hbm, ⟨72, _⟩ => ⟨S16x4, .f32⟩
  | .hbm, ⟨73, _⟩ => ⟨S16x4, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S1x4x1x1, .f32⟩
  | .hbm, ⟨79, _⟩ => ⟨S32x4x256x512, .f32⟩
  | .hbm, ⟨80, _⟩ => ⟨S32x4x256x512, .f32⟩
  | .hbm, ⟨81, _⟩ => ⟨S1x16x4x1, .f32⟩
  | .hbm, ⟨82, _⟩ => ⟨S32x16x4x256, .f32⟩
  | .hbm, ⟨83, _⟩ => ⟨S32x16x4x256, .f32⟩
  | .hbm, ⟨84, _⟩ => ⟨S32x4x256x512, .f32⟩
  | .hbm, ⟨85, _⟩ => ⟨S32x4x256x512, .f32⟩
  | .hbm, ⟨86, _⟩ => ⟨S32x16x4x512, .f32⟩
  | .hbm, ⟨87, _⟩ => ⟨S_, .f32⟩
  | .hbm, ⟨88, _⟩ => ⟨S32x16x4, .f32⟩
  | .hbm, ⟨89, _⟩ => ⟨S32x16x4x1, .f32⟩
  | .hbm, ⟨90, _⟩ => ⟨S_, .f32⟩
  | .hbm, ⟨91, _⟩ => ⟨S32x16x4x1, .f32⟩
  | .hbm, ⟨92, _⟩ => ⟨S32x16x4x1, .f32⟩
  | .hbm, ⟨93, _⟩ => ⟨S32x16x4x512, .f32⟩
  | .hbm, ⟨94, _⟩ => ⟨S32x16x4x512, .f32⟩
  | .hbm, ⟨95, _⟩ => ⟨S32x16x4x512, .f32⟩
  | .hbm, ⟨96, _⟩ => ⟨S_, .f32⟩
  | .hbm, ⟨97, _⟩ => ⟨S32x16x4, .f32⟩
  | .hbm, ⟨98, _⟩ => ⟨S32x16x4x1, .f32⟩
  | .hbm, ⟨99, _⟩ => ⟨S_, .f32⟩
  | .hbm, ⟨100, _⟩ => ⟨S32x16x4x1, .f32⟩
  | .hbm, ⟨101, _⟩ => ⟨S32x16x4x1, .f32⟩
  | .hbm, ⟨102, _⟩ => ⟨S32x16x4x512, .f32⟩
  | .hbm, ⟨103, _⟩ => ⟨S32x16x4x512, .f32⟩
  | .hbm, ⟨104, _⟩ => ⟨S_, .f32⟩
  | .hbm, ⟨105, _⟩ => ⟨S32x16x4x1, .f32⟩
  | .hbm, ⟨106, _⟩ => ⟨S32x16x4x1, .f32⟩
  | .hbm, ⟨107, _⟩ => ⟨S32x16x4x1, .f32⟩
  | .hbm, ⟨108, _⟩ => ⟨S32x16x4x512, .f32⟩
  | .hbm, ⟨109, _⟩ => ⟨S32x16x4x512, .f32⟩
  | .hbm, ⟨110, _⟩ => ⟨S32x16x2048, .f32⟩
  | .hbm, ⟨111, _⟩ => ⟨S1x1x2048, .f32⟩
  | .hbm, ⟨112, _⟩ => ⟨S32x16x2048, .f32⟩
  | .hbm, ⟨113, _⟩ => ⟨S32x16x2048, .f32⟩
  | .hbm, ⟨114, _⟩ => ⟨S512x2048, .f32⟩
  | .hbm, ⟨115, _⟩ => ⟨S32x16x2048, .f32⟩
  | .hbm, ⟨116, _⟩ => ⟨S32x16x2048, .f32⟩
  | .hbm, ⟨117, _⟩ => ⟨S32x16x2048, .bf16⟩
  | .hbm, ⟨118, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_11 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩

abbrev nD : Nat := 1
abbrev τ : Topo := Topo.v7x

variable {F : FTy → Type} [FloatOps F]
-- ==== BandS.lean ====
abbrev S512x1024 : Shape := ⟨2, ![512, 1024]⟩
abbrev S1024x3072 : Shape := ⟨2, ![1024, 3072]⟩
abbrev S64 : Shape := ⟨1, ![64]⟩
abbrev S256x256 : Shape := ⟨2, ![256, 256]⟩
abbrev S1x64 : Shape := ⟨2, ![1, 64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 27
  | .vmem => 12
  | .smem => 0
  | _ => 0

abbrev bufTy : (tb : Table) → Fin (tcTables nBuf tb) → BufTy
  | .hbm, ⟨0, _⟩ => ⟨S512x1024, .bf16⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S256x256, .bf16⟩
  | .hbm, ⟨5, _⟩ => ⟨S1x64, .f32⟩
  | .hbm, ⟨6, _⟩ => ⟨S16x64, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S512x1024, .bf16⟩
  | .hbm, ⟨23, _⟩ => ⟨S512x1024, .bf16⟩
  | .hbm, ⟨24, _⟩ => ⟨S512x1024, .bf16⟩
  | .hbm, ⟨25, _⟩ => ⟨S512x1024, .f32⟩
  | .hbm, ⟨26, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x256, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== BandSRefIdeal.lean ====
abbrev S512x1024 : Shape := ⟨2, ![512, 1024]⟩
abbrev S1024x3072 : Shape := ⟨2, ![1024, 3072]⟩
abbrev S64 : Shape := ⟨1, ![64]⟩
abbrev S32x16x1024 : Shape := ⟨3, ![32, 16, 1024]⟩
abbrev S32x16x3072 : Shape := ⟨3, ![32, 16, 3072]⟩
abbrev S32x16x16x64 : Shape := ⟨4, ![32, 16, 16, 64]⟩
abbrev S_ : Shape := ⟨0, ![]⟩
abbrev S32x16x16 : Shape := ⟨3, ![32, 16, 16]⟩
abbrev S32x16x16x1 : Shape := ⟨4, ![32, 16, 16, 1]⟩
abbrev S1x1x1x64 : Shape := ⟨4, ![1, 1, 1, 64]⟩

abbrev nBuf : Space → Nat
  | .hbm => 54
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S512x1024, .f32⟩
  | .hbm, ⟨5, _⟩ => ⟨S32x16x1024, .f32⟩
  | .hbm, ⟨6, _⟩ => ⟨S32x16x3072, .f32⟩
  | .hbm, ⟨7, _⟩ => ⟨S32x16x1024, .f32⟩
  | .hbm, ⟨8, _⟩ => ⟨S32x16x1024, .f32⟩
  | .hbm, ⟨9, _⟩ => ⟨S32x16x1024, .f32⟩
  | .hbm, ⟨10, _⟩ => ⟨S32x16x16x64, .f32⟩
  | .hbm, ⟨11, _⟩ => ⟨S32x16x16x64, .f32⟩
  | .hbm, ⟨12, _⟩ => ⟨S_, .f32⟩
  | .hbm, ⟨13, _⟩ => ⟨S32x16x16, .f32⟩
  | .hbm, ⟨14, _⟩ => ⟨S32x16x16x1, .f32⟩
  | .hbm, ⟨15, _⟩ => ⟨S_, .f32⟩
  | .hbm, ⟨16, _⟩ => ⟨S32x16x16x1, .f32⟩
  | .hbm, ⟨17, _⟩ => ⟨S32x16x16x1, .f32⟩
  | .hbm, ⟨18, _⟩ => ⟨S_, .f32⟩
  | .hbm, ⟨19, _⟩ => ⟨S32x16x16x1, .f32⟩
  | .hbm, ⟨20, _⟩ => ⟨S32x16x16x1, .f32⟩
  | .hbm, ⟨21, _⟩ => ⟨S32x16x16x1, .f32⟩
  | .hbm, ⟨22, _⟩ => ⟨S32x16x16x64, .f32⟩
  | .hbm, ⟨23, _⟩ => ⟨S32x16x16x64, .f32⟩
  | .hbm, ⟨24, _⟩ => ⟨S1x1x1x64, .f32⟩
  | .hbm, ⟨25, _⟩ => ⟨S32x16x16x64, .f32⟩
  | .hbm, ⟨26, _⟩ => ⟨S32x16x16x64, .f32⟩
  | .hbm, ⟨27, _⟩ => ⟨S32x16x16x64, .f32⟩
  | .hbm, ⟨28, _⟩ => ⟨S32x16x16x64, .f32⟩
  | .hbm, ⟨29, _⟩ => ⟨S_, .f32⟩
  | .hbm, ⟨30, _⟩ => ⟨S32x16x16, .f32⟩
  | .hbm, ⟨31, _⟩ => ⟨S32x16x16x1, .f32⟩
  | .hbm, ⟨32, _⟩ => ⟨S_, .f32⟩
  | .hbm, ⟨33, _⟩ => ⟨S32x16x16x1, .f32⟩
  | .hbm, ⟨34, _⟩ => ⟨S32x16x16x1, .f32⟩
  | .hbm, ⟨35, _⟩ => ⟨S_, .f32⟩
  | .hbm, ⟨36, _⟩ => ⟨S32x16x16x1, .f32⟩
  | .hbm, ⟨37, _⟩ => ⟨S32x16x16x1, .f32⟩
  | .hbm, ⟨38, _⟩ => ⟨S32x16x16x1, .f32⟩
  | .hbm, ⟨39, _⟩ => ⟨S32x16x16x64, .f32⟩
  | .hbm, ⟨40, _⟩ => ⟨S32x16x16x64, .f32⟩
  | .hbm, ⟨41, _⟩ => ⟨S1x1x1x64, .f32⟩
  | .hbm, ⟨42, _⟩ => ⟨S32x16x16x64, .f32⟩
  | .hbm, ⟨43, _⟩ => ⟨S32x16x16x64, .f32⟩
  | .hbm, ⟨44, _⟩ => ⟨S32x16x16x64, .f32⟩
  | .hbm, ⟨45, _⟩ => ⟨S_, .f32⟩
  | .hbm, ⟨46, _⟩ => ⟨S32x16x16x64, .f32⟩
  | .hbm, ⟨47, _⟩ => ⟨S32x16x16x64, .f32⟩
  | .hbm, ⟨48, _⟩ => ⟨S512x1024, .f32⟩
  | .hbm, ⟨49, _⟩ => ⟨S512x1024, .f32⟩
  | .hbm, ⟨50, _⟩ => ⟨S512x1024, .f32⟩
  | .hbm, ⟨51, _⟩ => ⟨S512x1024, .bf16⟩
  | .hbm, ⟨52, _⟩ => ⟨S512x1024, .bf16⟩
  | .hbm, ⟨53, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== FoxS.lean ====
abbrev S512x1024 : Shape := ⟨2, ![512, 1024]⟩
abbrev S1024x3072 : Shape := ⟨2, ![1024, 3072]⟩
abbrev S64 : Shape := ⟨1, ![64]⟩
abbrev S1024x16 : Shape := ⟨2, ![1024, 16]⟩
abbrev S16 : Shape := ⟨1, ![16]⟩
abbrev S256x256 : Shape := ⟨2, ![256, 256]⟩
abbrev S1x64 : Shape := ⟨2, ![1, 64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S1024x1024 : Shape := ⟨2, ![1024, 1024]⟩
abbrev S1x16 : Shape := ⟨2, ![1, 16]⟩
abbrev S512x16 : Shape := ⟨2, ![512, 16]⟩
abbrev S256x1024 : Shape := ⟨2, ![256, 1024]⟩
abbrev S256x16 : Shape := ⟨2, ![256, 16]⟩

abbrev nBuf : Space → Nat
  | .hbm => 32
  | .vmem => 15
  | .smem => 0
  | _ => 0

abbrev bufTy : (tb : Table) → Fin (tcTables nBuf tb) → BufTy
  | .hbm, ⟨0, _⟩ => ⟨S512x1024, .bf16⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S1024x16, .f32⟩
  | .hbm, ⟨5, _⟩ => ⟨S16, .f32⟩
  | .hbm, ⟨6, _⟩ => ⟨S256x256, .bf16⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x64, .f32⟩
  | .hbm, ⟨15, _⟩ => ⟨S16x64, .f32⟩
  | .hbm, ⟨16, _⟩ => ⟨S1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S1024x16, .bf16⟩
  | .hbm, ⟨25, _⟩ => ⟨S1x16, .f32⟩
  | .hbm, ⟨26, _⟩ => ⟨S512x1024, .bf16⟩
  | .hbm, ⟨27, _⟩ => ⟨S512x1024, .bf16⟩
  | .hbm, ⟨28, _⟩ => ⟨S512x1024, .bf16⟩
  | .hbm, ⟨29, _⟩ => ⟨S512x1024, .f32⟩
  | .hbm, ⟨30, _⟩ => ⟨S512x1024, .f32⟩
  | .hbm, ⟨31, _⟩ => ⟨S512x16, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x256, .bf16⟩
  | .local _ .vmem, ⟨5, _⟩ => ⟨S1x1024, .f32⟩
  | .local _ .vmem, ⟨6, _⟩ => ⟨S1x1024, .f32⟩
  | .local _ .vmem, ⟨7, _⟩ => ⟨S1024x16, .bf16⟩
  | .local _ .vmem, ⟨8, _⟩ => ⟨S1x16, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x16, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev main_v18_5 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== FoxSRefIdeal.lean ====
abbrev S512x1024 : Shape := ⟨2, ![512, 1024]⟩
abbrev S1024x3072 : Shape := ⟨2, ![1024, 3072]⟩
abbrev S64 : Shape := ⟨1, ![64]⟩
abbrev S1024x16 : Shape := ⟨2, ![1024, 16]⟩
abbrev S16 : Shape := ⟨1, ![16]⟩
abbrev S32x16x1024 : Shape := ⟨3, ![32, 16, 1024]⟩
abbrev S32x16x3072 : Shape := ⟨3, ![32, 16, 3072]⟩
abbrev S32x16x16x64 : Shape := ⟨4, ![32, 16, 16, 64]⟩
abbrev S_ : Shape := ⟨0, ![]⟩
abbrev S32x16x16 : Shape := ⟨3, ![32, 16, 16]⟩
abbrev S32x16x16x1 : Shape := ⟨4, ![32, 16, 16, 1]⟩
abbrev S1x1x1x64 : Shape := ⟨4, ![1, 1, 1, 64]⟩
abbrev S1x1x16 : Shape := ⟨3, ![1, 1, 16]⟩
abbrev S512x16 : Shape := ⟨2, ![512, 16]⟩

abbrev nBuf : Space → Nat
  | .hbm => 77
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S1024x16, .f32⟩
  | .hbm, ⟨5, _⟩ => ⟨S16, .f32⟩
  | .hbm, ⟨6, _⟩ => ⟨S512x1024, .f32⟩
  | .hbm, ⟨7, _⟩ => ⟨S32x16x1024, .f32⟩
  | .hbm, ⟨8, _⟩ => ⟨S32x16x3072, .f32⟩
  | .hbm, ⟨9, _⟩ => ⟨S32x16x1024, .f32⟩
  | .hbm, ⟨10, _⟩ => ⟨S32x16x1024, .f32⟩
  | .hbm, ⟨11, _⟩ => ⟨S32x16x1024, .f32⟩
  | .hbm, ⟨12, _⟩ => ⟨S32x16x16x64, .f32⟩
  | .hbm, ⟨13, _⟩ => ⟨S32x16x16x64, .f32⟩
  | .hbm, ⟨14, _⟩ => ⟨S_, .f32⟩
  | .hbm, ⟨15, _⟩ => ⟨S32x16x16, .f32⟩
  | .hbm, ⟨16, _⟩ => ⟨S32x16x16x1, .f32⟩
  | .hbm, ⟨17, _⟩ => ⟨S_, .f32⟩
  | .hbm, ⟨18, _⟩ => ⟨S32x16x16x1, .f32⟩
  | .hbm, ⟨19, _⟩ => ⟨S32x16x16x1, .f32⟩
  | .hbm, ⟨20, _⟩ => ⟨S_, .f32⟩
  | .hbm, ⟨21, _⟩ => ⟨S32x16x16x1, .f32⟩
  | .hbm, ⟨22, _⟩ => ⟨S32x16x16x1, .f32⟩
  | .hbm, ⟨23, _⟩ => ⟨S32x16x16x1, .f32⟩
  | .hbm, ⟨24, _⟩ => ⟨S32x16x16x64, .f32⟩
  | .hbm, ⟨25, _⟩ => ⟨S32x16x16x64, .f32⟩
  | .hbm, ⟨26, _⟩ => ⟨S1x1x1x64, .f32⟩
  | .hbm, ⟨27, _⟩ => ⟨S32x16x16x64, .f32⟩
  | .hbm, ⟨28, _⟩ => ⟨S32x16x16x64, .f32⟩
  | .hbm, ⟨29, _⟩ => ⟨S32x16x16x64, .f32⟩
  | .hbm, ⟨30, _⟩ => ⟨S32x16x16x64, .f32⟩
  | .hbm, ⟨31, _⟩ => ⟨S_, .f32⟩
  | .hbm, ⟨32, _⟩ => ⟨S32x16x16, .f32⟩
  | .hbm, ⟨33, _⟩ => ⟨S32x16x16x1, .f32⟩
  | .hbm, ⟨34, _⟩ => ⟨S_, .f32⟩
  | .hbm, ⟨35, _⟩ => ⟨S32x16x16x1, .f32⟩
  | .hbm, ⟨36, _⟩ => ⟨S32x16x16x1, .f32⟩
  | .hbm, ⟨37, _⟩ => ⟨S_, .f32⟩
  | .hbm, ⟨38, _⟩ => ⟨S32x16x16x1, .f32⟩
  | .hbm, ⟨39, _⟩ => ⟨S32x16x16x1, .f32⟩
  | .hbm, ⟨40, _⟩ => ⟨S32x16x16x1, .f32⟩
  | .hbm, ⟨41, _⟩ => ⟨S32x16x16x64, .f32⟩
  | .hbm, ⟨42, _⟩ => ⟨S32x16x16x64, .f32⟩
  | .hbm, ⟨43, _⟩ => ⟨S1x1x1x64, .f32⟩
  | .hbm, ⟨44, _⟩ => ⟨S32x16x16x64, .f32⟩
  | .hbm, ⟨45, _⟩ => ⟨S32x16x16x64, .f32⟩
  | .hbm, ⟨46, _⟩ => ⟨S32x16x16x64, .f32⟩
  | .hbm, ⟨47, _⟩ => ⟨S32x16x16, .f32⟩
  | .hbm, ⟨48, _⟩ => ⟨S1x1x16, .f32⟩
  | .hbm, ⟨49, _⟩ => ⟨S32x16x16, .f32⟩
  | .hbm, ⟨50, _⟩ => ⟨S32x16x16, .f32⟩
  | .hbm, ⟨51, _⟩ => ⟨S32x16x16, .f32⟩
  | .hbm, ⟨52, _⟩ => ⟨S_, .f32⟩
  | .hbm, ⟨53, _⟩ => ⟨S32x16x16, .f32⟩
  | .hbm, ⟨54, _⟩ => ⟨S32x16x16, .f32⟩
  | .hbm, ⟨55, _⟩ => ⟨S32x16x16, .f32⟩
  | .hbm, ⟨56, _⟩ => ⟨S32x16x16, .f32⟩
  | .hbm, ⟨57, _⟩ => ⟨S32x16x16, .i1⟩
  | .hbm, ⟨58, _⟩ => ⟨S32x16x16, .f32⟩
  | .hbm, ⟨59, _⟩ => ⟨S32x16x16, .f32⟩
  | .hbm, ⟨60, _⟩ => ⟨S32x16x16, .f32⟩
  | .hbm, ⟨61, _⟩ => ⟨S32x16x16, .f32⟩
  | .hbm, ⟨62, _⟩ => ⟨S32x16x16, .f32⟩
  | .hbm, ⟨63, _⟩ => ⟨S32x16x16, .f32⟩
  | .hbm, ⟨64, _⟩ => ⟨S32x16x16, .f32⟩
  | .hbm, ⟨65, _⟩ => ⟨S32x16x16, .f32⟩
  | .hbm, ⟨66, _⟩ => ⟨S32x16x16, .f32⟩
  | .hbm, ⟨67, _⟩ => ⟨S_, .f32⟩
  | .hbm, ⟨68, _⟩ => ⟨S32x16x16x64, .f32⟩
  | .hbm, ⟨69, _⟩ => ⟨S32x16x16x64, .f32⟩
  | .hbm, ⟨70, _⟩ => ⟨S512x1024, .f32⟩
  | .hbm, ⟨71, _⟩ => ⟨S512x1024, .f32⟩
  | .hbm, ⟨72, _⟩ => ⟨S512x1024, .f32⟩
  | .hbm, ⟨73, _⟩ => ⟨S512x1024, .bf16⟩
  | .hbm, ⟨74, _⟩ => ⟨S512x1024, .bf16⟩
  | .hbm, ⟨75, _⟩ => ⟨S512x1024, .bf16⟩
  | .hbm, ⟨76, _⟩ => ⟨S512x16, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== FoxP.lean ====
abbrev S65536x1024 : Shape := ⟨2, ![65536, 1024]⟩
abbrev S1024x3072 : Shape := ⟨2, ![1024, 3072]⟩
abbrev S64 : Shape := ⟨1, ![64]⟩
abbrev S1024x16 : Shape := ⟨2, ![1024, 16]⟩
abbrev S16 : Shape := ⟨1, ![16]⟩
abbrev S256x256 : Shape := ⟨2, ![256, 256]⟩
abbrev S1x64 : Shape := ⟨2, ![1, 64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S1024x1024 : Shape := ⟨2, ![1024, 1024]⟩
abbrev S1024x1 : Shape := ⟨2, ![1024, 1]⟩
abbrev S16x1024 : Shape := ⟨2, ![16, 1024]⟩
abbrev S16x1 : Shape := ⟨2, ![16, 1]⟩
abbrev S32x1024x2048 : Shape := ⟨3, ![32, 1024, 2048]⟩
abbrev S1x32x1024x2048 : Shape := ⟨4, ![1, 32, 1024, 2048]⟩
abbrev S32x16x2048 : Shape := ⟨3, ![32, 16, 2048]⟩
abbrev S1x1024x1024 : Shape := ⟨3, ![1, 1024, 1024]⟩
abbrev S1x1x1024x1024 : Shape := ⟨4, ![1, 1, 1024, 1024]⟩
abbrev S1x16x1024 : Shape := ⟨3, ![1, 16, 1024]⟩
abbrev S256x1024 : Shape := ⟨2, ![256, 1024]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x1024x256 : Shape := ⟨3, ![1, 1024, 256]⟩
abbrev S1x1x1024x256 : Shape := ⟨4, ![1, 1, 1024, 256]⟩
abbrev S1x16x256 : Shape := ⟨3, ![1, 16, 256]⟩

abbrev nBuf : Space → Nat
  | .hbm => 35
  | .vmem => 22
  | .smem => 0
  | _ => 0

abbrev bufTy : (tb : Table) → Fin (tcTables nBuf tb) → BufTy
  | .hbm, ⟨0, _⟩ => ⟨S65536x1024, .bf16⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S1024x16, .f32⟩
  | .hbm, ⟨5, _⟩ => ⟨S16, .f32⟩
  | .hbm, ⟨6, _⟩ => ⟨S256x256, .bf16⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x64, .f32⟩
  | .hbm, ⟨15, _⟩ => ⟨S16x64, .f32⟩
  | .hbm, ⟨16, _⟩ => ⟨S1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1, .f32⟩
  | .hbm, ⟨24, _⟩ => ⟨S1024x1024, .bf16⟩
  | .hbm, ⟨25, _⟩ => ⟨S1024x1024, .bf16⟩
  | .hbm, ⟨26, _⟩ => ⟨S16x1024, .f32⟩
  | .hbm, ⟨27, _⟩ => ⟨S16x1024, .bf16⟩
  | .hbm, ⟨28, _⟩ => ⟨S16x1, .f32⟩
  | .hbm, ⟨29, _⟩ => ⟨S65536x1024, .bf16⟩
  | .hbm, ⟨30, _⟩ => ⟨S32x1024x2048, .bf16⟩
  | .hbm, ⟨31, _⟩ => ⟨S32x1024x2048, .bf16⟩
  | .hbm, ⟨32, _⟩ => ⟨S1x32x1024x2048, .f32⟩
  | .hbm, ⟨33, _⟩ => ⟨S1x32x1024x2048, .f32⟩
  | .hbm, ⟨34, _⟩ => ⟨S32x16x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x256, .bf16⟩
  | .local _ .vmem, ⟨6, _⟩ => ⟨S1x1024, .f32⟩
  | .local _ .vmem, ⟨7, _⟩ => ⟨S1024x1, .f32⟩
  | .local _ .vmem, ⟨8, _⟩ => ⟨S16x1024, .bf16⟩
  | .local _ .vmem, ⟨9, _⟩ => ⟨S16x1, .f32⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1x1024x1024, .f32⟩
  | .local _ .vmem, ⟨17, _⟩ => ⟨S1x1x1024x1024, .f32⟩
  | .local _ .vmem, ⟨18, _⟩ => ⟨S1x1x1024x1024, .f32⟩
  | .local _ .vmem, ⟨19, _⟩ => ⟨S1x1x1024x1024, .f32⟩
  | .local _ .vmem, ⟨20, _⟩ => ⟨S1x16x1024, .f32⟩
  | .local _ .vmem, ⟨21, _⟩ => ⟨S1x16x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  let c0_i32_14 : BitVec 32 := 0#32
  ![c0_i32_12.toNat, v16.toNat, c0_i32_13.toNat, v28.toNat]

def cc0_transform_13 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  let c0_i32_14 : BitVec 32 := 0#32
  ![c0_i32_12.toNat, v16.toNat, c0_i32_13.toNat, v28.toNat]

def cc0_transform_14 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FoxPRefIdeal.lean ====
abbrev S65536x1024 : Shape := ⟨2, ![65536, 1024]⟩
abbrev S1024x3072 : Shape := ⟨2, ![1024, 3072]⟩
abbrev S64 : Shape := ⟨1, ![64]⟩
abbrev S1024x16 : Shape := ⟨2, ![1024, 16]⟩
abbrev S16 : Shape := ⟨1, ![16]⟩
abbrev S32x2048x1024 : Shape := ⟨3, ![32, 2048, 1024]⟩
abbrev S32x2048x3072 : Shape := ⟨3, ![32, 2048, 3072]⟩
abbrev S32x2048x16x64 : Shape := ⟨4, ![32, 2048, 16, 64]⟩
abbrev S_ : Shape := ⟨0, ![]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S1x1x16 : Shape := ⟨3, ![1, 1, 16]⟩
abbrev S32x16x64x2048 : Shape := ⟨4, ![32, 16, 64, 2048]⟩
abbrev S32x1024x2048 : Shape := ⟨3, ![32, 1024, 2048]⟩
abbrev S1x32x1024x2048 : Shape := ⟨4, ![1, 32, 1024, 2048]⟩
abbrev S32x16x2048 : Shape := ⟨3, ![32, 16, 2048]⟩

abbrev nBuf : Space → Nat
  | .hbm => 81
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S1024x16, .f32⟩
  | .hbm, ⟨5, _⟩ => ⟨S16, .f32⟩
  | .hbm, ⟨6, _⟩ => ⟨S65536x1024, .f32⟩
  | .hbm, ⟨7, _⟩ => ⟨S32x2048x1024, .f32⟩
  | .hbm, ⟨8, _⟩ => ⟨S32x2048x3072, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x16x64, .f32⟩
  | .hbm, ⟨13, _⟩ => ⟨S32x2048x16x64, .f32⟩
  | .hbm, ⟨14, _⟩ => ⟨S_, .f32⟩
  | .hbm, ⟨15, _⟩ => ⟨S32x2048x16, .f32⟩
  | .hbm, ⟨16, _⟩ => ⟨S32x2048x16x1, .f32⟩
  | .hbm, ⟨17, _⟩ => ⟨S_, .f32⟩
  | .hbm, ⟨18, _⟩ => ⟨S32x2048x16x1, .f32⟩
  | .hbm, ⟨19, _⟩ => ⟨S32x2048x16x1, .f32⟩
  | .hbm, ⟨20, _⟩ => ⟨S_, .f32⟩
  | .hbm, ⟨21, _⟩ => ⟨S32x2048x16x1, .f32⟩
  | .hbm, ⟨22, _⟩ => ⟨S32x2048x16x1, .f32⟩
  | .hbm, ⟨23, _⟩ => ⟨S32x2048x16x1, .f32⟩
  | .hbm, ⟨24, _⟩ => ⟨S32x2048x16x64, .f32⟩
  | .hbm, ⟨25, _⟩ => ⟨S32x2048x16x64, .f32⟩
  | .hbm, ⟨26, _⟩ => ⟨S1x1x1x64, .f32⟩
  | .hbm, ⟨27, _⟩ => ⟨S32x2048x16x64, .f32⟩
  | .hbm, ⟨28, _⟩ => ⟨S32x2048x16x64, .f32⟩
  | .hbm, ⟨29, _⟩ => ⟨S32x2048x16x64, .f32⟩
  | .hbm, ⟨30, _⟩ => ⟨S32x2048x16x64, .f32⟩
  | .hbm, ⟨31, _⟩ => ⟨S_, .f32⟩
  | .hbm, ⟨32, _⟩ => ⟨S32x2048x16, .f32⟩
  | .hbm, ⟨33, _⟩ => ⟨S32x2048x16x1, .f32⟩
  | .hbm, ⟨34, _⟩ => ⟨S_, .f32⟩
  | .hbm, ⟨35, _⟩ => ⟨S32x2048x16x1, .f32⟩
  | .hbm, ⟨36, _⟩ => ⟨S32x2048x16x1, .f32⟩
  | .hbm, ⟨37, _⟩ => ⟨S_, .f32⟩
  | .hbm, ⟨38, _⟩ => ⟨S32x2048x16x1, .f32⟩
  | .hbm, ⟨39, _⟩ => ⟨S32x2048x16x1, .f32⟩
  | .hbm, ⟨40, _⟩ => ⟨S32x2048x16x1, .f32⟩
  | .hbm, ⟨41, _⟩ => ⟨S32x2048x16x64, .f32⟩
  | .hbm, ⟨42, _⟩ => ⟨S32x2048x16x64, .f32⟩
  | .hbm, ⟨43, _⟩ => ⟨S1x1x1x64, .f32⟩
  | .hbm, ⟨44, _⟩ => ⟨S32x2048x16x64, .f32⟩
  | .hbm, ⟨45, _⟩ => ⟨S32x2048x16x64, .f32⟩
  | .hbm, ⟨46, _⟩ => ⟨S32x2048x16x64, .f32⟩
  | .hbm, ⟨47, _⟩ => ⟨S32x2048x16, .f32⟩
  | .hbm, ⟨48, _⟩ => ⟨S1x1x16, .f32⟩
  | .hbm, ⟨49, _⟩ => ⟨S32x2048x16, .f32⟩
  | .hbm, ⟨50, _⟩ => ⟨S32x2048x16, .f32⟩
  | .hbm, ⟨51, _⟩ => ⟨S32x2048x16, .f32⟩
  | .hbm, ⟨52, _⟩ => ⟨S_, .f32⟩
  | .hbm, ⟨53, _⟩ => ⟨S32x2048x16, .f32⟩
  | .hbm, ⟨54, _⟩ => ⟨S32x2048x16, .f32⟩
  | .hbm, ⟨55, _⟩ => ⟨S32x2048x16, .f32⟩
  | .hbm, ⟨56, _⟩ => ⟨S32x2048x16, .f32⟩
  | .hbm, ⟨57, _⟩ => ⟨S32x2048x16, .i1⟩
  | .hbm, ⟨58, _⟩ => ⟨S32x2048x16, .f32⟩
  | .hbm, ⟨59, _⟩ => ⟨S32x2048x16, .f32⟩
  | .hbm, ⟨60, _⟩ => ⟨S32x2048x16, .f32⟩
  | .hbm, ⟨61, _⟩ => ⟨S32x2048x16, .f32⟩
  | .hbm, ⟨62, _⟩ => ⟨S32x2048x16, .f32⟩
  | .hbm, ⟨63, _⟩ => ⟨S32x2048x16, .f32⟩
  | .hbm, ⟨64, _⟩ => ⟨S32x2048x16, .f32⟩
  | .hbm, ⟨65, _⟩ => ⟨S32x2048x16, .f32⟩
  | .hbm, ⟨66, _⟩ => ⟨S32x2048x16, .f32⟩
  | .hbm, ⟨67, _⟩ => ⟨S_, .f32⟩
  | .hbm, ⟨68, _⟩ => ⟨S32x2048x16x64, .f32⟩
  | .hbm, ⟨69, _⟩ => ⟨S32x2048x16x64, .f32⟩
  | .hbm, ⟨70, _⟩ => ⟨S32x16x64x2048, .f32⟩
  | .hbm, ⟨71, _⟩ => ⟨S32x1024x2048, .f32⟩
  | .hbm, ⟨72, _⟩ => ⟨S32x16x64x2048, .f32⟩
  | .hbm, ⟨73, _⟩ => ⟨S32x1024x2048, .f32⟩
  | .hbm, ⟨74, _⟩ => ⟨S65536x1024, .f32⟩
  | .hbm, ⟨75, _⟩ => ⟨S65536x1024, .bf16⟩
  | .hbm, ⟨76, _⟩ => ⟨S32x1024x2048, .bf16⟩
  | .hbm, ⟨77, _⟩ => ⟨S32x1024x2048, .bf16⟩
  | .hbm, ⟨78, _⟩ => ⟨S1x32x1024x2048, .f32⟩
  | .hbm, ⟨79, _⟩ => ⟨S1x32x1024x2048, .f32⟩
  | .hbm, ⟨80, _⟩ => ⟨S32x16x2048, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Proof.RetMath.lean ====
module

public import Idealize.ShloMosaic.Lib.Pointwise
public import Idealize.ShloMosaic.Lib.DynamicIndex

@[expose] public section

set_option maxRecDepth 16384
noncomputable section
open Idealize.ShloMosaic
open Finset (range)

namespace Cert.RetMath

/-! ## Sums of real numbers among the extended reals -/

/-- A finite sum of real numbers, taken in the extended reals, is the real sum. -/
theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-! ## The retention recurrence in closed form, over the reals -/

/-- The state after `n` tokens: every earlier key-value product, decayed by its age. -/
def st (a : ℝ) (k : ℕ → Fin 256 → ℝ) (v : ℕ → Fin 512 → ℝ) (n : ℕ) (d : Fin 256) (e : Fin 512) : ℝ :=
  ∑ s ∈ range n, Real.exp (((n : ℝ) - 1 - s) * a) * (k s d * v s e)

/-- The output at token `t`: every value up to `t`, weighted by its query-key product and decayed by its age. -/
def ou (a : ℝ) (q k : ℕ → Fin 256 → ℝ) (v : ℕ → Fin 512 → ℝ) (t : ℕ) (e : Fin 512) : ℝ :=
  ∑ s ∈ range (t + 1), Real.exp (((t : ℝ) - s) * a) * ((∑ d, q t d * k s d) * v s e)

/-- The state before the first token is zero. -/
theorem st_zero (a : ℝ) (k : ℕ → Fin 256 → ℝ) (v : ℕ → Fin 512 → ℝ) (d : Fin 256) (e : Fin 512) : st a k v 0 d e = 0 := by
  simp [st]

/-- Taking in a block of `L` tokens: the old state decayed `L` steps, plus the block's own products. -/
theorem st_block (a : ℝ) (k : ℕ → Fin 256 → ℝ) (v : ℕ → Fin 512 → ℝ) (n L : ℕ) (d : Fin 256) (e : Fin 512) :
    Real.exp ((L : ℝ) * a) * st a k v n d e + ∑ i : Fin L, k (n + i) d * Real.exp (((L : ℝ) - 1 - (i : ℕ)) * a) * v (n + i) e
      = st a k v (n + L) d e := by
  unfold st
  rw [Finset.sum_range_add, Finset.mul_sum,
    Fin.sum_univ_eq_sum_range (fun i : ℕ => k (n + i) d * Real.exp (((L : ℝ) - 1 - i) * a) * v (n + i) e) L]
  congr 1
  · refine Finset.sum_congr rfl fun s _ => ?_
    rw [← mul_assoc, ← Real.exp_add]
    congr 2
    push_cast; ring
  · refine Finset.sum_congr rfl fun i _ => ?_
    have : (((n + L : ℕ) : ℝ) - 1 - ((n + i : ℕ) : ℝ)) = (L : ℝ) - 1 - i := by push_cast; ring
    rw [this]; ring

/-- The weight of token `j` of a block at token `i` of it: its decay by age, and nothing for a later token. -/
def dec (a : ℝ) (i j : ℕ) : ℝ := if j ≤ i then Real.exp (((i : ℝ) - j) * a) else 0

/-- The output at token `i` of the block that starts at `n`: the products inside the block, plus the query on the
    state before it, decayed. -/
theorem ou_block (a : ℝ) (q k : ℕ → Fin 256 → ℝ) (v : ℕ → Fin 512 → ℝ) (n L : ℕ) (i : Fin L) (e : Fin 512) :
    ∑ j : Fin L, (∑ d, q (n + i) d * k (n + j) d) * dec a i j * v (n + j) e
      + (∑ d, q (n + i) d * st a k v n d e) * Real.exp (((i : ℕ) + 1 : ℝ) * a) = ou a q k v (n + i) e := by
  unfold ou
  rw [add_assoc n, Finset.sum_range_add, add_comm]
  congr 1
  · unfold st
    simp only [Finset.mul_sum, Finset.sum_mul]
    rw [Finset.sum_comm]
    refine Finset.sum_congr rfl fun s _ => Finset.sum_congr rfl fun d _ => ?_
    have : Real.exp ((((n + i : ℕ) : ℝ) - s) * a) = Real.exp (((n : ℝ) - 1 - s) * a) * Real.exp (((i : ℕ) + 1 : ℝ) * a) := by
      rw [← Real.exp_add]; congr 1; push_cast; ring
    rw [this]; ring
  · rw [Fin.sum_univ_eq_sum_range (fun j : ℕ => (∑ d, q (n + i) d * k (n + j) d) * dec a i j * v (n + j) e) L]
    rw [← Finset.sum_subset (Finset.range_mono (show (i : ℕ) + 1 ≤ L from i.isLt))]
    · refine Finset.sum_congr rfl fun j hj => ?_
      have hj' : j ≤ (i : ℕ) := by have := Finset.mem_range.mp hj; omega
      have : (((n + i : ℕ) : ℝ) - ((n + j : ℕ) : ℝ)) = ((i : ℕ) : ℝ) - j := by push_cast; ring
      rw [dec, if_pos hj', this]; ring
    · intro j _ hj
      have hj' : ¬j ≤ (i : ℕ) := fun h => hj (Finset.mem_range.mpr (by omega))
      rw [dec, if_neg hj']; ring

/-! ## The same two steps among the extended reals -/

/-- `st_block` with every factor a real number seen as an extended real. -/
theorem st_blockE (a : ℝ) (k : ℕ → Fin 256 → ℝ) (v : ℕ → Fin 512 → ℝ) (n L : ℕ) (d : Fin 256) (e : Fin 512) :
    (Real.exp ((L : ℝ) * a) : EReal) * (st a k v n d e : EReal)
      + ∑ i : Fin L, (k (n + i) d : EReal) * (Real.exp (((L : ℝ) - 1 - (i : ℕ)) * a) : EReal) * (v (n + i) e : EReal)
      = (st a k v (n + L) d e : EReal) := by
  simp only [← EReal.coe_mul, coe_sum, ← EReal.coe_add, st_block]

/-- `ou_block` with every factor a real number seen as an extended real. -/
theorem ou_blockE (a : ℝ) (q k : ℕ → Fin 256 → ℝ) (v : ℕ → Fin 512 → ℝ) (n L : ℕ) (i : Fin L) (e : Fin 512) :
    ∑ j : Fin L, (∑ d, (q (n + i) d : EReal) * (k (n + j) d : EReal)) * (dec a i j : EReal) * (v (n + j) e : EReal)
      + (∑ d, (q (n + i) d : EReal) * (st a k v n d e : EReal)) * (Real.exp (((i : ℕ) + 1 : ℝ) * a) : EReal)
      = (ou a q k v (n + i) e : EReal) := by
  simp only [← EReal.coe_mul, coe_sum, ← EReal.coe_add, ou_block]

/-! ## The decay tables -/

/-- The logarithm of head `h`'s decay, as both programs spell it. -/
def lgE (h : ℕ) : EReal :=
  Ideal.log1p (-Ideal.exp (Ideal.ofBits .f32 0x3F317218#32 * (Ideal.ofBits .f32 0xC0A00000#32 - FloatOps.sitofp (F := Ideal) .f32 (BitVec.ofNat 32 h))))

/-- A small number as a 32-bit word, converted to a float, is that number. -/
theorem sitofp_ofNat (n : ℕ) (hn : n < 2 ^ 31) : FloatOps.sitofp (F := Ideal) .f32 (BitVec.ofNat 32 n) = (((n : ℕ) : ℝ) : EReal) := by
  show (((BitVec.ofNat 32 n).toInt : ℝ) : EReal) = _
  rw [toInt_ofNat_of_lt hn]; simp

theorem ofBits_m5 : Ideal.ofBits .f32 0xC0A00000#32 = ((-5 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
/-- The constant by which a power of two is taken is a positive real number. -/
theorem ofBits_ln2 : ∃ r : ℝ, 0 < r ∧ Ideal.ofBits .f32 0x3F317218#32 = (r : EReal) := by
  refine ⟨11629080 / 16777216, by norm_num, ?_⟩
  simp [Ideal.ofBits, Ideal.ieee, -EReal.coe_mul]; norm_num

/-- Each head's log decay is a real number. -/
theorem lgE_real (h : ℕ) (hh : h < 4) : ∃ a : ℝ, lgE h = (a : EReal) := by
  obtain ⟨r, hr, e⟩ := ofBits_ln2
  unfold lgE
  rw [e, ofBits_m5, sitofp_ofNat h (by omega), ← EReal.coe_sub, ← EReal.coe_mul]
  have hneg : r * (-5 - (h : ℝ)) < 0 := mul_neg_of_pos_of_neg hr (by have : (0 : ℝ) ≤ h := Nat.cast_nonneg h; linarith)
  have hlt : Real.exp (r * (-5 - (h : ℝ))) < 1 := by rw [← Real.exp_zero]; exact Real.exp_lt_exp.mpr hneg
  refine ⟨Real.log (1 + -Real.exp (r * (-5 - (h : ℝ)))), ?_⟩
  show Ideal.log (1 + -((Real.exp (r * (-5 - (h : ℝ))) : ℝ) : EReal)) = _
  rw [← EReal.coe_neg, ← EReal.coe_one, ← EReal.coe_add]
  show (if _ ≤ _ then _ else _) = _
  rw [if_neg (by linarith)]

/-- Head `h`'s log decay as a real number. -/
def lg (h : Fin 4) : ℝ := (lgE_real h h.isLt).choose
theorem lgE_eq (h : Fin 4) : lgE h = (lg h : EReal) := (lgE_real h h.isLt).choose_spec

/-- The exponential of a real number. -/
theorem exp_coe (r : ℝ) : Ideal.exp (r : EReal) = (Real.exp r : EReal) := rfl

/-- The causal decay table at `(i, j)`. -/
theorem dec_table (a : ℝ) (i j : ℕ) (hi : i < 2 ^ 31) (hj : j < 2 ^ 31) :
    (if 0 ≤ FloatOps.sitofp (F := Ideal) .f32 (BitVec.ofNat 32 i) - FloatOps.sitofp (F := Ideal) .f32 (BitVec.ofNat 32 j) then
      Ideal.exp (max (FloatOps.sitofp (F := Ideal) .f32 (BitVec.ofNat 32 i) - FloatOps.sitofp (F := Ideal) .f32 (BitVec.ofNat 32 j)) 0 * (a : EReal))
    else 0) = (dec a i j : EReal) := by
  rw [sitofp_ofNat i hi, sitofp_ofNat j hj, ← EReal.coe_sub]
  unfold dec
  by_cases h : j ≤ i
  · have h' : (0 : ℝ) ≤ (i : ℝ) - j := sub_nonneg.mpr (Nat.cast_le.mpr h)
    rw [if_pos (EReal.coe_nonneg.mpr h'), if_pos h, max_eq_left (EReal.coe_nonneg.mpr h'), ← EReal.coe_mul, exp_coe]
  · have h' : ¬(0 : ℝ) ≤ (i : ℝ) - j := fun h0 => h (Nat.cast_le.mp (sub_nonneg.mp h0))
    rw [if_neg (fun h0 => h' (EReal.coe_nonneg.mp h0)), if_neg h, EReal.coe_zero]

/-! ## The group norm and the gate, over one head's row -/

/-- The mean of a row of 512. -/
def mean (x : Fin 512 → EReal) : EReal := Ideal.div (∑ j, x j) (Ideal.ofBits .f32 0x44000000#32)

/-- One head's row normalised, scaled by `w` and gated by `g`, at lane `e`. -/
def gn (x : Fin 512 → EReal) (g w : EReal) (e : Fin 512) : EReal :=
  g * ((x e - mean x) * Ideal.rsqrt (mean (fun j => (x j - mean x) * (x j - mean x)) + Ideal.ofBits .f32 0x3727C5AC#32) * w)

/-! ## One head's tokens, read out of the flat arrays -/

/-- The queries (or keys) of batch member `b`, head `h`, by token, as real numbers. -/
def tokK (x : (⟨2, ![65536, 1024]⟩ : Shape).Idx → EReal) (b : Fin 32) (h : Fin 4) : ℕ → Fin 256 → ℝ := fun s d =>
  if hs : s < 2048 then (x (ix2 ⟨b.val * 2048 + s, by omega⟩ ⟨h.val * 256 + d.val, by omega⟩)).toReal else 0

/-- The values of batch member `b`, head `h`, by token, as real numbers. -/
def tokV (x : (⟨2, ![65536, 2048]⟩ : Shape).Idx → EReal) (b : Fin 32) (h : Fin 4) : ℕ → Fin 512 → ℝ := fun s d =>
  if hs : s < 2048 then (x (ix2 ⟨b.val * 2048 + s, by omega⟩ ⟨h.val * 512 + d.val, by omega⟩)).toReal else 0

/-- An array none of whose elements is infinite. -/
def Fin' {s : Shape} (x : s.Idx → EReal) : Prop := ∀ i, x i ≠ ⊤ ∧ x i ≠ ⊥

/-- A finite array's element is the real number `tokK` reads there. -/
theorem tokK_eq {x : (⟨2, ![65536, 1024]⟩ : Shape).Idx → EReal} (hx : Fin' x) (b : Fin 32) (h : Fin 4) (s : ℕ) (d : Fin 256)
    (r : Fin 65536) (l : Fin 1024) (hs : s < 2048) (hr : r.val = b.val * 2048 + s) (hl : l.val = h.val * 256 + d.val) :
    x (ix2 r l) = (tokK x b h s d : EReal) := by
  unfold tokK
  rw [dif_pos hs, EReal.coe_toReal (hx _).1 (hx _).2]
  exact congrArg x (congrArg₂ ix2 (Fin.ext hr) (Fin.ext hl))

/-- A finite array's element is the real number `tokV` reads there. -/
theorem tokV_eq {x : (⟨2, ![65536, 2048]⟩ : Shape).Idx → EReal} (hx : Fin' x) (b : Fin 32) (h : Fin 4) (s : ℕ) (d : Fin 512)
    (r : Fin 65536) (l : Fin 2048) (hs : s < 2048) (hr : r.val = b.val * 2048 + s) (hl : l.val = h.val * 512 + d.val) :
    x (ix2 r l) = (tokV x b h s d : EReal) := by
  unfold tokV
  rw [dif_pos hs, EReal.coe_toReal (hx _).1 (hx _).2]
  exact congrArg x (congrArg₂ ix2 (Fin.ext hr) (Fin.ext hl))

/-! ## What both programs leave -/

/-- The state of batch member `b`, head `h`, after all 2048 tokens. -/
def STATE (k : (⟨2, ![65536, 1024]⟩ : Shape).Idx → EReal) (v : (⟨2, ![65536, 2048]⟩ : Shape).Idx → EReal) :
    (⟨4, ![32, 4, 256, 512]⟩ : Shape).Idx → EReal := fun i =>
  (st (lg (i 1)) (tokK k (i 0) (i 1)) (tokV v (i 0) (i 1)) 2048 (i 2) (i 3) : ℝ)

/-- The retention of batch member `b`, head `h`, at token `t`, normalised and gated, at lane `e`. -/
def ROW (q k : (⟨2, ![65536, 1024]⟩ : Shape).Idx → EReal) (v g : (⟨2, ![65536, 2048]⟩ : Shape).Idx → EReal)
    (w : (⟨1, ![2048]⟩ : Shape).Idx → EReal) (b : Fin 32) (h : Fin 4) (t : Fin 2048) (e : Fin 512) : EReal :=
  gn (fun j => (ou (lg h) (tokK q b h) (tokK k b h) (tokV v b h) t j : ℝ))
    (g (ix2 ⟨b.val * 2048 + t.val, by omega⟩ ⟨h.val * 512 + e.val, by omega⟩))
    (w (ix1 ⟨h.val * 512 + e.val, by omega⟩)) e

/-- The gated retention output, as the flat array. -/
def YOUT (q k : (⟨2, ![65536, 1024]⟩ : Shape).Idx → EReal) (v g : (⟨2, ![65536, 2048]⟩ : Shape).Idx → EReal)
    (w : (⟨1, ![2048]⟩ : Shape).Idx → EReal) : (⟨2, ![65536, 2048]⟩ : Shape).Idx → EReal := fun i =>
  ROW q k v g w ⟨(i 0).val / 2048, by have := (i 0).isLt; simp at this; omega⟩ ⟨(i 1).val / 512, by have := (i 1).isLt; simp at this; omega⟩
    ⟨(i 0).val % 2048, Nat.mod_lt _ (by norm_num)⟩ ⟨(i 1).val % 512, Nat.mod_lt _ (by norm_num)⟩

end Cert.RetMath
-- ==== Proof.RetKernel.lean ====
module

public import proofs.«01_k».proof.Defs
public import proofs.«01_k».proof.Proof.Gen.KernelIdeal.Value
public import proofs.«01_k».proof.Proof.RetMath
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem
open Idealize.ShloMosaic.Pipeline (Dat)
open Cert.RetMath
namespace Cert.KernelIdeal.Hand
open Cert.KernelIdeal Cert.KernelIdeal.Gen

/-! ## One block of 256 tokens -/

/-- The state after a block, from the block's keys and values and the state before. -/
abbrev NEXT (kd : Vec Ideal S1x256x1 .f32) (sd : Vec Ideal S1x1x1 .f32) (k : Vec Ideal S256x256 .bf16) (v : Vec Ideal S256x512 .bf16)
    (S : Vec Ideal S256x512 .f32) : Vec Ideal S256x512 .f32 := k0_pay11 v (k0_pay9 kd k) (k0_pay10 sd S)

/-- The block's gated rows, from its queries, keys, values and gates and the state before. -/
abbrev OUT (dc : Vec Ideal S1x256x256 .f32) (qd : Vec Ideal S1x256x1 .f32) (q k : Vec Ideal S256x256 .bf16) (v : Vec Ideal S256x512 .bf16)
    (S : Vec Ideal S256x512 .f32) (g : Vec Ideal S256x512 .bf16) (w : Vec Ideal S1x512 .f32) : Vec Ideal S256x512 .bf16 :=
  k0_pay12 (k0_pay8 dc qd q k v S) g w

/-- The zero state the kernel starts from is the closed form before any token. -/
theorem start_eq (a : ℝ) (K : ℕ → Fin 256 → ℝ) (V : ℕ → Fin 512 → ℝ) (d : Fin 256) (e : Fin 512) :
    (k0_pay3 (F := Ideal)) (ix2 d e) = (st a K V 0 d e : EReal) := by
  rw [st_zero]
  pointwise [k0_pay3]
  simp

/-- A block takes the closed-form state before it to the closed-form state after it. -/
theorem next_eq (a : ℝ) (K : ℕ → Fin 256 → ℝ) (V : ℕ → Fin 512 → ℝ) (n : ℕ)
    {kd : Vec Ideal S1x256x1 .f32} {sd : Vec Ideal S1x1x1 .f32} {k : Vec Ideal S256x256 .bf16} {v : Vec Ideal S256x512 .bf16} {S : Vec Ideal S256x512 .f32}
    (hkd : ∀ i : Fin 256, kd (ix3 0 i 0) = (Real.exp ((((256 : ℕ) : ℝ) - 1 - (i : ℕ)) * a) : EReal))
    (hsd : sd (ix3 0 0 0) = (Real.exp (((256 : ℕ) : ℝ) * a) : EReal))
    (hk : ∀ (i : Fin 256) (d : Fin 256), k (ix2 i d) = (K (n + i) d : EReal))
    (hv : ∀ (i : Fin 256) (e : Fin 512), v (ix2 i e) = (V (n + i) e : EReal))
    (hS : ∀ (d : Fin 256) (e : Fin 512), S (ix2 d e) = (st a K V n d e : EReal)) (d : Fin 256) (e : Fin 512) :
    NEXT kd sd k v S (ix2 d e) = (st a K V (n + 256) d e : EReal) := by
  rw [← st_blockE a K V n 256 d e]
  unfold NEXT
  pointwise [k0_pay11, k0_pay9, k0_pay10, k0_pay6, k0_pay7]
  simp only [hsd, hS, hk, hkd, hv]

/-- A block's gated rows are the closed-form outputs, normalised and gated. -/
theorem out_eq (a : ℝ) (Q K : ℕ → Fin 256 → ℝ) (V : ℕ → Fin 512 → ℝ) (n : ℕ)
    {dc : Vec Ideal S1x256x256 .f32} {qd : Vec Ideal S1x256x1 .f32} {q k : Vec Ideal S256x256 .bf16} {v : Vec Ideal S256x512 .bf16} {S : Vec Ideal S256x512 .f32}
    (g : Vec Ideal S256x512 .bf16) (w : Vec Ideal S1x512 .f32)
    (hdc : ∀ i j : Fin 256, dc (ix3 0 i j) = (dec a i j : EReal))
    (hqd : ∀ i : Fin 256, qd (ix3 0 i 0) = (Real.exp (((i : ℕ) + 1 : ℝ) * a) : EReal))
    (hq : ∀ (i : Fin 256) (d : Fin 256), q (ix2 i d) = (Q (n + i) d : EReal))
    (hk : ∀ (i : Fin 256) (d : Fin 256), k (ix2 i d) = (K (n + i) d : EReal))
    (hv : ∀ (i : Fin 256) (e : Fin 512), v (ix2 i e) = (V (n + i) e : EReal))
    (hS : ∀ (d : Fin 256) (e : Fin 512), S (ix2 d e) = (st a K V n d e : EReal)) (i : Fin 256) (e : Fin 512) :
    OUT dc qd q k v S g w (ix2 i e) = gn (fun j => (ou a Q K V (n + i) j : ℝ)) (g (ix2 i e)) (w (ix2 0 e)) e := by
  have ho : ∀ e : Fin 512, k0_pay8 dc qd q k v S (ix2 i e) = (ou a Q K V (n + i) e : EReal) := fun e => by
    rw [← ou_blockE a Q K V n 256 i e]
    pointwise [k0_pay8, k0_pay4, k0_pay5]
    simp only [hq, hk, hdc, hv, hS, hqd]
  unfold OUT gn mean
  pointwise [k0_pay12]
  simp only [ho]

/-! ## The kernel's own payloads, block by block, are these two -/

section
variable (dc : Vec Ideal S1x256x256 .f32) (qd kd : Vec Ideal S1x256x1 .f32) (sd : Vec Ideal S1x1x1 .f32) (q k : Vec Ideal S256x256 .bf16)
  (v : Vec Ideal S256x512 .bf16) (S : Vec Ideal S256x512 .f32) (g : Vec Ideal S256x512 .bf16) (w : Vec Ideal S1x512 .f32)

theorem next0 : k0_pay11 v (k0_pay9 kd k) (k0_pay10 sd S) = NEXT kd sd k v S := rfl
theorem next1 : k0_pay14 (k0_pay6 kd) (k0_pay7 sd) k v S = NEXT kd sd k v S := rfl
theorem next2 : k0_pay16 (k0_pay6 kd) (k0_pay7 sd) k v S = NEXT kd sd k v S := rfl
theorem next3 : k0_pay22 (k0_pay6 kd) (k0_pay7 sd) k v S = NEXT kd sd k v S := rfl
theorem next4 : k0_pay28 (k0_pay7 sd) v S (k0_pay26 k) (k0_pay27 (k0_pay6 kd)) = NEXT kd sd k v S := rfl
theorem next5 : k0_pay30 (k0_pay6 kd) (k0_pay7 sd) k v S = NEXT kd sd k v S := rfl
theorem next6 : k0_pay34 (k0_pay6 kd) (k0_pay7 sd) k v S = NEXT kd sd k v S := rfl
theorem next7 : k0_pay39 (k0_pay6 kd) (k0_pay7 sd) k v S = NEXT kd sd k v S := rfl

theorem out1 : k0_pay15 (k0_pay4 dc) (k0_pay5 qd) q v S (k0_pay13 q k) g w = OUT dc qd q k v S g w := rfl
theorem out2 : k0_pay20 (k0_pay17 (k0_pay4 dc) (k0_pay5 qd) q k v S) (k0_pay18 (k0_pay4 dc) (k0_pay5 qd) q k v S) (k0_pay19 g) w
    = OUT dc qd q k v S g w := rfl
theorem out0 : k0_pay12 (k0_pay8 dc qd q k v S) g w = OUT dc qd q k v S g w := rfl
theorem out3 : k0_pay24 (k0_pay21 (k0_pay4 dc) (k0_pay5 qd) q k v S) (k0_pay23 (k0_pay4 dc) (k0_pay5 qd) q k v S) g w
    = OUT dc qd q k v S g w := rfl
theorem out4 : k0_pay29 (k0_pay25 (k0_pay4 dc) (k0_pay5 qd) q k v S) g w = OUT dc qd q k v S g w := rfl
theorem out5 : k0_pay33 (k0_pay31 g) (k0_pay32 (k0_pay4 dc) (k0_pay5 qd) q k v S w) = OUT dc qd q k v S g w := rfl
theorem out6 : k0_pay37 (k0_pay35 (k0_pay4 dc) (k0_pay5 qd) q k v S) (k0_pay36 (k0_pay4 dc) (k0_pay5 qd) q k v S) g w
    = OUT dc qd q k v S g w := rfl
theorem out7 : k0_pay1 (k0_pay38 (k0_pay4 dc) (k0_pay5 qd) q k v S) g w = OUT dc qd q k v S g w := rfl

end

end Cert.KernelIdeal.Hand
-- ==== Proof.RetOut.lean ====
module

public import proofs.«01_k».proof.Proof.RetKernel

@[expose] public section

set_option maxRecDepth 16384
noncomputable section
open Idealize.ShloMosaic Idealize.ShloMosaic.TcCoe Idealize.SL.Sem
open Idealize.ShloMosaic.Pipeline (Dat)
open Cert.RetMath
namespace Cert.KernelIdeal.Hand
open Cert.KernelIdeal Cert.KernelIdeal.Gen

/-! ## One head's sequence of 2048 tokens, read block by block -/

/-- What one grid step's windows hold: a head's real queries, keys and values, and that head's decay tables. -/
structure HeadOK (a : ℝ) (Q K : ℕ → Fin 256 → ℝ) (V : ℕ → Fin 512 → ℝ) (q k : Vec Ideal S2048x256 .bf16) (v : Vec Ideal S2048x512 .bf16)
    (dc : Vec Ideal S1x256x256 .f32) (qd kd : Vec Ideal S1x256x1 .f32) (sd : Vec Ideal S1x1x1 .f32) : Prop where
  hq : ∀ (i : Fin 2048) (d : Fin 256), q (ix2 i d) = (Q i d : EReal)
  hk : ∀ (i : Fin 2048) (d : Fin 256), k (ix2 i d) = (K i d : EReal)
  hv : ∀ (i : Fin 2048) (e : Fin 512), v (ix2 i e) = (V i e : EReal)
  hdc : ∀ i j : Fin 256, dc (ix3 0 i j) = (dec a i j : EReal)
  hqd : ∀ i : Fin 256, qd (ix3 0 i 0) = (Real.exp (((i : ℕ) + 1 : ℝ) * a) : EReal)
  hkd : ∀ i : Fin 256, kd (ix3 0 i 0) = (Real.exp ((((256 : ℕ) : ℝ) - 1 - (i : ℕ)) * a) : EReal)
  hsd : sd (ix3 0 0 0) = (Real.exp (((256 : ℕ) : ℝ) * a) : EReal)

/-- Row `i` of the block of 256 rows at `n` is row `n + i`. -/
theorem ld_key (x : Vec Ideal S2048x256 .bf16) (n : ℕ) (hb) (i d : Fin 256) (hn : n + i.val < 2048) :
    View.ld x (Rect.unit ![n, 0] ![256, 256] hb : Rect S2048x256) (ix2 i d) = x (ix2 ⟨n + i.val, hn⟩ d) := by
  refine congrArg x (funext fun ax => Fin.ext ?_)
  fin_cases ax <;> simp [Rect.unit, Rect.emb] <;> rfl

/-- Row `i` of the block of 256 rows at `n` is row `n + i`. -/
theorem ld_val (x : Vec Ideal S2048x512 .bf16) (n : ℕ) (hb) (i : Fin 256) (e : Fin 512) (hn : n + i.val < 2048) :
    View.ld x (Rect.unit ![n, 0] ![256, 512] hb : Rect S2048x512) (ix2 i e) = x (ix2 ⟨n + i.val, hn⟩ e) := by
  refine congrArg x (funext fun ax => Fin.ext ?_)
  fin_cases ax <;> simp [Rect.unit, Rect.emb] <;> rfl

section
variable {a : ℝ} {Q K : ℕ → Fin 256 → ℝ} {V : ℕ → Fin 512 → ℝ} {q k : Vec Ideal S2048x256 .bf16} {v : Vec Ideal S2048x512 .bf16}
  {dc : Vec Ideal S1x256x256 .f32} {qd kd : Vec Ideal S1x256x1 .f32} {sd : Vec Ideal S1x1x1 .f32}

/-- The block at `n` takes the state before it to the state after it. -/
theorem HeadOK.step (B : HeadOK a Q K V q k v dc qd kd sd) (n : ℕ) (hn : n + 256 ≤ 2048) (hb) (hb') {S : Vec Ideal S256x512 .f32}
    (hS : ∀ (d : Fin 256) (e : Fin 512), S (ix2 d e) = (st a K V n d e : EReal)) (d : Fin 256) (e : Fin 512) :
    NEXT kd sd (View.ld k (Rect.unit ![n, 0] ![256, 256] hb : Rect S2048x256)) (View.ld v (Rect.unit ![n, 0] ![256, 512] hb' : Rect S2048x512)) S (ix2 d e)
      = (st a K V (n + 256) d e : EReal) :=
  next_eq a K V n B.hkd B.hsd (fun i d => by rw [ld_key k n hb i d (by omega), B.hk])
    (fun i e => by rw [ld_val v n hb' i e (by omega), B.hv]) hS d e

/-- The rows a head's window takes: the closed-form outputs, normalised and gated. -/
def rowsAt (a : ℝ) (Q K : ℕ → Fin 256 → ℝ) (V : ℕ → Fin 512 → ℝ) (g : Vec Ideal S2048x512 .bf16) (w : Vec Ideal S1x512 .f32) :
    Vec Ideal S2048x512 .bf16 := fun y => gn (fun j => (ou a Q K V (y 0) j : ℝ)) (g y) (w (ix2 0 (y 1))) (y 1)

/-- The block at `n` leaves its 256 rows of `rowsAt`. -/
theorem HeadOK.rows (B : HeadOK a Q K V q k v dc qd kd sd) (g : Vec Ideal S2048x512 .bf16) (w : Vec Ideal S1x512 .f32) (n : ℕ)
    (hn : n + 256 ≤ 2048) (hb) (hb') {S : Vec Ideal S256x512 .f32}
    (hS : ∀ (d : Fin 256) (e : Fin 512), S (ix2 d e) = (st a K V n d e : EReal)) (y : S256x512.Idx) :
    OUT dc qd (View.ld q (Rect.unit ![n, 0] ![256, 256] hb : Rect S2048x256)) (View.ld k (Rect.unit ![n, 0] ![256, 256] hb : Rect S2048x256))
        (View.ld v (Rect.unit ![n, 0] ![256, 512] hb' : Rect S2048x512)) S (View.ld g (Rect.unit ![n, 0] ![256, 512] hb' : Rect S2048x512)) w y
      = rowsAt a Q K V g w ((Rect.unit ![n, 0] ![256, 512] hb' : Rect S2048x512).emb y) := by
  idx_vars y
  have he : (Rect.unit ![n, 0] ![256, 512] hb' : Rect S2048x512).emb (ix2 y0 y1) = ix2 ⟨n + y0.val, by omega⟩ y1 := by
    refine funext fun ax => Fin.ext ?_
    fin_cases ax <;> simp [Rect.unit, Rect.emb] <;> rfl
  rw [out_eq a Q K V n _ w B.hdc B.hqd (fun i d => by rw [ld_key q n hb i d (by omega), B.hq])
    (fun i d => by rw [ld_key k n hb i d (by omega), B.hk]) (fun i e => by rw [ld_val v n hb' i e (by omega), B.hv]) hS y0 y1, he,
    ld_val g n hb' y0 y1 (by omega)]
  rfl
end

/-! ## What the windows of a grid step end with -/

section
variable (m : (ℓ : Loc nD τ sig) → Buf (Elt Ideal) ℓ)
variable {a : ℝ} {Q K : ℕ → Fin 256 → ℝ} {V : ℕ → Fin 512 → ℝ}

/-- The state window ends with the state after all 2048 tokens. -/
theorem state_of (c : Dev nD) (t : Fin cfg0.N)
    (B : HeadOK a Q K V (iblk m c 0 t) (iblk m c 1 t) (iblk m c 2 t) (iblk m c 5 t) (iblk m c 6 t) (iblk m c 7 t) (iblk m c 8 t))
    (d : Fin 256) (e : Fin 512) : (outsAt0 m c t).2 (ix4 0 0 d e) = (st a K V 2048 d e : EReal) := by
  unfold outsAt0
  dsimp only
  frame_out
  simp only [next0, next1, next2, next3, next4, next5, next6, next7]
  have h := fun d e => B.step 1792 (by norm_num) inb_S2048x256_S256x256_1792_0 inb_S2048x512_S256x512_1792_0
    (B.step 1536 (by norm_num) inb_S2048x256_S256x256_1536_0 inb_S2048x512_S256x512_1536_0
    (B.step 1280 (by norm_num) inb_S2048x256_S256x256_1280_0 inb_S2048x512_S256x512_1280_0
    (B.step 1024 (by norm_num) inb_S2048x256_S256x256_1024_0 inb_S2048x512_S256x512_1024_0
    (B.step 768 (by norm_num) inb_S2048x256_S256x256_768_0 inb_S2048x512_S256x512_768_0
    (B.step 512 (by norm_num) inb_S2048x256_S256x256_512_0 inb_S2048x512_S256x512_512_0
    (B.step 256 (by norm_num) inb_S2048x256_S256x256_256_0 inb_S2048x512_S256x512_256_0
    (B.step 0 (by norm_num) inb_S2048x256_S256x256_0_0 inb_S2048x512_S256x512_0_0
      (start_eq a K V)))))))) d e
  unfold k0_pay2
  generalize NEXT _ _ _ _ _ = Z at h ⊢
  pointwise
  exact h d e

/-- The output window ends with the head's rows. -/
theorem rows_of (c : Dev nD) (t : Fin cfg0.N)
    (B : HeadOK a Q K V (iblk m c 0 t) (iblk m c 1 t) (iblk m c 2 t) (iblk m c 5 t) (iblk m c 6 t) (iblk m c 7 t) (iblk m c 8 t))
    (y : S2048x512.Idx) : (outsAt0 m c t).1 y = rowsAt a Q K V (iblk m c 3 t) (iblk m c 4 t) y := by
  unfold outsAt0
  dsimp only
  frame_out
  simp only [next0, next1, next2, next3, next4, next5, next6, next7, out0, out1, out2, out3, out4, out5, out6, out7]
  have h0 := start_eq a K V
  have h1 := B.step 0 (by norm_num) inb_S2048x256_S256x256_0_0 inb_S2048x512_S256x512_0_0 h0
  have h2 := B.step 256 (by norm_num) inb_S2048x256_S256x256_256_0 inb_S2048x512_S256x512_256_0 h1
  have h3 := B.step 512 (by norm_num) inb_S2048x256_S256x256_512_0 inb_S2048x512_S256x512_512_0 h2
  have h4 := B.step 768 (by norm_num) inb_S2048x256_S256x256_768_0 inb_S2048x512_S256x512_768_0 h3
  have h5 := B.step 1024 (by norm_num) inb_S2048x256_S256x256_1024_0 inb_S2048x512_S256x512_1024_0 h4
  have h6 := B.step 1280 (by norm_num) inb_S2048x256_S256x256_1280_0 inb_S2048x512_S256x512_1280_0 h5
  have h7 := B.step 1536 (by norm_num) inb_S2048x256_S256x256_1536_0 inb_S2048x512_S256x512_1536_0 h6
  generalize NEXT (iblk m c 7 t) _ _ _ (k0_pay3 (F := Ideal)) = S1 at *
  generalize NEXT (iblk m c 7 t) _ _ _ S1 = S2 at *
  generalize NEXT (iblk m c 7 t) _ _ _ S2 = S3 at *
  generalize NEXT (iblk m c 7 t) _ _ _ S3 = S4 at *
  generalize NEXT (iblk m c 7 t) _ _ _ S4 = S5 at *
  generalize NEXT (iblk m c 7 t) _ _ _ S5 = S6 at *
  generalize NEXT (iblk m c 7 t) _ _ _ S6 = S7 at *
  refine View.canon_apply_of_pieces (rowsAt a Q K V (iblk m c 3 t) (iblk m c 4 t)) _ ?_ y ?_
  · simp only [List.forall_mem_cons]
    refine ⟨fun x => B.rows _ _ 1792 (by norm_num) _ _ h7 x, fun x => B.rows _ _ 1536 (by norm_num) _ _ h6 x,
      fun x => B.rows _ _ 1280 (by norm_num) _ _ h5 x, fun x => B.rows _ _ 1024 (by norm_num) _ _ h4 x,
      fun x => B.rows _ _ 768 (by norm_num) _ _ h3 x, fun x => B.rows _ _ 512 (by norm_num) _ _ h2 x,
      fun x => B.rows _ _ 256 (by norm_num) _ _ h1 x, fun x => B.rows _ _ 0 (by norm_num) _ _ h0 x, by simp⟩
  · idx_vars y
    simp only [List.exists_mem_cons_iff, Rect.mem_set_unit, Fin.forall_fin_two]
    have := y0.isLt
    have := y1.isLt
    simp [-Fin.is_lt]
    omega
end

end Cert.KernelIdeal.Hand
-- ==== Proof.RetArr.lean ====
module

public import proofs.«01_k».proof.Defs
public import proofs.«01_k».proof.Proof.RetOut

@[expose] public section

set_option maxRecDepth 16384
noncomputable section
open Idealize.ShloMosaic Idealize.ShloMosaic.TcCoe Idealize.SL.Sem
open Idealize.ShloMosaic.Pipeline (Dat)
open Cert.RetMath
namespace Cert.KernelIdeal.Hand
open Cert.KernelIdeal Cert.KernelIdeal.Gen

variable (m : (ℓ : Loc nD τ sig) → Buf (Elt Ideal) ℓ)

/-! ## The decay tables the host prepares -/

theorem dec_at (c : Dev nD) (h : Fin 4) (i j : Fin 256) : V m c main_v24 (ix3 h i j) = (dec (lg h) i j : EReal) := by
  rw [← dec_table (lg h) i j (by omega) (by omega), ← lgE_eq]
  unfold V lgE
  after_reads_at
  pointwise [id_eq]

theorem qd_at (c : Dev nD) (h : Fin 4) (i : Fin 256) : V m c main_v33 (ix3 h i 0) = (Real.exp (((i : ℕ) + 1 : ℝ) * lg h) : EReal) := by
  rw [← exp_coe, EReal.coe_mul, ← lgE_eq, EReal.coe_add, ← sitofp_ofNat i (by omega)]
  unfold V lgE
  after_reads_at
  simp

theorem kd_at (c : Dev nD) (h : Fin 4) (i : Fin 256) :
    V m c main_v42 (ix3 h i 0) = (Real.exp ((((256 : ℕ) : ℝ) - 1 - (i : ℕ)) * lg h) : EReal) := by
  rw [show (((256 : ℕ) : ℝ) - 1) = 255 by norm_num, ← exp_coe, EReal.coe_mul, ← lgE_eq, EReal.coe_sub, ← sitofp_ofNat i (by omega), ← ofBits_255]
  unfold V lgE
  after_reads_at

theorem sd_at (c : Dev nD) (h : Fin 4) : V m c main_v46 (ix3 h 0 0) = (Real.exp (((256 : ℕ) : ℝ) * lg h) : EReal) := by
  rw [show (((256 : ℕ) : ℝ)) = 256 by norm_num, ← exp_coe, EReal.coe_mul, ← lgE_eq, ← ofBits_256]
  unfold V lgE
  after_reads_at

theorem gn_at (c : Dev nD) (h : Fin 2048) : V m c main_v47 (ix2 0 h) = m (c, Proc.tc.devRef main_arg4) (ix1 h) := by
  unfold V
  after_reads_at

/-! ## Where each window lies in its array -/

theorem idx0 : ∀ t : Fin cfg0.N, win0_0.index t = ![t.val / 4, t.val % 4] := (by decide +kernel : ∀ t : Fin grid0.N, _)
theorem idx1 : ∀ t : Fin cfg0.N, win0_1.index t = ![t.val / 4, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)
theorem idx4 : ∀ t : Fin cfg0.N, win0_4.index t = ![0, t.val % 4] := (by decide +kernel : ∀ t : Fin grid0.N, _)
theorem idx5 : ∀ t : Fin cfg0.N, win0_5.index t = ![t.val % 4, 0, 0] := (by decide +kernel : ∀ t : Fin grid0.N, _)
theorem idx6 : ∀ t : Fin cfg0.N, win0_6.index t = ![t.val % 4, 0, 0] := (by decide +kernel : ∀ t : Fin grid0.N, _)
theorem idx7 : ∀ t : Fin cfg0.N, win0_7.index t = ![t.val % 4, 0, 0] := (by decide +kernel : ∀ t : Fin grid0.N, _)
theorem idx8 : ∀ t : Fin cfg0.N, win0_8.index t = ![t.val % 4, 0, 0] := (by decide +kernel : ∀ t : Fin grid0.N, _)
theorem idx9 : ∀ t : Fin cfg0.N, win0_9.index t = ![t.val / 4, t.val % 4] := (by decide +kernel : ∀ t : Fin grid0.N, _)
theorem idx10 : ∀ t : Fin cfg0.N, win0_10.index t = ![t.val / 4, t.val % 4, 0, 0] := (by decide +kernel : ∀ t : Fin grid0.N, _)
theorem pts : ∀ t : Fin cfg0.N, t.val < 128 := (by decide +kernel : ∀ t : Fin grid0.N, _)

/-- The batch member of a grid step. -/
def bOf (t : Fin cfg0.N) : Fin 32 := ⟨t.val / 4, by have := pts t; omega⟩
/-- The head of a grid step. -/
def hOf (t : Fin cfg0.N) : Fin 4 := ⟨t.val % 4, by omega⟩

/-! What each window of a grid step holds, at an index. -/
theorem blk0 (c : Dev nD) (t : Fin cfg0.N) (i : Fin 2048) (d : Fin 256) :
    iblk m c 0 t (ix2 i d) = m (c, Proc.tc.devRef main_arg0) (ix2 ⟨(bOf t).val * 2048 + i.val, by have := (bOf t).isLt; omega⟩
      ⟨(hOf t).val * 256 + d.val, by have := (hOf t).isLt; omega⟩) := by
  have e : (win0_0.blk t).view.emb (ix2 i d) = ix2 ⟨(bOf t).val * 2048 + i.val, by have := (bOf t).isLt; omega⟩
      ⟨(hOf t).val * 256 + d.val, by have := (hOf t).isLt; omega⟩ := by blk_ext [idx0, bOf, hOf]
  show V m c main_arg0 ((win0_0.blk t).view.emb (ix2 i d)) = _
  rw [e, V_main_arg0]

theorem blk1 (c : Dev nD) (t : Fin cfg0.N) (i : Fin 2048) (d : Fin 256) :
    iblk m c 1 t (ix2 i d) = m (c, Proc.tc.devRef main_arg1) (ix2 ⟨(bOf t).val * 2048 + i.val, by have := (bOf t).isLt; omega⟩
      ⟨(hOf t).val * 256 + d.val, by have := (hOf t).isLt; omega⟩) := by
  have e : (win0_1.blk t).view.emb (ix2 i d) = ix2 ⟨(bOf t).val * 2048 + i.val, by have := (bOf t).isLt; omega⟩
      ⟨(hOf t).val * 256 + d.val, by have := (hOf t).isLt; omega⟩ := by blk_ext [idx1, bOf, hOf]
  show V m c main_arg1 ((win0_1.blk t).view.emb (ix2 i d)) = _
  rw [e, V_main_arg1]

theorem blk2 (c : Dev nD) (t : Fin cfg0.N) (i : Fin 2048) (d : Fin 512) :
    iblk m c 2 t (ix2 i d) = m (c, Proc.tc.devRef main_arg2) (ix2 ⟨(bOf t).val * 2048 + i.val, by have := (bOf t).isLt; omega⟩
      ⟨(hOf t).val * 512 + d.val, by have := (hOf t).isLt; omega⟩) := by
  have e : (win0_2.blk t).view.emb (ix2 i d) = ix2 ⟨(bOf t).val * 2048 + i.val, by have := (bOf t).isLt; omega⟩
      ⟨(hOf t).val * 512 + d.val, by have := (hOf t).isLt; omega⟩ := by blk_ext [idx2, bOf, hOf]
  show V m c main_arg2 ((win0_2.blk t).view.emb (ix2 i d)) = _
  rw [e, V_main_arg2]

theorem blk3 (c : Dev nD) (t : Fin cfg0.N) (i : Fin 2048) (d : Fin 512) :
    iblk m c 3 t (ix2 i d) = m (c, Proc.tc.devRef main_arg3) (ix2 ⟨(bOf t).val * 2048 + i.val, by have := (bOf t).isLt; omega⟩
      ⟨(hOf t).val * 512 + d.val, by have := (hOf t).isLt; omega⟩) := by
  have e : (win0_3.blk t).view.emb (ix2 i d) = ix2 ⟨(bOf t).val * 2048 + i.val, by have := (bOf t).isLt; omega⟩
      ⟨(hOf t).val * 512 + d.val, by have := (hOf t).isLt; omega⟩ := by blk_ext [idx3, bOf, hOf]
  show V m c main_arg3 ((win0_3.blk t).view.emb (ix2 i d)) = _
  rw [e, V_main_arg3]

theorem blk4 (c : Dev nD) (t : Fin cfg0.N) (d : Fin 512) :
    iblk m c 4 t (ix2 0 d) = m (c, Proc.tc.devRef main_arg4) (ix1 ⟨(hOf t).val * 512 + d.val, by have := (hOf t).isLt; omega⟩) := by
  have e : (win0_4.blk t).view.emb (ix2 0 d) = ix2 0 ⟨(hOf t).val * 512 + d.val, by have := (hOf t).isLt; omega⟩ := by blk_ext [idx4, hOf]
  show V m c main_v47 ((win0_4.blk t).view.emb (ix2 0 d)) = _
  rw [e, gn_at]

theorem blk5 (c : Dev nD) (t : Fin cfg0.N) (i j : Fin 256) : iblk m c 5 t (ix3 0 i j) = (dec (lg (hOf t)) i j : EReal) := by
  have e : (win0_5.blk t).view.emb (ix3 0 i j) = ix3 (hOf t) i j := by blk_ext [idx5, hOf]
  show V m c main_v24 ((win0_5.blk t).view.emb (ix3 0 i j)) = _
  rw [e, dec_at]

theorem blk6 (c : Dev nD) (t : Fin cfg0.N) (i : Fin 256) : iblk m c 6 t (ix3 0 i 0) = (Real.exp (((i : ℕ) + 1 : ℝ) * lg (hOf t)) : EReal) := by
  have e : (win0_6.blk t).view.emb (ix3 0 i 0) = ix3 (hOf t) i 0 := by blk_ext [idx6, hOf]
  show V m c main_v33 ((win0_6.blk t).view.emb (ix3 0 i 0)) = _
  rw [e, qd_at]

theorem blk7 (c : Dev nD) (t : Fin cfg0.N) (i : Fin 256) : iblk m c 7 t (ix3 0 i 0) = (Real.exp ((((256 : ℕ) : ℝ) - 1 - (i : ℕ)) * lg (hOf t)) : EReal) := by
  have e : (win0_7.blk t).view.emb (ix3 0 i 0) = ix3 (hOf t) i 0 := by blk_ext [idx7, hOf]
  show V m c main_v42 ((win0_7.blk t).view.emb (ix3 0 i 0)) = _
  rw [e, kd_at]

theorem blk8 (c : Dev nD) (t : Fin cfg0.N)  : iblk m c 8 t (ix3 0 0 0) = (Real.exp (((256 : ℕ) : ℝ) * lg (hOf t)) : EReal) := by
  have e : (win0_8.blk t).view.emb (ix3 0 0 0) = ix3 (hOf t) 0 0 := by blk_ext [idx8, hOf]
  show V m c main_v46 ((win0_8.blk t).view.emb (ix3 0 0 0)) = _
  rw [e, sd_at]

/-- A grid step's windows hold its batch member's and head's tokens, and that head's tables. -/
theorem head_ok (c : Dev nD) (t : Fin cfg0.N)
    (hq : Fin' (s := ⟨2, ![65536, 1024]⟩) (m (c, Proc.tc.devRef main_arg0))) (hk : Fin' (s := ⟨2, ![65536, 1024]⟩) (m (c, Proc.tc.devRef main_arg1)))
    (hv : Fin' (s := ⟨2, ![65536, 2048]⟩) (m (c, Proc.tc.devRef main_arg2))) :
    HeadOK (lg (hOf t)) (tokK (m (c, Proc.tc.devRef main_arg0)) (bOf t) (hOf t)) (tokK (m (c, Proc.tc.devRef main_arg1)) (bOf t) (hOf t))
      (tokV (m (c, Proc.tc.devRef main_arg2)) (bOf t) (hOf t))
      (iblk m c 0 t) (iblk m c 1 t) (iblk m c 2 t) (iblk m c 5 t) (iblk m c 6 t) (iblk m c 7 t) (iblk m c 8 t) := by
  constructor
  · intro i d
    rw [blk0]; exact tokK_eq hq _ _ _ _ _ _ i.isLt rfl rfl
  · intro i d
    rw [blk1]; exact tokK_eq hk _ _ _ _ _ _ i.isLt rfl rfl
  · intro i d
    rw [blk2]; exact tokV_eq hv _ _ _ _ _ _ i.isLt rfl rfl
  · exact blk5 m c t
  · exact blk6 m c t
  · exact blk7 m c t
  · exact blk8 m c t

/-! ## The two result arrays -/

/-- The state array after the run. -/
theorem state_arr (c : Dev nD)
    (hq : Fin' (s := ⟨2, ![65536, 1024]⟩) (m (c, Proc.tc.devRef main_arg0))) (hk : Fin' (s := ⟨2, ![65536, 1024]⟩) (m (c, Proc.tc.devRef main_arg1)))
    (hv : Fin' (s := ⟨2, ![65536, 2048]⟩) (m (c, Proc.tc.devRef main_arg2))) :
    (dats m 0 c).arrAt 10 cfg0.N = STATE (m (c, Proc.tc.devRef main_arg1)) (m (c, Proc.tc.devRef main_arg2)) := by
  refine (dats m 0 c).arrAt_eq_of_covers 10 _ (by decide +kernel) fun t hf y => ?_
  blk_simp
  rw [after0_10]
  idx_vars y
  obtain rfl : y0 = 0 := Subsingleton.elim _ _
  obtain rfl : y1 = 0 := Subsingleton.elim _ _
  rw [state_of m c t (head_ok m c t hq hk hv)]
  have : (win0_10.blk t).view.emb (ix4 0 0 y2 y3) = ix4 (bOf t) (hOf t) y2 y3 := by
    blk_ext [idx10, bOf, hOf]
  rw [this]
  rfl

/-- The gated output array after the run. -/
theorem out_arr (c : Dev nD)
    (hq : Fin' (s := ⟨2, ![65536, 1024]⟩) (m (c, Proc.tc.devRef main_arg0))) (hk : Fin' (s := ⟨2, ![65536, 1024]⟩) (m (c, Proc.tc.devRef main_arg1)))
    (hv : Fin' (s := ⟨2, ![65536, 2048]⟩) (m (c, Proc.tc.devRef main_arg2))) :
    (dats m 0 c).arrAt 9 cfg0.N = YOUT (m (c, Proc.tc.devRef main_arg0)) (m (c, Proc.tc.devRef main_arg1)) (m (c, Proc.tc.devRef main_arg2))
      (m (c, Proc.tc.devRef main_arg3)) (m (c, Proc.tc.devRef main_arg4)) := by
  refine (dats m 0 c).arrAt_eq_of_covers 9 _ (by decide +kernel) fun t hf y => ?_
  have ht := pts t
  blk_simp
  rw [after0_9]
  rw [rows_of m c t (head_ok m c t hq hk hv)]
  idx_vars y
  have e : (win0_9.blk t).view.emb (ix2 y0 y1) = ix2 ⟨(bOf t).val * 2048 + y0.val, by have := (bOf t).isLt; omega⟩
      ⟨(hOf t).val * 512 + y1.val, by have := (hOf t).isLt; omega⟩ := by
    blk_ext [idx9, bOf, hOf]
  rw [e]
  show gn _ (iblk m c 3 t (ix2 y0 y1)) (iblk m c 4 t (ix2 0 y1)) y1 = ROW _ _ _ _ _ _ _ _ _
  rw [blk3, blk4]
  have hb : (⟨((bOf t).val * 2048 + y0.val) / 2048, by have := (bOf t).isLt; omega⟩ : Fin 32) = bOf t := Fin.ext (by simp; omega)
  have hh : (⟨((hOf t).val * 512 + y1.val) / 512, by have := (hOf t).isLt; omega⟩ : Fin 4) = hOf t := Fin.ext (by simp; omega)
  have hi : (⟨((bOf t).val * 2048 + y0.val) % 2048, by omega⟩ : Fin 2048) = y0 := Fin.ext (by simp)
  have hj : (⟨((hOf t).val * 512 + y1.val) % 512, by omega⟩ : Fin 512) = y1 := Fin.ext (by simp)
  show _ = ROW _ _ _ _ _ ⟨((bOf t).val * 2048 + y0.val) / 2048, _⟩ ⟨((hOf t).val * 512 + y1.val) / 512, _⟩
    ⟨((bOf t).val * 2048 + y0.val) % 2048, _⟩ ⟨((hOf t).val * 512 + y1.val) % 512, _⟩
  rw [hb, hh, hi, hj]
  rfl

end Cert.KernelIdeal.Hand
-- ==== Proof.RetRef.lean ====
module

public import proofs.«01_k».proof.Defs
public import proofs.«01_k».proof.Proof.Gen.ReferenceIdeal.Run
public import proofs.«01_k».proof.Proof.RetMath
public import Idealize.ShloMosaic.Lib.Pointwise
public import Idealize.ShloMosaic.Lib.DynamicIndex
public import Idealize.ShloMosaic.Lib.StableHlo.ReadAt
public import Idealize.ShloMosaic.Lib.Pipeline.ValueKit.Geometry

@[expose] public section

set_option maxRecDepth 16384
noncomputable section
open Idealize.ShloMosaic Idealize.ShloMosaic.TcCoe Idealize.SL.Sem Idealize.ShloMosaic.StableHlo
open Cert.RetMath
namespace Cert.ReferenceIdeal.Hand
open Cert.ReferenceIdeal Cert.ReferenceIdeal.Gen Cert.ReferenceIdeal.Value

/-! ## The loop counter and the chunk it selects -/

/-- The counter of trip `k`, as a number. -/
theorem ctr_toInt (k : Fin 32) : (Scf.iv 0#32 1#32 k.val).toInt = ((k.val : ℕ) : ℤ) := by
  revert k; decide +kernel

/-- Five-axis indices with the same coordinates are the same. -/
theorem ix5_ext {n0 n1 n2 n3 n4 : ℕ} {a a' : Fin n0} {b b' : Fin n1} {c c' : Fin n2} {d d' : Fin n3} {e e' : Fin n4}
    (h0 : a.val = a'.val) (h1 : b.val = b'.val) (h2 : c.val = c'.val) (h3 : d.val = d'.val) (h4 : e.val = e'.val) :
    ix5 a b c d e = ix5 a' b' c' d' e' := by
  rw [Fin.ext h0, Fin.ext h1, Fin.ext h2, Fin.ext h3, Fin.ext h4]

/-- A dynamic slice of one chunk out of a chunked array, at an index. -/
theorem slice_key {α : Type} (x : S32x32x64x4x256.Idx → α) (start : Fin 5 → ℤ) (hf) (k : Fin 32) (h0 : start 0 = ((k.val : ℕ) : ℤ)) (h1 : start 1 = 0) (h2 : start 2 = 0)
    (h3 : start 3 = 0) (h4 : start 4 = 0) :
    Host.dynamicSlice S1x32x64x4x256 x start hf = fun j => x (ix5 k (j 1) (j 2) (j 3) (j 4)) := by
  funext j
  idx_vars j
  obtain rfl : j0 = 0 := Subsingleton.elim _ _
  have c0 : Host.clampedStart S32x32x64x4x256 S1x32x64x4x256 rfl start 0 = k.val := Host.clampedStart_of_le _ _ _ _ h0 (by show k.val + 1 ≤ 32; omega)
  have c1 : Host.clampedStart S32x32x64x4x256 S1x32x64x4x256 rfl start 1 = 0 := Host.clampedStart_of_le _ _ _ _ h1 (by decide)
  have c2 : Host.clampedStart S32x32x64x4x256 S1x32x64x4x256 rfl start 2 = 0 := Host.clampedStart_of_le _ _ _ _ h2 (by decide)
  have c3 : Host.clampedStart S32x32x64x4x256 S1x32x64x4x256 rfl start 3 = 0 := Host.clampedStart_of_le _ _ _ _ h3 (by decide)
  have c4 : Host.clampedStart S32x32x64x4x256 S1x32x64x4x256 rfl start 4 = 0 := Host.clampedStart_of_le _ _ _ _ h4 (by decide)
  pointwise
  refine congrArg x (ix5_ext ?_ ?_ ?_ ?_ ?_)
  · simpa using c0
  · simpa using c1
  · simpa using c2
  · simpa using c3
  · simpa using c4

/-- A dynamic slice of one chunk out of a chunked array, at an index. -/
theorem slice_val {α : Type} (x : S32x32x64x4x512.Idx → α) (start : Fin 5 → ℤ) (hf) (k : Fin 32) (h0 : start 0 = ((k.val : ℕ) : ℤ)) (h1 : start 1 = 0) (h2 : start 2 = 0)
    (h3 : start 3 = 0) (h4 : start 4 = 0) :
    Host.dynamicSlice S1x32x64x4x512 x start hf = fun j => x (ix5 k (j 1) (j 2) (j 3) (j 4)) := by
  funext j
  idx_vars j
  obtain rfl : j0 = 0 := Subsingleton.elim _ _
  have c0 : Host.clampedStart S32x32x64x4x512 S1x32x64x4x512 rfl start 0 = k.val := Host.clampedStart_of_le _ _ _ _ h0 (by show k.val + 1 ≤ 32; omega)
  have c1 : Host.clampedStart S32x32x64x4x512 S1x32x64x4x512 rfl start 1 = 0 := Host.clampedStart_of_le _ _ _ _ h1 (by decide)
  have c2 : Host.clampedStart S32x32x64x4x512 S1x32x64x4x512 rfl start 2 = 0 := Host.clampedStart_of_le _ _ _ _ h2 (by decide)
  have c3 : Host.clampedStart S32x32x64x4x512 S1x32x64x4x512 rfl start 3 = 0 := Host.clampedStart_of_le _ _ _ _ h3 (by decide)
  have c4 : Host.clampedStart S32x32x64x4x512 S1x32x64x4x512 rfl start 4 = 0 := Host.clampedStart_of_le _ _ _ _ h4 (by decide)
  pointwise
  refine congrArg x (ix5_ext ?_ ?_ ?_ ?_ ?_)
  · simpa using c0
  · simpa using c1
  · simpa using c2
  · simpa using c3
  · simpa using c4

/-- A dynamic update of one chunk of a chunked array, at an index. -/
theorem update_at {α : Type} (x : S32x32x64x4x512.Idx → α) (u : S1x32x64x4x512.Idx → α) (start : Fin 5 → ℤ) (hf) (k : Fin 32) (h0 : start 0 = ((k.val : ℕ) : ℤ))
    (h1 : start 1 = 0) (h2 : start 2 = 0) (h3 : start 3 = 0) (h4 : start 4 = 0) (n b : Fin 32) (i : Fin 64) (h : Fin 4) (e : Fin 512) :
    Host.dynamicUpdateSlice x u start hf (ix5 n b i h e) = if n = k then u (ix5 0 b i h e) else x (ix5 n b i h e) := by
  have c0 : Host.clampedStart S32x32x64x4x512 S1x32x64x4x512 rfl start 0 = k.val := Host.clampedStart_of_le _ _ _ _ h0 (by show k.val + 1 ≤ 32; omega)
  have c1 : Host.clampedStart S32x32x64x4x512 S1x32x64x4x512 rfl start 1 = 0 := Host.clampedStart_of_le _ _ _ _ h1 (by decide)
  have c2 : Host.clampedStart S32x32x64x4x512 S1x32x64x4x512 rfl start 2 = 0 := Host.clampedStart_of_le _ _ _ _ h2 (by decide)
  have c3 : Host.clampedStart S32x32x64x4x512 S1x32x64x4x512 rfl start 3 = 0 := Host.clampedStart_of_le _ _ _ _ h3 (by decide)
  have c4 : Host.clampedStart S32x32x64x4x512 S1x32x64x4x512 rfl start 4 = 0 := Host.clampedStart_of_le _ _ _ _ h4 (by decide)
  by_cases hn : n = k
  · rw [if_pos hn]
    subst hn
    pointwise
    simp only [c0, c1, c2, c3, c4]
    rw [dif_pos (by omega)]
    exact congrArg u (ix5_ext (by simp) (by simp) (by simp) (by simp) (by simp))
  · rw [if_neg hn]
    pointwise
    simp only [c0, c1, c2, c3, c4]
    rw [dif_neg (fun hh => hn (Fin.ext (by omega)))]

/-- The carried buffers as functions of their coordinates. -/
abbrev QC (X : Valuation τ sig (Elt Ideal)) (n b : Fin 32) (i : Fin 64) (h : Fin 4) (d : Fin 256) : EReal := X (Proc.devRef .tc main_v22_0) (ix5 n b i h d)
abbrev KC (X : Valuation τ sig (Elt Ideal)) (n b : Fin 32) (i : Fin 64) (h : Fin 4) (d : Fin 256) : EReal := X (Proc.devRef .tc main_v22_1) (ix5 n b i h d)
abbrev VC (X : Valuation τ sig (Elt Ideal)) (n b : Fin 32) (i : Fin 64) (h : Fin 4) (e : Fin 512) : EReal := X (Proc.devRef .tc main_v22_2) (ix5 n b i h e)
abbrev LC (X : Valuation τ sig (Elt Ideal)) (h : Fin 4) : EReal := X (Proc.devRef .tc main_v22_3) (ix1 h)
abbrev SC (X : Valuation τ sig (Elt Ideal)) (b : Fin 32) (h : Fin 4) (d : Fin 256) (e : Fin 512) : EReal := X (Proc.devRef .tc main_v22_5) (ix4 b h d e)

section
variable (X : Valuation τ sig (Elt Ideal)) (k : Fin 32) (hc : X (Proc.devRef .tc main_v22_4) = fun _ => Scf.iv 0#32 1#32 k.val)
include hc

/-- The chunk of queries that trip `k` reads. -/
theorem q_chunk (b : Fin 32) (i : Fin 64) (h : Fin 4) (d : Fin 256) :
    res_main_while0b_v52 X (ix4 b i h d) = X (Proc.devRef .tc main_v22_0) (ix5 k b i h d) := by
  unfold res_main_while0b_v52
  rw [slice_key (X (Proc.devRef .tc main_v22_0)) _ _ k (by rw [hc]; exact ctr_toInt k) rfl rfl rfl rfl]
  pointwise

/-- The chunk of keys that trip `k` reads. -/
theorem k_chunk (b : Fin 32) (i : Fin 64) (h : Fin 4) (d : Fin 256) :
    res_main_while0b_v53 X (ix4 b i h d) = X (Proc.devRef .tc main_v22_1) (ix5 k b i h d) := by
  unfold res_main_while0b_v53
  rw [slice_key (X (Proc.devRef .tc main_v22_1)) _ _ k (by rw [hc]; exact ctr_toInt k) rfl rfl rfl rfl]
  pointwise

/-- The chunk of values that trip `k` reads. -/
theorem v_chunk (b : Fin 32) (i : Fin 64) (h : Fin 4) (d : Fin 512) :
    res_main_while0b_v54 X (ix4 b i h d) = X (Proc.devRef .tc main_v22_2) (ix5 k b i h d) := by
  unfold res_main_while0b_v54
  rw [slice_val (X (Proc.devRef .tc main_v22_2)) _ _ k (by rw [hc]; exact ctr_toInt k) rfl rfl rfl rfl]
  pointwise

/-- Trip `k` writes its chunk of outputs, and no other. -/
theorem out_chunk (n b : Fin 32) (i : Fin 64) (h : Fin 4) (e : Fin 512) :
    step_main_v22_6 X (ix5 n b i h e) = if n = k then
      ∑ x : Fin 64, VC X k b x h e *
            ((∑ d : Fin 256, QC X k b i h d * KC X k b x h d) *
              if 0 ≤ FloatOps.sitofp (F := Ideal) FTy.f32 (BitVec.ofNat 32 i) - FloatOps.sitofp (F := Ideal) FTy.f32 (BitVec.ofNat 32 x) then
                Ideal.exp (max (FloatOps.sitofp (F := Ideal) FTy.f32 (BitVec.ofNat 32 i) - FloatOps.sitofp (F := Ideal) FTy.f32 (BitVec.ofNat 32 x)) 0 *
                    LC X h)
              else 0)
        + (∑ d : Fin 256, SC X b h d e * QC X k b i h d) *
          Ideal.exp ((FloatOps.sitofp (F := Ideal) FTy.f32 (BitVec.ofNat 32 i) + 1) * LC X h)
    else X (Proc.devRef .tc main_v22_6) (ix5 n b i h e) := by
  unfold step_main_v22_6
  rw [id_eq]
  refine (update_at _ _ _ _ k (by show (X (Proc.devRef .tc main_v22_4) _).toInt = _; rw [hc]; exact ctr_toInt k) rfl rfl rfl rfl n b i h e).trans ?_
  pointwise [id_eq, res_main_while0b_v55, res_main_while0b_v60]
  simp only [q_chunk X k hc, k_chunk X k hc, v_chunk X k hc]

/-- Trip `k` takes the state one chunk further. -/
theorem state_chunk (b : Fin 32) (h : Fin 4) (d : Fin 256) (e : Fin 512) :
    step_main_v22_5 X (ix4 b h d e) =
      Ideal.exp (Ideal.ofBits .f32 0x42800000#32 * LC X h) * SC X b h d e
      + ∑ i : Fin 64, KC X k b i h d
          * Ideal.exp ((Ideal.ofBits .f32 0x427C0000#32 - FloatOps.sitofp (F := Ideal) .f32 (BitVec.ofNat 32 i)) * LC X h)
          * VC X k b i h e := by
  unfold step_main_v22_5
  rw [id_eq]
  pointwise [id_eq, res_main_while0b_v55]
  simp only [k_chunk X k hc, v_chunk X k hc]
end

/-! ## The loop's invariant -/

/-- What the carried buffers hold before trip `k`, in closed form. -/
structure Inv (q kk : (⟨2, ![65536, 1024]⟩ : Shape).Idx → EReal) (v : (⟨2, ![65536, 2048]⟩ : Shape).Idx → EReal) (k : ℕ)
    (X : Valuation τ sig (Elt Ideal)) : Prop where
  hq : ∀ (n b : Fin 32) (i : Fin 64) (h : Fin 4) (d : Fin 256), X (Proc.devRef .tc main_v22_0) (ix5 n b i h d) = (tokK q b h (64 * n.val + i.val) d : EReal)
  hk : ∀ (n b : Fin 32) (i : Fin 64) (h : Fin 4) (d : Fin 256), X (Proc.devRef .tc main_v22_1) (ix5 n b i h d) = (tokK kk b h (64 * n.val + i.val) d : EReal)
  hv : ∀ (n b : Fin 32) (i : Fin 64) (h : Fin 4) (e : Fin 512), X (Proc.devRef .tc main_v22_2) (ix5 n b i h e) = (tokV v b h (64 * n.val + i.val) e : EReal)
  hl : ∀ h : Fin 4, X (Proc.devRef .tc main_v22_3) (ix1 h) = (lg h : EReal)
  hs : ∀ (b : Fin 32) (h : Fin 4) (d : Fin 256) (e : Fin 512),
    X (Proc.devRef .tc main_v22_5) (ix4 b h d e) = (st (lg h) (tokK kk b h) (tokV v b h) (64 * k) d e : EReal)
  ho : ∀ (n b : Fin 32) (i : Fin 64) (h : Fin 4) (e : Fin 512), n.val < k →
    X (Proc.devRef .tc main_v22_6) (ix5 n b i h e) = (ou (lg h) (tokK q b h) (tokK kk b h) (tokV v b h) (64 * n.val + i.val) e : EReal)

/-- One trip keeps the invariant. -/
theorem Inv.next {q kk : (⟨2, ![65536, 1024]⟩ : Shape).Idx → EReal} {v : (⟨2, ![65536, 2048]⟩ : Shape).Idx → EReal} {k : ℕ} (hk32 : k < 32)
    {X : Valuation τ sig (Elt Ideal)} (hc : X (Proc.devRef .tc main_v22_4) = fun _ => Scf.iv 0#32 1#32 k) (I : Inv q kk v k X) :
    Inv q kk v (k + 1) (STEP X) := by
  constructor
  · intro n b i h d; rw [STEP_main_v22_0]; exact I.hq n b i h d
  · intro n b i h d; rw [STEP_main_v22_1]; exact I.hk n b i h d
  · intro n b i h d; rw [STEP_main_v22_2]; exact I.hv n b i h d
  · intro h; rw [STEP_main_v22_3]; exact I.hl h
  · intro b h d e
    rw [STEP_main_v22_5, state_chunk X ⟨k, hk32⟩ hc]
    rw [show 64 * (k + 1) = 64 * k + 64 by ring, ← st_blockE]
    simp only [QC, KC, VC, LC, SC, I.hl, I.hk, I.hv, I.hs, ofBits_64, ofBits_63]
    have e64 : ((64 : ℕ) : ℝ) = 64 := by norm_num
    congr 1
    refine Finset.sum_congr rfl fun i _ => ?_
    rw [sitofp_ofNat i (by omega), ← EReal.coe_sub, ← EReal.coe_mul, exp_coe, e64, show (64 : ℝ) - 1 = 63 by norm_num]
  · intro n b i h e hn
    rw [STEP_main_v22_6, out_chunk X ⟨k, hk32⟩ hc]
    by_cases hnk : n = ⟨k, hk32⟩
    · rw [if_pos hnk]
      subst hnk
      rw [← ou_blockE (lg h) (tokK q b h) (tokK kk b h) (tokV v b h) (64 * k) 64 i e]
      simp only [QC, KC, VC, LC, SC, I.hl, I.hk, I.hv, I.hs, I.hq]
      congr 1
      · refine Finset.sum_congr rfl fun j _ => ?_
        rw [dec_table (lg h) i j (by omega) (by omega), mul_comm]
      · rw [sitofp_ofNat i (by omega), ← EReal.coe_one, ← EReal.coe_add, ← EReal.coe_mul, exp_coe]
        congr 1
        exact Finset.sum_congr rfl fun d _ => mul_comm _ _
    · rw [if_neg hnk]
      refine I.ho n b i h e ?_
      have : n.val ≠ k := fun h => hnk (Fin.ext h)
      omega

end Cert.ReferenceIdeal.Hand
-- ==== Proof.RetEntry.lean ====
module

public import proofs.«01_k».proof.Defs
public import proofs.«01_k».proof.Proof.Gen.ReferenceIdeal.Run
public import proofs.«01_k».proof.Proof.RetRef
public import Idealize.ShloMosaic.Lib.Pointwise
public import Idealize.ShloMosaic.Lib.DynamicIndex
public import Idealize.ShloMosaic.Lib.StableHlo.ReadAt
public import Idealize.ShloMosaic.Lib.Pipeline.ValueKit.Geometry

@[expose] public section

set_option maxRecDepth 16384
noncomputable section
open Idealize.ShloMosaic Idealize.ShloMosaic.TcCoe Idealize.SL.Sem Idealize.ShloMosaic.StableHlo
open Cert.RetMath
namespace Cert.ReferenceIdeal.Hand
open Cert.ReferenceIdeal Cert.ReferenceIdeal.Gen Cert.ReferenceIdeal.Value

/-! ## The buffers at the loop's entry -/

/-- The reference's chunked view of a flat array of queries or keys. -/
theorem chunk_key (x : (⟨S65536x1024, .bf16⟩ : BufTy).Contents (Elt Ideal)) (n b : Fin 32) (i : Fin 64) (h : Fin 4) (d : Fin 256) :
    (transpose S32x32x64x4x256 [1, 0, 2, 3, 4] (shapeCast S32x32x64x4x256 (shapeCast S32x2048x4x256 (extf .f32 x bitsLt_bf16_f32 : FVec Ideal S65536x1024 .f32) shapeCasts_S65536x1024_S32x2048x4x256)
      shapeCasts_S32x2048x4x256_S32x32x64x4x256) transposes_S32x32x64x4x256_S32x32x64x4x256_1_0_2_3_4 (ix5 n b i h d) : EReal)
      = x (ix2 ⟨b.val * 2048 + (64 * n.val + i.val), by omega⟩ ⟨h.val * 256 + d.val, by omega⟩) := by
  pointwise
  exact congrArg x (congrArg₂ ix2 (Fin.ext (by simp only []; omega)) (Fin.ext rfl))

/-- The reference's chunked view of a flat array of values. -/
theorem chunk_val (x : (⟨S65536x2048, .bf16⟩ : BufTy).Contents (Elt Ideal)) (n b : Fin 32) (i : Fin 64) (h : Fin 4) (d : Fin 512) :
    (transpose S32x32x64x4x512 [1, 0, 2, 3, 4] (shapeCast S32x32x64x4x512 (shapeCast S32x2048x4x512 (extf .f32 x bitsLt_bf16_f32 : FVec Ideal S65536x2048 .f32) shapeCasts_S65536x2048_S32x2048x4x512)
      shapeCasts_S32x2048x4x512_S32x32x64x4x512) transposes_S32x32x64x4x512_S32x32x64x4x512_1_0_2_3_4 (ix5 n b i h d) : EReal)
      = x (ix2 ⟨b.val * 2048 + (64 * n.val + i.val), by omega⟩ ⟨h.val * 512 + d.val, by omega⟩) := by
  pointwise
  exact congrArg x (congrArg₂ ix2 (Fin.ext (by simp only []; omega)) (Fin.ext rfl))

section
variable (m : (ℓ : Loc nD τ sig) → Buf (Elt Ideal) ℓ)

theorem entry_q (c : Dev nD) (n b : Fin 32) (i : Fin 64) (h : Fin 4) (d : Fin 256) :
    (entryContents preI m c (Proc.devRef .tc main_v22_0) (ix5 n b i h d) : EReal)
      = m (c, Proc.tc.devRef main_arg0) (ix2 ⟨b.val * 2048 + (64 * n.val + i.val), by omega⟩ ⟨h.val * 256 + d.val, by omega⟩) := by
  refine Eq.trans ?_ (chunk_key (m (c, Proc.tc.devRef main_arg0)) n b i h d)
  simp only [entryContents, afterL_cons, afterL_nil]
  after_results
  rfl
theorem entry_k (c : Dev nD) (n b : Fin 32) (i : Fin 64) (h : Fin 4) (d : Fin 256) :
    (entryContents preI m c (Proc.devRef .tc main_v22_1) (ix5 n b i h d) : EReal)
      = m (c, Proc.tc.devRef main_arg1) (ix2 ⟨b.val * 2048 + (64 * n.val + i.val), by omega⟩ ⟨h.val * 256 + d.val, by omega⟩) := by
  refine Eq.trans ?_ (chunk_key (m (c, Proc.tc.devRef main_arg1)) n b i h d)
  simp only [entryContents, afterL_cons, afterL_nil]
  after_results
  rfl
theorem entry_v (c : Dev nD) (n b : Fin 32) (i : Fin 64) (h : Fin 4) (d : Fin 512) :
    (entryContents preI m c (Proc.devRef .tc main_v22_2) (ix5 n b i h d) : EReal)
      = m (c, Proc.tc.devRef main_arg2) (ix2 ⟨b.val * 2048 + (64 * n.val + i.val), by omega⟩ ⟨h.val * 512 + d.val, by omega⟩) := by
  refine Eq.trans ?_ (chunk_val (m (c, Proc.tc.devRef main_arg2)) n b i h d)
  simp only [entryContents, afterL_cons, afterL_nil]
  after_results
  rfl
theorem entry_l (c : Dev nD) (h : Fin 4) : (entryContents preI m c (Proc.devRef .tc main_v22_3) (ix1 h) : EReal) = lgE h := by
  simp only [entryContents, afterL_cons, afterL_nil]
  after_reads_at
  rfl
theorem entry_s (c : Dev nD) (b : Fin 32) (h : Fin 4) (d : Fin 256) (e : Fin 512) :
    (entryContents preI m c (Proc.devRef .tc main_v22_5) (ix4 b h d e) : EReal) = ((0 : ℝ) : EReal) := by
  simp only [entryContents, afterL_cons, afterL_nil]
  after_results
  rw [id_eq]
  pointwise
  simp

end

end Cert.ReferenceIdeal.Hand
-- ==== Proof.RetRefOut.lean ====
module

public import proofs.«01_k».proof.Defs
public import proofs.«01_k».proof.Proof.Gen.ReferenceIdeal.Run
public import proofs.«01_k».proof.Proof.RetEntry
public import Idealize.ShloMosaic.Lib.Pointwise
public import Idealize.ShloMosaic.Lib.DynamicIndex
public import Idealize.ShloMosaic.Lib.StableHlo.ReadAt
public import Idealize.ShloMosaic.Lib.Pipeline.ValueKit.Geometry

@[expose] public section

set_option maxRecDepth 16384
noncomputable section
open Idealize.ShloMosaic Idealize.ShloMosaic.TcCoe Idealize.SL.Sem Idealize.ShloMosaic.StableHlo
open Cert.RetMath
namespace Cert.ReferenceIdeal.Hand
open Cert.ReferenceIdeal Cert.ReferenceIdeal.Gen Cert.ReferenceIdeal.Value

/-- The loop's outputs put back into the order of the tokens. -/
def Zr (X : FVec Ideal S32x32x64x4x512 .f32) : FVec Ideal S32x2048x4x512 .f32 :=
  shapeCast _ (transpose S32x32x64x4x512 [1, 0, 2, 3, 4] X transposes_S32x32x64x4x512_S32x32x64x4x512_1_0_2_3_4) shapeCasts_S32x32x64x4x512_S32x2048x4x512

/-- The heads' rows less their means. -/
def Cn (z : FVec Ideal S32x2048x4x512 .f32) : FVec Ideal S32x2048x4x512 .f32 :=
  subf z (broadcastInDim S32x2048x4x512 ![0, 1, 2, 3] bcast_S32x2048x4x1_S32x2048x4x512_0_1_2_3 (Host.divf (broadcastInDim S32x2048x4x1 ![0, 1, 2] bcast_S32x2048x4_S32x2048x4x1_0_1_2 (Host.reduceAdd z (constant S_ .f32 0x00000000#32) reducesTo_S32x2048x4x512_S32x2048x4_d3 h_S_)) (broadcastInDim S32x2048x4x1 ![] bcast_S_S32x2048x4x1 (constant S_ .f32 0x44000000#32))))

/-- Centred rows divided by the root of their mean square. -/
def Nm (c : FVec Ideal S32x2048x4x512 .f32) : FVec Ideal S32x2048x4x512 .f32 :=
  mulf c (broadcastInDim S32x2048x4x512 ![0, 1, 2, 3] bcast_S32x2048x4x1_S32x2048x4x512_0_1_2_3 (Host.rsqrt (addf (Host.divf (broadcastInDim S32x2048x4x1 ![0, 1, 2] bcast_S32x2048x4_S32x2048x4x1_0_1_2 (Host.reduceAdd (mulf c c) (constant S_ .f32 0x00000000#32) reducesTo_S32x2048x4x512_S32x2048x4_d3 h_S_)) (broadcastInDim S32x2048x4x1 ![] bcast_S_S32x2048x4x1 (constant S_ .f32 0x44000000#32))) (broadcastInDim S32x2048x4x1 ![] bcast_S_S32x2048x4x1 (constant S_ .f32 0x3727C5AC#32)))))

/-- Normalised rows scaled and gated. -/
def Gt (n : FVec Ideal S32x2048x4x512 .f32) (g : FVec Ideal S65536x2048 .bf16) (w : FVec Ideal S2048 .f32) : FVec Ideal S65536x2048 .bf16 :=
  shapeCast _ (truncf .bf16 (mulf (shapeCast _ (extf .f32 g bitsLt_bf16_f32) shapeCasts_S65536x2048_S32x2048x2048) (mulf (shapeCast _ n shapeCasts_S32x2048x4x512_S32x2048x2048) (broadcastInDim S32x2048x2048 ![0, 1, 2] bcast_S1x1x2048_S32x2048x2048_0_1_2 (broadcastInDim S1x1x2048 ![2] bcast_S2048_S1x1x2048_2 w)))) bitsLt_bf16_f32) shapeCasts_S32x2048x2048_S65536x2048

/-- `Zr` at an index. -/
theorem zr_at (X : FVec Ideal S32x32x64x4x512 .f32) (b : Fin 32) (t : Fin 2048) (h : Fin 4) (e : Fin 512) :
    Zr X (ix4 b t h e) = X (ix5 ⟨t.val / 64, by omega⟩ b ⟨t.val % 64, by omega⟩ h e) := by
  unfold Zr
  pointwise

/-- `Cn` at an index. -/
theorem cn_at (z : FVec Ideal S32x2048x4x512 .f32) (b : Fin 32) (t : Fin 2048) (h : Fin 4) (e : Fin 512) :
    (Cn z (ix4 b t h e) : EReal) = (z (ix4 b t h e) : EReal) - mean (fun j => z (ix4 b t h j)) := by
  unfold Cn
  pointwise [mean]

/-- `Nm` at an index. -/
theorem nm_at (c : FVec Ideal S32x2048x4x512 .f32) (b : Fin 32) (t : Fin 2048) (h : Fin 4) (e : Fin 512) :
    (Nm c (ix4 b t h e) : EReal) = (c (ix4 b t h e) : EReal) * Ideal.rsqrt (mean (fun j => (c (ix4 b t h j) : EReal) * c (ix4 b t h j)) + Ideal.ofBits .f32 0x3727C5AC#32) := by
  unfold Nm
  pointwise [mean]

/-- `Gt` at an index. -/
theorem gt_at (n : FVec Ideal S32x2048x4x512 .f32) (g : FVec Ideal S65536x2048 .bf16) (w : FVec Ideal S2048 .f32) (y0 : Fin 65536) (y1 : Fin 2048) :
    (Gt n g w (ix2 y0 y1) : EReal) = (g (ix2 y0 y1) : EReal) * ((n (ix4 ⟨y0.val / 2048, by omega⟩ ⟨y0.val % 2048, by omega⟩ ⟨y1.val / 512, by omega⟩ ⟨y1.val % 512, by omega⟩) : EReal) * w (ix1 y1)) := by
  unfold Gt
  pointwise

/-- The operations after the loop, by parts. -/
theorem out_parts (X : Valuation τ sig (Elt Ideal)) :
    out_main_v51 X = Gt (Nm (Cn (Zr (X (Proc.devRef .tc main_v22_6))))) (X (Proc.devRef .tc main_arg3)) (X (Proc.devRef .tc main_arg4)) := rfl

/-- The group norm and gate of outputs `f` at an index. -/
theorem gate_at (x : FVec Ideal S32x32x64x4x512 .f32) (g : FVec Ideal S65536x2048 .bf16) (w : FVec Ideal S2048 .f32)
    (f : Fin 32 → Fin 4 → ℕ → Fin 512 → EReal)
    (hf : ∀ (n b : Fin 32) (i : Fin 64) (h : Fin 4) (e : Fin 512), (x (ix5 n b i h e) : EReal) = f b h (64 * n.val + i.val) e) (y0 : Fin 65536) (y1 : Fin 2048) :
    (Gt (Nm (Cn (Zr x))) g w (ix2 y0 y1) : EReal) =
      gn (f ⟨y0.val / 2048, by omega⟩ ⟨y1.val / 512, by omega⟩ (y0.val % 2048)) (g (ix2 y0 y1)) (w (ix1 y1)) ⟨y1.val % 512, by omega⟩ := by
  have hz : ∀ (b : Fin 32) (t : Fin 2048) (h : Fin 4) (e : Fin 512), (Zr x (ix4 b t h e) : EReal) = f b h t.val e := fun b t h e => by
    rw [zr_at, hf]
    exact congrArg (fun k => f b h k e) (Nat.div_add_mod t.val 64)
  rw [gt_at, nm_at]
  simp only [cn_at, hz]
  rfl

/-- The group norm and gate of the loop's outputs. -/
theorem out_at {q kk : (⟨2, ![65536, 1024]⟩ : Shape).Idx → EReal} {v g : (⟨2, ![65536, 2048]⟩ : Shape).Idx → EReal} {w : (⟨1, ![2048]⟩ : Shape).Idx → EReal}
    {X : Valuation τ sig (Elt Ideal)} (I : Inv q kk v 32 X) (e3 : X (Proc.devRef .tc main_arg3) = g) (e4 : X (Proc.devRef .tc main_arg4) = w)
    (y0 : Fin 65536) (y1 : Fin 2048) : out_main_v51 X (ix2 y0 y1) = YOUT q kk v g w (ix2 y0 y1) := by
  rw [out_parts, e3, e4]
  refine (gate_at _ g w (fun b h t e => ((ou (lg h) (tokK q b h) (tokK kk b h) (tokV v b h) t e : ℝ) : EReal)) (fun n b i h e => I.ho n b i h e n.isLt) y0 y1).trans ?_
  show _ = ROW q kk v g w ⟨y0.val / 2048, _⟩ ⟨y1.val / 512, _⟩ ⟨y0.val % 2048, _⟩ ⟨y1.val % 512, _⟩
  unfold ROW
  have a3 : (ix2 y0 y1 : (⟨2, ![65536, 2048]⟩ : Shape).Idx) = ix2 ⟨y0.val / 2048 * 2048 + y0.val % 2048, by omega⟩ ⟨y1.val / 512 * 512 + y1.val % 512, by omega⟩ :=
    congrArg₂ ix2 (Fin.ext (by simp only []; omega)) (Fin.ext (by simp only []; omega))
  have a4 : (ix1 y1 : (⟨1, ![2048]⟩ : Shape).Idx) = ix1 ⟨y1.val / 512 * 512 + y1.val % 512, by omega⟩ :=
    congrArg ix1 (Fin.ext (by simp only []; omega))
  rw [congrArg g a3, congrArg w a4]

/-- The gated output the loop's outputs give. -/
theorem out_all {q kk : (⟨2, ![65536, 1024]⟩ : Shape).Idx → EReal} {v g : (⟨2, ![65536, 2048]⟩ : Shape).Idx → EReal} {w : (⟨1, ![2048]⟩ : Shape).Idx → EReal}
    {X : Valuation τ sig (Elt Ideal)} (I : Inv q kk v 32 X) (e3 : X (Proc.devRef .tc main_arg3) = g) (e4 : X (Proc.devRef .tc main_arg4) = w) :
    out_main_v51 X = YOUT q kk v g w := by
  funext y
  idx_vars y
  exact out_at I e3 e4 y0 y1

/-- The state the loop ends with. -/
theorem state_at {q kk : (⟨2, ![65536, 1024]⟩ : Shape).Idx → EReal} {v : (⟨2, ![65536, 2048]⟩ : Shape).Idx → EReal}
    {X : Valuation τ sig (Elt Ideal)} (I : Inv q kk v 32 X) : X (Proc.devRef .tc main_v22_5) = STATE kk v := by
  funext y
  idx_vars y
  exact I.hs y0 y1 y2 y3

section
variable (m : (ℓ : Loc nD τ sig) → Buf (Elt Ideal) ℓ)

/-- Before the first trip the chunked operands are the arguments' tokens, and the state is zero. -/
theorem entry_inv (c : Dev nD)
    (hq : Fin' (s := ⟨2, ![65536, 1024]⟩) (m (c, Proc.tc.devRef main_arg0))) (hk : Fin' (s := ⟨2, ![65536, 1024]⟩) (m (c, Proc.tc.devRef main_arg1)))
    (hv : Fin' (s := ⟨2, ![65536, 2048]⟩) (m (c, Proc.tc.devRef main_arg2))) :
    Inv (m (c, Proc.tc.devRef main_arg0)) (m (c, Proc.tc.devRef main_arg1)) (m (c, Proc.tc.devRef main_arg2)) 0 (entryContents preI m c) := by
  constructor
  · intro n b i h d
    exact (entry_q m c n b i h d).trans (tokK_eq hq b h _ d _ _ (by omega) rfl rfl)
  · intro n b i h d
    exact (entry_k m c n b i h d).trans (tokK_eq hk b h _ d _ _ (by omega) rfl rfl)
  · intro n b i h d
    exact (entry_v m c n b i h d).trans (tokV_eq hv b h _ d _ _ (by omega) rfl rfl)
  · intro h
    exact (entry_l m c h).trans (lgE_eq h)
  · intro b h d e
    rw [Nat.mul_zero, st_zero]
    exact entry_s m c b h d e
  · intro n b i h e hn
    exact absurd hn (Nat.not_lt_zero _)

/-- Before trip `k`, and after the last, the carried buffers hold the closed forms. -/
theorem inv_iter (c : Dev nD)
    (hq : Fin' (s := ⟨2, ![65536, 1024]⟩) (m (c, Proc.tc.devRef main_arg0))) (hk : Fin' (s := ⟨2, ![65536, 1024]⟩) (m (c, Proc.tc.devRef main_arg1)))
    (hv : Fin' (s := ⟨2, ![65536, 2048]⟩) (m (c, Proc.tc.devRef main_arg2))) :
    ∀ k ≤ 32, Inv (m (c, Proc.tc.devRef main_arg0)) (m (c, Proc.tc.devRef main_arg1)) (m (c, Proc.tc.devRef main_arg2)) k (STEP^[k] (entryContents preI m c)) := by
  intro k
  induction k with
  | zero => exact fun _ => entry_inv m c hq hk hv
  | succ k ih =>
    intro hk32
    rw [Function.iterate_succ_apply']
    refine (ih (by omega)).next (by omega) ?_
    rw [← atK_agree m c k main_v22_4 (by decide)]
    exact atK_ctr m c k

/-- The state the program returns. -/
theorem state_ref (c : Dev nD)
    (hq : Fin' (s := ⟨2, ![65536, 1024]⟩) (m (c, Proc.tc.devRef main_arg0))) (hk : Fin' (s := ⟨2, ![65536, 1024]⟩) (m (c, Proc.tc.devRef main_arg1)))
    (hv : Fin' (s := ⟨2, ![65536, 2048]⟩) (m (c, Proc.tc.devRef main_arg2))) :
    (STEP^[32] (entryContents preI m c)) (Proc.devRef .tc main_v22_5) = STATE (m (c, Proc.tc.devRef main_arg1)) (m (c, Proc.tc.devRef main_arg2)) :=
  state_at (inv_iter m c hq hk hv 32 le_rfl)

/-- The output the program returns. -/
theorem out_ref (c : Dev nD)
    (hq : Fin' (s := ⟨2, ![65536, 1024]⟩) (m (c, Proc.tc.devRef main_arg0))) (hk : Fin' (s := ⟨2, ![65536, 1024]⟩) (m (c, Proc.tc.devRef main_arg1)))
    (hv : Fin' (s := ⟨2, ![65536, 2048]⟩) (m (c, Proc.tc.devRef main_arg2))) :
    out_main_v51 (STEP^[32] (entryContents preI m c)) = YOUT (m (c, Proc.tc.devRef main_arg0)) (m (c, Proc.tc.devRef main_arg1)) (m (c, Proc.tc.devRef main_arg2))
      (m (c, Proc.tc.devRef main_arg3)) (m (c, Proc.tc.devRef main_arg4)) :=
  out_all (inv_iter m c hq hk hv 32 le_rfl) (iter_main_arg3 m c 32) (iter_main_arg4 m c 32)

end
end Cert.ReferenceIdeal.Hand
-- ==== Proof.RetFin.lean ====
module

public import proofs.«01_k».proof.Defs
public import proofs.«01_k».proof.Proof.RetMath
public import Idealize.ShloMosaic.Lib.ReduceAll
public import Idealize.ShloMosaic.Lib.Affine
public import Idealize.ShloMosaic.Lib.Decide

@[expose] public section

noncomputable section
open Idealize.ShloMosaic Cert.RetMath
namespace Cert.Pre_finite_qkv.Hand
open Cert.Pre_finite_qkv

/-- What the predicate states of its shapes. -/
theorem facts : Cert.Pre_finite_qkv.Facts where
  bitsLt_bf16_f32 := by decide
  bcast_S_S65536x1024 := by decide
  reducesTo_S65536x1024_S_d0_1 := by decide
  h_S_ := by decide
  bcast_S_S65536x2048 := by decide
  reducesTo_S65536x2048_S_d0_1 := by decide

/-- An absolute value below the infinite word is finite. -/
theorem ne_of_lt (x : EReal) (h : Ideal.cmp .olt (max x (-x)) (Ideal.ofBits .f32 0x7F800000#32) = 1#1) : x ≠ ⊤ ∧ x ≠ ⊥ := by
  rw [show Ideal.ofBits .f32 0x7F800000#32 = ⊤ by simp [Ideal.ofBits, Ideal.ieee]] at h
  constructor
  · rintro rfl
    simp [Ideal.cmp] at h
  · rintro rfl
    simp [Ideal.cmp] at h

section
variable [Facts] {q k : FVec Ideal S65536x1024 .bf16} {v g : FVec Ideal S65536x2048 .bf16} {w : FVec Ideal S2048 .f32}

/-- The three tests the predicate joins. -/
theorem tests (h : Cert.Pre_finite_qkv.fn q k v g w = fun _ => 1#1) :
    (∀ i, (q i : EReal) ≠ ⊤ ∧ (q i : EReal) ≠ ⊥) ∧ (∀ i, (k i : EReal) ≠ ⊤ ∧ (k i : EReal) ≠ ⊥) ∧ (∀ i, (v i : EReal) ≠ ⊤ ∧ (v i : EReal) ≠ ⊥) := by
  have e := congrFun h ix0
  dsimp only [Cert.Pre_finite_qkv.fn] at e
  obtain ⟨e12, e3⟩ := IntOp.andi_eq_one.1 e
  obtain ⟨e1, e2⟩ := IntOp.andi_eq_one.1 e12
  exact ⟨fun i => ne_of_lt _ (Host.reduce_andi_all _ _ _ _ _ e1 i), fun i => ne_of_lt _ (Host.reduce_andi_all _ _ _ _ _ e2 i),
    fun i => ne_of_lt _ (Host.reduce_andi_all _ _ _ _ _ e3 i)⟩

end
end Cert.Pre_finite_qkv.Hand
-- ==== Proof.Ret.lean ====
module

public import proofs.«01_k».proof.Defs
public import proofs.«01_k».proof.Proof.Gen.Kernel.Frame
public import proofs.«01_k».proof.Proof.Gen.KernelIdeal.Value
public import proofs.«01_k».proof.Proof.RetArr
public import proofs.«01_k».proof.Proof.RetRefOut
public import proofs.«01_k».proof.Proof.RetFin
public import Idealize.ShloMosaic.Lib.Quiescent

@[expose] public section

noncomputable section
open Idealize.ShloMosaic Idealize.SL.Sem Cert.RetMath
namespace Cert.Ret

/-- The reference ends with its arguments unchanged and its counters at zero. -/
theorem frame_ref :
    Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel and the reference end with the same output and the same state. -/
theorem value : Cert.algebraic_KernelIdeal_ReferenceIdeal_pre_finite_qkv (hKernelIdeal := Cert.KernelIdeal.Gen.facts)
    (hReferenceIdeal := Cert.ReferenceIdeal.Gen.facts) (hPre_finite_qkv := Cert.Pre_finite_qkv.Hand.facts) := by
  intro m g m' g' pre agree
  have fin := fun c => @Cert.Pre_finite_qkv.Hand.tests Cert.Pre_finite_qkv.Hand.facts _ _ _ _ _ (pre c)
  refine ⟨_, _, Cert.KernelIdeal.Value.run_blocks (F := Ideal) m g, ?_⟩
  refine (θ_run Cert.ReferenceIdeal.defs _ _).mono (fun r h c => ?_) (Cert.ReferenceIdeal.Value.run (F := Ideal) m' g')
  obtain ⟨a0, a1, a2, a3, a4⟩ := agree c
  obtain ⟨f0, f1, f2⟩ := fin c
  obtain ⟨h0, h1, h2⟩ := h c
  refine ⟨h0.trans ?_, h1.trans ?_, h2⟩
  · refine (Cert.ReferenceIdeal.Hand.out_ref m' c (fun i => ?_) (fun i => ?_) (fun i => ?_)).trans (Eq.trans ?_ (Cert.KernelIdeal.Hand.out_arr m c f0 f1 f2).symm)
    · exact (congrFun a0 i).symm ▸ f0 i
    · exact (congrFun a1 i).symm ▸ f1 i
    · exact (congrFun a2 i).symm ▸ f2 i
    · exact congr (congr (congr (congr (congrArg YOUT a0) a1) a2) a3) a4
  · refine (Cert.ReferenceIdeal.Hand.state_ref m' c (fun i => ?_) (fun i => ?_) (fun i => ?_)).trans (Eq.trans ?_ (Cert.KernelIdeal.Hand.state_arr m c f0 f1 f2).symm)
    · exact (congrFun a0 i).symm ▸ f0 i
    · exact (congrFun a1 i).symm ▸ f1 i
    · exact (congrFun a2 i).symm ▸ f2 i
    · exact congr (congrArg STATE a1) a2

end Cert.Ret
-- ==== Proof.FfnMath.lean ====
module

public import Idealize.ShloMosaic.PureOps.Ideal
public import Idealize.ShloMosaic.Lib.Pointwise
public import Mathlib.Algebra.BigOperators.Fin

@[expose] public section

noncomputable section
open Idealize.ShloMosaic
namespace Cert.FfnMath

/-- A row over the root of its mean square, scaled by `g`, at lane `e`. -/
def rms (x g : Fin 1024 → EReal) (e : Fin 1024) : EReal :=
  x e * Ideal.rsqrt (Ideal.div (∑ j, x j * x j) (Ideal.ofBits .f32 0x44800000#32) + Ideal.ofBits .f32 0x358637BD#32) * g e

/-- The product of a row with a column of the weights. -/
def lin (h : Fin 1024 → EReal) (w : Fin 1024 → Fin 5632 → EReal) (j : Fin 5632) : EReal := ∑ d, h d * w d j

/-- The gated hidden unit `j`. -/
def act (h : Fin 1024 → EReal) (w : Fin 1024 → Fin 5632 → EReal) (j : Fin 2816) : EReal :=
  lin h w ⟨j.val, by omega⟩ * Ideal.logistic (lin h w ⟨j.val, by omega⟩) * lin h w ⟨2816 + j.val, by omega⟩

/-- The feed-forward output at lane `e`. -/
def sw (h : Fin 1024 → EReal) (w : Fin 1024 → Fin 5632 → EReal) (wo : Fin 2816 → Fin 1024 → EReal) (e : Fin 1024) : EReal :=
  ∑ j, act h w j * wo j e

/-- The row with half the feed-forward output of its normalised self added. -/
def ffn (x g : Fin 1024 → EReal) (w : Fin 1024 → Fin 5632 → EReal) (wo : Fin 2816 → Fin 1024 → EReal) (e : Fin 1024) : EReal :=
  x e + Ideal.ofBits .f32 0x3F000000#32 * sw (rms x g) w wo e

/-- A sum over the hidden units, in the three ranges the kernel takes it. -/
theorem sum_split (f : Fin 2816 → EReal) :
    (∑ j : Fin 1024, f ⟨j.val, by omega⟩) + (∑ j : Fin 1024, f ⟨1024 + j.val, by omega⟩) + (∑ j : Fin 768, f ⟨2048 + j.val, by omega⟩) = ∑ j, f j := by
  have e1 := Fin.sum_univ_add (a := 2048) (b := 768) f
  have e2 := Fin.sum_univ_add (a := 1024) (b := 1024) (fun j : Fin 2048 => f (Fin.castAdd 768 j))
  exact (e1.trans (congrArg (· + _) e2)).symm

/-- A row with the projected attention output added, at lane `e`. -/
def mix {k : ℕ} (x : Fin 1024 → EReal) (o : Fin k → EReal) (w : Fin k → Fin 1024 → EReal) (e : Fin 1024) : EReal :=
  x e + ∑ d, o d * w d e

/-- Every row's new value. -/
def XOUT {n : ℕ} (x : (⟨2, ![n, 1024]⟩ : Shape).Idx → EReal) (g : (⟨2, ![3, 1024]⟩ : Shape).Idx → EReal) (w : (⟨2, ![1024, 5632]⟩ : Shape).Idx → EReal)
    (wo : (⟨2, ![2816, 1024]⟩ : Shape).Idx → EReal) : (⟨2, ![n, 1024]⟩ : Shape).Idx → EReal := fun y =>
  ffn (fun j => x (ix2 (y 0) j)) (fun j => g (ix2 0 j)) (fun d j => w (ix2 d j)) (fun j e => wo (ix2 j e)) (y 1)

/-- Every row's new value, normalised with the last row of gains. -/
def HOUT {n : ℕ} (x : (⟨2, ![n, 1024]⟩ : Shape).Idx → EReal) (g : (⟨2, ![3, 1024]⟩ : Shape).Idx → EReal) (w : (⟨2, ![1024, 5632]⟩ : Shape).Idx → EReal)
    (wo : (⟨2, ![2816, 1024]⟩ : Shape).Idx → EReal) : (⟨2, ![n, 1024]⟩ : Shape).Idx → EReal := fun y =>
  rms (fun e => ffn (fun j => x (ix2 (y 0) j)) (fun j => g (ix2 0 j)) (fun d j => w (ix2 d j)) (fun j e => wo (ix2 j e)) e)
    (fun j => g (ix2 2 j)) (y 1)

/-- Every row's value after the attention output, the feed-forward and the last norm. -/
def MOUT {n k : ℕ} (x : (⟨2, ![n, 1024]⟩ : Shape).Idx → EReal) (o : (⟨2, ![n, k]⟩ : Shape).Idx → EReal) (p : (⟨2, ![k, 1024]⟩ : Shape).Idx → EReal)
    (g : (⟨2, ![3, 1024]⟩ : Shape).Idx → EReal) (w : (⟨2, ![1024, 5632]⟩ : Shape).Idx → EReal)
    (wo : (⟨2, ![2816, 1024]⟩ : Shape).Idx → EReal) : (⟨2, ![n, 1024]⟩ : Shape).Idx → EReal := fun y =>
  rms (fun e => ffn (fun a => mix (fun j => x (ix2 (y 0) j)) (fun d => o (ix2 (y 0) d)) (fun d j => p (ix2 d j)) a)
    (fun j => g (ix2 0 j)) (fun d j => w (ix2 d j)) (fun j e => wo (ix2 j e)) e) (fun j => g (ix2 1 j)) (y 1)

/-- The pattern of one is one. -/
theorem one_bits : Ideal.ofBits .f32 0x3F800000#32 = 1 := by
  simp [Ideal.ofBits, Ideal.ieee]
  rw [← EReal.coe_mul]
  norm_num

end Cert.FfnMath
-- ==== Proof.FfnKernel.lean ====
module

public import proofs.«01_k».proof.Defs
public import proofs.«01_k».proof.Proof.Gen.FfnIdeal.Value
public import proofs.«01_k».proof.Proof.FfnMath
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem
open Idealize.ShloMosaic.Pipeline (Dat)
open Cert.FfnMath
namespace Cert.FfnIdeal.Hand
open Cert.FfnIdeal Cert.FfnIdeal.Gen

/-! ## What the kernel's loads read -/

theorem ld_rows (x : Vec Ideal S1024x1024 .f32) (n : ℕ) (hb) (i : Fin 256) (e : Fin 1024) (hn : n + i.val < 1024) :
    View.ld x (Rect.unit ![n, 0] ![256, 1024] hb : Rect S1024x1024) (ix2 i e) = x (ix2 ⟨n + i.val, hn⟩ e) := by
  refine congrArg x (funext fun ax => Fin.ext ?_)
  fin_cases ax <;> simp [Rect.unit, Rect.emb] <;> rfl

theorem ld_gain (x : Vec Ideal S3x1024 .f32) (n : Fin 3) (hb) (e : Fin 1024) :
    View.ld x (Rect.unit ![n.val, 0] ![1, 1024] hb : Rect S3x1024) (ix2 0 e) = x (ix2 n e) := by
  refine congrArg x (funext fun ax => Fin.ext ?_)
  fin_cases ax <;> simp [Rect.unit, Rect.emb] <;> rfl

theorem ld_in (x : Vec Ideal S1024x5632 .bf16) (n : ℕ) (hb) (d j : Fin 1024) (k : Fin 5632) (hk : k.val = n + j.val) :
    View.ld x (Rect.unit ![0, n] ![1024, 1024] hb : Rect S1024x5632) (ix2 d j) = x (ix2 d k) := by
  refine congrArg x (funext fun ax => Fin.ext ?_)
  fin_cases ax <;> simp [Rect.unit, Rect.emb, hk] <;> rfl

theorem ld_in' (x : Vec Ideal S1024x5632 .bf16) (n : ℕ) (hb) (d : Fin 1024) (j : Fin 768) (k : Fin 5632) (hk : k.val = n + j.val) :
    View.ld x (Rect.unit ![0, n] ![1024, 768] hb : Rect S1024x5632) (ix2 d j) = x (ix2 d k) := by
  refine congrArg x (funext fun ax => Fin.ext ?_)
  fin_cases ax <;> simp [Rect.unit, Rect.emb, hk] <;> rfl

theorem ld_out (x : Vec Ideal S2816x1024 .bf16) (n : ℕ) (hb) (j e : Fin 1024) (k : Fin 2816) (hk : k.val = n + j.val) :
    View.ld x (Rect.unit ![n, 0] ![1024, 1024] hb : Rect S2816x1024) (ix2 j e) = x (ix2 k e) := by
  refine congrArg x (funext fun ax => Fin.ext ?_)
  fin_cases ax <;> simp [Rect.unit, Rect.emb, hk] <;> rfl

theorem ld_out' (x : Vec Ideal S2816x1024 .bf16) (n : ℕ) (hb) (j : Fin 768) (e : Fin 1024) (k : Fin 2816) (hk : k.val = n + j.val) :
    View.ld x (Rect.unit ![n, 0] ![768, 1024] hb : Rect S2816x1024) (ix2 j e) = x (ix2 k e) := by
  refine congrArg x (funext fun ax => Fin.ext ?_)
  fin_cases ax <;> simp [Rect.unit, Rect.emb, hk] <;> rfl

/-! ## One block of 256 rows -/

/-- The normalised rows at an index. -/
theorem rms_at (x : Vec Ideal S256x1024 .f32) (g : Vec Ideal S1x1024 .f32) (i : Fin 256) (e : Fin 1024) :
    k0_pay14 x g (ix2 i e) = rms (fun j => x (ix2 i j)) (fun j => g (ix2 0 j)) e := by
  unfold rms
  pointwise [k0_pay14]

/-- The feed-forward output over the three ranges of hidden units is the whole one. -/
theorem sw_at (h : FVec Ideal S256x1024 .bf16) (w : Vec Ideal S1024x5632 .bf16) (wo : Vec Ideal S2816x1024 .bf16) (i : Fin 256) (e : Fin 1024) :
    k0_pay20 h (View.ld w r0_3) (View.ld w r0_4) (View.ld wo r0_5) (View.ld w r0_6) (View.ld w r0_7) (View.ld wo r0_8)
        (View.ld w r0_9) (View.ld w r0_10) (View.ld wo r0_11) (ix2 i e)
      = sw (fun d => h (ix2 i d)) (fun d j => w (ix2 d j)) (fun j e => wo (ix2 j e)) e := by
  have a3 : ∀ (d : Fin 1024) (j : Fin 1024), View.ld w r0_3 (ix2 d j) = w (ix2 d ⟨j.val, by omega⟩) := fun d j => ld_in w 0 _ d j _ (by simp)
  have a4 : ∀ (d : Fin 1024) (j : Fin 1024), View.ld w r0_4 (ix2 d j) = w (ix2 d ⟨2816 + j.val, by omega⟩) := fun d j => ld_in w 2816 _ d j _ rfl
  have a6 : ∀ (d : Fin 1024) (j : Fin 1024), View.ld w r0_6 (ix2 d j) = w (ix2 d ⟨1024 + j.val, by omega⟩) := fun d j => ld_in w 1024 _ d j _ rfl
  have a7 : ∀ (d : Fin 1024) (j : Fin 1024), View.ld w r0_7 (ix2 d j) = w (ix2 d ⟨2816 + (1024 + j.val), by omega⟩) :=
    fun d j => ld_in w 3840 _ d j _ (by simp; omega)
  have a9 : ∀ (d : Fin 1024) (j : Fin 768), View.ld w r0_9 (ix2 d j) = w (ix2 d ⟨2048 + j.val, by omega⟩) := fun d j => ld_in' w 2048 _ d j _ rfl
  have a10 : ∀ (d : Fin 1024) (j : Fin 768), View.ld w r0_10 (ix2 d j) = w (ix2 d ⟨2816 + (2048 + j.val), by omega⟩) :=
    fun d j => ld_in' w 4864 _ d j _ (by simp; omega)
  have a5 : ∀ (j : Fin 1024) (e : Fin 1024), View.ld wo r0_5 (ix2 j e) = wo (ix2 ⟨j.val, by omega⟩ e) := fun j e => ld_out wo 0 _ j e _ (by simp)
  have a8 : ∀ (j : Fin 1024) (e : Fin 1024), View.ld wo r0_8 (ix2 j e) = wo (ix2 ⟨1024 + j.val, by omega⟩ e) := fun j e => ld_out wo 1024 _ j e _ rfl
  have a11 : ∀ (j : Fin 768) (e : Fin 1024), View.ld wo r0_11 (ix2 j e) = wo (ix2 ⟨2048 + j.val, by omega⟩ e) := fun j e => ld_out' wo 2048 _ j e _ rfl
  unfold sw
  rw [← sum_split]
  generalize View.ld w r0_3 = w3 at *
  generalize View.ld w r0_4 = w4 at *
  generalize View.ld w r0_6 = w6 at *
  generalize View.ld w r0_7 = w7 at *
  generalize View.ld w r0_9 = w9 at *
  generalize View.ld w r0_10 = w10 at *
  generalize View.ld wo r0_5 = w5 at *
  generalize View.ld wo r0_8 = w8 at *
  generalize View.ld wo r0_11 = w11 at *
  pointwise [k0_pay20]
  simp only [a3, a4, a5, a6, a7, a8, a9, a10, a11]
  rfl

/-- The block's new rows: the rows and half their feed-forward output. -/
abbrev NEWX (w : Vec Ideal S1024x5632 .bf16) (wo : Vec Ideal S2816x1024 .bf16) (x : Vec Ideal S256x1024 .f32) (g : Vec Ideal S1x1024 .f32) : Vec Ideal S256x1024 .f32 :=
  k0_pay1 x (k0_pay20 (k0_pay14 x g) (View.ld w r0_3) (View.ld w r0_4) (View.ld wo r0_5) (View.ld w r0_6) (View.ld w r0_7) (View.ld wo r0_8)
        (View.ld w r0_9) (View.ld w r0_10) (View.ld wo r0_11)) (k0_pay21 (F := Ideal))

/-- The block's new rows at an index. -/
theorem newx_at (w : Vec Ideal S1024x5632 .bf16) (wo : Vec Ideal S2816x1024 .bf16) (x : Vec Ideal S256x1024 .f32) (g : Vec Ideal S1x1024 .f32) (i : Fin 256) (e : Fin 1024) :
    NEWX w wo x g (ix2 i e) = ffn (fun j => x (ix2 i j)) (fun j => g (ix2 0 j)) (fun d j => w (ix2 d j)) (fun j e => wo (ix2 j e)) e := by
  have h := sw_at (k0_pay14 x g) w wo i e
  unfold NEWX ffn
  generalize k0_pay20 (F := Ideal) _ _ _ _ _ _ _ _ _ _ = Z at *
  pointwise [k0_pay1, k0_pay21]
  rw [h]
  simp only [rms_at]

/-! ## What the windows of a grid step end with -/

/-- The new rows of a window of 1024 rows. -/
def XO (x : Vec Ideal S1024x1024 .f32) (g : Vec Ideal S3x1024 .f32) (w : Vec Ideal S1024x5632 .bf16) (wo : Vec Ideal S2816x1024 .bf16) : Vec Ideal S1024x1024 .f32 :=
  fun y => ffn (fun j => x (ix2 (y 0) j)) (fun j => g (ix2 0 j)) (fun d j => w (ix2 d j)) (fun j e => wo (ix2 j e)) (y 1)

/-- The new rows of a window, normalised with the last row of gains. -/
def HO (x : Vec Ideal S1024x1024 .f32) (g : Vec Ideal S3x1024 .f32) (w : Vec Ideal S1024x5632 .bf16) (wo : Vec Ideal S2816x1024 .bf16) : Vec Ideal S1024x1024 .bf16 :=
  fun y => rms (fun e => ffn (fun j => x (ix2 (y 0) j)) (fun j => g (ix2 0 j)) (fun d j => w (ix2 d j)) (fun j e => wo (ix2 j e)) e)
    (fun j => g (ix2 2 j)) (y 1)

/-- The new rows at an index. -/
theorem xo_at (x : Vec Ideal S1024x1024 .f32) (g : Vec Ideal S3x1024 .f32) (w : Vec Ideal S1024x5632 .bf16) (wo : Vec Ideal S2816x1024 .bf16) (i e : Fin 1024) :
    XO x g w wo (ix2 i e) = ffn (fun j => x (ix2 i j)) (fun j => g (ix2 0 j)) (fun d j => w (ix2 d j)) (fun j e => wo (ix2 j e)) e := rfl

/-- The normalised new rows at an index. -/
theorem ho_at (x : Vec Ideal S1024x1024 .f32) (g : Vec Ideal S3x1024 .f32) (w : Vec Ideal S1024x5632 .bf16) (wo : Vec Ideal S2816x1024 .bf16) (i e : Fin 1024) :
    HO x g w wo (ix2 i e) = rms (fun e => ffn (fun j => x (ix2 i j)) (fun j => g (ix2 0 j)) (fun d j => w (ix2 d j)) (fun j e => wo (ix2 j e)) e)
      (fun j => g (ix2 2 j)) e := rfl

section
variable (x : Vec Ideal S1024x1024 .f32) (g : Vec Ideal S3x1024 .f32) (w : Vec Ideal S1024x5632 .bf16) (wo : Vec Ideal S2816x1024 .bf16)

/-- The block at `n` leaves its 256 new rows. -/
theorem rows_x (n : ℕ) (hn : n + 256 ≤ 1024) (hb) (y : S256x1024.Idx) :
    NEWX w wo (View.ld x (Rect.unit ![n, 0] ![256, 1024] hb : Rect S1024x1024)) (View.ld g r0_1) y
      = XO x g w wo ((Rect.unit ![n, 0] ![256, 1024] hb : Rect S1024x1024).emb y) := by
  idx_vars y
  have he : (Rect.unit ![n, 0] ![256, 1024] hb : Rect S1024x1024).emb (ix2 y0 y1) = ix2 ⟨n + y0.val, by omega⟩ y1 := by
    refine funext fun ax => Fin.ext ?_
    fin_cases ax <;> simp [Rect.unit, Rect.emb] <;> rfl
  rw [newx_at, he]
  have hg : ∀ e, View.ld g r0_1 (ix2 0 e) = g (ix2 0 e) := fun e => ld_gain g 0 _ e
  simp only [ld_rows x n hb y0 _ (by omega), hg]
  rfl

/-- The block at `n` leaves its 256 new rows normalised. -/
theorem rows_h (n : ℕ) (hn : n + 256 ≤ 1024) (hb) (y : S256x1024.Idx) :
    k0_pay14 (NEWX w wo (View.ld x (Rect.unit ![n, 0] ![256, 1024] hb : Rect S1024x1024)) (View.ld g r0_1)) (View.ld g r0_12) y
      = HO x g w wo ((Rect.unit ![n, 0] ![256, 1024] hb : Rect S1024x1024).emb y) := by
  idx_vars y
  have he : (Rect.unit ![n, 0] ![256, 1024] hb : Rect S1024x1024).emb (ix2 y0 y1) = ix2 ⟨n + y0.val, by omega⟩ y1 := by
    refine funext fun ax => Fin.ext ?_
    fin_cases ax <;> simp [Rect.unit, Rect.emb] <;> rfl
  rw [rms_at, he]
  have h0 : ∀ e, View.ld g r0_1 (ix2 0 e) = g (ix2 0 e) := fun e => ld_gain g 0 _ e
  have h2 : ∀ e, View.ld g r0_12 (ix2 0 e) = g (ix2 2 e) := fun e => ld_gain g 2 _ e
  simp only [newx_at, ld_rows x n hb y0 _ (by omega), h0, h2]
  rfl

/-- The first output window ends with the new rows. -/
theorem out_x (y : S1024x1024.Idx) : out0_4 x g w wo y = XO x g w wo y := by
  unfold_out out0_4
  refine View.canon_apply_of_pieces (XO x g w wo) _ ?_ y ?_
  · simp only [List.forall_mem_cons]
    exact ⟨fun y => rows_x x g w wo 768 (by norm_num) _ y, fun y => rows_x x g w wo 512 (by norm_num) _ y,
      fun y => rows_x x g w wo 256 (by norm_num) _ y, fun y => rows_x x g w wo 0 (by norm_num) _ y, by simp⟩
  · idx_vars y
    simp only [List.exists_mem_cons_iff, Rect.mem_set_unit, Fin.forall_fin_two]
    have := y0.isLt
    have := y1.isLt
    simp [-Fin.is_lt]
    omega

/-- The second output window ends with the new rows normalised. -/
theorem out_h (y : S1024x1024.Idx) : out0_5 x g w wo y = HO x g w wo y := by
  unfold_out out0_5
  refine View.canon_apply_of_pieces (HO x g w wo) _ ?_ y ?_
  · simp only [List.forall_mem_cons]
    exact ⟨fun y => rows_h x g w wo 768 (by norm_num) _ y, fun y => rows_h x g w wo 512 (by norm_num) _ y,
      fun y => rows_h x g w wo 256 (by norm_num) _ y, fun y => rows_h x g w wo 0 (by norm_num) _ y, by simp⟩
  · idx_vars y
    simp only [List.exists_mem_cons_iff, Rect.mem_set_unit, Fin.forall_fin_two]
    have := y0.isLt
    have := y1.isLt
    simp [-Fin.is_lt]
    omega
end

end Cert.FfnIdeal.Hand
-- ==== Proof.FfnArr.lean ====
module

public import proofs.«01_k».proof.Defs
public import proofs.«01_k».proof.Proof.FfnKernel

@[expose] public section

set_option maxRecDepth 16384
noncomputable section
open Idealize.ShloMosaic Idealize.ShloMosaic.TcCoe Idealize.SL.Sem
open Idealize.ShloMosaic.Pipeline (Dat)
open Cert.FfnMath
namespace Cert.FfnIdeal.Hand
open Cert.FfnIdeal Cert.FfnIdeal.Gen

variable (m : (ℓ : Loc nD τ sig) → Buf (Elt Ideal) ℓ)

/-! ## Where each window lies in its array -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem pts : ∀ t : Fin cfg0.N, t.val < 64 := (by decide +kernel : ∀ t : Fin grid0.N, _)

/-! What each window of a grid step holds, at an index. -/
theorem blk0 (c : Dev nD) (t : Fin cfg0.N) (i e : Fin 1024) :
    iblk m c 0 t (ix2 i e) = m (c, Proc.tc.devRef main_arg0) (ix2 ⟨t.val * 1024 + i.val, by have := pts t; omega⟩ e) := by
  have h : (win0_0.blk t).view.emb (ix2 i e) = ix2 ⟨t.val * 1024 + i.val, by have := pts t; omega⟩ e := by blk_ext [idx0]
  show V m c main_arg0 ((win0_0.blk t).view.emb (ix2 i e)) = _
  rw [h, V_main_arg0]

theorem blk1 (c : Dev nD) (t : Fin cfg0.N) (i : Fin 3) (e : Fin 1024) : iblk m c 1 t (ix2 i e) = m (c, Proc.tc.devRef main_arg1) (ix2 i e) := by
  have h : (win0_1.blk t).view.emb (ix2 i e) = ix2 i e := by blk_ext [idx1]
  show V m c main_arg1 ((win0_1.blk t).view.emb (ix2 i e)) = _
  rw [h, V_main_arg1]

theorem blk2 (c : Dev nD) (t : Fin cfg0.N) (i : Fin 1024) (e : Fin 5632) : iblk m c 2 t (ix2 i e) = m (c, Proc.tc.devRef main_arg2) (ix2 i e) := by
  have h : (win0_2.blk t).view.emb (ix2 i e) = ix2 i e := by blk_ext [idx2]
  show V m c main_arg2 ((win0_2.blk t).view.emb (ix2 i e)) = _
  rw [h, V_main_arg2]

theorem blk3 (c : Dev nD) (t : Fin cfg0.N) (i : Fin 2816) (e : Fin 1024) : iblk m c 3 t (ix2 i e) = m (c, Proc.tc.devRef main_arg3) (ix2 i e) := by
  have h : (win0_3.blk t).view.emb (ix2 i e) = ix2 i e := by blk_ext [idx3]
  show V m c main_arg3 ((win0_3.blk t).view.emb (ix2 i e)) = _
  rw [h, V_main_arg3]

/-! ## The two result arrays -/

/-- The array of new rows after the run. -/
theorem x_arr (c : Dev nD) : (dats m 0 c).arrAt 4 cfg0.N = XOUT (m (c, Proc.tc.devRef main_arg0)) (m (c, Proc.tc.devRef main_arg1))
    (m (c, Proc.tc.devRef main_arg2)) (m (c, Proc.tc.devRef main_arg3)) := by
  refine (dats m 0 c).arrAt_eq_of_covers 4 _ (by decide +kernel) fun t hf y => ?_
  have ht := pts t
  blk_simp
  rw [after0_4, out_x]
  idx_vars y
  have e : (win0_4.blk t).view.emb (ix2 y0 y1) = ix2 ⟨t.val * 1024 + y0.val, by omega⟩ y1 := by blk_ext [idx4]
  rw [e, xo_at]
  simp only [blk0, blk1, blk2, blk3]
  rfl

/-- The array of new normalised rows after the run. -/
theorem h_arr (c : Dev nD) : (dats m 0 c).arrAt 5 cfg0.N = HOUT (m (c, Proc.tc.devRef main_arg0)) (m (c, Proc.tc.devRef main_arg1))
    (m (c, Proc.tc.devRef main_arg2)) (m (c, Proc.tc.devRef main_arg3)) := by
  refine (dats m 0 c).arrAt_eq_of_covers 5 _ (by decide +kernel) fun t hf y => ?_
  have ht := pts t
  blk_simp
  rw [after0_5, out_h]
  idx_vars y
  have e : (win0_5.blk t).view.emb (ix2 y0 y1) = ix2 ⟨t.val * 1024 + y0.val, by omega⟩ y1 := by blk_ext [idx5]
  rw [e, ho_at]
  simp only [blk0, blk1, blk2, blk3]
  rfl

end Cert.FfnIdeal.Hand
-- ==== Proof.FfnRef.lean ====
module

public import proofs.«01_k».proof.Defs
public import proofs.«01_k».proof.Proof.Gen.FfnRefIdeal.Run
public import proofs.«01_k».proof.Proof.FfnMath
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem Idealize.ShloMosaic.StableHlo
open Cert.FfnMath
namespace Cert.FfnRefIdeal.Hand
open Cert.FfnRefIdeal Cert.FfnRefIdeal.Gen Cert.FfnRefIdeal.Value

/-- The rows over the roots of their mean squares. -/
def Nr (x : FVec Ideal S65536x1024 .f32) : FVec Ideal S65536x1024 .f32 :=
  mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))

/-- The rows scaled by a row of gains. -/
def Sc (x : FVec Ideal S65536x1024 .f32) (g : FVec Ideal S1x1024 .f32) : FVec Ideal S65536x1024 .f32 :=
  mulf x (broadcastInDim S65536x1024 ![0, 1] bcast_S1x1024_S65536x1024_0_1 (broadcastInDim S1x1024 ![1] bcast_S1024_S1x1024_1 (shapeCast _ g shapeCasts_S1x1024_S1024)))

/-- The rows times the input weights. -/
def Ln (h : FVec Ideal S65536x1024 .f32) (w : FVec Ideal S1024x5632 .bf16) : FVec Ideal S65536x5632 .f32 :=
  Host.dotGeneral dot_S65536x1024_S1024x5632_S65536x5632_1_0_0_1_n_n none h (extf .f32 w bitsLt_bf16_f32)

/-- The gated hidden units. -/
def Ac (z : FVec Ideal S65536x5632 .f32) : FVec Ideal S65536x2816 .f32 :=
  mulf (mulf (extractStridedSlice S65536x2816 ![0, 0] z slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] z slices_S65536x5632_S65536x2816_0_0)))))) (extractStridedSlice S65536x2816 ![0, 2816] z slices_S65536x5632_S65536x2816_0_2816)

/-- The rows and half the hidden units times the output weights. -/
def Fo (x : FVec Ideal S65536x1024 .f32) (a : FVec Ideal S65536x2816 .f32) (wo : FVec Ideal S2816x1024 .bf16) : FVec Ideal S65536x1024 .f32 :=
  addf x (mulf (broadcastInDim S65536x1024 ![] bcast_S_S65536x1024 (constant S_ .f32 0x3F000000#32)) (Host.dotGeneral dot_S65536x2816_S2816x1024_S65536x1024_1_0_0_1_n_n none a (extf .f32 wo bitsLt_bf16_f32)))

/-- The feed-forward half step by its parts. -/
def Ff (x : FVec Ideal S65536x1024 .f32) (g : FVec Ideal S1x1024 .f32) (w : FVec Ideal S1024x5632 .bf16) (wo : FVec Ideal S2816x1024 .bf16) : FVec Ideal S65536x1024 .f32 :=
  Fo x (Ac (Ln (Sc (Nr x) g) w)) wo

/-- `Nr` at an index. -/
theorem nr_at (x : FVec Ideal S65536x1024 .f32) (i : Fin 65536) (e : Fin 1024) :
    (Nr x (ix2 i e) : EReal) = (x (ix2 i e) : EReal) * Ideal.rsqrt (Ideal.div (∑ j, (x (ix2 i j) : EReal) * x (ix2 i j)) (Ideal.ofBits .f32 0x44800000#32) + Ideal.ofBits .f32 0x358637BD#32) := by
  unfold Nr
  pointwise

/-- `Sc` at an index. -/
theorem sc_at (x : FVec Ideal S65536x1024 .f32) (g : FVec Ideal S1x1024 .f32) (i : Fin 65536) (e : Fin 1024) :
    (Sc x g (ix2 i e) : EReal) = (x (ix2 i e) : EReal) * g (ix2 0 e) := by
  unfold Sc
  pointwise

/-- `Ln` at an index. -/
theorem ln_at (h : FVec Ideal S65536x1024 .f32) (w : FVec Ideal S1024x5632 .bf16) (i : Fin 65536) (j : Fin 5632) :
    (Ln h w (ix2 i j) : EReal) = lin (fun d => h (ix2 i d)) (fun d j => w (ix2 d j)) j := by
  unfold Ln lin
  pointwise

/-- `Ac` at an index. -/
theorem ac_at (z : FVec Ideal S65536x5632 .f32) (i : Fin 65536) (j : Fin 2816) :
    (Ac z (ix2 i j) : EReal) = (z (ix2 i ⟨j.val, by omega⟩) : EReal) * Ideal.logistic (z (ix2 i ⟨j.val, by omega⟩)) * z (ix2 i ⟨2816 + j.val, by omega⟩) := by
  unfold Ac Ideal.logistic
  rw [← one_bits]
  pointwise

/-- `Fo` at an index. -/
theorem fo_at (x : FVec Ideal S65536x1024 .f32) (a : FVec Ideal S65536x2816 .f32) (wo : FVec Ideal S2816x1024 .bf16) (i : Fin 65536) (e : Fin 1024) :
    (Fo x a wo (ix2 i e) : EReal) = (x (ix2 i e) : EReal) + Ideal.ofBits .f32 0x3F000000#32 * ∑ j, (a (ix2 i j) : EReal) * wo (ix2 j e) := by
  unfold Fo
  pointwise

/-- A normalised and scaled row at an index. -/
theorem rms_at (x : FVec Ideal S65536x1024 .f32) (g : FVec Ideal S1x1024 .f32) (i : Fin 65536) (e : Fin 1024) :
    (Sc (Nr x) g (ix2 i e) : EReal) = rms (fun j => x (ix2 i j)) (fun j => g (ix2 0 j)) e := by
  rw [sc_at, nr_at]
  rfl

/-- The feed-forward half step at an index. -/
theorem ff_at (x : FVec Ideal S65536x1024 .f32) (g : FVec Ideal S1x1024 .f32) (w : FVec Ideal S1024x5632 .bf16) (wo : FVec Ideal S2816x1024 .bf16) (i : Fin 65536) (e : Fin 1024) :
    (Ff x g w wo (ix2 i e) : EReal) = ffn (fun j => x (ix2 i j)) (fun j => g (ix2 0 j)) (fun d j => w (ix2 d j)) (fun j e => wo (ix2 j e)) e := by
  unfold Ff
  rw [fo_at]
  simp only [ac_at, ln_at, rms_at]
  rfl

/-- The first row of the gains. -/
theorem gain0_at (g : FVec Ideal S3x1024 .f32) (e : Fin 1024) :
    extractStridedSlice S1x1024 ![0, 0] g slices_S3x1024_S1x1024_0_0 (ix2 0 e) = g (ix2 0 e) := by
  pointwise

/-- The last row of the gains. -/
theorem gain2_at (g : FVec Ideal S3x1024 .f32) (e : Fin 1024) :
    extractStridedSlice S1x1024 ![2, 0] g slices_S3x1024_S1x1024_2_0 (ix2 0 e) = g (ix2 2 e) := by
  pointwise

/-- The new rows by parts are the new rows. -/
theorem x_parts (x : FVec Ideal S65536x1024 .f32) (g : FVec Ideal S3x1024 .f32) (w : FVec Ideal S1024x5632 .bf16) (wo : FVec Ideal S2816x1024 .bf16) :
    Ff x (extractStridedSlice S1x1024 ![0, 0] g slices_S3x1024_S1x1024_0_0) w wo = XOUT x g w wo := by
  funext y
  idx_vars y
  refine (ff_at _ _ _ _ y0 y1).trans ?_
  simp only [gain0_at]
  rfl

/-- The normalised new rows by parts are the normalised new rows. -/
theorem h_parts (x : FVec Ideal S65536x1024 .f32) (g : FVec Ideal S3x1024 .f32) (w : FVec Ideal S1024x5632 .bf16) (wo : FVec Ideal S2816x1024 .bf16) :
    truncf .bf16 (Sc (Nr (Ff x (extractStridedSlice S1x1024 ![0, 0] g slices_S3x1024_S1x1024_0_0) w wo)) (extractStridedSlice S1x1024 ![2, 0] g slices_S3x1024_S1x1024_2_0)) bitsLt_bf16_f32
      = HOUT x g w wo := by
  funext y
  idx_vars y
  refine (rms_at _ _ y0 y1).trans ?_
  simp only [ff_at, gain0_at, gain2_at]
  rfl

section
variable (m : (ℓ : Loc nD τ sig) → Buf (Elt Ideal) ℓ)

/-- The normalised rows the program returns. -/
theorem h_ref (c : Dev nD) : res_out1 m c = HOUT (m (c, Proc.tc.devRef main_arg0)) (m (c, Proc.tc.devRef main_arg1))
    (m (c, Proc.tc.devRef main_arg2)) (m (c, Proc.tc.devRef main_arg3)) := by
  rw [← h_parts]
  rfl

end
end Cert.FfnRefIdeal.Hand
-- ==== Proof.FfnPair.lean ====
module

public import proofs.«01_k».proof.Defs
public import proofs.«01_k».proof.Proof.Gen.Ffn.Frame
public import proofs.«01_k».proof.Proof.Gen.FfnIdeal.Value
public import proofs.«01_k».proof.Proof.FfnArr
public import proofs.«01_k».proof.Proof.FfnRef
public import Idealize.ShloMosaic.Lib.Quiescent

@[expose] public section

noncomputable section
open Idealize.ShloMosaic Idealize.SL.Sem Cert.FfnMath
namespace Cert.FfnPair

/-- The feed-forward reference ends with its arguments unchanged and its counters at zero. -/
theorem frame_ref :
    Cert.quiescent_FfnRefIdeal (hFfnRefIdeal := Cert.FfnRefIdeal.Gen.facts) := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The feed-forward kernel and its reference end with the same rows and the same normalised rows. -/
theorem value : Cert.algebraic_FfnIdeal_FfnRefIdeal (hFfnIdeal := Cert.FfnIdeal.Gen.facts) (hFfnRefIdeal := Cert.FfnRefIdeal.Gen.facts) := by
  intro m g m' g' _ agree
  refine ⟨_, _, Cert.FfnIdeal.Value.run_blocks (F := Ideal) m g, ?_⟩
  refine (θ_run Cert.FfnRefIdeal.defs _ _).mono (fun r h c => ?_) (Cert.FfnRefIdeal.Value.run (F := Ideal) m' g')
  obtain ⟨a0, a1, a2, a3⟩ := agree c
  obtain ⟨h0, h1, h2⟩ := h c
  refine ⟨h0.trans ?_, h1.trans ?_, h2⟩
  · refine (Cert.FfnRefIdeal.Hand.x_parts _ _ _ _).trans (Eq.trans ?_ (Cert.FfnIdeal.Hand.x_arr m c).symm)
    exact congr (congr (congr (congrArg XOUT a0) a1) a2) a3
  · refine (Cert.FfnRefIdeal.Hand.h_ref m' c).trans (Eq.trans ?_ (Cert.FfnIdeal.Hand.h_arr m c).symm)
    exact congr (congr (congr (congrArg HOUT a0) a1) a2) a3

end Cert.FfnPair
-- ==== Proof.MixKernel.lean ====
module

public import proofs.«01_k».proof.Defs
public import proofs.«01_k».proof.Proof.Gen.MixIdeal.Value
public import proofs.«01_k».proof.Proof.FfnKernel

@[expose] public section

set_option maxRecDepth 16384
noncomputable section
open Idealize.ShloMosaic Idealize.ShloMosaic.TcCoe Idealize.SL.Sem
open Idealize.ShloMosaic.Pipeline (Dat)
open Cert.FfnMath
open Cert.FfnIdeal.Hand (NEWX newx_at ld_rows ld_gain)
namespace Cert.MixIdeal.Hand
open Cert.MixIdeal Cert.MixIdeal.Gen

theorem ld_att (o : Vec Ideal S1024x2048 .bf16) (n : ℕ) (hb) (i : Fin 256) (e : Fin 2048) (hn : n + i.val < 1024) :
    View.ld o (Rect.unit ![n, 0] ![256, 2048] hb : Rect S1024x2048) (ix2 i e) = o (ix2 ⟨n + i.val, hn⟩ e) := by
  refine congrArg o (funext fun ax => Fin.ext ?_)
  fin_cases ax <;> simp [Rect.unit, Rect.emb] <;> rfl

theorem ld_proj (p : Vec Ideal S2048x1024 .bf16) (d : Fin 2048) (e : Fin 1024) : View.ld p r0_2 (ix2 d e) = p (ix2 d e) := by
  refine congrArg p (funext fun ax => Fin.ext ?_)
  fin_cases ax <;> simp [Rect.unit, Rect.emb] <;> rfl

/-- The rows with the projected attention output added, at an index. -/
theorem mix_at (x : Vec Ideal S256x1024 .f32) (o : Vec Ideal S256x2048 .bf16) (p : Vec Ideal S2048x1024 .bf16) (i : Fin 256) (e : Fin 1024) :
    k0_pay10 x o p (ix2 i e) = mix (fun j => x (ix2 i j)) (fun d => o (ix2 i d)) (fun d j => p (ix2 d j)) e := by
  unfold mix
  pointwise [k0_pay10]

/-- The last norm at an index. -/
theorem norm_at (x : FVec Ideal S256x1024 .f32) (g : Vec Ideal S1x1024 .f32) (i : Fin 256) (e : Fin 1024) :
    k0_pay19 x g (ix2 i e) = rms (fun j => x (ix2 i j)) (fun j => g (ix2 0 j)) e := by
  unfold rms
  pointwise [k0_pay19]

/-- A block's rows after the attention output, the feed-forward and the last norm. -/
abbrev LAST (p : Vec Ideal S2048x1024 .bf16) (g : Vec Ideal S3x1024 .f32) (w : Vec Ideal S1024x5632 .bf16) (wo : Vec Ideal S2816x1024 .bf16)
    (x : Vec Ideal S256x1024 .f32) (o : Vec Ideal S256x2048 .bf16) : Vec Ideal S256x1024 .f32 :=
  k0_pay19 (NEWX w wo (k0_pay10 x o (View.ld p r0_2)) (View.ld g r0_3)) (View.ld g r0_15)

/-- The rows of a window of 1024 rows, after all of it. -/
def MO (x : Vec Ideal S1024x1024 .f32) (o : Vec Ideal S1024x2048 .bf16) (p : Vec Ideal S2048x1024 .bf16) (g : Vec Ideal S3x1024 .f32)
    (w : Vec Ideal S1024x5632 .bf16) (wo : Vec Ideal S2816x1024 .bf16) : Vec Ideal S1024x1024 .f32 := fun y =>
  rms (fun e => ffn (fun a => mix (fun j => x (ix2 (y 0) j)) (fun d => o (ix2 (y 0) d)) (fun d j => p (ix2 d j)) a)
    (fun j => g (ix2 0 j)) (fun d j => w (ix2 d j)) (fun j e => wo (ix2 j e)) e) (fun j => g (ix2 1 j)) (y 1)

section
variable (x : Vec Ideal S1024x1024 .f32) (o : Vec Ideal S1024x2048 .bf16) (p : Vec Ideal S2048x1024 .bf16) (g : Vec Ideal S3x1024 .f32)
  (w : Vec Ideal S1024x5632 .bf16) (wo : Vec Ideal S2816x1024 .bf16)

/-- Those rows at an index. -/
theorem mo_at (i e : Fin 1024) : MO x o p g w wo (ix2 i e) =
    rms (fun e => ffn (fun a => mix (fun j => x (ix2 i j)) (fun d => o (ix2 i d)) (fun d j => p (ix2 d j)) a)
      (fun j => g (ix2 0 j)) (fun d j => w (ix2 d j)) (fun j e => wo (ix2 j e)) e) (fun j => g (ix2 1 j)) e := rfl

/-- The block at `n` leaves its 256 rows. -/
theorem rows_m (n : ℕ) (hn : n + 256 ≤ 1024) (hb) (hb') (y : S256x1024.Idx) :
    LAST p g w wo (View.ld x (Rect.unit ![n, 0] ![256, 1024] hb : Rect S1024x1024)) (View.ld o (Rect.unit ![n, 0] ![256, 2048] hb' : Rect S1024x2048)) y
      = MO x o p g w wo ((Rect.unit ![n, 0] ![256, 1024] hb : Rect S1024x1024).emb y) := by
  idx_vars y
  have he : (Rect.unit ![n, 0] ![256, 1024] hb : Rect S1024x1024).emb (ix2 y0 y1) = ix2 ⟨n + y0.val, by omega⟩ y1 := by
    refine funext fun ax => Fin.ext ?_
    fin_cases ax <;> simp [Rect.unit, Rect.emb] <;> rfl
  have h0 : ∀ e, View.ld g r0_3 (ix2 0 e) = g (ix2 0 e) := fun e => ld_gain g 0 _ e
  have h1 : ∀ e, View.ld g r0_15 (ix2 0 e) = g (ix2 1 e) := fun e => ld_gain g 1 _ e
  have hx : ∀ e, View.ld x (Rect.unit ![n, 0] ![256, 1024] hb : Rect S1024x1024) (ix2 y0 e) = x (ix2 ⟨n + y0.val, by omega⟩ e) := fun e => ld_rows x n hb y0 e _
  have hp : ∀ d e, View.ld p r0_2 (ix2 d e) = p (ix2 d e) := fun d e => ld_proj p d e
  have hN := fun X G e => newx_at w wo X G y0 e
  unfold LAST
  rw [norm_at, he, mo_at]
  simp only [hN, mix_at, hx, ld_att o n hb' y0 _ (by omega), hp, h0, h1]

/-- The output window ends with those rows. -/
theorem out_m (y : S1024x1024.Idx) : out0_6 x o p g w wo y = MO x o p g w wo y := by
  unfold_out out0_6
  refine View.canon_apply_of_pieces (MO x o p g w wo) _ ?_ y ?_
  · simp only [List.forall_mem_cons]
    exact ⟨fun y => rows_m x o p g w wo 768 (by norm_num) _ _ y, fun y => rows_m x o p g w wo 512 (by norm_num) _ _ y,
      fun y => rows_m x o p g w wo 256 (by norm_num) _ _ y, fun y => rows_m x o p g w wo 0 (by norm_num) _ _ y, by simp⟩
  · idx_vars y
    simp only [List.exists_mem_cons_iff, Rect.mem_set_unit, Fin.forall_fin_two]
    have := y0.isLt
    have := y1.isLt
    simp [-Fin.is_lt]
    omega
end

end Cert.MixIdeal.Hand
-- ==== Proof.MixArr.lean ====
module

public import proofs.«01_k».proof.Defs
public import proofs.«01_k».proof.Proof.MixKernel

@[expose] public section

set_option maxRecDepth 16384
noncomputable section
open Idealize.ShloMosaic Idealize.ShloMosaic.TcCoe Idealize.SL.Sem
open Idealize.ShloMosaic.Pipeline (Dat)
open Cert.FfnMath
namespace Cert.MixIdeal.Hand
open Cert.MixIdeal Cert.MixIdeal.Gen

variable (m : (ℓ : Loc nD τ sig) → Buf (Elt Ideal) ℓ)

/-! ## Where each window lies in its array -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem pts : ∀ t : Fin cfg0.N, t.val < 64 := (by decide +kernel : ∀ t : Fin grid0.N, _)

/-! What each window of a grid step holds, at an index. -/
theorem blk0 (c : Dev nD) (t : Fin cfg0.N) (i : Fin 1024) (e : Fin 1024) :
    iblk m c 0 t (ix2 i e) = m (c, Proc.tc.devRef main_arg0) (ix2 ⟨t.val * 1024 + i.val, by have := pts t; omega⟩ e) := by
  have h : (win0_0.blk t).view.emb (ix2 i e) = ix2 ⟨t.val * 1024 + i.val, by have := pts t; omega⟩ e := by blk_ext [idx0]
  show V m c main_arg0 ((win0_0.blk t).view.emb (ix2 i e)) = _
  rw [h, V_main_arg0]

theorem blk1 (c : Dev nD) (t : Fin cfg0.N) (i : Fin 1024) (e : Fin 2048) :
    iblk m c 1 t (ix2 i e) = m (c, Proc.tc.devRef main_arg1) (ix2 ⟨t.val * 1024 + i.val, by have := pts t; omega⟩ e) := by
  have h : (win0_1.blk t).view.emb (ix2 i e) = ix2 ⟨t.val * 1024 + i.val, by have := pts t; omega⟩ e := by blk_ext [idx1]
  show V m c main_arg1 ((win0_1.blk t).view.emb (ix2 i e)) = _
  rw [h, V_main_arg1]

theorem blk2 (c : Dev nD) (t : Fin cfg0.N) (i : Fin 2048) (e : Fin 1024) : iblk m c 2 t (ix2 i e) = m (c, Proc.tc.devRef main_arg2) (ix2 i e) := by
  have h : (win0_2.blk t).view.emb (ix2 i e) = ix2 i e := by blk_ext [idx2]
  show V m c main_arg2 ((win0_2.blk t).view.emb (ix2 i e)) = _
  rw [h, V_main_arg2]

theorem blk3 (c : Dev nD) (t : Fin cfg0.N) (i : Fin 3) (e : Fin 1024) : iblk m c 3 t (ix2 i e) = m (c, Proc.tc.devRef main_arg3) (ix2 i e) := by
  have h : (win0_3.blk t).view.emb (ix2 i e) = ix2 i e := by blk_ext [idx3]
  show V m c main_arg3 ((win0_3.blk t).view.emb (ix2 i e)) = _
  rw [h, V_main_arg3]

theorem blk4 (c : Dev nD) (t : Fin cfg0.N) (i : Fin 1024) (e : Fin 5632) : iblk m c 4 t (ix2 i e) = m (c, Proc.tc.devRef main_arg4) (ix2 i e) := by
  have h : (win0_4.blk t).view.emb (ix2 i e) = ix2 i e := by blk_ext [idx4]
  show V m c main_arg4 ((win0_4.blk t).view.emb (ix2 i e)) = _
  rw [h, V_main_arg4]

theorem blk5 (c : Dev nD) (t : Fin cfg0.N) (i : Fin 2816) (e : Fin 1024) : iblk m c 5 t (ix2 i e) = m (c, Proc.tc.devRef main_arg5) (ix2 i e) := by
  have h : (win0_5.blk t).view.emb (ix2 i e) = ix2 i e := by blk_ext [idx5]
  show V m c main_arg5 ((win0_5.blk t).view.emb (ix2 i e)) = _
  rw [h, V_main_arg5]

/-! ## The result array -/

/-- The array of rows after the run. -/
theorem m_arr (c : Dev nD) : (dats m 0 c).arrAt 6 cfg0.N = MOUT (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5)) := by
  refine (dats m 0 c).arrAt_eq_of_covers 6 _ (by decide +kernel) fun t hf y => ?_
  have ht := pts t
  blk_simp
  rw [after0_6, out_m]
  idx_vars y
  have e : (win0_6.blk t).view.emb (ix2 y0 y1) = ix2 ⟨t.val * 1024 + y0.val, by omega⟩ y1 := by blk_ext [idx6]
  rw [e, mo_at]
  simp only [blk0, blk1, blk2, blk3, blk4, blk5]
  rfl

end Cert.MixIdeal.Hand
-- ==== Proof.MixRef.lean ====
module

public import proofs.«01_k».proof.Defs
public import proofs.«01_k».proof.Proof.Gen.MixRefIdeal.Run
public import proofs.«01_k».proof.Proof.FfnRef

@[expose] public section

set_option maxRecDepth 16384
noncomputable section
open Idealize.ShloMosaic Idealize.ShloMosaic.TcCoe Idealize.SL.Sem Idealize.ShloMosaic.StableHlo
open Cert.FfnMath
open Cert.FfnRefIdeal.Hand (Nr Sc Ff ff_at rms_at gain0_at)
namespace Cert.MixRefIdeal.Hand
open Cert.MixRefIdeal Cert.MixRefIdeal.Gen Cert.MixRefIdeal.Value

/-- The rows with the projected attention output added. -/
def Mx (x : FVec Ideal S65536x1024 .f32) (o : FVec Ideal S65536x2048 .bf16) (p : FVec Ideal S2048x1024 .bf16) : FVec Ideal S65536x1024 .f32 :=
  addf x (Host.dotGeneral dot_S65536x2048_S2048x1024_S65536x1024_1_0_0_1_n_n none (extf .f32 o bitsLt_bf16_f32) (extf .f32 p bitsLt_bf16_f32))

/-- `Mx` at an index. -/
theorem mx_at (x : FVec Ideal S65536x1024 .f32) (o : FVec Ideal S65536x2048 .bf16) (p : FVec Ideal S2048x1024 .bf16) (i : Fin 65536) (e : Fin 1024) :
    (Mx x o p (ix2 i e) : EReal) = mix (fun j => x (ix2 i j)) (fun d => o (ix2 i d)) (fun d j => p (ix2 d j)) e := by
  unfold Mx mix
  pointwise

/-- The second row of the gains. -/
theorem gain1_at (g : FVec Ideal S3x1024 .f32) (e : Fin 1024) :
    extractStridedSlice S1x1024 ![1, 0] g slices_S3x1024_S1x1024_1_0 (ix2 0 e) = g (ix2 1 e) := by
  pointwise

/-- The rows by parts are the rows. -/
theorem m_parts (x : FVec Ideal S65536x1024 .f32) (o : FVec Ideal S65536x2048 .bf16) (p : FVec Ideal S2048x1024 .bf16) (g : FVec Ideal S3x1024 .f32)
    (w : FVec Ideal S1024x5632 .bf16) (wo : FVec Ideal S2816x1024 .bf16) :
    Sc (Nr (Ff (Mx x o p) (extractStridedSlice S1x1024 ![0, 0] g slices_S3x1024_S1x1024_0_0) w wo)) (extractStridedSlice S1x1024 ![1, 0] g slices_S3x1024_S1x1024_1_0)
      = MOUT x o p g w wo := by
  funext y
  idx_vars y
  refine (rms_at _ _ y0 y1).trans ?_
  have hg := fun e => gain0_at g e
  simp only [ff_at, mx_at, gain1_at]
  simp only [hg]
  rfl

section
variable (m : (ℓ : Loc nD τ sig) → Buf (Elt Ideal) ℓ)

/-- The rows the program returns. -/
theorem m_ref (c : Dev nD) : res_main_v44 m c = MOUT (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5)) := by
  rw [← m_parts]
  rfl

end
end Cert.MixRefIdeal.Hand
-- ==== Proof.MixPair.lean ====
module

public import proofs.«01_k».proof.Defs
public import proofs.«01_k».proof.Proof.Gen.Mix.Frame
public import proofs.«01_k».proof.Proof.Gen.MixIdeal.Value
public import proofs.«01_k».proof.Proof.MixArr
public import proofs.«01_k».proof.Proof.MixRef
public import Idealize.ShloMosaic.Lib.Quiescent

@[expose] public section

noncomputable section
open Idealize.ShloMosaic Idealize.SL.Sem Cert.FfnMath
namespace Cert.MixPair

/-- The out-projection and feed-forward reference ends with its arguments unchanged and its counters at zero. -/
theorem frame_ref :
    Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩)
    (Cert.MixRefIdeal.Value.run (F := Ideal) m ρ)

/-- The out-projection and feed-forward kernel and its reference end with the same rows. -/
theorem value : Cert.algebraic_MixIdeal_MixRefIdeal (hMixIdeal := Cert.MixIdeal.Gen.facts) (hMixRefIdeal := Cert.MixRefIdeal.Gen.facts) := by
  intro m g m' g' _ agree
  refine ⟨_, Cert.MixIdeal.Value.run_blocks (F := Ideal) m g, ?_⟩
  refine (θ_run Cert.MixRefIdeal.defs _ _).mono (fun r h c => ?_) (Cert.MixRefIdeal.Value.run (F := Ideal) m' g')
  obtain ⟨a0, a1, a2, a3, a4, a5⟩ := agree c
  obtain ⟨h0, h1⟩ := h c
  refine ⟨h0.trans ?_, h1⟩
  refine (Cert.MixRefIdeal.Hand.m_ref m' c).trans (Eq.trans ?_ (Cert.MixIdeal.Hand.m_arr m c).symm)
  exact congr (congr (congr (congr (congr (congrArg MOUT a0) a1) a2) a3) a4) a5

end Cert.MixPair
-- ==== Proof.OutKernel.lean ====
module

public import proofs.«01_k».proof.Defs
public import proofs.«01_k».proof.Proof.Gen.OutIdeal.Value
public import proofs.«01_k».proof.Proof.MixKernel

@[expose] public section

set_option maxRecDepth 16384
noncomputable section
open Idealize.ShloMosaic Idealize.ShloMosaic.TcCoe Idealize.SL.Sem
open Idealize.ShloMosaic.Pipeline (Dat)
open Cert.FfnMath
open Cert.FfnIdeal.Hand (NEWX newx_at ld_rows ld_gain)
open Cert.MixIdeal.Hand (norm_at)
namespace Cert.OutIdeal.Hand
open Cert.OutIdeal Cert.OutIdeal.Gen

theorem ld_x (x : Vec Ideal S1024x1024 .f32) (n : ℕ) (hb) (i : Fin 256) (e : Fin 1024) (hn : n + i.val < 1024) :
    View.ld x (Rect.unit ![n, 0] ![256, 1024] hb : Rect S1024x1024) (ix2 i e) = x (ix2 ⟨n + i.val, hn⟩ e) := by
  refine congrArg x (funext fun ax => Fin.ext ?_)
  fin_cases ax <;> simp [Rect.unit, Rect.emb] <;> rfl

theorem ld_o (o : Vec Ideal S1024x1024 .bf16) (n : ℕ) (hb) (i : Fin 256) (e : Fin 1024) (hn : n + i.val < 1024) :
    View.ld o (Rect.unit ![n, 0] ![256, 1024] hb : Rect S1024x1024) (ix2 i e) = o (ix2 ⟨n + i.val, hn⟩ e) := by
  refine congrArg o (funext fun ax => Fin.ext ?_)
  fin_cases ax <;> simp [Rect.unit, Rect.emb] <;> rfl

theorem ld_proj (p : Vec Ideal S1024x1024 .bf16) (d e : Fin 1024) : View.ld p r0_1 (ix2 d e) = p (ix2 d e) := by
  refine congrArg p (funext fun ax => Fin.ext ?_)
  fin_cases ax <;> simp [Rect.unit, Rect.emb] <;> rfl

/-- The rows with the projected attention output added, at an index. -/
theorem mix_at (x : Vec Ideal S256x1024 .f32) (o : Vec Ideal S256x1024 .bf16) (p : Vec Ideal S1024x1024 .bf16) (i : Fin 256) (e : Fin 1024) :
    k0_pay10 x o p (ix2 i e) = mix (fun j => x (ix2 i j)) (fun d => o (ix2 i d)) (fun d j => p (ix2 d j)) e := by
  unfold mix
  pointwise [k0_pay10]

/-- A block's rows after the attention output, the feed-forward and the last norm. -/
abbrev LAST (p : Vec Ideal S1024x1024 .bf16) (g : Vec Ideal S3x1024 .f32) (w : Vec Ideal S1024x5632 .bf16) (wo : Vec Ideal S2816x1024 .bf16)
    (x : Vec Ideal S256x1024 .f32) (o : Vec Ideal S256x1024 .bf16) : Vec Ideal S256x1024 .f32 :=
  Cert.MixIdeal.Gen.k0_pay19 (NEWX w wo (k0_pay10 x o (View.ld p r0_1)) (View.ld g r0_2)) (View.ld g r0_13)

section
variable (x : Vec Ideal S1024x1024 .f32) (o : Vec Ideal S1024x1024 .bf16) (p : Vec Ideal S1024x1024 .bf16) (g : Vec Ideal S3x1024 .f32)
  (w : Vec Ideal S1024x5632 .bf16) (wo : Vec Ideal S2816x1024 .bf16)

/-- The rows of a window of 1024 rows. -/
def MO : Vec Ideal S1024x1024 .f32 := MOUT (n := 1024) (k := 1024) x o p g w wo

/-- A window's rows at an index. -/
theorem mo_at (i : Fin 1024) (e : Fin 1024) : MO x o p g w wo (ix2 i e) =
    rms (fun e => ffn (fun a => mix (fun j => x (ix2 i j)) (fun d => o (ix2 i d)) (fun d j => p (ix2 d j)) a)
      (fun j => g (ix2 0 j)) (fun d j => w (ix2 d j)) (fun j e => wo (ix2 j e)) e) (fun j => g (ix2 1 j)) e := rfl

/-- The block at `n` leaves its 256 rows. -/
theorem rows_m (n : ℕ) (hn : n + 256 ≤ 1024) (hb) (hb') (y : S256x1024.Idx) :
    LAST p g w wo (View.ld x (Rect.unit ![n, 0] ![256, 1024] hb : Rect S1024x1024)) (View.ld o (Rect.unit ![n, 0] ![256, 1024] hb' : Rect S1024x1024)) y
      = MO x o p g w wo ((Rect.unit ![n, 0] ![256, 1024] hb : Rect S1024x1024).emb y) := by
  idx_vars y
  have he : (Rect.unit ![n, 0] ![256, 1024] hb : Rect S1024x1024).emb (ix2 y0 y1) = ix2 ⟨n + y0.val, by omega⟩ y1 := by
    refine funext fun ax => Fin.ext ?_
    fin_cases ax <;> simp [Rect.unit, Rect.emb] <;> rfl
  have h0 : ∀ e, View.ld g r0_2 (ix2 0 e) = g (ix2 0 e) := fun e => ld_gain g 0 _ e
  have h1 : ∀ e, View.ld g r0_13 (ix2 0 e) = g (ix2 1 e) := fun e => ld_gain g 1 _ e
  have hx : ∀ e, View.ld x (Rect.unit ![n, 0] ![256, 1024] hb : Rect S1024x1024) (ix2 y0 e) = x (ix2 ⟨n + y0.val, by omega⟩ e) := fun e => ld_x x n hb y0 e _
  have ho : ∀ e, View.ld o (Rect.unit ![n, 0] ![256, 1024] hb' : Rect S1024x1024) (ix2 y0 e) = o (ix2 ⟨n + y0.val, by omega⟩ e) := fun e => ld_o o n hb' y0 e _
  have hp : ∀ d e, View.ld p r0_1 (ix2 d e) = p (ix2 d e) := fun d e => ld_proj p d e
  have hN := fun X G e => newx_at w wo X G y0 e
  unfold LAST
  refine (norm_at _ _ y0 y1).trans ?_
  rw [he, mo_at]
  simp only [hN, mix_at, hx, ho, hp, h0, h1]

/-- The output window ends with those rows. -/
theorem out_m (y : S1024x1024.Idx) : out0_6 x o p g w wo y = MO x o p g w wo y := by
  unfold_out out0_6
  refine View.canon_apply_of_pieces (MO x o p g w wo) _ ?_ y ?_
  · simp only [List.forall_mem_cons]
    exact ⟨fun y => rows_m x o p g w wo 768 (by norm_num) _ _ y,
      fun y => rows_m x o p g w wo 512 (by norm_num) _ _ y,
      fun y => rows_m x o p g w wo 256 (by norm_num) _ _ y,
      fun y => rows_m x o p g w wo 0 (by norm_num) _ _ y, by simp⟩
  · idx_vars y
    simp only [List.exists_mem_cons_iff, Rect.mem_set_unit, Fin.forall_fin_two]
    have := y0.isLt
    have := y1.isLt
    simp [-Fin.is_lt]
    omega
end

end Cert.OutIdeal.Hand
-- ==== Proof.OutArr.lean ====
module

public import proofs.«01_k».proof.Defs
public import proofs.«01_k».proof.Proof.OutKernel

@[expose] public section

set_option maxRecDepth 16384
noncomputable section
open Idealize.ShloMosaic Idealize.ShloMosaic.TcCoe Idealize.SL.Sem
open Idealize.ShloMosaic.Pipeline (Dat)
open Cert.FfnMath
namespace Cert.OutIdeal.Hand
open Cert.OutIdeal Cert.OutIdeal.Gen

variable (m : (ℓ : Loc nD τ sig) → Buf (Elt Ideal) ℓ)

/-! ## Where each window lies in its array -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem pts : ∀ t : Fin cfg0.N, t.val < 64 := (by decide +kernel : ∀ t : Fin grid0.N, _)

/-! What each window of a grid step holds, at an index. -/
theorem blk0 (c : Dev nD) (t : Fin cfg0.N) (i : Fin 1024) (e : Fin 1024) :
    iblk m c 0 t (ix2 i e) = m (c, Proc.tc.devRef main_arg0) (ix2 ⟨t.val * 1024 + i.val, by have := pts t; omega⟩ e) := by
  have h : (win0_0.blk t).view.emb (ix2 i e) = ix2 ⟨t.val * 1024 + i.val, by have := pts t; omega⟩ e := by blk_ext [idx0]
  show V m c main_arg0 ((win0_0.blk t).view.emb (ix2 i e)) = _
  rw [h, V_main_arg0]

theorem blk1 (c : Dev nD) (t : Fin cfg0.N) (i : Fin 1024) (e : Fin 1024) :
    iblk m c 1 t (ix2 i e) = m (c, Proc.tc.devRef main_arg1) (ix2 ⟨t.val * 1024 + i.val, by have := pts t; omega⟩ e) := by
  have h : (win0_1.blk t).view.emb (ix2 i e) = ix2 ⟨t.val * 1024 + i.val, by have := pts t; omega⟩ e := by blk_ext [idx1]
  show V m c main_arg1 ((win0_1.blk t).view.emb (ix2 i e)) = _
  rw [h, V_main_arg1]

theorem blk2 (c : Dev nD) (t : Fin cfg0.N) (i : Fin 1024) (e : Fin 1024) : iblk m c 2 t (ix2 i e) = m (c, Proc.tc.devRef main_arg2) (ix2 i e) := by
  have h : (win0_2.blk t).view.emb (ix2 i e) = ix2 i e := by blk_ext [idx2]
  show V m c main_arg2 ((win0_2.blk t).view.emb (ix2 i e)) = _
  rw [h, V_main_arg2]

theorem blk3 (c : Dev nD) (t : Fin cfg0.N) (i : Fin 3) (e : Fin 1024) : iblk m c 3 t (ix2 i e) = m (c, Proc.tc.devRef main_arg3) (ix2 i e) := by
  have h : (win0_3.blk t).view.emb (ix2 i e) = ix2 i e := by blk_ext [idx3]
  show V m c main_arg3 ((win0_3.blk t).view.emb (ix2 i e)) = _
  rw [h, V_main_arg3]

theorem blk4 (c : Dev nD) (t : Fin cfg0.N) (i : Fin 1024) (e : Fin 5632) : iblk m c 4 t (ix2 i e) = m (c, Proc.tc.devRef main_arg4) (ix2 i e) := by
  have h : (win0_4.blk t).view.emb (ix2 i e) = ix2 i e := by blk_ext [idx4]
  show V m c main_arg4 ((win0_4.blk t).view.emb (ix2 i e)) = _
  rw [h, V_main_arg4]

theorem blk5 (c : Dev nD) (t : Fin cfg0.N) (i : Fin 2816) (e : Fin 1024) : iblk m c 5 t (ix2 i e) = m (c, Proc.tc.devRef main_arg5) (ix2 i e) := by
  have h : (win0_5.blk t).view.emb (ix2 i e) = ix2 i e := by blk_ext [idx5]
  show V m c main_arg5 ((win0_5.blk t).view.emb (ix2 i e)) = _
  rw [h, V_main_arg5]

/-! ## The result array -/

/-- The array of rows after the run. -/
theorem m_arr (c : Dev nD) : (dats m 0 c).arrAt 6 cfg0.N = MOUT (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5)) := by
  refine (dats m 0 c).arrAt_eq_of_covers 6 _ (by decide +kernel) fun t hf y => ?_
  have ht := pts t
  blk_simp
  rw [after0_6, out_m]
  idx_vars y
  have e : (win0_6.blk t).view.emb (ix2 y0 y1) = ix2 ⟨t.val * 1024 + y0.val, by omega⟩ y1 := by blk_ext [idx6]
  rw [e, mo_at]
  simp only [blk0, blk1, blk2, blk3, blk4, blk5]
  rfl

end Cert.OutIdeal.Hand
-- ==== Proof.OutRef.lean ====
module

public import proofs.«01_k».proof.Defs
public import proofs.«01_k».proof.Proof.Gen.OutRefIdeal.Run
public import proofs.«01_k».proof.Proof.FfnRef

@[expose] public section

set_option maxRecDepth 16384
noncomputable section
open Idealize.ShloMosaic Idealize.ShloMosaic.TcCoe Idealize.SL.Sem Idealize.ShloMosaic.StableHlo
open Cert.FfnMath
open Cert.FfnRefIdeal.Hand (Nr Sc Ff ff_at rms_at gain0_at)
namespace Cert.OutRefIdeal.Hand
open Cert.OutRefIdeal Cert.OutRefIdeal.Gen Cert.OutRefIdeal.Value

/-- The rows with the projected attention output added. -/
def Mx (x : FVec Ideal S65536x1024 .f32) (o : FVec Ideal S65536x1024 .bf16) (p : FVec Ideal S1024x1024 .bf16) : FVec Ideal S65536x1024 .f32 :=
  addf x (Host.dotGeneral dot_S65536x1024_S1024x1024_S65536x1024_1_0_0_1_n_n none (extf .f32 o bitsLt_bf16_f32) (extf .f32 p bitsLt_bf16_f32))

/-- `Mx` at an index. -/
theorem mx_at (x : FVec Ideal S65536x1024 .f32) (o : FVec Ideal S65536x1024 .bf16) (p : FVec Ideal S1024x1024 .bf16) (i : Fin 65536) (e : Fin 1024) :
    (Mx x o p (ix2 i e) : EReal) = mix (fun j => x (ix2 i j)) (fun d => o (ix2 i d)) (fun d j => p (ix2 d j)) e := by
  unfold Mx mix
  pointwise

/-- The second row of the gains. -/
theorem gain1_at (g : FVec Ideal S3x1024 .f32) (e : Fin 1024) :
    extractStridedSlice S1x1024 ![1, 0] g slices_S3x1024_S1x1024_1_0 (ix2 0 e) = g (ix2 1 e) := by
  pointwise

/-- The rows by parts are the rows. -/
theorem m_parts (x : FVec Ideal S65536x1024 .f32) (o : FVec Ideal S65536x1024 .bf16) (p : FVec Ideal S1024x1024 .bf16) (g : FVec Ideal S3x1024 .f32)
    (w : FVec Ideal S1024x5632 .bf16) (wo : FVec Ideal S2816x1024 .bf16) :
    Sc (Nr (Ff (Mx x o p) (extractStridedSlice S1x1024 ![0, 0] g slices_S3x1024_S1x1024_0_0) w wo)) (extractStridedSlice S1x1024 ![1, 0] g slices_S3x1024_S1x1024_1_0)
      = MOUT x o p g w wo := by
  funext y
  idx_vars y
  refine (rms_at _ _ y0 y1).trans ?_
  have hg := fun e => gain0_at g e
  simp only [ff_at, mx_at, gain1_at]
  simp only [hg]
  rfl

section
variable (m : (ℓ : Loc nD τ sig) → Buf (Elt Ideal) ℓ)

/-- The rows the program returns. -/
theorem m_ref (c : Dev nD) : res_out0 m c = MOUT (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5)) := by
  rw [← m_parts]
  rfl

end
end Cert.OutRefIdeal.Hand
-- ==== Proof.OutPair.lean ====
module

public import proofs.«01_k».proof.Defs
public import proofs.«01_k».proof.Proof.Gen.Out.Frame
public import proofs.«01_k».proof.Proof.Gen.OutIdeal.Value
public import proofs.«01_k».proof.Proof.OutArr
public import proofs.«01_k».proof.Proof.OutRef
public import Idealize.ShloMosaic.Lib.Quiescent

@[expose] public section

noncomputable section
open Idealize.ShloMosaic Idealize.SL.Sem Cert.FfnMath
namespace Cert.OutPair

/-- The out-projection and feed-forward reference ends with its arguments unchanged and its counters at zero. -/
theorem frame_ref :
    Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

/-- The out-projection and feed-forward kernel and its reference end with the same rows. -/
theorem value : Cert.algebraic_OutIdeal_OutRefIdeal (hOutIdeal := Cert.OutIdeal.Gen.facts) (hOutRefIdeal := Cert.OutRefIdeal.Gen.facts) := by
  intro m g m' g' _ agree
  refine ⟨_, Cert.OutIdeal.Value.run_blocks (F := Ideal) m g, ?_⟩
  refine (θ_run Cert.OutRefIdeal.defs _ _).mono (fun r h c => ?_) (Cert.OutRefIdeal.Value.run (F := Ideal) m' g')
  obtain ⟨a0, a1, a2, a3, a4, a5⟩ := agree c
  obtain ⟨h0, h1⟩ := h c
  refine ⟨h0.trans ?_, h1⟩
  refine (Cert.OutRefIdeal.Hand.m_ref m' c).trans (Eq.trans ?_ (Cert.OutIdeal.Hand.m_arr m c).symm)
  exact congr (congr (congr (congr (congr (congrArg MOUT a0) a1) a2) a3) a4) a5

end Cert.OutPair
-- ==== Proof.OutSKernel.lean ====
module

public import proofs.«01_k».proof.Defs
public import proofs.«01_k».proof.Proof.Gen.OutSIdeal.Value
public import proofs.«01_k».proof.Proof.MixKernel

@[expose] public section

set_option maxRecDepth 16384
noncomputable section
open Idealize.ShloMosaic Idealize.ShloMosaic.TcCoe Idealize.SL.Sem
open Idealize.ShloMosaic.Pipeline (Dat)
open Cert.FfnMath
open Cert.FfnIdeal.Hand (NEWX newx_at ld_rows ld_gain)
open Cert.MixIdeal.Hand (norm_at)
namespace Cert.OutSIdeal.Hand
open Cert.OutSIdeal Cert.OutSIdeal.Gen

theorem ld_x (x : Vec Ideal S512x1024 .f32) (n : ℕ) (hb) (i : Fin 256) (e : Fin 1024) (hn : n + i.val < 512) :
    View.ld x (Rect.unit ![n, 0] ![256, 1024] hb : Rect S512x1024) (ix2 i e) = x (ix2 ⟨n + i.val, hn⟩ e) := by
  refine congrArg x (funext fun ax => Fin.ext ?_)
  fin_cases ax <;> simp [Rect.unit, Rect.emb] <;> rfl

theorem ld_o (o : Vec Ideal S512x1024 .bf16) (n : ℕ) (hb) (i : Fin 256) (e : Fin 1024) (hn : n + i.val < 512) :
    View.ld o (Rect.unit ![n, 0] ![256, 1024] hb : Rect S512x1024) (ix2 i e) = o (ix2 ⟨n + i.val, hn⟩ e) := by
  refine congrArg o (funext fun ax => Fin.ext ?_)
  fin_cases ax <;> simp [Rect.unit, Rect.emb] <;> rfl

theorem ld_proj (p : Vec Ideal S1024x1024 .bf16) (d e : Fin 1024) : View.ld p r0_1 (ix2 d e) = p (ix2 d e) := by
  refine congrArg p (funext fun ax => Fin.ext ?_)
  fin_cases ax <;> simp [Rect.unit, Rect.emb] <;> rfl

/-- The rows with the projected attention output added, at an index. -/
theorem mix_at (x : Vec Ideal S256x1024 .f32) (o : Vec Ideal S256x1024 .bf16) (p : Vec Ideal S1024x1024 .bf16) (i : Fin 256) (e : Fin 1024) :
    k0_pay2 x o p (ix2 i e) = mix (fun j => x (ix2 i j)) (fun d => o (ix2 i d)) (fun d j => p (ix2 d j)) e := by
  unfold mix
  pointwise [k0_pay2]

/-- A block's rows after the attention output, the feed-forward and the last norm. -/
abbrev LAST (p : Vec Ideal S1024x1024 .bf16) (g : Vec Ideal S3x1024 .f32) (w : Vec Ideal S1024x5632 .bf16) (wo : Vec Ideal S2816x1024 .bf16)
    (x : Vec Ideal S256x1024 .f32) (o : Vec Ideal S256x1024 .bf16) : Vec Ideal S256x1024 .f32 :=
  Cert.MixIdeal.Gen.k0_pay19 (NEWX w wo (k0_pay2 x o (View.ld p r0_1)) (View.ld g r0_2)) (View.ld g r0_13)

section
variable (x : Vec Ideal S512x1024 .f32) (o : Vec Ideal S512x1024 .bf16) (p : Vec Ideal S1024x1024 .bf16) (g : Vec Ideal S3x1024 .f32)
  (w : Vec Ideal S1024x5632 .bf16) (wo : Vec Ideal S2816x1024 .bf16)

/-- The rows of a window of 512 rows. -/
def MO : Vec Ideal S512x1024 .f32 := MOUT (n := 512) (k := 1024) x o p g w wo

/-- A window's rows at an index. -/
theorem mo_at (i : Fin 512) (e : Fin 1024) : MO x o p g w wo (ix2 i e) =
    rms (fun e => ffn (fun a => mix (fun j => x (ix2 i j)) (fun d => o (ix2 i d)) (fun d j => p (ix2 d j)) a)
      (fun j => g (ix2 0 j)) (fun d j => w (ix2 d j)) (fun j e => wo (ix2 j e)) e) (fun j => g (ix2 1 j)) e := rfl

/-- The block at `n` leaves its 256 rows. -/
theorem rows_m (n : ℕ) (hn : n + 256 ≤ 512) (hb) (hb') (y : S256x1024.Idx) :
    LAST p g w wo (View.ld x (Rect.unit ![n, 0] ![256, 1024] hb : Rect S512x1024)) (View.ld o (Rect.unit ![n, 0] ![256, 1024] hb' : Rect S512x1024)) y
      = MO x o p g w wo ((Rect.unit ![n, 0] ![256, 1024] hb : Rect S512x1024).emb y) := by
  idx_vars y
  have he : (Rect.unit ![n, 0] ![256, 1024] hb : Rect S512x1024).emb (ix2 y0 y1) = ix2 ⟨n + y0.val, by omega⟩ y1 := by
    refine funext fun ax => Fin.ext ?_
    fin_cases ax <;> simp [Rect.unit, Rect.emb] <;> rfl
  have h0 : ∀ e, View.ld g r0_2 (ix2 0 e) = g (ix2 0 e) := fun e => ld_gain g 0 _ e
  have h1 : ∀ e, View.ld g r0_13 (ix2 0 e) = g (ix2 1 e) := fun e => ld_gain g 1 _ e
  have hx : ∀ e, View.ld x (Rect.unit ![n, 0] ![256, 1024] hb : Rect S512x1024) (ix2 y0 e) = x (ix2 ⟨n + y0.val, by omega⟩ e) := fun e => ld_x x n hb y0 e _
  have ho : ∀ e, View.ld o (Rect.unit ![n, 0] ![256, 1024] hb' : Rect S512x1024) (ix2 y0 e) = o (ix2 ⟨n + y0.val, by omega⟩ e) := fun e => ld_o o n hb' y0 e _
  have hp : ∀ d e, View.ld p r0_1 (ix2 d e) = p (ix2 d e) := fun d e => ld_proj p d e
  have hN := fun X G e => newx_at w wo X G y0 e
  unfold LAST
  refine (norm_at _ _ y0 y1).trans ?_
  rw [he, mo_at]
  simp only [hN, mix_at, hx, ho, hp, h0, h1]

/-- The output window ends with those rows. -/
theorem out_m (y : S512x1024.Idx) : out0_6 x o p g w wo y = MO x o p g w wo y := by
  unfold_out out0_6
  refine View.canon_apply_of_pieces (MO x o p g w wo) _ ?_ y ?_
  · simp only [List.forall_mem_cons]
    exact ⟨fun y => rows_m x o p g w wo 256 (by norm_num) _ _ y,
      fun y => rows_m x o p g w wo 0 (by norm_num) _ _ y, by simp⟩
  · idx_vars y
    simp only [List.exists_mem_cons_iff, Rect.mem_set_unit, Fin.forall_fin_two]
    have := y0.isLt
    have := y1.isLt
    simp [-Fin.is_lt]
    omega
end

end Cert.OutSIdeal.Hand
-- ==== Proof.OutSArr.lean ====
module

public import proofs.«01_k».proof.Defs
public import proofs.«01_k».proof.Proof.OutSKernel

@[expose] public section

set_option maxRecDepth 16384
noncomputable section
open Idealize.ShloMosaic Idealize.ShloMosaic.TcCoe Idealize.SL.Sem
open Idealize.ShloMosaic.Pipeline (Dat)
open Cert.FfnMath
namespace Cert.OutSIdeal.Hand
open Cert.OutSIdeal Cert.OutSIdeal.Gen

variable (m : (ℓ : Loc nD τ sig) → Buf (Elt Ideal) ℓ)

/-! ## Where each window lies in its array -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem pts : ∀ t : Fin cfg0.N, t.val < 1 := (by decide +kernel : ∀ t : Fin grid0.N, _)

/-! What each window of a grid step holds, at an index. -/
theorem blk0 (c : Dev nD) (t : Fin cfg0.N) (i : Fin 512) (e : Fin 1024) :
    iblk m c 0 t (ix2 i e) = m (c, Proc.tc.devRef main_arg0) (ix2 ⟨t.val * 512 + i.val, by have := pts t; omega⟩ e) := by
  have h : (win0_0.blk t).view.emb (ix2 i e) = ix2 ⟨t.val * 512 + i.val, by have := pts t; omega⟩ e := by blk_ext [idx0]
  show V m c main_arg0 ((win0_0.blk t).view.emb (ix2 i e)) = _
  rw [h, V_main_arg0]

theorem blk1 (c : Dev nD) (t : Fin cfg0.N) (i : Fin 512) (e : Fin 1024) :
    iblk m c 1 t (ix2 i e) = m (c, Proc.tc.devRef main_arg1) (ix2 ⟨t.val * 512 + i.val, by have := pts t; omega⟩ e) := by
  have h : (win0_1.blk t).view.emb (ix2 i e) = ix2 ⟨t.val * 512 + i.val, by have := pts t; omega⟩ e := by blk_ext [idx1]
  show V m c main_arg1 ((win0_1.blk t).view.emb (ix2 i e)) = _
  rw [h, V_main_arg1]

theorem blk2 (c : Dev nD) (t : Fin cfg0.N) (i : Fin 1024) (e : Fin 1024) : iblk m c 2 t (ix2 i e) = m (c, Proc.tc.devRef main_arg2) (ix2 i e) := by
  have h : (win0_2.blk t).view.emb (ix2 i e) = ix2 i e := by blk_ext [idx2]
  show V m c main_arg2 ((win0_2.blk t).view.emb (ix2 i e)) = _
  rw [h, V_main_arg2]

theorem blk3 (c : Dev nD) (t : Fin cfg0.N) (i : Fin 3) (e : Fin 1024) : iblk m c 3 t (ix2 i e) = m (c, Proc.tc.devRef main_arg3) (ix2 i e) := by
  have h : (win0_3.blk t).view.emb (ix2 i e) = ix2 i e := by blk_ext [idx3]
  show V m c main_arg3 ((win0_3.blk t).view.emb (ix2 i e)) = _
  rw [h, V_main_arg3]

theorem blk4 (c : Dev nD) (t : Fin cfg0.N) (i : Fin 1024) (e : Fin 5632) : iblk m c 4 t (ix2 i e) = m (c, Proc.tc.devRef main_arg4) (ix2 i e) := by
  have h : (win0_4.blk t).view.emb (ix2 i e) = ix2 i e := by blk_ext [idx4]
  show V m c main_arg4 ((win0_4.blk t).view.emb (ix2 i e)) = _
  rw [h, V_main_arg4]

theorem blk5 (c : Dev nD) (t : Fin cfg0.N) (i : Fin 2816) (e : Fin 1024) : iblk m c 5 t (ix2 i e) = m (c, Proc.tc.devRef main_arg5) (ix2 i e) := by
  have h : (win0_5.blk t).view.emb (ix2 i e) = ix2 i e := by blk_ext [idx5]
  show V m c main_arg5 ((win0_5.blk t).view.emb (ix2 i e)) = _
  rw [h, V_main_arg5]

/-! ## The result array -/

/-- The array of rows after the run. -/
theorem m_arr (c : Dev nD) : (dats m 0 c).arrAt 6 cfg0.N = MOUT (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5)) := by
  refine (dats m 0 c).arrAt_eq_of_covers 6 _ (by decide +kernel) fun t hf y => ?_
  have ht := pts t
  blk_simp
  rw [after0_6, out_m]
  idx_vars y
  have e : (win0_6.blk t).view.emb (ix2 y0 y1) = ix2 ⟨t.val * 512 + y0.val, by omega⟩ y1 := by blk_ext [idx6]
  rw [e, mo_at]
  simp only [blk0, blk1, blk2, blk3, blk4, blk5]
  rfl

end Cert.OutSIdeal.Hand
-- ==== Proof.FfnSRef.lean ====
module

public import proofs.«01_k».proof.Defs
public import proofs.«01_k».proof.Proof.Gen.FfnSRefIdeal.Run
public import proofs.«01_k».proof.Proof.FfnMath
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem Idealize.ShloMosaic.StableHlo
open Cert.FfnMath
namespace Cert.FfnSRefIdeal.Hand
open Cert.FfnSRefIdeal Cert.FfnSRefIdeal.Gen Cert.FfnSRefIdeal.Value

/-- The rows over the roots of their mean squares. -/
def Nr (x : FVec Ideal S512x1024 .f32) : FVec Ideal S512x1024 .f32 :=
  mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))

/-- The rows scaled by a row of gains. -/
def Sc (x : FVec Ideal S512x1024 .f32) (g : FVec Ideal S1x1024 .f32) : FVec Ideal S512x1024 .f32 :=
  mulf x (broadcastInDim S512x1024 ![0, 1] bcast_S1x1024_S512x1024_0_1 (broadcastInDim S1x1024 ![1] bcast_S1024_S1x1024_1 (shapeCast _ g shapeCasts_S1x1024_S1024)))

/-- The rows times the input weights. -/
def Ln (h : FVec Ideal S512x1024 .f32) (w : FVec Ideal S1024x5632 .bf16) : FVec Ideal S512x5632 .f32 :=
  Host.dotGeneral dot_S512x1024_S1024x5632_S512x5632_1_0_0_1_n_n none h (extf .f32 w bitsLt_bf16_f32)

/-- The gated hidden units. -/
def Ac (z : FVec Ideal S512x5632 .f32) : FVec Ideal S512x2816 .f32 :=
  mulf (mulf (extractStridedSlice S512x2816 ![0, 0] z slices_S512x5632_S512x2816_0_0) (Host.divf (broadcastInDim S512x2816 ![] bcast_S_S512x2816 (constant S_ .f32 0x3F800000#32)) (addf (broadcastInDim S512x2816 ![] bcast_S_S512x2816 (constant S_ .f32 0x3F800000#32)) (Host.exp (Host.negf (extractStridedSlice S512x2816 ![0, 0] z slices_S512x5632_S512x2816_0_0)))))) (extractStridedSlice S512x2816 ![0, 2816] z slices_S512x5632_S512x2816_0_2816)

/-- The rows and half the hidden units times the output weights. -/
def Fo (x : FVec Ideal S512x1024 .f32) (a : FVec Ideal S512x2816 .f32) (wo : FVec Ideal S2816x1024 .bf16) : FVec Ideal S512x1024 .f32 :=
  addf x (mulf (broadcastInDim S512x1024 ![] bcast_S_S512x1024 (constant S_ .f32 0x3F000000#32)) (Host.dotGeneral dot_S512x2816_S2816x1024_S512x1024_1_0_0_1_n_n none a (extf .f32 wo bitsLt_bf16_f32)))

/-- The feed-forward half step by its parts. -/
def Ff (x : FVec Ideal S512x1024 .f32) (g : FVec Ideal S1x1024 .f32) (w : FVec Ideal S1024x5632 .bf16) (wo : FVec Ideal S2816x1024 .bf16) : FVec Ideal S512x1024 .f32 :=
  Fo x (Ac (Ln (Sc (Nr x) g) w)) wo

/-- `Nr` at an index. -/
theorem nr_at (x : FVec Ideal S512x1024 .f32) (i : Fin 512) (e : Fin 1024) :
    (Nr x (ix2 i e) : EReal) = (x (ix2 i e) : EReal) * Ideal.rsqrt (Ideal.div (∑ j, (x (ix2 i j) : EReal) * x (ix2 i j)) (Ideal.ofBits .f32 0x44800000#32) + Ideal.ofBits .f32 0x358637BD#32) := by
  unfold Nr
  pointwise

/-- `Sc` at an index. -/
theorem sc_at (x : FVec Ideal S512x1024 .f32) (g : FVec Ideal S1x1024 .f32) (i : Fin 512) (e : Fin 1024) :
    (Sc x g (ix2 i e) : EReal) = (x (ix2 i e) : EReal) * g (ix2 0 e) := by
  unfold Sc
  pointwise

/-- `Ln` at an index. -/
theorem ln_at (h : FVec Ideal S512x1024 .f32) (w : FVec Ideal S1024x5632 .bf16) (i : Fin 512) (j : Fin 5632) :
    (Ln h w (ix2 i j) : EReal) = lin (fun d => h (ix2 i d)) (fun d j => w (ix2 d j)) j := by
  unfold Ln lin
  pointwise

/-- `Ac` at an index. -/
theorem ac_at (z : FVec Ideal S512x5632 .f32) (i : Fin 512) (j : Fin 2816) :
    (Ac z (ix2 i j) : EReal) = (z (ix2 i ⟨j.val, by omega⟩) : EReal) * Ideal.logistic (z (ix2 i ⟨j.val, by omega⟩)) * z (ix2 i ⟨2816 + j.val, by omega⟩) := by
  unfold Ac Ideal.logistic
  rw [← one_bits]
  pointwise

/-- `Fo` at an index. -/
theorem fo_at (x : FVec Ideal S512x1024 .f32) (a : FVec Ideal S512x2816 .f32) (wo : FVec Ideal S2816x1024 .bf16) (i : Fin 512) (e : Fin 1024) :
    (Fo x a wo (ix2 i e) : EReal) = (x (ix2 i e) : EReal) + Ideal.ofBits .f32 0x3F000000#32 * ∑ j, (a (ix2 i j) : EReal) * wo (ix2 j e) := by
  unfold Fo
  pointwise

/-- A normalised and scaled row at an index. -/
theorem rms_at (x : FVec Ideal S512x1024 .f32) (g : FVec Ideal S1x1024 .f32) (i : Fin 512) (e : Fin 1024) :
    (Sc (Nr x) g (ix2 i e) : EReal) = rms (fun j => x (ix2 i j)) (fun j => g (ix2 0 j)) e := by
  rw [sc_at, nr_at]
  rfl

/-- The feed-forward half step at an index. -/
theorem ff_at (x : FVec Ideal S512x1024 .f32) (g : FVec Ideal S1x1024 .f32) (w : FVec Ideal S1024x5632 .bf16) (wo : FVec Ideal S2816x1024 .bf16) (i : Fin 512) (e : Fin 1024) :
    (Ff x g w wo (ix2 i e) : EReal) = ffn (fun j => x (ix2 i j)) (fun j => g (ix2 0 j)) (fun d j => w (ix2 d j)) (fun j e => wo (ix2 j e)) e := by
  unfold Ff
  rw [fo_at]
  simp only [ac_at, ln_at, rms_at]
  rfl

/-- The first row of the gains. -/
theorem gain0_at (g : FVec Ideal S3x1024 .f32) (e : Fin 1024) :
    extractStridedSlice S1x1024 ![0, 0] g slices_S3x1024_S1x1024_0_0 (ix2 0 e) = g (ix2 0 e) := by
  pointwise

/-- The last row of the gains. -/
theorem gain2_at (g : FVec Ideal S3x1024 .f32) (e : Fin 1024) :
    extractStridedSlice S1x1024 ![2, 0] g slices_S3x1024_S1x1024_2_0 (ix2 0 e) = g (ix2 2 e) := by
  pointwise

/-- The new rows by parts are the new rows. -/
theorem x_parts (x : FVec Ideal S512x1024 .f32) (g : FVec Ideal S3x1024 .f32) (w : FVec Ideal S1024x5632 .bf16) (wo : FVec Ideal S2816x1024 .bf16) :
    Ff x (extractStridedSlice S1x1024 ![0, 0] g slices_S3x1024_S1x1024_0_0) w wo = XOUT x g w wo := by
  funext y
  idx_vars y
  refine (ff_at _ _ _ _ y0 y1).trans ?_
  simp only [gain0_at]
  rfl

/-- The normalised new rows by parts are the normalised new rows. -/
theorem h_parts (x : FVec Ideal S512x1024 .f32) (g : FVec Ideal S3x1024 .f32) (w : FVec Ideal S1024x5632 .bf16) (wo : FVec Ideal S2816x1024 .bf16) :
    truncf .bf16 (Sc (Nr (Ff x (extractStridedSlice S1x1024 ![0, 0] g slices_S3x1024_S1x1024_0_0) w wo)) (extractStridedSlice S1x1024 ![2, 0] g slices_S3x1024_S1x1024_2_0)) bitsLt_bf16_f32
      = HOUT x g w wo := by
  funext y
  idx_vars y
  refine (rms_at _ _ y0 y1).trans ?_
  simp only [ff_at, gain0_at, gain2_at]
  rfl

section
variable (m : (ℓ : Loc nD τ sig) → Buf (Elt Ideal) ℓ)

/-- The normalised rows the program returns. -/
theorem h_ref (c : Dev nD) : res_out1 m c = HOUT (m (c, Proc.tc.devRef main_arg0)) (m (c, Proc.tc.devRef main_arg1))
    (m (c, Proc.tc.devRef main_arg2)) (m (c, Proc.tc.devRef main_arg3)) := by
  rw [← h_parts]
  rfl

end
end Cert.FfnSRefIdeal.Hand
-- ==== Proof.OutSRef.lean ====
module

public import proofs.«01_k».proof.Defs
public import proofs.«01_k».proof.Proof.Gen.OutSRefIdeal.Run
public import proofs.«01_k».proof.Proof.FfnSRef

@[expose] public section

set_option maxRecDepth 16384
noncomputable section
open Idealize.ShloMosaic Idealize.ShloMosaic.TcCoe Idealize.SL.Sem Idealize.ShloMosaic.StableHlo
open Cert.FfnMath
open Cert.FfnSRefIdeal.Hand (Nr Sc Ff ff_at rms_at gain0_at)
namespace Cert.OutSRefIdeal.Hand
open Cert.OutSRefIdeal Cert.OutSRefIdeal.Gen Cert.OutSRefIdeal.Value

/-- The rows with the projected attention output added. -/
def Mx (x : FVec Ideal S512x1024 .f32) (o : FVec Ideal S512x1024 .bf16) (p : FVec Ideal S1024x1024 .bf16) : FVec Ideal S512x1024 .f32 :=
  addf x (Host.dotGeneral dot_S512x1024_S1024x1024_S512x1024_1_0_0_1_n_n none (extf .f32 o bitsLt_bf16_f32) (extf .f32 p bitsLt_bf16_f32))

/-- `Mx` at an index. -/
theorem mx_at (x : FVec Ideal S512x1024 .f32) (o : FVec Ideal S512x1024 .bf16) (p : FVec Ideal S1024x1024 .bf16) (i : Fin 512) (e : Fin 1024) :
    (Mx x o p (ix2 i e) : EReal) = mix (fun j => x (ix2 i j)) (fun d => o (ix2 i d)) (fun d j => p (ix2 d j)) e := by
  unfold Mx mix
  pointwise

/-- The second row of the gains. -/
theorem gain1_at (g : FVec Ideal S3x1024 .f32) (e : Fin 1024) :
    extractStridedSlice S1x1024 ![1, 0] g slices_S3x1024_S1x1024_1_0 (ix2 0 e) = g (ix2 1 e) := by
  pointwise

/-- The rows by parts are the rows. -/
theorem m_parts (x : FVec Ideal S512x1024 .f32) (o : FVec Ideal S512x1024 .bf16) (p : FVec Ideal S1024x1024 .bf16) (g : FVec Ideal S3x1024 .f32)
    (w : FVec Ideal S1024x5632 .bf16) (wo : FVec Ideal S2816x1024 .bf16) :
    Sc (Nr (Ff (Mx x o p) (extractStridedSlice S1x1024 ![0, 0] g slices_S3x1024_S1x1024_0_0) w wo)) (extractStridedSlice S1x1024 ![1, 0] g slices_S3x1024_S1x1024_1_0)
      = MOUT x o p g w wo := by
  funext y
  idx_vars y
  refine (rms_at _ _ y0 y1).trans ?_
  have hg := fun e => gain0_at g e
  simp only [ff_at, mx_at, gain1_at]
  simp only [hg]
  rfl

section
variable (m : (ℓ : Loc nD τ sig) → Buf (Elt Ideal) ℓ)

/-- The rows the program returns. -/
theorem m_ref (c : Dev nD) : res_out0 m c = MOUT (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5)) := by
  rw [← m_parts]
  rfl

end
end Cert.OutSRefIdeal.Hand
-- ==== Proof.OutSPair.lean ====
module

public import proofs.«01_k».proof.Defs
public import proofs.«01_k».proof.Proof.Gen.OutS.Frame
public import proofs.«01_k».proof.Proof.Gen.OutSIdeal.Value
public import proofs.«01_k».proof.Proof.OutSArr
public import proofs.«01_k».proof.Proof.OutSRef
public import Idealize.ShloMosaic.Lib.Quiescent

@[expose] public section

noncomputable section
open Idealize.ShloMosaic Idealize.SL.Sem Cert.FfnMath
namespace Cert.OutSPair

/-- The out-projection and feed-forward reference ends with its arguments unchanged and its counters at zero. -/
theorem frame_ref :
    Cert.quiescent_OutSRefIdeal (hOutSRefIdeal := Cert.OutSRefIdeal.Gen.facts) := fun m ρ _ =>
  (θ_run Cert.OutSRefIdeal.defs _ _).mono (fun r h => ⟨fun c => (h c).2, sem_eq_zero_of_no_sems (by decide) r.2⟩)
    (Cert.OutSRefIdeal.Value.run (F := Ideal) m ρ)

/-- The out-projection and feed-forward kernel and its reference end with the same rows. -/
theorem value : Cert.algebraic_OutSIdeal_OutSRefIdeal (hOutSIdeal := Cert.OutSIdeal.Gen.facts) (hOutSRefIdeal := Cert.OutSRefIdeal.Gen.facts) := by
  intro m g m' g' _ agree
  refine ⟨_, Cert.OutSIdeal.Value.run_blocks (F := Ideal) m g, ?_⟩
  refine (θ_run Cert.OutSRefIdeal.defs _ _).mono (fun r h c => ?_) (Cert.OutSRefIdeal.Value.run (F := Ideal) m' g')
  obtain ⟨a0, a1, a2, a3, a4, a5⟩ := agree c
  obtain ⟨h0, h1⟩ := h c
  refine ⟨h0.trans ?_, h1⟩
  refine (Cert.OutSRefIdeal.Hand.m_ref m' c).trans (Eq.trans ?_ (Cert.OutSIdeal.Hand.m_arr m c).symm)
  exact congr (congr (congr (congr (congr (congrArg MOUT a0) a1) a2) a3) a4) a5

end Cert.OutSPair
-- ==== Proof.FfnSKernel.lean ====
module

public import proofs.«01_k».proof.Defs
public import proofs.«01_k».proof.Proof.Gen.FfnSIdeal.Value
public import proofs.«01_k».proof.Proof.FfnKernel
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem
open Idealize.ShloMosaic.Pipeline (Dat)
open Cert.FfnMath
namespace Cert.FfnSIdeal.Hand
open Cert.FfnIdeal.Hand (NEWX newx_at ld_gain rms_at)
open Cert.FfnSIdeal Cert.FfnSIdeal.Gen

theorem ld_x (x : Vec Ideal S512x1024 .f32) (n : ℕ) (hb) (i : Fin 256) (e : Fin 1024) (hn : n + i.val < 512) :
    View.ld x (Rect.unit ![n, 0] ![256, 1024] hb : Rect S512x1024) (ix2 i e) = x (ix2 ⟨n + i.val, hn⟩ e) := by
  refine congrArg x (funext fun ax => Fin.ext ?_)
  fin_cases ax <;> simp [Rect.unit, Rect.emb] <;> rfl

/-! ## What the windows of a grid step end with -/

/-- The new rows of a window of 512 rows. -/
def XO (x : Vec Ideal S512x1024 .f32) (g : Vec Ideal S3x1024 .f32) (w : Vec Ideal S1024x5632 .bf16) (wo : Vec Ideal S2816x1024 .bf16) : Vec Ideal S512x1024 .f32 :=
  fun y => ffn (fun j => x (ix2 (y 0) j)) (fun j => g (ix2 0 j)) (fun d j => w (ix2 d j)) (fun j e => wo (ix2 j e)) (y 1)

/-- The new rows of a window, normalised with the last row of gains. -/
def HO (x : Vec Ideal S512x1024 .f32) (g : Vec Ideal S3x1024 .f32) (w : Vec Ideal S1024x5632 .bf16) (wo : Vec Ideal S2816x1024 .bf16) : Vec Ideal S512x1024 .bf16 :=
  fun y => rms (fun e => ffn (fun j => x (ix2 (y 0) j)) (fun j => g (ix2 0 j)) (fun d j => w (ix2 d j)) (fun j e => wo (ix2 j e)) e)
    (fun j => g (ix2 2 j)) (y 1)

/-- The new rows at an index. -/
theorem xo_at (x : Vec Ideal S512x1024 .f32) (g : Vec Ideal S3x1024 .f32) (w : Vec Ideal S1024x5632 .bf16) (wo : Vec Ideal S2816x1024 .bf16) (i : Fin 512) (e : Fin 1024) :
    XO x g w wo (ix2 i e) = ffn (fun j => x (ix2 i j)) (fun j => g (ix2 0 j)) (fun d j => w (ix2 d j)) (fun j e => wo (ix2 j e)) e := rfl

/-- The normalised new rows at an index. -/
theorem ho_at (x : Vec Ideal S512x1024 .f32) (g : Vec Ideal S3x1024 .f32) (w : Vec Ideal S1024x5632 .bf16) (wo : Vec Ideal S2816x1024 .bf16) (i : Fin 512) (e : Fin 1024) :
    HO x g w wo (ix2 i e) = rms (fun e => ffn (fun j => x (ix2 i j)) (fun j => g (ix2 0 j)) (fun d j => w (ix2 d j)) (fun j e => wo (ix2 j e)) e)
      (fun j => g (ix2 2 j)) e := rfl

section
variable (x : Vec Ideal S512x1024 .f32) (g : Vec Ideal S3x1024 .f32) (w : Vec Ideal S1024x5632 .bf16) (wo : Vec Ideal S2816x1024 .bf16)

/-- The block at `n` leaves its 256 new rows. -/
theorem rows_x (n : ℕ) (hn : n + 256 ≤ 512) (hb) (y : S256x1024.Idx) :
    NEWX w wo (View.ld x (Rect.unit ![n, 0] ![256, 1024] hb : Rect S512x1024)) (View.ld g r0_1) y
      = XO x g w wo ((Rect.unit ![n, 0] ![256, 1024] hb : Rect S512x1024).emb y) := by
  idx_vars y
  have he : (Rect.unit ![n, 0] ![256, 1024] hb : Rect S512x1024).emb (ix2 y0 y1) = ix2 ⟨n + y0.val, by omega⟩ y1 := by
    refine funext fun ax => Fin.ext ?_
    fin_cases ax <;> simp [Rect.unit, Rect.emb] <;> rfl
  rw [newx_at, he]
  have hg : ∀ e, View.ld g r0_1 (ix2 0 e) = g (ix2 0 e) := fun e => ld_gain g 0 _ e
  simp only [ld_x x n hb y0 _ (by omega), hg]
  rfl

/-- The block at `n` leaves its 256 new rows normalised. -/
theorem rows_h (n : ℕ) (hn : n + 256 ≤ 512) (hb) (y : S256x1024.Idx) :
    Cert.FfnIdeal.Gen.k0_pay14 (NEWX w wo (View.ld x (Rect.unit ![n, 0] ![256, 1024] hb : Rect S512x1024)) (View.ld g r0_1)) (View.ld g r0_12) y
      = HO x g w wo ((Rect.unit ![n, 0] ![256, 1024] hb : Rect S512x1024).emb y) := by
  idx_vars y
  have he : (Rect.unit ![n, 0] ![256, 1024] hb : Rect S512x1024).emb (ix2 y0 y1) = ix2 ⟨n + y0.val, by omega⟩ y1 := by
    refine funext fun ax => Fin.ext ?_
    fin_cases ax <;> simp [Rect.unit, Rect.emb] <;> rfl
  rw [rms_at, he]
  have h0 : ∀ e, View.ld g r0_1 (ix2 0 e) = g (ix2 0 e) := fun e => ld_gain g 0 _ e
  have h2 : ∀ e, View.ld g r0_12 (ix2 0 e) = g (ix2 2 e) := fun e => ld_gain g 2 _ e
  simp only [newx_at, ld_x x n hb y0 _ (by omega), h0, h2]
  rfl

/-- The first output window ends with the new rows. -/
theorem out_x (y : S512x1024.Idx) : out0_4 x g w wo y = XO x g w wo y := by
  unfold_out out0_4
  refine View.canon_apply_of_pieces (XO x g w wo) _ ?_ y ?_
  · simp only [List.forall_mem_cons]
    exact ⟨fun y => rows_x x g w wo 256 (by norm_num) _ y, fun y => rows_x x g w wo 0 (by norm_num) _ y, by simp⟩
  · idx_vars y
    simp only [List.exists_mem_cons_iff, Rect.mem_set_unit, Fin.forall_fin_two]
    have := y0.isLt
    have := y1.isLt
    simp [-Fin.is_lt]
    omega

/-- The second output window ends with the new rows normalised. -/
theorem out_h (y : S512x1024.Idx) : out0_5 x g w wo y = HO x g w wo y := by
  unfold_out out0_5
  refine View.canon_apply_of_pieces (HO x g w wo) _ ?_ y ?_
  · simp only [List.forall_mem_cons]
    exact ⟨fun y => rows_h x g w wo 256 (by norm_num) _ y, fun y => rows_h x g w wo 0 (by norm_num) _ y, by simp⟩
  · idx_vars y
    simp only [List.exists_mem_cons_iff, Rect.mem_set_unit, Fin.forall_fin_two]
    have := y0.isLt
    have := y1.isLt
    simp [-Fin.is_lt]
    omega
end

end Cert.FfnSIdeal.Hand
-- ==== Proof.FfnSArr.lean ====
module

public import proofs.«01_k».proof.Defs
public import proofs.«01_k».proof.Proof.FfnSKernel

@[expose] public section

set_option maxRecDepth 16384
noncomputable section
open Idealize.ShloMosaic Idealize.ShloMosaic.TcCoe Idealize.SL.Sem
open Idealize.ShloMosaic.Pipeline (Dat)
open Cert.FfnMath
namespace Cert.FfnSIdeal.Hand
open Cert.FfnSIdeal Cert.FfnSIdeal.Gen

variable (m : (ℓ : Loc nD τ sig) → Buf (Elt Ideal) ℓ)

/-! ## Where each window lies in its array -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem pts : ∀ t : Fin cfg0.N, t.val < 1 := (by decide +kernel : ∀ t : Fin grid0.N, _)

/-! What each window of a grid step holds, at an index. -/
theorem blk0 (c : Dev nD) (t : Fin cfg0.N) (i : Fin 512) (e : Fin 1024) :
    iblk m c 0 t (ix2 i e) = m (c, Proc.tc.devRef main_arg0) (ix2 ⟨t.val * 512 + i.val, by have := pts t; omega⟩ e) := by
  have h : (win0_0.blk t).view.emb (ix2 i e) = ix2 ⟨t.val * 512 + i.val, by have := pts t; omega⟩ e := by blk_ext [idx0]
  show V m c main_arg0 ((win0_0.blk t).view.emb (ix2 i e)) = _
  rw [h, V_main_arg0]

theorem blk1 (c : Dev nD) (t : Fin cfg0.N) (i : Fin 3) (e : Fin 1024) : iblk m c 1 t (ix2 i e) = m (c, Proc.tc.devRef main_arg1) (ix2 i e) := by
  have h : (win0_1.blk t).view.emb (ix2 i e) = ix2 i e := by blk_ext [idx1]
  show V m c main_arg1 ((win0_1.blk t).view.emb (ix2 i e)) = _
  rw [h, V_main_arg1]

theorem blk2 (c : Dev nD) (t : Fin cfg0.N) (i : Fin 1024) (e : Fin 5632) : iblk m c 2 t (ix2 i e) = m (c, Proc.tc.devRef main_arg2) (ix2 i e) := by
  have h : (win0_2.blk t).view.emb (ix2 i e) = ix2 i e := by blk_ext [idx2]
  show V m c main_arg2 ((win0_2.blk t).view.emb (ix2 i e)) = _
  rw [h, V_main_arg2]

theorem blk3 (c : Dev nD) (t : Fin cfg0.N) (i : Fin 2816) (e : Fin 1024) : iblk m c 3 t (ix2 i e) = m (c, Proc.tc.devRef main_arg3) (ix2 i e) := by
  have h : (win0_3.blk t).view.emb (ix2 i e) = ix2 i e := by blk_ext [idx3]
  show V m c main_arg3 ((win0_3.blk t).view.emb (ix2 i e)) = _
  rw [h, V_main_arg3]

/-! ## The two result arrays -/

/-- The array of new rows after the run. -/
theorem x_arr (c : Dev nD) : (dats m 0 c).arrAt 4 cfg0.N = XOUT (m (c, Proc.tc.devRef main_arg0)) (m (c, Proc.tc.devRef main_arg1))
    (m (c, Proc.tc.devRef main_arg2)) (m (c, Proc.tc.devRef main_arg3)) := by
  refine (dats m 0 c).arrAt_eq_of_covers 4 _ (by decide +kernel) fun t hf y => ?_
  have ht := pts t
  blk_simp
  rw [after0_4, out_x]
  idx_vars y
  have e : (win0_4.blk t).view.emb (ix2 y0 y1) = ix2 ⟨t.val * 512 + y0.val, by omega⟩ y1 := by blk_ext [idx4]
  rw [e, xo_at]
  simp only [blk0, blk1, blk2, blk3]
  rfl

/-- The array of new normalised rows after the run. -/
theorem h_arr (c : Dev nD) : (dats m 0 c).arrAt 5 cfg0.N = HOUT (m (c, Proc.tc.devRef main_arg0)) (m (c, Proc.tc.devRef main_arg1))
    (m (c, Proc.tc.devRef main_arg2)) (m (c, Proc.tc.devRef main_arg3)) := by
  refine (dats m 0 c).arrAt_eq_of_covers 5 _ (by decide +kernel) fun t hf y => ?_
  have ht := pts t
  blk_simp
  rw [after0_5, out_h]
  idx_vars y
  have e : (win0_5.blk t).view.emb (ix2 y0 y1) = ix2 ⟨t.val * 512 + y0.val, by omega⟩ y1 := by blk_ext [idx5]
  rw [e, ho_at]
  simp only [blk0, blk1, blk2, blk3]
  rfl

end Cert.FfnSIdeal.Hand
-- ==== Proof.FfnSPair.lean ====
module

public import proofs.«01_k».proof.Defs
public import proofs.«01_k».proof.Proof.Gen.FfnS.Frame
public import proofs.«01_k».proof.Proof.Gen.FfnSIdeal.Value
public import proofs.«01_k».proof.Proof.FfnSArr
public import proofs.«01_k».proof.Proof.FfnSRef
public import Idealize.ShloMosaic.Lib.Quiescent

@[expose] public section

noncomputable section
open Idealize.ShloMosaic Idealize.SL.Sem Cert.FfnMath
namespace Cert.FfnSPair

/-- The feed-forward reference ends with its arguments unchanged and its counters at zero. -/
theorem frame_ref :
    Cert.quiescent_FfnSRefIdeal (hFfnSRefIdeal := Cert.FfnSRefIdeal.Gen.facts) := fun m ρ _ =>
  (θ_run Cert.FfnSRefIdeal.defs _ _).mono (fun r h => ⟨fun c => (h c).2.2, sem_eq_zero_of_no_sems (by decide) r.2⟩)
    (Cert.FfnSRefIdeal.Value.run (F := Ideal) m ρ)

/-- The feed-forward kernel and its reference end with the same rows and the same normalised rows. -/
theorem value : Cert.algebraic_FfnSIdeal_FfnSRefIdeal (hFfnSIdeal := Cert.FfnSIdeal.Gen.facts) (hFfnSRefIdeal := Cert.FfnSRefIdeal.Gen.facts) := by
  intro m g m' g' _ agree
  refine ⟨_, _, Cert.FfnSIdeal.Value.run_blocks (F := Ideal) m g, ?_⟩
  refine (θ_run Cert.FfnSRefIdeal.defs _ _).mono (fun r h c => ?_) (Cert.FfnSRefIdeal.Value.run (F := Ideal) m' g')
  obtain ⟨a0, a1, a2, a3⟩ := agree c
  obtain ⟨h0, h1, h2⟩ := h c
  refine ⟨h0.trans ?_, h1.trans ?_, h2⟩
  · refine (Cert.FfnSRefIdeal.Hand.x_parts _ _ _ _).trans (Eq.trans ?_ (Cert.FfnSIdeal.Hand.x_arr m c).symm)
    exact congr (congr (congr (congrArg XOUT a0) a1) a2) a3
  · refine (Cert.FfnSRefIdeal.Hand.h_ref m' c).trans (Eq.trans ?_ (Cert.FfnSIdeal.Hand.h_arr m c).symm)
    exact congr (congr (congr (congrArg HOUT a0) a1) a2) a3

end Cert.FfnSPair
-- ==== Proof.RetSMath.lean ====
module

public import proofs.«01_k».proof.Proof.RetMath

@[expose] public section

noncomputable section
open Idealize.ShloMosaic
namespace Cert.RetMath

/-! ## The retention of one block of 16 tokens after a given state -/

theorem ofBits_15 : Ideal.ofBits .f32 0x41700000#32 = ((15 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num

/-- The outputs of a block: the products inside the block, plus the query on the state before it, decayed. -/
def so (a : ℝ) (q k : Fin 16 → Fin 256 → EReal) (v : Fin 16 → Fin 512 → EReal) (s : Fin 256 → Fin 512 → EReal) (i : Fin 16) (e : Fin 512) : EReal :=
  ∑ j : Fin 16, (∑ d, q i d * k j d) * (dec a i j : EReal) * v j e + (∑ d, q i d * s d e) * (Real.exp (((i : ℕ) + 1 : ℝ) * a) : EReal)

/-- The state after a block: the state before it decayed, plus the block's products. -/
def ss (a : ℝ) (k : Fin 16 → Fin 256 → EReal) (v : Fin 16 → Fin 512 → EReal) (s : Fin 256 → Fin 512 → EReal) (d : Fin 256) (e : Fin 512) : EReal :=
  (Real.exp (((16 : ℕ) : ℝ) * a) : EReal) * s d e + ∑ i : Fin 16, k i d * (Real.exp ((((16 : ℕ) : ℝ) - 1 - (i : ℕ)) * a) : EReal) * v i e

/-- Batch member `b`'s and head `h`'s queries or keys. -/
def sk (x : (⟨2, ![512, 1024]⟩ : Shape).Idx → EReal) (b : Fin 32) (h : Fin 4) (i : Fin 16) (d : Fin 256) : EReal :=
  x (ix2 ⟨b.val * 16 + i.val, by omega⟩ ⟨h.val * 256 + d.val, by omega⟩)

/-- Batch member `b`'s and head `h`'s values or gates. -/
def sv (x : (⟨2, ![512, 2048]⟩ : Shape).Idx → EReal) (b : Fin 32) (h : Fin 4) (i : Fin 16) (e : Fin 512) : EReal :=
  x (ix2 ⟨b.val * 16 + i.val, by omega⟩ ⟨h.val * 512 + e.val, by omega⟩)

/-- The array of new states. -/
def SSTATE (k : (⟨2, ![512, 1024]⟩ : Shape).Idx → EReal) (v : (⟨2, ![512, 2048]⟩ : Shape).Idx → EReal) (s : (⟨4, ![32, 4, 256, 512]⟩ : Shape).Idx → EReal) :
    (⟨4, ![32, 4, 256, 512]⟩ : Shape).Idx → EReal := fun y =>
  ss (lg (y 1)) (sk k (y 0) (y 1)) (sv v (y 0) (y 1)) (fun d e => s (ix4 (y 0) (y 1) d e)) (y 2) (y 3)

/-- Token `i` of batch member `b` and head `h`: its output normalised and gated. -/
def SROW (q k : (⟨2, ![512, 1024]⟩ : Shape).Idx → EReal) (v g : (⟨2, ![512, 2048]⟩ : Shape).Idx → EReal) (w : (⟨1, ![2048]⟩ : Shape).Idx → EReal)
    (s : (⟨4, ![32, 4, 256, 512]⟩ : Shape).Idx → EReal) (b : Fin 32) (h : Fin 4) (i : Fin 16) (e : Fin 512) : EReal :=
  gn (so (lg h) (sk q b h) (sk k b h) (sv v b h) (fun d e => s (ix4 b h d e)) i) (sv g b h i e) (w (ix1 ⟨h.val * 512 + e.val, by omega⟩)) e

/-- The array of gated outputs. -/
def SYOUT (q k : (⟨2, ![512, 1024]⟩ : Shape).Idx → EReal) (v g : (⟨2, ![512, 2048]⟩ : Shape).Idx → EReal) (w : (⟨1, ![2048]⟩ : Shape).Idx → EReal)
    (s : (⟨4, ![32, 4, 256, 512]⟩ : Shape).Idx → EReal) : (⟨2, ![512, 2048]⟩ : Shape).Idx → EReal := fun y =>
  SROW q k v g w s ⟨(y 0).val / 16, by have := (y 0).isLt; simp at this; omega⟩ ⟨(y 1).val / 512, by have := (y 1).isLt; simp at this; omega⟩
    ⟨(y 0).val % 16, Nat.mod_lt _ (by norm_num)⟩ ⟨(y 1).val % 512, Nat.mod_lt _ (by norm_num)⟩

end Cert.RetMath
-- ==== Proof.RetSKernel.lean ====
module

public import proofs.«01_k».proof.Defs
public import proofs.«01_k».proof.Proof.Gen.RetSIdeal.Value
public import proofs.«01_k».proof.Proof.RetSMath
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem
open Idealize.ShloMosaic.Pipeline (Dat)
open Cert.RetMath
namespace Cert.RetSIdeal.Hand
open Cert.RetSIdeal Cert.RetSIdeal.Gen

/-! ## The block of 16 tokens -/

/-- The state after the block, from the block's keys and values and the state before. -/
abbrev NEXT (kd : Vec Ideal S1x16x1 .f32) (sd : Vec Ideal S1x1x1 .f32) (k : Vec Ideal S16x256 .bf16) (v : Vec Ideal S16x512 .bf16)
    (S : Vec Ideal S256x512 .f32) : Vec Ideal S256x512 .f32 := k0_pay6 (k0_pay2 sd) v S (k0_pay4 k) (k0_pay5 kd)

/-- The gated rows, from the queries, keys, values and gates and the state before. -/
abbrev OUT (dc : Vec Ideal S1x16x16 .f32) (qd : Vec Ideal S1x16x1 .f32) (q k : Vec Ideal S16x256 .bf16) (v : Vec Ideal S16x512 .bf16)
    (S : Vec Ideal S256x512 .f32) (g : Vec Ideal S16x512 .bf16) (w : Vec Ideal S1x512 .f32) : Vec Ideal S16x512 .bf16 :=
  k0_pay7 (k0_pay3 dc qd q k v S) g w

/-- The state the kernel starts from is the given one. -/
theorem start_at (s : Vec Ideal S1x1x256x512 .f32) (d : Fin 256) (e : Fin 512) : k0_pay1 s (ix2 d e) = s (ix4 0 0 d e) := by
  pointwise [k0_pay1]

/-- The state after the block. -/
theorem next_at (a : ℝ) {kd : Vec Ideal S1x16x1 .f32} {sd : Vec Ideal S1x1x1 .f32} (k : Vec Ideal S16x256 .bf16) (v : Vec Ideal S16x512 .bf16) (S : Vec Ideal S256x512 .f32)
    (hkd : ∀ i : Fin 16, kd (ix3 0 i 0) = (Real.exp ((((16 : ℕ) : ℝ) - 1 - (i : ℕ)) * a) : EReal))
    (hsd : sd (ix3 0 0 0) = (Real.exp (((16 : ℕ) : ℝ) * a) : EReal)) (d : Fin 256) (e : Fin 512) :
    NEXT kd sd k v S (ix2 d e) = ss a (fun i d => k (ix2 i d)) (fun i e => v (ix2 i e)) (fun d e => S (ix2 d e)) d e := by
  unfold NEXT ss
  pointwise [k0_pay6, k0_pay2, k0_pay4, k0_pay5]
  simp only [hsd, hkd]

/-- The gated rows of the block. -/
theorem out_at (a : ℝ) {dc : Vec Ideal S1x16x16 .f32} {qd : Vec Ideal S1x16x1 .f32} (q k : Vec Ideal S16x256 .bf16) (v : Vec Ideal S16x512 .bf16) (S : Vec Ideal S256x512 .f32)
    (g : Vec Ideal S16x512 .bf16) (w : Vec Ideal S1x512 .f32)
    (hdc : ∀ i j : Fin 16, dc (ix3 0 i j) = (dec a i j : EReal))
    (hqd : ∀ i : Fin 16, qd (ix3 0 i 0) = (Real.exp (((i : ℕ) + 1 : ℝ) * a) : EReal)) (i : Fin 16) (e : Fin 512) :
    OUT dc qd q k v S g w (ix2 i e) = gn (so a (fun i d => q (ix2 i d)) (fun i d => k (ix2 i d)) (fun i e => v (ix2 i e)) (fun d e => S (ix2 d e)) i)
      (g (ix2 i e)) (w (ix2 0 e)) e := by
  have ho : ∀ e : Fin 512, k0_pay3 dc qd q k v S (ix2 i e) = so a (fun i d => q (ix2 i d)) (fun i d => k (ix2 i d)) (fun i e => v (ix2 i e)) (fun d e => S (ix2 d e)) i e := fun e => by
    unfold so
    pointwise [k0_pay3]
    simp only [hdc, hqd]
  unfold OUT gn mean
  pointwise [k0_pay7]
  simp only [ho]

/-! ## What the windows of a grid step end with -/

section
variable (m : (ℓ : Loc nD τ sig) → Buf (Elt Ideal) ℓ)

/-- The state window ends with the state after the block. -/
theorem state_of (c : Dev nD) (t : Fin cfg0.N) (d : Fin 256) (e : Fin 512) :
    (outsAt0 m c t).2 (ix4 0 0 d e) = NEXT (iblk m c 7 t) (iblk m c 8 t) (iblk m c 1 t) (iblk m c 2 t) (k0_pay1 (iblk m c 9 t)) (ix2 d e) := by
  unfold outsAt0
  dsimp only
  frame_out
  unfold NEXT k0_pay8
  generalize k0_pay6 (F := Ideal) _ _ _ _ _ = Z
  pointwise

/-- The output window ends with the block's rows. -/
theorem rows_of (c : Dev nD) (t : Fin cfg0.N) (i : Fin 16) (e : Fin 512) :
    (outsAt0 m c t).1 (ix2 i e) = OUT (iblk m c 5 t) (iblk m c 6 t) (iblk m c 0 t) (iblk m c 1 t) (iblk m c 2 t) (k0_pay1 (iblk m c 9 t)) (iblk m c 3 t) (iblk m c 4 t) (ix2 i e) := by
  unfold outsAt0
  dsimp only
  frame_out
end

end Cert.RetSIdeal.Hand
-- ==== Proof.RetSArr.lean ====
module

public import proofs.«01_k».proof.Defs
public import proofs.«01_k».proof.Proof.RetSKernel

@[expose] public section

set_option maxRecDepth 16384
noncomputable section
open Idealize.ShloMosaic Idealize.ShloMosaic.TcCoe Idealize.SL.Sem
open Idealize.ShloMosaic.Pipeline (Dat)
open Cert.RetMath
namespace Cert.RetSIdeal.Hand
open Cert.RetSIdeal Cert.RetSIdeal.Gen

variable (m : (ℓ : Loc nD τ sig) → Buf (Elt Ideal) ℓ)

/-! ## The decay tables the host prepares -/

theorem dec_at (c : Dev nD) (h : Fin 4) (i j : Fin 16) : V m c main_v24 (ix3 h i j) = (dec (lg h) i j : EReal) := by
  rw [← dec_table (lg h) i j (by omega) (by omega), ← lgE_eq]
  unfold V lgE
  after_reads_at
  pointwise [id_eq]

theorem qd_at (c : Dev nD) (h : Fin 4) (i : Fin 16) : V m c main_v33 (ix3 h i 0) = (Real.exp (((i : ℕ) + 1 : ℝ) * lg h) : EReal) := by
  rw [← exp_coe, EReal.coe_mul, ← lgE_eq, EReal.coe_add, ← sitofp_ofNat i (by omega)]
  unfold V lgE
  after_reads_at
  simp

theorem kd_at (c : Dev nD) (h : Fin 4) (i : Fin 16) :
    V m c main_v42 (ix3 h i 0) = (Real.exp ((((16 : ℕ) : ℝ) - 1 - (i : ℕ)) * lg h) : EReal) := by
  rw [show (((16 : ℕ) : ℝ) - 1) = 15 by norm_num, ← exp_coe, EReal.coe_mul, ← lgE_eq, EReal.coe_sub, ← sitofp_ofNat i (by omega), ← ofBits_15]
  unfold V lgE
  after_reads_at

theorem sd_at (c : Dev nD) (h : Fin 4) : V m c main_v46 (ix3 h 0 0) = (Real.exp (((16 : ℕ) : ℝ) * lg h) : EReal) := by
  rw [show (((16 : ℕ) : ℝ)) = 16 by norm_num, ← exp_coe, EReal.coe_mul, ← lgE_eq, ← ofBits_16]
  unfold V lgE
  after_reads_at

theorem gn_at (c : Dev nD) (h : Fin 2048) : V m c main_v47 (ix2 0 h) = m (c, Proc.tc.devRef main_arg4) (ix1 h) := by
  unfold V
  after_reads_at

/-! ## Where each window lies in its array -/

theorem idx0 : ∀ t : Fin cfg0.N, win0_0.index t = ![t.val / 4, t.val % 4] := (by decide +kernel : ∀ t : Fin grid0.N, _)
theorem idx1 : ∀ t : Fin cfg0.N, win0_1.index t = ![t.val / 4, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)
theorem idx4 : ∀ t : Fin cfg0.N, win0_4.index t = ![0, t.val % 4] := (by decide +kernel : ∀ t : Fin grid0.N, _)
theorem idx5 : ∀ t : Fin cfg0.N, win0_5.index t = ![t.val % 4, 0, 0] := (by decide +kernel : ∀ t : Fin grid0.N, _)
theorem idx6 : ∀ t : Fin cfg0.N, win0_6.index t = ![t.val % 4, 0, 0] := (by decide +kernel : ∀ t : Fin grid0.N, _)
theorem idx7 : ∀ t : Fin cfg0.N, win0_7.index t = ![t.val % 4, 0, 0] := (by decide +kernel : ∀ t : Fin grid0.N, _)
theorem idx8 : ∀ t : Fin cfg0.N, win0_8.index t = ![t.val % 4, 0, 0] := (by decide +kernel : ∀ t : Fin grid0.N, _)
theorem idx9 : ∀ t : Fin cfg0.N, win0_9.index t = ![t.val / 4, t.val % 4, 0, 0] := (by decide +kernel : ∀ t : Fin grid0.N, _)
theorem idx10 : ∀ t : Fin cfg0.N, win0_10.index t = ![t.val / 4, t.val % 4] := (by decide +kernel : ∀ t : Fin grid0.N, _)
theorem idx11 : ∀ t : Fin cfg0.N, win0_11.index t = ![t.val / 4, t.val % 4, 0, 0] := (by decide +kernel : ∀ t : Fin grid0.N, _)
theorem pts : ∀ t : Fin cfg0.N, t.val < 128 := (by decide +kernel : ∀ t : Fin grid0.N, _)

/-- The batch member of a grid step. -/
def bOf (t : Fin cfg0.N) : Fin 32 := ⟨t.val / 4, by have := pts t; omega⟩
/-- The head of a grid step. -/
def hOf (t : Fin cfg0.N) : Fin 4 := ⟨t.val % 4, by omega⟩

/-! What each window of a grid step holds, at an index. -/
theorem blk0 (c : Dev nD) (t : Fin cfg0.N) (i : Fin 16) (d : Fin 256) :
    iblk m c 0 t (ix2 i d) = m (c, Proc.tc.devRef main_arg0) (ix2 ⟨(bOf t).val * 16 + i.val, by have := (bOf t).isLt; omega⟩
      ⟨(hOf t).val * 256 + d.val, by have := (hOf t).isLt; omega⟩) := by
  have e : (win0_0.blk t).view.emb (ix2 i d) = ix2 ⟨(bOf t).val * 16 + i.val, by have := (bOf t).isLt; omega⟩
      ⟨(hOf t).val * 256 + d.val, by have := (hOf t).isLt; omega⟩ := by blk_ext [idx0, bOf, hOf]
  show V m c main_arg0 ((win0_0.blk t).view.emb (ix2 i d)) = _
  rw [e, V_main_arg0]

theorem blk1 (c : Dev nD) (t : Fin cfg0.N) (i : Fin 16) (d : Fin 256) :
    iblk m c 1 t (ix2 i d) = m (c, Proc.tc.devRef main_arg1) (ix2 ⟨(bOf t).val * 16 + i.val, by have := (bOf t).isLt; omega⟩
      ⟨(hOf t).val * 256 + d.val, by have := (hOf t).isLt; omega⟩) := by
  have e : (win0_1.blk t).view.emb (ix2 i d) = ix2 ⟨(bOf t).val * 16 + i.val, by have := (bOf t).isLt; omega⟩
      ⟨(hOf t).val * 256 + d.val, by have := (hOf t).isLt; omega⟩ := by blk_ext [idx1, bOf, hOf]
  show V m c main_arg1 ((win0_1.blk t).view.emb (ix2 i d)) = _
  rw [e, V_main_arg1]

theorem blk2 (c : Dev nD) (t : Fin cfg0.N) (i : Fin 16) (d : Fin 512) :
    iblk m c 2 t (ix2 i d) = m (c, Proc.tc.devRef main_arg2) (ix2 ⟨(bOf t).val * 16 + i.val, by have := (bOf t).isLt; omega⟩
      ⟨(hOf t).val * 512 + d.val, by have := (hOf t).isLt; omega⟩) := by
  have e : (win0_2.blk t).view.emb (ix2 i d) = ix2 ⟨(bOf t).val * 16 + i.val, by have := (bOf t).isLt; omega⟩
      ⟨(hOf t).val * 512 + d.val, by have := (hOf t).isLt; omega⟩ := by blk_ext [idx2, bOf, hOf]
  show V m c main_arg2 ((win0_2.blk t).view.emb (ix2 i d)) = _
  rw [e, V_main_arg2]

theorem blk3 (c : Dev nD) (t : Fin cfg0.N) (i : Fin 16) (d : Fin 512) :
    iblk m c 3 t (ix2 i d) = m (c, Proc.tc.devRef main_arg3) (ix2 ⟨(bOf t).val * 16 + i.val, by have := (bOf t).isLt; omega⟩
      ⟨(hOf t).val * 512 + d.val, by have := (hOf t).isLt; omega⟩) := by
  have e : (win0_3.blk t).view.emb (ix2 i d) = ix2 ⟨(bOf t).val * 16 + i.val, by have := (bOf t).isLt; omega⟩
      ⟨(hOf t).val * 512 + d.val, by have := (hOf t).isLt; omega⟩ := by blk_ext [idx3, bOf, hOf]
  show V m c main_arg3 ((win0_3.blk t).view.emb (ix2 i d)) = _
  rw [e, V_main_arg3]

theorem blk4 (c : Dev nD) (t : Fin cfg0.N) (d : Fin 512) :
    iblk m c 4 t (ix2 0 d) = m (c, Proc.tc.devRef main_arg4) (ix1 ⟨(hOf t).val * 512 + d.val, by have := (hOf t).isLt; omega⟩) := by
  have e : (win0_4.blk t).view.emb (ix2 0 d) = ix2 0 ⟨(hOf t).val * 512 + d.val, by have := (hOf t).isLt; omega⟩ := by blk_ext [idx4, hOf]
  show V m c main_v47 ((win0_4.blk t).view.emb (ix2 0 d)) = _
  rw [e, gn_at]

theorem blk5 (c : Dev nD) (t : Fin cfg0.N) (i j : Fin 16) : iblk m c 5 t (ix3 0 i j) = (dec (lg (hOf t)) i j : EReal) := by
  have e : (win0_5.blk t).view.emb (ix3 0 i j) = ix3 (hOf t) i j := by blk_ext [idx5, hOf]
  show V m c main_v24 ((win0_5.blk t).view.emb (ix3 0 i j)) = _
  rw [e, dec_at]

theorem blk6 (c : Dev nD) (t : Fin cfg0.N) (i : Fin 16) : iblk m c 6 t (ix3 0 i 0) = (Real.exp (((i : ℕ) + 1 : ℝ) * lg (hOf t)) : EReal) := by
  have e : (win0_6.blk t).view.emb (ix3 0 i 0) = ix3 (hOf t) i 0 := by blk_ext [idx6, hOf]
  show V m c main_v33 ((win0_6.blk t).view.emb (ix3 0 i 0)) = _
  rw [e, qd_at]

theorem blk7 (c : Dev nD) (t : Fin cfg0.N) (i : Fin 16) : iblk m c 7 t (ix3 0 i 0) = (Real.exp ((((16 : ℕ) : ℝ) - 1 - (i : ℕ)) * lg (hOf t)) : EReal) := by
  have e : (win0_7.blk t).view.emb (ix3 0 i 0) = ix3 (hOf t) i 0 := by blk_ext [idx7, hOf]
  show V m c main_v42 ((win0_7.blk t).view.emb (ix3 0 i 0)) = _
  rw [e, kd_at]

theorem blk8 (c : Dev nD) (t : Fin cfg0.N)  : iblk m c 8 t (ix3 0 0 0) = (Real.exp (((16 : ℕ) : ℝ) * lg (hOf t)) : EReal) := by
  have e : (win0_8.blk t).view.emb (ix3 0 0 0) = ix3 (hOf t) 0 0 := by blk_ext [idx8, hOf]
  show V m c main_v46 ((win0_8.blk t).view.emb (ix3 0 0 0)) = _
  rw [e, sd_at]

theorem blk9 (c : Dev nD) (t : Fin cfg0.N) (d : Fin 256) (e : Fin 512) :
    iblk m c 9 t (ix4 0 0 d e) = m (c, Proc.tc.devRef main_arg5) (ix4 (bOf t) (hOf t) d e) := by
  have h : (win0_9.blk t).view.emb (ix4 0 0 d e) = ix4 (bOf t) (hOf t) d e := by blk_ext [idx9, bOf, hOf]
  show V m c main_arg5 ((win0_9.blk t).view.emb (ix4 0 0 d e)) = _
  rw [h, V_main_arg5]

/-! ## The two result arrays -/

/-- The state array after the run. -/
theorem state_arr (c : Dev nD) : (dats m 0 c).arrAt 11 cfg0.N = SSTATE (m (c, Proc.tc.devRef main_arg1)) (m (c, Proc.tc.devRef main_arg2)) (m (c, Proc.tc.devRef main_arg5)) := by
  refine (dats m 0 c).arrAt_eq_of_covers 11 _ (by decide +kernel) fun t hf y => ?_
  blk_simp
  rw [after0_11]
  idx_vars y
  obtain rfl : y0 = 0 := Subsingleton.elim _ _
  obtain rfl : y1 = 0 := Subsingleton.elim _ _
  have : (win0_11.blk t).view.emb (ix4 0 0 y2 y3) = ix4 (bOf t) (hOf t) y2 y3 := by
    blk_ext [idx11, bOf, hOf]
  rw [this, state_of, next_at (lg (hOf t)) _ _ _ (blk7 m c t) (blk8 m c t)]
  simp only [blk1, blk2, start_at, blk9]
  rfl

/-- The gated output array after the run. -/
theorem out_arr (c : Dev nD) : (dats m 0 c).arrAt 10 cfg0.N = SYOUT (m (c, Proc.tc.devRef main_arg0)) (m (c, Proc.tc.devRef main_arg1)) (m (c, Proc.tc.devRef main_arg2))
      (m (c, Proc.tc.devRef main_arg3)) (m (c, Proc.tc.devRef main_arg4)) (m (c, Proc.tc.devRef main_arg5)) := by
  refine (dats m 0 c).arrAt_eq_of_covers 10 _ (by decide +kernel) fun t hf y => ?_
  have ht := pts t
  blk_simp
  rw [after0_10]
  idx_vars y
  have e : (win0_10.blk t).view.emb (ix2 y0 y1) = ix2 ⟨(bOf t).val * 16 + y0.val, by have := (bOf t).isLt; omega⟩
      ⟨(hOf t).val * 512 + y1.val, by have := (hOf t).isLt; omega⟩ := by
    blk_ext [idx10, bOf, hOf]
  rw [e, rows_of, out_at (lg (hOf t)) _ _ _ _ _ _ (blk5 m c t) (blk6 m c t)]
  simp only [blk0, blk1, blk2, blk3, blk4, start_at, blk9]
  have hb : (⟨((bOf t).val * 16 + y0.val) / 16, by have := (bOf t).isLt; omega⟩ : Fin 32) = bOf t := Fin.ext (by simp; omega)
  have hh : (⟨((hOf t).val * 512 + y1.val) / 512, by have := (hOf t).isLt; omega⟩ : Fin 4) = hOf t := Fin.ext (by simp; omega)
  have hi : (⟨((bOf t).val * 16 + y0.val) % 16, by omega⟩ : Fin 16) = y0 := Fin.ext (by simp)
  have hj : (⟨((hOf t).val * 512 + y1.val) % 512, by omega⟩ : Fin 512) = y1 := Fin.ext (by simp)
  show _ = SROW _ _ _ _ _ _ ⟨((bOf t).val * 16 + y0.val) / 16, _⟩ ⟨((hOf t).val * 512 + y1.val) / 512, _⟩
    ⟨((bOf t).val * 16 + y0.val) % 16, _⟩ ⟨((hOf t).val * 512 + y1.val) % 512, _⟩
  rw [hb, hh, hi, hj]
  rfl

end Cert.RetSIdeal.Hand
-- ==== Proof.RetSRef.lean ====
module

public import proofs.«01_k».proof.Defs
public import proofs.«01_k».proof.Proof.Gen.RetSRefIdeal.Run
public import proofs.«01_k».proof.Proof.RetSMath
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem Idealize.ShloMosaic.StableHlo
open Cert.RetMath
namespace Cert.RetSRefIdeal.Hand
open Cert.RetSRefIdeal Cert.RetSRefIdeal.Gen Cert.RetSRefIdeal.Value

/-! ## The reference's tables -/

/-- The heads' log decays. -/
def Lg : FVec Ideal S4 .f32 :=
  Host.log1p (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))

/-- The differences of two tokens' positions. -/
def Df : FVec Ideal S16x16 .f32 :=
  subf (broadcastInDim S16x16 ![0, 1] bcast_S16x1_S16x16_0_1 (broadcastInDim S16x1 ![0] bcast_S16_S16x1_0 (sitofp .f32 (iotaInDim S16 32 0)))) (broadcastInDim S16x16 ![0, 1] bcast_S1x16_S16x16_0_1 (broadcastInDim S1x16 ![1] bcast_S16_S1x16_1 (sitofp .f32 (iotaInDim S16 32 0))))

/-- The causal decay table. -/
def Dt (L : FVec Ideal S4 .f32) : FVec Ideal S4x16x16 .f32 :=
  select (broadcastInDim S4x16x16 ![1, 2] bcast_S16x16_S4x16x16_1_2 (cmpf .oge Df (broadcastInDim S16x16 ![] bcast_S_S16x16 (constant S_ .f32 0x00000000#32)))) (Host.exp (mulf (broadcastInDim S4x16x16 ![0, 1, 2] bcast_S1x16x16_S4x16x16_0_1_2 (broadcastInDim S1x16x16 ![1, 2] bcast_S16x16_S1x16x16_1_2 (maximumf Df (broadcastInDim S16x16 ![] bcast_S_S16x16 (constant S_ .f32 0x00000000#32))))) (broadcastInDim S4x16x16 ![0, 1, 2] bcast_S4x1x1_S4x16x16_0_1_2 (broadcastInDim S4x1x1 ![0] bcast_S4_S4x1x1_0 L)))) (broadcastInDim S4x16x16 ![] bcast_S_S4x16x16 (id (constant S_ .f32 0x00000000#32)))

/-- The queries' decays. -/
def Qd (L : FVec Ideal S4 .f32) : FVec Ideal S16x4 .f32 :=
  Host.exp (mulf (broadcastInDim S16x4 ![0, 1] bcast_S16x1_S16x4_0_1 (broadcastInDim S16x1 ![0] bcast_S16_S16x1_0 (addf (sitofp .f32 (iotaInDim S16 32 0)) (broadcastInDim S16 ![] bcast_S_S16 (constant S_ .f32 0x3F800000#32))))) (broadcastInDim S16x4 ![0, 1] bcast_S1x4_S16x4_0_1 (broadcastInDim S1x4 ![1] bcast_S4_S1x4_1 L)))

/-- The keys' decays. -/
def Kd (L : FVec Ideal S4 .f32) : FVec Ideal S16x4 .f32 :=
  Host.exp (mulf (broadcastInDim S16x4 ![0, 1] bcast_S16x1_S16x4_0_1 (broadcastInDim S16x1 ![0] bcast_S16_S16x1_0 (subf (broadcastInDim S16 ![] bcast_S_S16 (constant S_ .f32 0x41700000#32)) (sitofp .f32 (iotaInDim S16 32 0))))) (broadcastInDim S16x4 ![0, 1] bcast_S1x4_S16x4_0_1 (broadcastInDim S1x4 ![1] bcast_S4_S1x4_1 L)))

/-- The states' decays. -/
def Sd (L : FVec Ideal S4 .f32) : FVec Ideal S4 .f32 :=
  Host.exp (mulf (broadcastInDim S4 ![] bcast_S_S4 (constant S_ .f32 0x41800000#32)) L)

/-- The queries or keys by batch member, token and head. -/
def Hk (x : FVec Ideal S512x1024 .bf16) : FVec Ideal S32x16x4x256 .f32 := shapeCast _ (extf .f32 x bitsLt_bf16_f32) shapeCasts_S512x1024_S32x16x4x256

/-- The values by batch member, token and head. -/
def Hv (x : FVec Ideal S512x2048 .bf16) : FVec Ideal S32x16x4x512 .f32 := shapeCast _ (extf .f32 x bitsLt_bf16_f32) shapeCasts_S512x2048_S32x16x4x512

theorem lg_at (h : Fin 4) : (Lg (ix1 h) : EReal) = (lg h : EReal) := by
  rw [← lgE_eq]
  unfold Lg lgE
  pointwise

theorem df_at (i j : Fin 16) : (Df (ix2 i j) : EReal) = FloatOps.sitofp (F := Ideal) .f32 (BitVec.ofNat 32 i) - FloatOps.sitofp (F := Ideal) .f32 (BitVec.ofNat 32 j) := by
  unfold Df
  pointwise

theorem dt_at (L : FVec Ideal S4 .f32) (h : Fin 4) (a : ℝ) (hL : (L (ix1 h) : EReal) = (a : EReal)) (i j : Fin 16) : (Dt L (ix3 h i j) : EReal) = (dec a i j : EReal) := by
  rw [← dec_table a i j (by omega) (by omega), ← hL, ← df_at]
  unfold Dt
  generalize Df = D
  pointwise [id_eq]

theorem qd_at (L : FVec Ideal S4 .f32) (h : Fin 4) (a : ℝ) (hL : (L (ix1 h) : EReal) = (a : EReal)) (i : Fin 16) :
    (Qd L (ix2 i h) : EReal) = (Real.exp (((i : ℕ) + 1 : ℝ) * a) : EReal) := by
  rw [← exp_coe, EReal.coe_mul, ← hL, EReal.coe_add, ← sitofp_ofNat i (by omega)]
  unfold Qd
  pointwise
  simp

theorem kd_at (L : FVec Ideal S4 .f32) (h : Fin 4) (a : ℝ) (hL : (L (ix1 h) : EReal) = (a : EReal)) (i : Fin 16) :
    (Kd L (ix2 i h) : EReal) = (Real.exp ((((16 : ℕ) : ℝ) - 1 - (i : ℕ)) * a) : EReal) := by
  rw [show (((16 : ℕ) : ℝ) - 1) = 15 by norm_num, ← exp_coe, EReal.coe_mul, ← hL, EReal.coe_sub, ← sitofp_ofNat i (by omega), ← ofBits_15]
  unfold Kd
  pointwise

theorem sd_at (L : FVec Ideal S4 .f32) (h : Fin 4) (a : ℝ) (hL : (L (ix1 h) : EReal) = (a : EReal)) :
    (Sd L (ix1 h) : EReal) = (Real.exp (((16 : ℕ) : ℝ) * a) : EReal) := by
  rw [show (((16 : ℕ) : ℝ)) = 16 by norm_num, ← exp_coe, EReal.coe_mul, ← hL, ← ofBits_16]
  unfold Sd
  pointwise

theorem hk_at (x : FVec Ideal S512x1024 .bf16) (b : Fin 32) (i : Fin 16) (h : Fin 4) (d : Fin 256) : (Hk x (ix4 b i h d) : EReal) = sk x b h i d := by
  unfold Hk sk
  pointwise

theorem hv_at (x : FVec Ideal S512x2048 .bf16) (b : Fin 32) (i : Fin 16) (h : Fin 4) (d : Fin 512) : (Hv x (ix4 b i h d) : EReal) = sv x b h i d := by
  unfold Hv sv
  pointwise

/-! ## The block's outputs and state -/

/-- The outputs by batch member, token and head. -/
def Os (q k : FVec Ideal S32x16x4x256 .f32) (v : FVec Ideal S32x16x4x512 .f32) (s : FVec Ideal S32x4x256x512 .f32) (D : FVec Ideal S4x16x16 .f32) (Q : FVec Ideal S16x4 .f32) :
    FVec Ideal S32x16x4x512 .f32 :=
  addf (transpose S32x16x4x512 [0, 3, 1, 2] (Host.dotGeneral dot_S32x16x4x512_S32x4x16x16_S32x4x512x16_1_3_3_2_02_01 none v (mulf (Host.dotGeneral dot_S32x16x4x256_S32x16x4x256_S32x4x16x16_3_3_1_1_02_02 none q k) (broadcastInDim S32x4x16x16 ![0, 1, 2, 3] bcast_S1x4x16x16_S32x4x16x16_0_1_2_3 (broadcastInDim S1x4x16x16 ![1, 2, 3] bcast_S4x16x16_S1x4x16x16_1_2_3 D)))) transposes_S32x4x512x16_S32x16x4x512_0_3_1_2)
    (mulf (transpose S32x16x4x512 [0, 3, 1, 2] (Host.dotGeneral dot_S32x4x256x512_S32x16x4x256_S32x4x512x16_2_3_3_1_01_02 none s q) transposes_S32x4x512x16_S32x16x4x512_0_3_1_2) (broadcastInDim S32x16x4x512 ![0, 1, 2, 3] bcast_S1x16x4x1_S32x16x4x512_0_1_2_3 (broadcastInDim S1x16x4x1 ![1, 2] bcast_S16x4_S1x16x4x1_1_2 Q)))

/-- The new states. -/
def Ns (k : FVec Ideal S32x16x4x256 .f32) (v : FVec Ideal S32x16x4x512 .f32) (s : FVec Ideal S32x4x256x512 .f32) (K : FVec Ideal S16x4 .f32) (S : FVec Ideal S4 .f32) :
    FVec Ideal S32x4x256x512 .f32 :=
  addf (mulf (broadcastInDim S32x4x256x512 ![0, 1, 2, 3] bcast_S1x4x1x1_S32x4x256x512_0_1_2_3 (broadcastInDim S1x4x1x1 ![1] bcast_S4_S1x4x1x1_1 S)) s) (Host.dotGeneral dot_S32x16x4x256_S32x16x4x512_S32x4x256x512_1_1_3_3_02_02 none (mulf k (broadcastInDim S32x16x4x256 ![0, 1, 2, 3] bcast_S1x16x4x1_S32x16x4x256_0_1_2_3 (broadcastInDim S1x16x4x1 ![1, 2] bcast_S16x4_S1x16x4x1_1_2 K))) v)

theorem os_at (q k : FVec Ideal S32x16x4x256 .f32) (v : FVec Ideal S32x16x4x512 .f32) (s : FVec Ideal S32x4x256x512 .f32) (D : FVec Ideal S4x16x16 .f32) (Q : FVec Ideal S16x4 .f32)
    (b : Fin 32) (i : Fin 16) (h : Fin 4) (e : Fin 512) : (Os q k v s D Q (ix4 b i h e) : EReal)
      = ∑ j : Fin 16, (v (ix4 b j h e) : EReal) * ((∑ d : Fin 256, (q (ix4 b i h d) : EReal) * k (ix4 b j h d)) * D (ix3 h i j))
        + (∑ d : Fin 256, (s (ix4 b h d e) : EReal) * q (ix4 b i h d)) * Q (ix2 i h) := by
  unfold Os
  pointwise

theorem ns_at (k : FVec Ideal S32x16x4x256 .f32) (v : FVec Ideal S32x16x4x512 .f32) (s : FVec Ideal S32x4x256x512 .f32) (K : FVec Ideal S16x4 .f32) (S : FVec Ideal S4 .f32)
    (b : Fin 32) (h : Fin 4) (d : Fin 256) (e : Fin 512) : (Ns k v s K S (ix4 b h d e) : EReal)
      = (S (ix1 h) : EReal) * s (ix4 b h d e) + ∑ i : Fin 16, (k (ix4 b i h d) : EReal) * K (ix2 i h) * v (ix4 b i h e) := by
  unfold Ns
  pointwise

/-- The outputs are the block's outputs. -/
theorem os_eq (q k : FVec Ideal S512x1024 .bf16) (v : FVec Ideal S512x2048 .bf16) (s : FVec Ideal S32x4x256x512 .f32) (b : Fin 32) (i : Fin 16) (h : Fin 4) (e : Fin 512) :
    (Os (Hk q) (Hk k) (Hv v) s (Dt Lg) (Qd Lg) (ix4 b i h e) : EReal)
      = so (lg h) (sk q b h) (sk k b h) (sv v b h) (fun d e => s (ix4 b h d e)) i e := by
  rw [os_at, qd_at Lg h (lg h) (lg_at h)]
  unfold so
  simp only [hk_at, hv_at, dt_at Lg h (lg h) (lg_at h)]
  congr 1
  · exact Finset.sum_congr rfl fun j _ => mul_comm _ _
  · congr 1
    exact Finset.sum_congr rfl fun j _ => mul_comm _ _

/-! ## The group norm and the gate -/

/-- The heads' rows less their means. -/
def Cn (z : FVec Ideal S32x16x4x512 .f32) : FVec Ideal S32x16x4x512 .f32 :=
  subf z (broadcastInDim S32x16x4x512 ![0, 1, 2, 3] bcast_S32x16x4x1_S32x16x4x512_0_1_2_3 (Host.divf (broadcastInDim S32x16x4x1 ![0, 1, 2] bcast_S32x16x4_S32x16x4x1_0_1_2 (Host.reduceAdd z (constant S_ .f32 0x00000000#32) reducesTo_S32x16x4x512_S32x16x4_d3 h_S_)) (broadcastInDim S32x16x4x1 ![] bcast_S_S32x16x4x1 (constant S_ .f32 0x44000000#32))))

/-- Centred rows divided by the root of their mean square. -/
def Nm (c : FVec Ideal S32x16x4x512 .f32) : FVec Ideal S32x16x4x512 .f32 :=
  mulf c (broadcastInDim S32x16x4x512 ![0, 1, 2, 3] bcast_S32x16x4x1_S32x16x4x512_0_1_2_3 (Host.rsqrt (addf (Host.divf (broadcastInDim S32x16x4x1 ![0, 1, 2] bcast_S32x16x4_S32x16x4x1_0_1_2 (Host.reduceAdd (mulf c c) (constant S_ .f32 0x00000000#32) reducesTo_S32x16x4x512_S32x16x4_d3 h_S_)) (broadcastInDim S32x16x4x1 ![] bcast_S_S32x16x4x1 (constant S_ .f32 0x44000000#32))) (broadcastInDim S32x16x4x1 ![] bcast_S_S32x16x4x1 (constant S_ .f32 0x3727C5AC#32)))))

/-- Normalised rows scaled and gated. -/
def Gt (n : FVec Ideal S32x16x4x512 .f32) (g : FVec Ideal S512x2048 .bf16) (w : FVec Ideal S2048 .f32) : FVec Ideal S512x2048 .bf16 :=
  shapeCast _ (truncf .bf16 (mulf (shapeCast _ (extf .f32 g bitsLt_bf16_f32) shapeCasts_S512x2048_S32x16x2048) (mulf (shapeCast _ n shapeCasts_S32x16x4x512_S32x16x2048) (broadcastInDim S32x16x2048 ![0, 1, 2] bcast_S1x1x2048_S32x16x2048_0_1_2 (broadcastInDim S1x1x2048 ![2] bcast_S2048_S1x1x2048_2 w)))) bitsLt_bf16_f32) shapeCasts_S32x16x2048_S512x2048

theorem cn_at (z : FVec Ideal S32x16x4x512 .f32) (b : Fin 32) (t : Fin 16) (h : Fin 4) (e : Fin 512) :
    (Cn z (ix4 b t h e) : EReal) = (z (ix4 b t h e) : EReal) - mean (fun j => z (ix4 b t h j)) := by
  unfold Cn
  pointwise [mean]

theorem nm_at (c : FVec Ideal S32x16x4x512 .f32) (b : Fin 32) (t : Fin 16) (h : Fin 4) (e : Fin 512) :
    (Nm c (ix4 b t h e) : EReal) = (c (ix4 b t h e) : EReal) * Ideal.rsqrt (mean (fun j => (c (ix4 b t h j) : EReal) * c (ix4 b t h j)) + Ideal.ofBits .f32 0x3727C5AC#32) := by
  unfold Nm
  pointwise [mean]

theorem gt_at (n : FVec Ideal S32x16x4x512 .f32) (g : FVec Ideal S512x2048 .bf16) (w : FVec Ideal S2048 .f32) (y0 : Fin 512) (y1 : Fin 2048) :
    (Gt n g w (ix2 y0 y1) : EReal) = (g (ix2 y0 y1) : EReal) * ((n (ix4 ⟨y0.val / 16, by omega⟩ ⟨y0.val % 16, by omega⟩ ⟨y1.val / 512, by omega⟩ ⟨y1.val % 512, by omega⟩) : EReal) * w (ix1 y1)) := by
  unfold Gt
  pointwise

section
variable (m : (ℓ : Loc nD τ sig) → Buf (Elt Ideal) ℓ)

/-- The outputs the program returns, by parts. -/
theorem y_parts (c : Dev nD) : res_out0 m c = Gt (Nm (Cn (Os (Hk (m (c, Proc.tc.devRef main_arg0))) (Hk (m (c, Proc.tc.devRef main_arg1)))
    (Hv (m (c, Proc.tc.devRef main_arg2))) (m (c, Proc.tc.devRef main_arg5)) (Dt Lg) (Qd Lg)))) (m (c, Proc.tc.devRef main_arg3)) (m (c, Proc.tc.devRef main_arg4)) := rfl

/-- The outputs by parts are the block's rows. -/
theorem y_eq (q k : FVec Ideal S512x1024 .bf16) (v g : FVec Ideal S512x2048 .bf16) (w : FVec Ideal S2048 .f32) (s : FVec Ideal S32x4x256x512 .f32) :
    Gt (Nm (Cn (Os (Hk q) (Hk k) (Hv v) s (Dt Lg) (Qd Lg)))) g w = SYOUT q k v g w s := by
  funext y
  idx_vars y
  refine (gt_at _ g w y0 y1).trans ?_
  rw [nm_at]
  simp only [cn_at, os_eq]
  show _ = SROW q k v g w s ⟨y0.val / 16, _⟩ ⟨y1.val / 512, _⟩ ⟨y0.val % 16, _⟩ ⟨y1.val % 512, _⟩
  unfold SROW sv
  have a3 : (ix2 y0 y1 : (⟨2, ![512, 2048]⟩ : Shape).Idx) = ix2 ⟨y0.val / 16 * 16 + y0.val % 16, by omega⟩ ⟨y1.val / 512 * 512 + y1.val % 512, by omega⟩ :=
    congrArg₂ ix2 (Fin.ext (by simp only []; omega)) (Fin.ext (by simp only []; omega))
  have a4 : (ix1 y1 : (⟨1, ![2048]⟩ : Shape).Idx) = ix1 ⟨y1.val / 512 * 512 + y1.val % 512, by omega⟩ :=
    congrArg ix1 (Fin.ext (by simp only []; omega))
  rw [congrArg g a3, congrArg w a4]
  rfl

/-- The new states by parts are the block's new states. -/
theorem s_eq (k : FVec Ideal S512x1024 .bf16) (v : FVec Ideal S512x2048 .bf16) (s : FVec Ideal S32x4x256x512 .f32) :
    Ns (Hk k) (Hv v) s (Kd Lg) (Sd Lg) = SSTATE k v s := by
  funext y
  idx_vars y
  refine (ns_at _ _ s _ _ y0 y1 y2 y3).trans ?_
  simp only [hk_at, hv_at, kd_at Lg y1 (lg y1) (lg_at y1), sd_at Lg y1 (lg y1) (lg_at y1)]
  rfl

end
end Cert.RetSRefIdeal.Hand
-- ==== Proof.RetSPair.lean ====
module

public import proofs.«01_k».proof.Defs
public import proofs.«01_k».proof.Proof.Gen.RetS.Frame
public import proofs.«01_k».proof.Proof.Gen.RetSIdeal.Value
public import proofs.«01_k».proof.Proof.RetSArr
public import proofs.«01_k».proof.Proof.RetSRef
public import Idealize.ShloMosaic.Lib.Quiescent

@[expose] public section

noncomputable section
open Idealize.ShloMosaic Idealize.SL.Sem Cert.RetMath
namespace Cert.RetSPair

/-- The sampled retention reference ends with its arguments unchanged and its counters at zero. -/
theorem frame_ref :
    Cert.quiescent_RetSRefIdeal (hRetSRefIdeal := Cert.RetSRefIdeal.Gen.facts) := fun m ρ _ =>
  (θ_run Cert.RetSRefIdeal.defs _ _).mono (fun r h => ⟨fun c => (h c).2.2, sem_eq_zero_of_no_sems (by decide) r.2⟩)
    (Cert.RetSRefIdeal.Value.run (F := Ideal) m ρ)

/-- The retention kernel on sampled rows and its reference end with the same gated rows and the same states. -/
theorem value : Cert.algebraic_RetSIdeal_RetSRefIdeal (hRetSIdeal := Cert.RetSIdeal.Gen.facts) (hRetSRefIdeal := Cert.RetSRefIdeal.Gen.facts) := by
  intro m g m' g' _ agree
  refine ⟨_, _, Cert.RetSIdeal.Value.run_blocks (F := Ideal) m g, ?_⟩
  refine (θ_run Cert.RetSRefIdeal.defs _ _).mono (fun r h c => ?_) (Cert.RetSRefIdeal.Value.run (F := Ideal) m' g')
  obtain ⟨a0, a1, a2, a3, a4, a5⟩ := agree c
  obtain ⟨h0, h1, h2⟩ := h c
  refine ⟨h0.trans ?_, h1.trans ?_, h2⟩
  · refine (Cert.RetSRefIdeal.Hand.y_parts m' c).trans ((Cert.RetSRefIdeal.Hand.y_eq _ _ _ _ _ _).trans (Eq.trans ?_ (Cert.RetSIdeal.Hand.out_arr m c).symm))
    exact congr (congr (congr (congr (congr (congrArg SYOUT a0) a1) a2) a3) a4) a5
  · refine (Cert.RetSRefIdeal.Hand.s_eq _ _ _).trans (Eq.trans ?_ (Cert.RetSIdeal.Hand.state_arr m c).symm)
    exact congr (congr (congrArg SSTATE a1) a2) a5

end Cert.RetSPair
-- ==== Proof.LitMath.lean ====
module

public import Idealize.ShloMosaic.PureOps.Ideal
public import Idealize.ShloMosaic.Lib.Pointwise

@[expose] public section

set_option maxRecDepth 16384
noncomputable section
open Idealize.ShloMosaic
namespace Cert.LitMath

/-- `x` at the even places below 128 and `y` at the odd ones, spelt out. -/
def pick (k : ℕ) (x y : BitVec 16) : BitVec 16 := match k with
  | 0 => x
  | 1 => y
  | 2 => x
  | 3 => y
  | 4 => x
  | 5 => y
  | 6 => x
  | 7 => y
  | 8 => x
  | 9 => y
  | 10 => x
  | 11 => y
  | 12 => x
  | 13 => y
  | 14 => x
  | 15 => y
  | 16 => x
  | 17 => y
  | 18 => x
  | 19 => y
  | 20 => x
  | 21 => y
  | 22 => x
  | 23 => y
  | 24 => x
  | 25 => y
  | 26 => x
  | 27 => y
  | 28 => x
  | 29 => y
  | 30 => x
  | 31 => y
  | 32 => x
  | 33 => y
  | 34 => x
  | 35 => y
  | 36 => x
  | 37 => y
  | 38 => x
  | 39 => y
  | 40 => x
  | 41 => y
  | 42 => x
  | 43 => y
  | 44 => x
  | 45 => y
  | 46 => x
  | 47 => y
  | 48 => x
  | 49 => y
  | 50 => x
  | 51 => y
  | 52 => x
  | 53 => y
  | 54 => x
  | 55 => y
  | 56 => x
  | 57 => y
  | 58 => x
  | 59 => y
  | 60 => x
  | 61 => y
  | 62 => x
  | 63 => y
  | 64 => x
  | 65 => y
  | 66 => x
  | 67 => y
  | 68 => x
  | 69 => y
  | 70 => x
  | 71 => y
  | 72 => x
  | 73 => y
  | 74 => x
  | 75 => y
  | 76 => x
  | 77 => y
  | 78 => x
  | 79 => y
  | 80 => x
  | 81 => y
  | 82 => x
  | 83 => y
  | 84 => x
  | 85 => y
  | 86 => x
  | 87 => y
  | 88 => x
  | 89 => y
  | 90 => x
  | 91 => y
  | 92 => x
  | 93 => y
  | 94 => x
  | 95 => y
  | 96 => x
  | 97 => y
  | 98 => x
  | 99 => y
  | 100 => x
  | 101 => y
  | 102 => x
  | 103 => y
  | 104 => x
  | 105 => y
  | 106 => x
  | 107 => y
  | 108 => x
  | 109 => y
  | 110 => x
  | 111 => y
  | 112 => x
  | 113 => y
  | 114 => x
  | 115 => y
  | 116 => x
  | 117 => y
  | 118 => x
  | 119 => y
  | 120 => x
  | 121 => y
  | 122 => x
  | 123 => y
  | 124 => x
  | 125 => y
  | 126 => x
  | 127 => y
  | _ => 0#16

/-- One or zero, as a word. -/
def bit (b : Bool) : BitVec 16 := if b then 0x3F80#16 else 0x0000#16

/-- The spelt out choice is the parity's. -/
theorem pick_fin : ∀ k : Fin 128, ∀ x y : Bool, pick k.val (bit x) (bit y) = bit (if k.val % 2 = 0 then x else y) := by decide +kernel

/-- The choice at a place below 128. -/
theorem pick_at (k : ℕ) (hk : k < 128) (x y : Bool) : pick k (bit x) (bit y) = bit (if k % 2 = 0 then x else y) := pick_fin ⟨k, hk⟩ x y

end Cert.LitMath
-- ==== Proof.QkvMath.lean ====
module

public import proofs.«01_k».proof.Proof.LitMath
public import Mathlib.Algebra.BigOperators.Fin

@[expose] public section

noncomputable section
open Idealize.ShloMosaic
namespace Cert.QkvMath
open Cert.LitMath

/-! ## Queries, keys and values: the projections, the norm of each head of 64 lanes, the forget gate -/

/-- The product of a row with a column of the weights. -/
def lin (h : Fin 1024 → EReal) (w : Fin 1024 → EReal) : EReal := ∑ d, h d * w d

/-- A head's row over the root of its mean square, scaled by `g`, at lane `e`. -/
def hn (x g : Fin 64 → EReal) (e : Fin 64) : EReal :=
  x e * Ideal.rsqrt (Ideal.div (∑ j, x j * x j) (Ideal.ofBits .f32 0x42800000#32) + Ideal.ofBits .f32 0x358637BD#32) * g e

/-- The projected lane `n` of row `i`, the columns of the weights counted from `o`. -/
def kv {r : ℕ} (o : ℕ) (ho : o ≤ 2048) (h : (⟨2, ![r, 1024]⟩ : Shape).Idx → EReal) (w : (⟨2, ![1024, 3072]⟩ : Shape).Idx → EReal) (i : Fin r) (n : Fin 1024) : EReal :=
  lin (fun d => h (ix2 i d)) (fun d => w (ix2 d ⟨o + n.val, by omega⟩))

/-- The projected and normalised lane `n` of row `i`. -/
def kn {r : ℕ} (o : ℕ) (ho : o ≤ 2048) (h : (⟨2, ![r, 1024]⟩ : Shape).Idx → EReal) (w : (⟨2, ![1024, 3072]⟩ : Shape).Idx → EReal)
    (g : (⟨1, ![64]⟩ : Shape).Idx → EReal) (i : Fin r) (n : Fin 1024) : EReal :=
  hn (fun d => kv o ho h w i ⟨n.val / 64 * 64 + d.val, by omega⟩) (fun d => g (ix1 d)) ⟨n.val % 64, Nat.mod_lt _ (by norm_num)⟩

/-- The queries, scaled. -/
def QO {r : ℕ} (h : (⟨2, ![r, 1024]⟩ : Shape).Idx → EReal) (w : (⟨2, ![1024, 3072]⟩ : Shape).Idx → EReal) (g : (⟨1, ![64]⟩ : Shape).Idx → EReal) :
    (⟨2, ![r, 1024]⟩ : Shape).Idx → EReal := fun y => kn 0 (by norm_num) h w g (y 0) (y 1) * Ideal.ofBits .f32 0x3E38AA3B#32

/-- The keys. -/
def KO {r : ℕ} (h : (⟨2, ![r, 1024]⟩ : Shape).Idx → EReal) (w : (⟨2, ![1024, 3072]⟩ : Shape).Idx → EReal) (g : (⟨1, ![64]⟩ : Shape).Idx → EReal) :
    (⟨2, ![r, 1024]⟩ : Shape).Idx → EReal := fun y => kn 1024 (by norm_num) h w g (y 0) (y 1)

/-- The values. -/
def VO {r : ℕ} (h : (⟨2, ![r, 1024]⟩ : Shape).Idx → EReal) (w : (⟨2, ![1024, 3072]⟩ : Shape).Idx → EReal) :
    (⟨2, ![r, 1024]⟩ : Shape).Idx → EReal := fun y => kv 2048 (by norm_num) h w (y 0) (y 1)

/-- The keys of a batch member, lane by token. -/
def KT (h : (⟨2, ![65536, 1024]⟩ : Shape).Idx → EReal) (w : (⟨2, ![1024, 3072]⟩ : Shape).Idx → EReal) (g : (⟨1, ![64]⟩ : Shape).Idx → EReal) :
    (⟨3, ![32, 1024, 2048]⟩ : Shape).Idx → EReal := fun y =>
  kn 1024 (by norm_num) h w g ⟨(show Fin 32 from y 0).val * 2048 + (show Fin 2048 from y 2).val, by omega⟩ (y 1)

/-- The values of a batch member, lane by token. -/
def VT (h : (⟨2, ![65536, 1024]⟩ : Shape).Idx → EReal) (w : (⟨2, ![1024, 3072]⟩ : Shape).Idx → EReal) :
    (⟨3, ![32, 1024, 2048]⟩ : Shape).Idx → EReal := fun y =>
  kv 2048 (by norm_num) h w ⟨(show Fin 32 from y 0).val * 2048 + (show Fin 2048 from y 2).val, by omega⟩ (y 1)

/-- A lane by token array with a leading axis of one. -/
def T1 (x : (⟨3, ![32, 1024, 2048]⟩ : Shape).Idx → EReal) : (⟨4, ![1, 32, 1024, 2048]⟩ : Shape).Idx → EReal := fun y => x (ix3 (y 1) (y 2) (y 3))

/-- An earlier array, followed by the last 512 tokens of a lane by token array. -/
def T2 (p : (⟨4, ![1, 32, 1024, 512]⟩ : Shape).Idx → EReal) (x : (⟨3, ![32, 1024, 2048]⟩ : Shape).Idx → EReal) :
    (⟨4, ![2, 32, 1024, 512]⟩ : Shape).Idx → EReal := fun y =>
  if (show Fin 2 from y 0).val < 1 then p (ix4 0 (y 1) (y 2) (y 3)) else x (ix3 (y 1) (y 2) ⟨1536 + (show Fin 512 from y 3).val, by omega⟩)

/-- The logarithm of the logistic function. -/
def ls (x : EReal) : EReal := min x 0 - Ideal.log1p (Ideal.exp (-(max x (-x))))

/-- The log forget gate of head `n` at row `i`. -/
def fv {r : ℕ} (h : (⟨2, ![r, 1024]⟩ : Shape).Idx → EReal) (w : (⟨2, ![1024, 16]⟩ : Shape).Idx → EReal) (b : (⟨1, ![16]⟩ : Shape).Idx → EReal) (i : Fin r) (n : Fin 16) : EReal :=
  ls (lin (fun d => h (ix2 i d)) (fun d => w (ix2 d n)) + b (ix1 n))

/-- The log forget gates. -/
def FO {r : ℕ} (h : (⟨2, ![r, 1024]⟩ : Shape).Idx → EReal) (w : (⟨2, ![1024, 16]⟩ : Shape).Idx → EReal) (b : (⟨1, ![16]⟩ : Shape).Idx → EReal) :
    (⟨2, ![r, 16]⟩ : Shape).Idx → EReal := fun y => fv h w b (y 0) (y 1)

/-- The log forget gates of a batch member, head by token. -/
def FT (h : (⟨2, ![65536, 1024]⟩ : Shape).Idx → EReal) (w : (⟨2, ![1024, 16]⟩ : Shape).Idx → EReal) (b : (⟨1, ![16]⟩ : Shape).Idx → EReal) :
    (⟨3, ![32, 16, 2048]⟩ : Shape).Idx → EReal := fun y =>
  fv h w b ⟨(show Fin 32 from y 0).val * 2048 + (show Fin 2048 from y 2).val, by omega⟩ (y 1)

/-- Times one sixty-fourth is over 64. -/
theorem mul_64 (x : EReal) : x * Ideal.ofBits .f32 0x3C800000#32 = Ideal.div x (Ideal.ofBits .f32 0x42800000#32) := by
  have e1 : Ideal.ofBits .f32 0x3C800000#32 = (((1 : ℝ) / 64 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  rw [e1, e2, Ideal.div_coe (by norm_num)]

/-- A one of the table. -/
theorem bit_one : Ideal.ofBits .bf16 (bit true) = 1 := by
  simp [bit, Ideal.ofBits, Ideal.ieee, -EReal.coe_mul]; norm_num
/-- A zero of the table. -/
theorem bit_zero : Ideal.ofBits .bf16 (bit false) = 0 := by
  simp [bit, Ideal.ofBits, Ideal.ieee, -EReal.coe_mul]

/-- A sum over 256 lanes against the table's column `b` is the sum over the block of 64 that holds `b`. -/
theorem sum_block (f : Fin 256 → EReal) (b : Fin 256) :
    ∑ a : Fin 256, f a * Ideal.ofBits .bf16 (bit (decide (a.val / 64 = b.val / 64))) = ∑ j : Fin 64, f ⟨b.val / 64 * 64 + j.val, by omega⟩ := by
  rw [← (finProdFinEquiv (m := 4) (n := 64)).sum_comp, Fintype.sum_prod_type]
  have hb : b.val / 64 < 4 := by omega
  refine (Finset.sum_eq_single (⟨b.val / 64, hb⟩ : Fin 4) ?_ ?_).trans ?_
  · intro p _ hp
    refine Finset.sum_eq_zero fun j _ => ?_
    have : ¬ ((finProdFinEquiv (p, j) : Fin (4 * 64)).val / 64 = b.val / 64) := by
      simp only [finProdFinEquiv_apply_val]
      intro h
      exact hp (Fin.ext (by show p.val = b.val / 64; omega))
    rw [decide_eq_false this, bit_zero, mul_zero]
  · intro h; exact absurd (Finset.mem_univ _) h
  · refine Finset.sum_congr rfl fun j _ => ?_
    have : (finProdFinEquiv ((⟨b.val / 64, hb⟩ : Fin 4), j) : Fin (4 * 64)).val / 64 = b.val / 64 := by
      simp only [finProdFinEquiv_apply_val]
      omega
    rw [decide_eq_true this, bit_one, mul_one]
    refine congrArg f (Fin.ext ?_)
    simp only [finProdFinEquiv_apply_val]
    omega

/-- The logarithm of the logistic function, as minus the logarithm of one plus an exponential. -/
theorem ls_eq (x : EReal) : -(max (-x) 0 + Ideal.log1p (Ideal.exp (-(max (-x) (-(-x)))))) = ls x := by
  have hl : ∀ z : EReal, Ideal.log1p (Ideal.exp z) ≠ ⊥ := fun z => by
    unfold Ideal.log1p
    have h0 : (0 : EReal) ≤ Ideal.exp z := by
      induction z using EReal.rec with
      | bot => exact le_refl _
      | top => exact le_top
      | coe r => exact EReal.coe_nonneg.2 (Real.exp_pos r).le
    generalize Ideal.exp z = w at h0
    induction w using EReal.rec with
    | bot => exact absurd h0 (by simp)
    | top =>
      rw [EReal.add_top_of_ne_bot (by decide)]
      exact top_ne_bot
    | coe r =>
      have hr : 0 ≤ r := by exact_mod_cast h0
      have : (1 : EReal) + (r : EReal) = ((1 + r : ℝ) : EReal) := by push_cast; rfl
      rw [this]
      have e : Ideal.log ((1 + r : ℝ) : EReal) = if 1 + r ≤ 0 then ⊥ else (Real.log (1 + r) : EReal) := rfl
      rw [e, if_neg (by linarith)]
      exact EReal.coe_ne_bot _
  unfold ls
  rw [neg_neg, max_comm (-x) x, EReal.neg_add (Or.inl (ne_of_gt (lt_of_lt_of_le EReal.bot_lt_zero (le_max_right _ _)))) (Or.inr (hl _))]
  congr 1
  rcases le_total x 0 with h | h
  · rw [min_eq_left h, max_eq_left (by simpa using EReal.neg_le_neg_iff.2 h), neg_neg]
  · rw [min_eq_right h, max_eq_right (by simpa using EReal.neg_le_neg_iff.2 h), neg_zero]

/-- The four sums the table gives, each over a quarter of the lanes, read at lane `n`: the sum over the head that holds `n`. -/
theorem sum_blocks (f : Fin 1024 → EReal) (n : Fin 1024) :
    (if _ : n.val < 256 then ∑ x : Fin 256, f ⟨x.val, by omega⟩ * Ideal.ofBits .bf16 (bit (decide (x.val / 64 = n.val / 64)))
      else if _ : n.val - 256 < 256 then ∑ x : Fin 256, f ⟨256 + x.val, by omega⟩ * Ideal.ofBits .bf16 (bit (decide (x.val / 64 = (n.val - 256) / 64)))
      else if _ : n.val - 256 - 256 < 256 then ∑ x : Fin 256, f ⟨512 + x.val, by omega⟩ * Ideal.ofBits .bf16 (bit (decide (x.val / 64 = (n.val - 256 - 256) / 64)))
      else ∑ x : Fin 256, f ⟨768 + x.val, by omega⟩ * Ideal.ofBits .bf16 (bit (decide (x.val / 64 = (n.val - 256 - 256 - 256) / 64))))
    = ∑ j : Fin 64, f ⟨n.val / 64 * 64 + j.val, by omega⟩ := by
  have hn := n.isLt
  split_ifs with h1 h2 h3
  · exact (sum_block (fun x => f ⟨x.val, by omega⟩) ⟨n.val, h1⟩)
  · refine (sum_block (fun x => f ⟨256 + x.val, by omega⟩) ⟨n.val - 256, h2⟩).trans (Finset.sum_congr rfl fun j _ => congrArg f (Fin.ext ?_))
    simp only []
    omega
  · refine (sum_block (fun x => f ⟨512 + x.val, by omega⟩) ⟨n.val - 256 - 256, h3⟩).trans (Finset.sum_congr rfl fun j _ => congrArg f (Fin.ext ?_))
    simp only []
    omega
  · refine (sum_block (fun x => f ⟨768 + x.val, by omega⟩) ⟨n.val - 256 - 256 - 256, by omega⟩).trans (Finset.sum_congr rfl fun j _ => congrArg f (Fin.ext ?_))
    simp only []
    omega

/-- A scaled gain scales the normalised lane. -/
theorem hn_mul (x g : Fin 64 → EReal) (s : EReal) (e : Fin 64) : hn x (fun d => g d * s) e = hn x g e * s := (mul_assoc _ _ _).symm

end Cert.QkvMath
-- ==== Proof.BandSKernel.lean ====
module

public import proofs.«01_k».proof.Defs
public import proofs.«01_k».proof.Proof.Gen.BandSIdeal.Value
public import proofs.«01_k».proof.Proof.QkvMath
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem
open Idealize.ShloMosaic.Pipeline (Dat)
open Cert.LitMath Cert.QkvMath
namespace Cert.BandSIdeal.Hand
open Cert.BandSIdeal Cert.BandSIdeal.Gen

/-! ## A block of 256 rows -/

/-- A row's product with a column of the weights. -/
theorem lin_at (h : Vec Ideal S256x1024 .bf16) (w : Vec Ideal S1024x1024 .bf16) (i : Fin 256) (n : Fin 1024) :
    k0_pay3 h w (ix2 i n) = lin (fun d => h (ix2 i d)) (fun d => w (ix2 d n)) := by
  unfold lin
  pointwise [k0_pay3]

/-- A projected row with each head normalised, at a lane. -/
theorem norm_at (h : Vec Ideal S256x1024 .bf16) (w : Vec Ideal S1024x1024 .bf16) (e : Vec Ideal S256x256 .bf16) (g : Vec Ideal S1x1024 .f32)
    (he : ∀ a b : Fin 256, e (ix2 a b) = Ideal.ofBits .bf16 (bit (decide (a.val / 64 = b.val / 64)))) (i : Fin 256) (n : Fin 1024) :
    k0_pay2 h w e e e e g (ix2 i n) = hn (fun d => lin (fun d => h (ix2 i d)) (fun l => w (ix2 l ⟨n.val / 64 * 64 + d.val, by omega⟩)))
      (fun d => g (ix2 0 ⟨n.val / 64 * 64 + d.val, by omega⟩)) ⟨n.val % 64, Nat.mod_lt _ (by norm_num)⟩ := by
  unfold hn lin
  pointwise [k0_pay2]
  simp only [he]
  have e1 : (⟨n.val / 64 * 64 + n.val % 64, by omega⟩ : Fin 1024) = n := Fin.ext (by simp only []; omega)
  rw [e1]
  refine congrArg (fun z => _ * Ideal.rsqrt (z + _) * _) ?_
  refine (congrArg (· * _) ?_).trans (mul_64 _)
  exact sum_blocks (fun a => (∑ x, h (ix2 i x) * w (ix2 x a)) * ∑ x, h (ix2 i x) * w (ix2 x a)) n

/-! ## The windows -/

/-- Rows of a window, loaded. -/
theorem ld_rows (x : Vec Ideal S512x1024 .bf16) (n : ℕ) (hb) (i : Fin 256) (e : Fin 1024) (hn : n + i.val < 512) :
    View.ld x (Rect.unit ![n, 0] ![256, 1024] hb : Rect S512x1024) (ix2 i e) = x (ix2 ⟨n + i.val, hn⟩ e) := by
  refine congrArg x (funext fun ax => Fin.ext ?_)
  fin_cases ax <;> simp [Rect.unit, Rect.emb] <;> rfl

/-- A whole window, loaded. -/
theorem ld_all {a b : ℕ} {ty : EltTy} (x : Vec Ideal (⟨2, ![a, b]⟩ : Shape) ty) (hb) (i : Fin a) (j : Fin b) :
    View.ld x (Rect.unit ![0, 0] ![a, b] hb : Rect (⟨2, ![a, b]⟩ : Shape)) (ix2 i j) = x (ix2 i j) := by
  refine congrArg x (funext fun ax => Fin.ext ?_)
  fin_cases ax <;> simp [Rect.unit, Rect.emb] <;> rfl

/-- A window's rows projected, each head normalised. -/
@[irreducible] def NB (x : Vec Ideal S512x1024 .bf16) (w : Vec Ideal S1024x1024 .bf16) (g : Vec Ideal S1x1024 .f32) : Vec Ideal S512x1024 .f32 := fun y =>
  hn (fun d => lin (fun d => x (ix2 (y 0) d)) (fun l => w (ix2 l ⟨(show Fin 1024 from y 1).val / 64 * 64 + d.val, by omega⟩)))
      (fun d => g (ix2 0 ⟨(show Fin 1024 from y 1).val / 64 * 64 + d.val, by omega⟩)) ⟨(show Fin 1024 from y 1).val % 64, Nat.mod_lt _ (by norm_num)⟩

/-- A window's rows projected. -/
@[irreducible] def VB (x : Vec Ideal S512x1024 .bf16) (w : Vec Ideal S1024x1024 .bf16) : Vec Ideal S512x1024 .f32 := fun y =>
  lin (fun d => x (ix2 (y 0) d)) (fun l => w (ix2 l (y 1)))

/-- The block at row `n` leaves its 256 normalised rows. -/
theorem rows_n (x : Vec Ideal S512x1024 .bf16) (w : Vec Ideal S1024x1024 .bf16) (e : Vec Ideal S256x256 .bf16) (g : Vec Ideal S1x1024 .f32)
    (he : ∀ a b : Fin 256, e (ix2 a b) = Ideal.ofBits .bf16 (bit (decide (a.val / 64 = b.val / 64)))) (n : ℕ) (hn : n + 256 ≤ 512) (hb h1 h2 h3) (y : S256x1024.Idx) :
    k0_pay2 (View.ld x (Rect.unit ![n, 0] ![256, 1024] hb : Rect S512x1024)) (View.ld w (Rect.unit ![0, 0] ![1024, 1024] h1 : Rect S1024x1024))
      (View.ld e (Rect.unit ![0, 0] ![256, 256] h2 : Rect S256x256)) (View.ld e (Rect.unit ![0, 0] ![256, 256] h2 : Rect S256x256))
      (View.ld e (Rect.unit ![0, 0] ![256, 256] h2 : Rect S256x256)) (View.ld e (Rect.unit ![0, 0] ![256, 256] h2 : Rect S256x256))
      (View.ld g (Rect.unit ![0, 0] ![1, 1024] h3 : Rect S1x1024)) y
      = NB x w g ((Rect.unit ![n, 0] ![256, 1024] hb : Rect S512x1024).emb y) := by
  idx_vars y
  have hm : (Rect.unit ![n, 0] ![256, 1024] hb : Rect S512x1024).emb (ix2 y0 y1) = ix2 ⟨n + y0.val, by omega⟩ y1 := by
    refine funext fun ax => Fin.ext ?_
    fin_cases ax <;> simp [Rect.unit, Rect.emb] <;> rfl
  have hel : ∀ a b : Fin 256, View.ld e (Rect.unit ![0, 0] ![256, 256] h2 : Rect S256x256) (ix2 a b) = Ideal.ofBits .bf16 (bit (decide (a.val / 64 = b.val / 64))) :=
    fun a b => (ld_all e h2 a b).trans (he a b)
  rw [norm_at _ _ _ _ hel, hm]
  have hx : ∀ d, View.ld x (Rect.unit ![n, 0] ![256, 1024] hb : Rect S512x1024) (ix2 y0 d) = x (ix2 ⟨n + y0.val, by omega⟩ d) :=
    fun d => ld_rows x n hb y0 d (by omega)
  have hw : ∀ d j, View.ld w (Rect.unit ![0, 0] ![1024, 1024] h1 : Rect S1024x1024) (ix2 d j) = w (ix2 d j) := fun d j => ld_all w h1 d j
  have hg : ∀ j, View.ld g (Rect.unit ![0, 0] ![1, 1024] h3 : Rect S1x1024) (ix2 0 j) = g (ix2 0 j) := fun j => ld_all g h3 0 j
  simp only [hx, hw, hg]
  unfold NB
  rfl

/-- The block at row `n` leaves its 256 projected rows. -/
theorem rows_v (x : Vec Ideal S512x1024 .bf16) (w : Vec Ideal S1024x1024 .bf16) (n : ℕ) (hn : n + 256 ≤ 512) (hb h1) (y : S256x1024.Idx) :
    k0_pay3 (View.ld x (Rect.unit ![n, 0] ![256, 1024] hb : Rect S512x1024)) (View.ld w (Rect.unit ![0, 0] ![1024, 1024] h1 : Rect S1024x1024)) y
      = VB x w ((Rect.unit ![n, 0] ![256, 1024] hb : Rect S512x1024).emb y) := by
  idx_vars y
  have hm : (Rect.unit ![n, 0] ![256, 1024] hb : Rect S512x1024).emb (ix2 y0 y1) = ix2 ⟨n + y0.val, by omega⟩ y1 := by
    refine funext fun ax => Fin.ext ?_
    fin_cases ax <;> simp [Rect.unit, Rect.emb] <;> rfl
  rw [lin_at, hm]
  have hx : ∀ d, View.ld x (Rect.unit ![n, 0] ![256, 1024] hb : Rect S512x1024) (ix2 y0 d) = x (ix2 ⟨n + y0.val, by omega⟩ d) :=
    fun d => ld_rows x n hb y0 d (by omega)
  have hw : ∀ d j, View.ld w (Rect.unit ![0, 0] ![1024, 1024] h1 : Rect S1024x1024) (ix2 d j) = w (ix2 d j) := fun d j => ld_all w h1 d j
  simp only [hx, hw]
  unfold VB
  rfl

/-! ## The windows after the body, at an index -/

theorem nb_at (x : Vec Ideal S512x1024 .bf16) (w : Vec Ideal S1024x1024 .bf16) (g : Vec Ideal S1x1024 .f32) (i : Fin 512) (n : Fin 1024) :
    NB x w g (ix2 i n) = hn (fun d => lin (fun d => x (ix2 i d)) (fun l => w (ix2 l ⟨n.val / 64 * 64 + d.val, by omega⟩)))
      (fun d => g (ix2 0 ⟨n.val / 64 * 64 + d.val, by omega⟩)) ⟨n.val % 64, Nat.mod_lt _ (by norm_num)⟩ := by
  unfold NB
  rfl
theorem vb_at (x : Vec Ideal S512x1024 .bf16) (w : Vec Ideal S1024x1024 .bf16) (i : Fin 512) (n : Fin 1024) :
    VB x w (ix2 i n) = lin (fun d => x (ix2 i d)) (fun l => w (ix2 l n)) := by
  unfold VB
  rfl

/-! The other copies of the normalised rows are the same value. -/

theorem q_hi (h : Vec Ideal S256x1024 .bf16) (w : Vec Ideal S1024x1024 .bf16) (e : Vec Ideal S256x256 .bf16) (g : Vec Ideal S1x1024 .f32) :
    k0_pay1 (k0_pay13 h w) (k0_pay14 h w e e e e) g = k0_pay2 h w e e e e g := by
  unfold k0_pay1 k0_pay14 k0_pay13 k0_pay2
  rfl

theorem q_lo (h : Vec Ideal S256x1024 .bf16) (w : Vec Ideal S1024x1024 .bf16) (e : Vec Ideal S256x256 .bf16) (g : Vec Ideal S1x1024 .f32) :
    k0_pay8 (k0_pay6 h w e e e e) (k0_pay7 g) = k0_pay2 h w e e e e g := by
  unfold k0_pay8 k0_pay6 k0_pay7 k0_pay2
  rfl

theorem k_hi (h : Vec Ideal S256x1024 .bf16) (w : Vec Ideal S1024x1024 .bf16) (e : Vec Ideal S256x256 .bf16) (g : Vec Ideal S1x1024 .f32) :
    k0_pay11 (k0_pay9 h w e e e e g) = k0_pay2 h w e e e e g := by
  unfold k0_pay11 k0_pay9 k0_pay2
  rfl

theorem kf_hi (h : Vec Ideal S256x1024 .bf16) (w : Vec Ideal S1024x1024 .bf16) (e : Vec Ideal S256x256 .bf16) (g : Vec Ideal S1x1024 .f32) :
    k0_pay9 h w e e e e g = k0_pay2 h w e e e e g := by
  unfold k0_pay9 k0_pay2
  rfl

theorem k_lo (h : Vec Ideal S256x1024 .bf16) (w : Vec Ideal S1024x1024 .bf16) (e : Vec Ideal S256x256 .bf16) (g : Vec Ideal S1x1024 .f32) :
    k0_pay4 h w e e e e g = k0_pay2 h w e e e e g := by
  unfold k0_pay4 k0_pay2
  rfl

/-- Two blocks of rows fill the window. -/
theorem two_rows {ty : EltTy} (G : Vec Ideal S512x1024 ty) (p q : Vec Ideal S256x1024 ty) (hp : ∀ y, p y = G (r0_4.emb y)) (hq : ∀ y, q y = G (r0_0.emb y)) (y : S512x1024.Idx) :
    View.canon [⟨r0_4, p⟩, ⟨r0_0, q⟩] y = G y := by
  refine View.canon_apply_of_pieces G _ ?_ y ?_
  · simp only [List.forall_mem_cons]
    exact ⟨hp, hq, by simp⟩
  · idx_vars y
    simp only [List.exists_mem_cons_iff, Rect.mem_set_unit, Fin.forall_fin_two]
    have := y0.isLt
    have := y1.isLt
    simp [-Fin.is_lt]
    omega

section
variable (x0 : Vec Ideal S512x1024 .bf16) (x1 x2 x3 : Vec Ideal S1024x1024 .bf16) (x4 : Vec Ideal S256x256 .bf16) (x5 x6 : Vec Ideal S1x1024 .f32)
variable (he : ∀ a b : Fin 256, x4 (ix2 a b) = Ideal.ofBits .bf16 (bit (decide (a.val / 64 = b.val / 64))))

include he in
/-- The window of the queries after the body. -/
theorem out_q (y : S512x1024.Idx) : out0_7 x0 x1 x2 x3 x4 x5 x6 y = NB x0 x1 x5 y := by
  unfold_out out0_7
  exact two_rows (NB x0 x1 x5 : Vec Ideal S512x1024 .bf16) _ _ (fun y => (congrFun (q_hi _ _ _ _) y).trans (rows_n x0 x1 x4 x5 he 256 (by norm_num) _ _ _ _ y)) (fun y => (congrFun (q_lo _ _ _ _) y).trans (rows_n x0 x1 x4 x5 he 0 (by norm_num) _ _ _ _ y)) y

include he in
/-- The window of the rounded keys after the body. -/
theorem out_k (y : S512x1024.Idx) : out0_8 x0 x1 x2 x3 x4 x5 x6 y = NB x0 x2 x6 y := by
  unfold_out out0_8
  exact two_rows (NB x0 x2 x6 : Vec Ideal S512x1024 .bf16) _ _ (fun y => (congrFun (k_hi _ _ _ _) y).trans (rows_n x0 x2 x4 x6 he 256 (by norm_num) _ _ _ _ y)) (fun y => (congrFun (k_lo _ _ _ _) y).trans (rows_n x0 x2 x4 x6 he 0 (by norm_num) _ _ _ _ y)) y

/-- The window of the rounded values after the body. -/
theorem out_v (y : S512x1024.Idx) : out0_9 x0 x1 x2 x3 x4 x5 x6 y = VB x0 x3 y := by
  unfold_out out0_9
  exact two_rows (VB x0 x3 : Vec Ideal S512x1024 .bf16) _ _ (fun y => rows_v x0 x3 256 (by norm_num) _ _ y) (fun y => rows_v x0 x3 0 (by norm_num) _ _ y) y

include he in
/-- The window of the keys after the body. -/
theorem out_kf (y : S512x1024.Idx) : out0_10 x0 x1 x2 x3 x4 x5 x6 y = NB x0 x2 x6 y := by
  unfold_out out0_10
  exact two_rows (NB x0 x2 x6 : Vec Ideal S512x1024 .f32) _ _ (fun y => (congrFun (kf_hi _ _ _ _) y).trans (rows_n x0 x2 x4 x6 he 256 (by norm_num) _ _ _ _ y)) (fun y => rows_n x0 x2 x4 x6 he 0 (by norm_num) _ _ _ _ y) y

/-- The window of the values after the body. -/
theorem out_vf (y : S512x1024.Idx) : out0_11 x0 x1 x2 x3 x4 x5 x6 y = VB x0 x3 y := by
  unfold_out out0_11
  exact two_rows (VB x0 x3 : Vec Ideal S512x1024 .f32) _ _ (fun y => rows_v x0 x3 256 (by norm_num) _ _ y) (fun y => rows_v x0 x3 0 (by norm_num) _ _ y) y
end

end Cert.BandSIdeal.Hand
-- ==== Proof.LitBandS.lean ====
module

public import proofs.«01_k».proof.Defs
public import proofs.«01_k».proof.BandSIdeal
public import proofs.«01_k».proof.Proof.LitMath

@[expose] public section

set_option maxRecDepth 16384
noncomputable section
open Idealize.ShloMosaic
open Cert.LitMath
namespace Cert.BandSIdeal.Hand
open Cert.BandSIdeal

/-! ## The table of ones on blocks of 64 -/

theorem lit_a (i : ℕ) : lit0t0_0 i = bit (decide (i % 128 < 64)) := by
  have h : ∀ k : Fin 128, lit0t0_0 k.val = bit (decide (k.val < 64)) := by decide +kernel
  have e : lit0t0_0 i = lit0t0_0 (i % 128) := by unfold lit0t0_0; rw [Nat.mod_mod]
  exact e.trans (h ⟨i % 128, Nat.mod_lt _ (by norm_num)⟩)

theorem lit_b (i : ℕ) : lit0t0_128 i = bit (decide (64 ≤ i % 128)) := by
  have h : ∀ k : Fin 128, lit0t0_128 k.val = bit (decide (64 ≤ k.val)) := by decide +kernel
  have e : lit0t0_128 i = lit0t0_128 (i % 128) := by unfold lit0t0_128; rw [Nat.mod_mod]
  exact e.trans (h ⟨i % 128, Nat.mod_lt _ (by norm_num)⟩)

theorem lit_z (i : ℕ) : lit0t0_1 i = bit false := by
  have h : ∀ k : Fin 128, lit0t0_1 k.val = bit false := by decide +kernel
  have e : lit0t0_1 i = lit0t0_1 (i % 128) := by unfold lit0t0_1; rw [Nat.mod_mod]
  exact e.trans (h ⟨i % 128, Nat.mod_lt _ (by norm_num)⟩)

theorem lit_0 (i : ℕ) : lit0t1_0 i = pick (i / 128 % 128) (lit0t0_0 i) (lit0t0_1 i) := rfl
theorem lit_1 (i : ℕ) : lit0t1_1 i = pick (i / 128 % 128) (lit0t0_128 i) (lit0t0_1 i) := rfl
theorem lit_2 (i : ℕ) : lit0t1_2 i = pick (i / 128 % 128) (lit0t0_1 i) (lit0t0_0 i) := rfl
theorem lit_3 (i : ℕ) : lit0t1_3 i = pick (i / 128 % 128) (lit0t0_1 i) (lit0t0_128 i) := rfl

/-- The table at row `a` and column `b`: one when both lie in the same block of 64. -/
theorem lit_at (a b : Fin 256) : lit0t (a.val * 256 + b.val) = bit (decide (a.val / 64 = b.val / 64)) := by
  have ha := a.isLt
  have hb := b.isLt
  have hm : (a.val * 256 + b.val) / 128 % 128 < 128 := Nat.mod_lt _ (by norm_num)
  have hq : (a.val * 256 + b.val) / 16384 = a.val / 64 := by omega
  unfold lit0t
  rw [hq]
  obtain h | h | h | h : a.val / 64 = 0 ∨ a.val / 64 = 1 ∨ a.val / 64 = 2 ∨ a.val / 64 = 3 := by omega
  · rw [h]
    show lit0t1_0 _ = _
    rw [lit_0, lit_a, lit_z, pick_at _ hm]
    refine congrArg bit ?_
    split_ifs
    · exact decide_eq_decide.2 (by omega)
    · exact (decide_eq_false (by omega)).symm
  · rw [h]
    show lit0t1_1 _ = _
    rw [lit_1, lit_b, lit_z, pick_at _ hm]
    refine congrArg bit ?_
    split_ifs
    · exact decide_eq_decide.2 (by omega)
    · exact (decide_eq_false (by omega)).symm
  · rw [h]
    show lit0t1_2 _ = _
    rw [lit_2, lit_a, lit_z, pick_at _ hm]
    refine congrArg bit ?_
    split_ifs
    · exact (decide_eq_false (by omega)).symm
    · exact decide_eq_decide.2 (by omega)
  · rw [h]
    show lit0t1_3 _ = _
    rw [lit_3, lit_b, lit_z, pick_at _ hm]
    refine congrArg bit ?_
    split_ifs
    · exact (decide_eq_false (by omega)).symm
    · exact decide_eq_decide.2 (by omega)

end Cert.BandSIdeal.Hand
-- ==== Proof.BandSArr.lean ====
module

public import proofs.«01_k».proof.Defs
public import proofs.«01_k».proof.Proof.BandSKernel
public import proofs.«01_k».proof.Proof.LitBandS

@[expose] public section

set_option maxRecDepth 16384
noncomputable section
open Idealize.ShloMosaic Idealize.ShloMosaic.TcCoe Idealize.SL.Sem
open Idealize.ShloMosaic.Pipeline (Dat)
open Cert.LitMath Cert.QkvMath
namespace Cert.BandSIdeal.Hand
open Cert.BandSIdeal Cert.BandSIdeal.Gen

variable (m : (ℓ : Loc nD τ sig) → Buf (Elt Ideal) ℓ)

/-! ## The operands the host prepares -/

theorem wq_at (c : Dev nD) (d n : Fin 1024) : V m c main_v10 (ix2 d n) = m (c, Proc.tc.devRef main_arg1) (ix2 d ⟨0 + n.val, by omega⟩) := by
  unfold V
  after_reads_at
theorem wk_at (c : Dev nD) (d n : Fin 1024) : V m c main_v12 (ix2 d n) = m (c, Proc.tc.devRef main_arg1) (ix2 d ⟨1024 + n.val, by omega⟩) := by
  unfold V
  after_reads_at
theorem wv_at (c : Dev nD) (d n : Fin 1024) : V m c main_v14 (ix2 d n) = m (c, Proc.tc.devRef main_arg1) (ix2 d ⟨2048 + n.val, by omega⟩) := by
  unfold V
  after_reads_at

/-- The gain of the queries, repeated over the heads and scaled. -/
theorem gq_at (c : Dev nD) (n : Fin 1024) : V m c main_v5 (ix2 0 n) = @HMul.hMul EReal EReal EReal _ (m (c, Proc.tc.devRef main_arg2) (ix1 ⟨n.val % 64, Nat.mod_lt _ (by norm_num)⟩)) (Ideal.ofBits .f32 0x3E38AA3B#32) := by
  unfold V
  after_reads_at
/-- The gain of the keys, repeated over the heads. -/
theorem gk_at (c : Dev nD) (n : Fin 1024) : V m c main_v15 (ix2 0 n) = m (c, Proc.tc.devRef main_arg3) (ix1 ⟨n.val % 64, Nat.mod_lt _ (by norm_num)⟩) := by
  unfold V
  after_reads_at
/-- The table of blocks. -/
theorem e_at (c : Dev nD) (a b : Fin 256) : V m c main_cst (ix2 a b) = Ideal.ofBits .bf16 (bit (decide (a.val / 64 = b.val / 64))) := by
  rw [← lit_at a b]
  unfold V
  after_reads_at
  have h : S256x256.rowMajor (ix2 a b) = ⟨a.val * 256 + b.val, by have := a.isLt; have := b.isLt; show _ < 65536; omega⟩ :=
    Fin.ext (Shape.rowMajor_val_two (ix2 a b))
  rw [h]

/-! ## What each window of the one grid step holds -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

theorem blk0 (c : Dev nD) (t : Fin cfg0.N) (i : Fin 512) (n : Fin 1024) : iblk m c 0 t (ix2 i n) = m (c, Proc.tc.devRef main_arg0) (ix2 i n) := by
  have h : (win0_0.blk t).view.emb (ix2 i n) = ix2 i n := by blk_ext [idx0]
  show V m c main_arg0 ((win0_0.blk t).view.emb (ix2 i n)) = _
  rw [h, V_main_arg0]
theorem blk1 (c : Dev nD) (t : Fin cfg0.N) (i : Fin 1024) (n : Fin 1024) : iblk m c 1 t (ix2 i n) = m (c, Proc.tc.devRef main_arg1) (ix2 i ⟨0 + n.val, by omega⟩) := by
  have h : (win0_1.blk t).view.emb (ix2 i n) = ix2 i n := by blk_ext [idx1]
  show V m c main_v10 ((win0_1.blk t).view.emb (ix2 i n)) = _
  rw [h, wq_at]
theorem blk2 (c : Dev nD) (t : Fin cfg0.N) (i : Fin 1024) (n : Fin 1024) : iblk m c 2 t (ix2 i n) = m (c, Proc.tc.devRef main_arg1) (ix2 i ⟨1024 + n.val, by omega⟩) := by
  have h : (win0_2.blk t).view.emb (ix2 i n) = ix2 i n := by blk_ext [idx2]
  show V m c main_v12 ((win0_2.blk t).view.emb (ix2 i n)) = _
  rw [h, wk_at]
theorem blk3 (c : Dev nD) (t : Fin cfg0.N) (i : Fin 1024) (n : Fin 1024) : iblk m c 3 t (ix2 i n) = m (c, Proc.tc.devRef main_arg1) (ix2 i ⟨2048 + n.val, by omega⟩) := by
  have h : (win0_3.blk t).view.emb (ix2 i n) = ix2 i n := by blk_ext [idx3]
  show V m c main_v14 ((win0_3.blk t).view.emb (ix2 i n)) = _
  rw [h, wv_at]
theorem blk4 (c : Dev nD) (t : Fin cfg0.N) (i : Fin 256) (n : Fin 256) : iblk m c 4 t (ix2 i n) = Ideal.ofBits .bf16 (bit (decide (i.val / 64 = n.val / 64))) := by
  have h : (win0_4.blk t).view.emb (ix2 i n) = ix2 i n := by blk_ext [idx4]
  show V m c main_cst ((win0_4.blk t).view.emb (ix2 i n)) = _
  rw [h, e_at]
theorem blk5 (c : Dev nD) (t : Fin cfg0.N) (n : Fin 1024) (d : Fin 64) :
    iblk m c 5 t (ix2 0 ⟨n.val / 64 * 64 + d.val, by omega⟩) = @HMul.hMul EReal EReal EReal _ (m (c, Proc.tc.devRef main_arg2) (ix1 d)) (Ideal.ofBits .f32 0x3E38AA3B#32) := by
  have h : (win0_5.blk t).view.emb (ix2 0 ⟨n.val / 64 * 64 + d.val, by omega⟩) = ix2 0 ⟨n.val / 64 * 64 + d.val, by omega⟩ := by blk_ext [idx5]
  have e : (⟨(n.val / 64 * 64 + d.val) % 64, Nat.mod_lt _ (by norm_num)⟩ : Fin 64) = d := Fin.ext (by simp only []; omega)
  show V m c main_v5 ((win0_5.blk t).view.emb (ix2 0 ⟨n.val / 64 * 64 + d.val, by omega⟩)) = _
  rw [h, gq_at]
  simp only [e]
theorem blk6 (c : Dev nD) (t : Fin cfg0.N) (n : Fin 1024) (d : Fin 64) :
    iblk m c 6 t (ix2 0 ⟨n.val / 64 * 64 + d.val, by omega⟩) = m (c, Proc.tc.devRef main_arg3) (ix1 d) := by
  have h : (win0_6.blk t).view.emb (ix2 0 ⟨n.val / 64 * 64 + d.val, by omega⟩) = ix2 0 ⟨n.val / 64 * 64 + d.val, by omega⟩ := by blk_ext [idx6]
  have e : (⟨(n.val / 64 * 64 + d.val) % 64, Nat.mod_lt _ (by norm_num)⟩ : Fin 64) = d := Fin.ext (by simp only []; omega)
  show V m c main_v15 ((win0_6.blk t).view.emb (ix2 0 ⟨n.val / 64 * 64 + d.val, by omega⟩)) = _
  rw [h, gk_at]
  simp only [e]

/-! ## The result arrays after the run -/

/-- The queries after the run. -/
theorem q_arr (c : Dev nD) : (dats m 0 c).arrAt 7 cfg0.N = QO (m (c, Proc.tc.devRef main_arg0)) (m (c, Proc.tc.devRef main_arg1)) (m (c, Proc.tc.devRef main_arg2)) := by
  refine (dats m 0 c).arrAt_eq_of_covers 7 _ (by decide +kernel) fun t hf y => ?_
  blk_simp
  rw [after0_7]
  idx_vars y
  have e : (win0_7.blk t).view.emb (ix2 y0 y1) = ix2 y0 y1 := by
    blk_ext [idx7]
  rw [e, out_q _ _ _ _ _ _ _ (blk4 m c t), nb_at]
  simp only [blk0, blk1, blk5]
  rw [hn_mul]
  rfl

/-- The rounded keys after the run. -/
theorem k_arr (c : Dev nD) : (dats m 0 c).arrAt 8 cfg0.N = KO (m (c, Proc.tc.devRef main_arg0)) (m (c, Proc.tc.devRef main_arg1)) (m (c, Proc.tc.devRef main_arg3)) := by
  refine (dats m 0 c).arrAt_eq_of_covers 8 _ (by decide +kernel) fun t hf y => ?_
  blk_simp
  rw [after0_8]
  idx_vars y
  have e : (win0_8.blk t).view.emb (ix2 y0 y1) = ix2 y0 y1 := by
    blk_ext [idx8]
  rw [e, out_k _ _ _ _ _ _ _ (blk4 m c t), nb_at]
  simp only [blk0, blk2, blk6]
  rfl

/-- The rounded values after the run. -/
theorem v_arr (c : Dev nD) : (dats m 0 c).arrAt 9 cfg0.N = VO (m (c, Proc.tc.devRef main_arg0)) (m (c, Proc.tc.devRef main_arg1)) := by
  refine (dats m 0 c).arrAt_eq_of_covers 9 _ (by decide +kernel) fun t hf y => ?_
  blk_simp
  rw [after0_9]
  idx_vars y
  have e : (win0_9.blk t).view.emb (ix2 y0 y1) = ix2 y0 y1 := by
    blk_ext [idx9]
  rw [e, out_v _ _ _ _ _ _ _, vb_at]
  simp only [blk0, blk3]
  rfl

/-- The keys after the run. -/
theorem kf_arr (c : Dev nD) : (dats m 0 c).arrAt 10 cfg0.N = KO (m (c, Proc.tc.devRef main_arg0)) (m (c, Proc.tc.devRef main_arg1)) (m (c, Proc.tc.devRef main_arg3)) := by
  refine (dats m 0 c).arrAt_eq_of_covers 10 _ (by decide +kernel) fun t hf y => ?_
  blk_simp
  rw [after0_10]
  idx_vars y
  have e : (win0_10.blk t).view.emb (ix2 y0 y1) = ix2 y0 y1 := by
    blk_ext [idx10]
  rw [e, out_kf _ _ _ _ _ _ _ (blk4 m c t), nb_at]
  simp only [blk0, blk2, blk6]
  rfl

/-- The values after the run. -/
theorem vf_arr (c : Dev nD) : (dats m 0 c).arrAt 11 cfg0.N = VO (m (c, Proc.tc.devRef main_arg0)) (m (c, Proc.tc.devRef main_arg1)) := by
  refine (dats m 0 c).arrAt_eq_of_covers 11 _ (by decide +kernel) fun t hf y => ?_
  blk_simp
  rw [after0_11]
  idx_vars y
  have e : (win0_11.blk t).view.emb (ix2 y0 y1) = ix2 y0 y1 := by
    blk_ext [idx11]
  rw [e, out_vf _ _ _ _ _ _ _, vb_at]
  simp only [blk0, blk3]
  rfl

end Cert.BandSIdeal.Hand
-- ==== Proof.BandSRef.lean ====
module

public import proofs.«01_k».proof.Defs
public import proofs.«01_k».proof.Proof.Gen.BandSRefIdeal.Run
public import proofs.«01_k».proof.Proof.QkvMath
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem Idealize.ShloMosaic.StableHlo
open Cert.QkvMath
namespace Cert.BandSRefIdeal.Hand
open Cert.BandSRefIdeal Cert.BandSRefIdeal.Gen Cert.BandSRefIdeal.Value

/-! ## The projection, by head -/

/-- The rows by batch member and token. -/
def Hr (h : FVec Ideal S512x1024 .bf16) : FVec Ideal S32x16x1024 .f32 := shapeCast _ (extf .f32 h bitsLt_bf16_f32) shapeCasts_S512x1024_S32x16x1024

/-- The rows' products with all the weights. -/
def Pr (h : FVec Ideal S512x1024 .bf16) (w : FVec Ideal S1024x3072 .f32) : FVec Ideal S32x16x3072 .f32 :=
  Host.dotGeneral dot_S32x16x1024_S1024x3072_S32x16x3072_2_0_01_1_n_n none (Hr h) w

theorem hr_at (h : FVec Ideal S512x1024 .bf16) (b : Fin 32) (s : Fin 16) (d : Fin 1024) :
    (Hr h (ix3 b s d) : EReal) = h (ix2 ⟨b.val * 16 + s.val, by omega⟩ d) := by
  unfold Hr
  pointwise

theorem pr_at (h : FVec Ideal S512x1024 .bf16) (w : FVec Ideal S1024x3072 .f32) (b : Fin 32) (s : Fin 16) (j : Fin 3072) :
    (Pr h w (ix3 b s j) : EReal) = lin (fun d => h (ix2 ⟨b.val * 16 + s.val, by omega⟩ d)) (fun d => w (ix2 d j)) := by
  have e : (Pr h w (ix3 b s j) : EReal) = ∑ d : Fin 1024, Hr h (ix3 b s d) * w (ix2 d j) := by
    unfold Pr
    pointwise
  rw [e]
  simp only [hr_at]
  rfl

/-- The queries by head. -/
def Qp (p : FVec Ideal S32x16x3072 .f32) : FVec Ideal S32x16x16x64 .f32 :=
  shapeCast _ (extractStridedSlice S32x16x1024 ![0, 0, 0] p slices_S32x16x3072_S32x16x1024_0_0_0) shapeCasts_S32x16x1024_S32x16x16x64

theorem qp_at (h : FVec Ideal S512x1024 .bf16) (w : FVec Ideal S1024x3072 .f32) (b : Fin 32) (s : Fin 16) (a : Fin 16) (e : Fin 64) :
    (Qp (Pr h w) (ix4 b s a e) : EReal) = kv 0 (by norm_num) h w ⟨b.val * 16 + s.val, by omega⟩ ⟨a.val * 64 + e.val, by omega⟩ := by
  have hp : ∀ p : FVec Ideal S32x16x3072 .f32, (Qp p (ix4 b s a e) : EReal) = p (ix3 b s ⟨0 + (a.val * 64 + e.val), by omega⟩) := fun p => by
    unfold Qp
    pointwise
  rw [hp, pr_at]
  rfl

/-- The keys by head. -/
def Kp (p : FVec Ideal S32x16x3072 .f32) : FVec Ideal S32x16x16x64 .f32 :=
  shapeCast _ (extractStridedSlice S32x16x1024 ![0, 0, 1024] p slices_S32x16x3072_S32x16x1024_0_0_1024) shapeCasts_S32x16x1024_S32x16x16x64

theorem kp_at (h : FVec Ideal S512x1024 .bf16) (w : FVec Ideal S1024x3072 .f32) (b : Fin 32) (s : Fin 16) (a : Fin 16) (e : Fin 64) :
    (Kp (Pr h w) (ix4 b s a e) : EReal) = kv 1024 (by norm_num) h w ⟨b.val * 16 + s.val, by omega⟩ ⟨a.val * 64 + e.val, by omega⟩ := by
  have hp : ∀ p : FVec Ideal S32x16x3072 .f32, (Kp p (ix4 b s a e) : EReal) = p (ix3 b s ⟨1024 + (a.val * 64 + e.val), by omega⟩) := fun p => by
    unfold Kp
    pointwise
  rw [hp, pr_at]
  rfl

/-- The values by head. -/
def Vp (p : FVec Ideal S32x16x3072 .f32) : FVec Ideal S32x16x16x64 .f32 :=
  shapeCast _ (extractStridedSlice S32x16x1024 ![0, 0, 2048] p slices_S32x16x3072_S32x16x1024_0_0_2048) shapeCasts_S32x16x1024_S32x16x16x64

theorem vp_at (h : FVec Ideal S512x1024 .bf16) (w : FVec Ideal S1024x3072 .f32) (b : Fin 32) (s : Fin 16) (a : Fin 16) (e : Fin 64) :
    (Vp (Pr h w) (ix4 b s a e) : EReal) = kv 2048 (by norm_num) h w ⟨b.val * 16 + s.val, by omega⟩ ⟨a.val * 64 + e.val, by omega⟩ := by
  have hp : ∀ p : FVec Ideal S32x16x3072 .f32, (Vp p (ix4 b s a e) : EReal) = p (ix3 b s ⟨2048 + (a.val * 64 + e.val), by omega⟩) := fun p => by
    unfold Vp
    pointwise
  rw [hp, pr_at]
  rfl

/-- Each head over the root of its mean square, scaled. -/
def Nm (x : FVec Ideal S32x16x16x64 .f32) (g : FVec Ideal S64 .f32) : FVec Ideal S32x16x16x64 .f32 :=
  mulf (mulf x (broadcastInDim S32x16x16x64 ![0, 1, 2, 3] bcast_S32x16x16x1_S32x16x16x64_0_1_2_3 (Host.rsqrt (addf (Host.divf (broadcastInDim S32x16x16x1 ![0, 1, 2] bcast_S32x16x16_S32x16x16x1_0_1_2 (Host.reduceAdd (mulf x x) (constant S_ .f32 0x00000000#32) reducesTo_S32x16x16x64_S32x16x16_d3 h_S_)) (broadcastInDim S32x16x16x1 ![] bcast_S_S32x16x16x1 (constant S_ .f32 0x42800000#32))) (broadcastInDim S32x16x16x1 ![] bcast_S_S32x16x16x1 (constant S_ .f32 0x358637BD#32)))))) (broadcastInDim S32x16x16x64 ![0, 1, 2, 3] bcast_S1x1x1x64_S32x16x16x64_0_1_2_3 (broadcastInDim S1x1x1x64 ![3] bcast_S64_S1x1x1x64_3 g))

theorem nm_at (x : FVec Ideal S32x16x16x64 .f32) (g : FVec Ideal S64 .f32) (b : Fin 32) (s : Fin 16) (a : Fin 16) (e : Fin 64) :
    (Nm x g (ix4 b s a e) : EReal) = hn (fun d => x (ix4 b s a d)) (fun d => g (ix1 d)) e := by
  unfold Nm hn
  pointwise

/-- The scaled queries. -/
def Sc (x : FVec Ideal S32x16x16x64 .f32) : FVec Ideal S32x16x16x64 .f32 := mulf x (broadcastInDim S32x16x16x64 ![] bcast_S_S32x16x16x64 (constant S_ .f32 0x3E38AA3B#32))

theorem sc_at (x : FVec Ideal S32x16x16x64 .f32) (b : Fin 32) (s : Fin 16) (a : Fin 16) (e : Fin 64) :
    (Sc x (ix4 b s a e) : EReal) = x (ix4 b s a e) * Ideal.ofBits .f32 0x3E38AA3B#32 := by
  unfold Sc
  pointwise

/-- The heads' lanes in one row. -/
def Fl (x : FVec Ideal S32x16x16x64 .f32) : FVec Ideal S512x1024 .f32 := shapeCast _ x shapeCasts_S32x16x16x64_S512x1024

theorem fl_at (x : FVec Ideal S32x16x16x64 .f32) (i : Fin 512) (n : Fin 1024) :
    (Fl x (ix2 i n) : EReal) = x (ix4 ⟨i.val / 16, by omega⟩ ⟨i.val % 16, by omega⟩ ⟨n.val / 64, by omega⟩ ⟨n.val % 64, by omega⟩) := by
  unfold Fl
  pointwise

theorem row_eq (i : Fin 512) : (⟨i.val / 16 * 16 + i.val % 16, by omega⟩ : Fin 512) = i := Fin.ext (by simp only []; omega)
theorem lane_eq (n : Fin 1024) : (⟨n.val / 64 * 64 + n.val % 64, by omega⟩ : Fin 1024) = n := Fin.ext (by simp only []; omega)

/-- The queries are the spelt out ones. -/
theorem q_eq (h : FVec Ideal S512x1024 .bf16) (w : FVec Ideal S1024x3072 .f32) (g : FVec Ideal S64 .f32) :
    (truncf .bf16 (Fl (Sc (Nm (Qp (Pr h w)) g))) bitsLt_bf16_f32 : FVec Ideal S512x1024 .bf16) = QO h w g := by
  funext y
  idx_vars y
  have e : ∀ z : FVec Ideal S512x1024 .f32, ((truncf .bf16 z bitsLt_bf16_f32 : FVec Ideal S512x1024 .bf16) (ix2 y0 y1) : EReal) = z (ix2 y0 y1) := fun z => by
    pointwise
  refine (e _).trans ((fl_at _ y0 y1).trans ?_)
  rw [sc_at, nm_at]
  simp only [qp_at, row_eq]
  rfl

/-- The keys are the spelt out ones. -/
theorem k_eq (h : FVec Ideal S512x1024 .bf16) (w : FVec Ideal S1024x3072 .f32) (g : FVec Ideal S64 .f32) :
    Fl (Nm (Kp (Pr h w)) g) = KO h w g := by
  funext y
  idx_vars y
  refine (fl_at _ y0 y1).trans ?_
  rw [nm_at]
  simp only [kp_at, row_eq]
  rfl

/-- The values are the spelt out ones. -/
theorem v_eq (h : FVec Ideal S512x1024 .bf16) (w : FVec Ideal S1024x3072 .f32) : Fl (Vp (Pr h w)) = VO h w := by
  funext y
  idx_vars y
  refine (fl_at _ y0 y1).trans ?_
  rw [vp_at, row_eq, lane_eq]
  rfl

end Cert.BandSRefIdeal.Hand
-- ==== Proof.BandSPair.lean ====
module

public import proofs.«01_k».proof.Defs
public import proofs.«01_k».proof.Proof.Gen.BandS.Frame
public import proofs.«01_k».proof.Proof.Gen.BandSIdeal.Value
public import proofs.«01_k».proof.Proof.BandSArr
public import proofs.«01_k».proof.Proof.BandSRef
public import Idealize.ShloMosaic.Lib.Quiescent

@[expose] public section

noncomputable section
open Idealize.ShloMosaic Idealize.SL.Sem Cert.QkvMath
namespace Cert.BandSPair

/-- The reference of the local-attention projections of the sampled rows ends with its arguments unchanged and its counters at zero. -/
theorem frame_ref :
    Cert.quiescent_BandSRefIdeal (hBandSRefIdeal := Cert.BandSRefIdeal.Gen.facts) := fun m ρ _ =>
  (θ_run Cert.BandSRefIdeal.defs _ _).mono (fun r h => ⟨fun c => (h c).2.2.2.2.2, sem_eq_zero_of_no_sems (by decide) r.2⟩)
    (Cert.BandSRefIdeal.Value.run (F := Ideal) m ρ)

/-- The kernel of the local-attention projections of the sampled rows and its reference end with the same results. -/
theorem value : Cert.algebraic_BandSIdeal_BandSRefIdeal (hBandSIdeal := Cert.BandSIdeal.Gen.facts) (hBandSRefIdeal := Cert.BandSRefIdeal.Gen.facts) := by
  intro m g m' g' _ agree
  refine ⟨_, _, _, _, _, Cert.BandSIdeal.Value.run_blocks (F := Ideal) m g, ?_⟩
  refine (θ_run Cert.BandSRefIdeal.defs _ _).mono (fun r h c => ?_) (Cert.BandSRefIdeal.Value.run (F := Ideal) m' g')
  obtain ⟨a0, a1, a2, a3⟩ := agree c
  obtain ⟨h0, h1, h2, h3, h4, h5⟩ := h c
  refine ⟨h0.trans ?_, h1.trans ?_, h2.trans ?_, h3.trans ?_, h4.trans ?_, h5⟩
  · refine (Cert.BandSRefIdeal.Hand.q_eq _ _ _).trans (Eq.trans ?_ (Cert.BandSIdeal.Hand.q_arr m c).symm)
    exact congr (congr (congrArg QO a0) a1) a2
  · refine (Cert.BandSRefIdeal.Hand.k_eq _ _ _).trans (Eq.trans ?_ (Cert.BandSIdeal.Hand.k_arr m c).symm)
    exact congr (congr (congrArg KO a0) a1) a3
  · refine (Cert.BandSRefIdeal.Hand.v_eq _ _).trans (Eq.trans ?_ (Cert.BandSIdeal.Hand.v_arr m c).symm)
    exact congr (congrArg VO a0) a1
  · refine (Cert.BandSRefIdeal.Hand.k_eq _ _ _).trans (Eq.trans ?_ (Cert.BandSIdeal.Hand.kf_arr m c).symm)
    exact congr (congr (congrArg KO a0) a1) a3
  · refine (Cert.BandSRefIdeal.Hand.v_eq _ _).trans (Eq.trans ?_ (Cert.BandSIdeal.Hand.vf_arr m c).symm)
    exact congr (congrArg VO a0) a1

end Cert.BandSPair
-- ==== Proof.FoxSKernel.lean ====
module

public import proofs.«01_k».proof.Defs
public import proofs.«01_k».proof.Proof.Gen.FoxSIdeal.Value
public import proofs.«01_k».proof.Proof.BandSKernel
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem
open Idealize.ShloMosaic.Pipeline (Dat)
open Cert.LitMath Cert.QkvMath Cert.BandSIdeal.Hand
namespace Cert.FoxSIdeal.Hand
open Cert.FoxSIdeal Cert.FoxSIdeal.Gen

/-! ## The windows -/

/-- A window's log forget gates. -/
def GB (x : Vec Ideal S512x1024 .bf16) (w : Vec Ideal S1024x16 .bf16) (b : Vec Ideal S1x16 .f32) : Vec Ideal S512x16 .f32 := fun y =>
  ls (lin (fun d => x (ix2 (y 0) d)) (fun l => w (ix2 l (y 1))) + b (ix2 0 (y 1)))

/-- The log forget gates of 256 rows. -/
theorem gate_at (h : Vec Ideal S256x1024 .bf16) (w : Vec Ideal S1024x16 .bf16) (b : Vec Ideal S1x16 .f32) (i : Fin 256) (n : Fin 16) :
    k0_pay9 h w b (ix2 i n) = ls (lin (fun d => h (ix2 i d)) (fun d => w (ix2 d n)) + b (ix2 0 n)) := by
  unfold ls lin
  pointwise [k0_pay9]
  simp only [zero_sub]
  rfl

/-- The block at row `n` leaves its 256 rows of log forget gates. -/
theorem rows_g (x : Vec Ideal S512x1024 .bf16) (w : Vec Ideal S1024x16 .bf16) (b : Vec Ideal S1x16 .f32) (n : ℕ) (hn : n + 256 ≤ 512) (hb hc h1 h2) (y : S256x16.Idx) :
    k0_pay9 (View.ld x (Rect.unit ![n, 0] ![256, 1024] hb : Rect S512x1024)) (View.ld w (Rect.unit ![0, 0] ![1024, 16] h1 : Rect S1024x16)) (View.ld b (Rect.unit ![0, 0] ![1, 16] h2 : Rect S1x16)) y
      = GB x w b ((Rect.unit ![n, 0] ![256, 16] hc : Rect S512x16).emb y) := by
  idx_vars y
  have hm : (Rect.unit ![n, 0] ![256, 16] hc : Rect S512x16).emb (ix2 y0 y1) = ix2 ⟨n + y0.val, by omega⟩ y1 := by
    refine funext fun ax => Fin.ext ?_
    fin_cases ax <;> simp [Rect.unit, Rect.emb] <;> rfl
  rw [gate_at, hm]
  have hx : ∀ d, View.ld x (Rect.unit ![n, 0] ![256, 1024] hb : Rect S512x1024) (ix2 y0 d) = x (ix2 ⟨n + y0.val, by omega⟩ d) :=
    fun d => ld_rows x n hb y0 d (by omega)
  have hw : ∀ d j, View.ld w (Rect.unit ![0, 0] ![1024, 16] h1 : Rect S1024x16) (ix2 d j) = w (ix2 d j) := fun d j => ld_all w h1 d j
  have hg : ∀ j, View.ld b (Rect.unit ![0, 0] ![1, 16] h2 : Rect S1x16) (ix2 0 j) = b (ix2 0 j) := fun j => ld_all b h2 0 j
  simp only [hx, hw, hg]
  rfl

/-! The other copies of the normalised rows are the same value. -/

theorem q_hi (h : Vec Ideal S256x1024 .bf16) (w : Vec Ideal S1024x1024 .bf16) (e : Vec Ideal S256x256 .bf16) (g : Vec Ideal S1x1024 .f32) :
    k0_pay22 (k0_pay19 h w) (k0_pay20 h w) (k0_pay21 h w) e (constant S256x256 .f32 0x00000000#32) e e e g = k0_pay2 h w e e e e g := by
  unfold k0_pay22 k0_pay19 k0_pay20 k0_pay21 k0_pay2
  rfl

theorem q_lo (h : Vec Ideal S256x1024 .bf16) (w : Vec Ideal S1024x1024 .bf16) (e : Vec Ideal S256x256 .bf16) (g : Vec Ideal S1x1024 .f32) :
    k0_pay8 (k0_pay6 h w e e e e) (k0_pay7 g) = k0_pay2 h w e e e e g := by
  unfold k0_pay8 k0_pay6 k0_pay7 k0_pay2
  rfl

theorem k_hi (h : Vec Ideal S256x1024 .bf16) (w : Vec Ideal S1024x1024 .bf16) (e : Vec Ideal S256x256 .bf16) (g : Vec Ideal S1x1024 .f32) :
    k0_pay17 (k0_pay10 h w) (k0_pay11 h w) (k0_pay12 h w e) (k0_pay13 h w e) (k0_pay14 h w) e e g = k0_pay2 h w e e e e g := by
  unfold k0_pay17 k0_pay15 k0_pay10 k0_pay11 k0_pay12 k0_pay13 k0_pay14 k0_pay2
  rfl

theorem kf_hi (h : Vec Ideal S256x1024 .bf16) (w : Vec Ideal S1024x1024 .bf16) (e : Vec Ideal S256x256 .bf16) (g : Vec Ideal S1x1024 .f32) :
    k0_pay15 (k0_pay10 h w) (k0_pay11 h w) (k0_pay12 h w e) (k0_pay13 h w e) (k0_pay14 h w) e e g = k0_pay2 h w e e e e g := by
  unfold k0_pay15 k0_pay10 k0_pay11 k0_pay12 k0_pay13 k0_pay14 k0_pay2
  rfl

theorem k_lo (h : Vec Ideal S256x1024 .bf16) (w : Vec Ideal S1024x1024 .bf16) (e : Vec Ideal S256x256 .bf16) (g : Vec Ideal S1x1024 .f32) :
    k0_pay4 h w e e e e g = k0_pay2 h w e e e e g := by
  unfold k0_pay4 k0_pay2
  rfl

theorem g_hi (h : Vec Ideal S256x1024 .bf16) (w : Vec Ideal S1024x16 .bf16) (b : Vec Ideal S1x16 .f32) :
    k0_pay1 (k0_pay24 h w b) (k0_pay25 h w b) = k0_pay9 h w b := by
  unfold k0_pay1 k0_pay25 k0_pay24 k0_pay23 k0_pay9
  rfl

/-- Two blocks of rows fill the window. -/
theorem two_rows {ty : EltTy} (G : Vec Ideal S512x1024 ty) (p q : Vec Ideal S256x1024 ty) (hp : ∀ y, p y = G (r0_7.emb y)) (hq : ∀ y, q y = G (r0_0.emb y)) (y : S512x1024.Idx) :
    View.canon [⟨r0_7, p⟩, ⟨r0_0, q⟩] y = G y := by
  refine View.canon_apply_of_pieces G _ ?_ y ?_
  · simp only [List.forall_mem_cons]
    exact ⟨hp, hq, by simp⟩
  · idx_vars y
    simp only [List.exists_mem_cons_iff, Rect.mem_set_unit, Fin.forall_fin_two]
    have := y0.isLt
    have := y1.isLt
    simp [-Fin.is_lt]
    omega

/-- Two blocks of rows fill the window of gates. -/
theorem two_gates {ty : EltTy} (G : Vec Ideal S512x16 ty) (p q : Vec Ideal S256x16 ty) (hp : ∀ y, p y = G (r0_8.emb y)) (hq : ∀ y, q y = G (r0_6.emb y)) (y : S512x16.Idx) :
    View.canon [⟨r0_8, p⟩, ⟨r0_6, q⟩] y = G y := by
  refine View.canon_apply_of_pieces G _ ?_ y ?_
  · simp only [List.forall_mem_cons]
    exact ⟨hp, hq, by simp⟩
  · idx_vars y
    simp only [List.exists_mem_cons_iff, Rect.mem_set_unit, Fin.forall_fin_two]
    have := y0.isLt
    have := y1.isLt
    simp [-Fin.is_lt]
    omega

section
variable (x0 : Vec Ideal S512x1024 .bf16) (x1 x2 x3 : Vec Ideal S1024x1024 .bf16) (x4 : Vec Ideal S256x256 .bf16) (x5 x6 : Vec Ideal S1x1024 .f32) (x7 : Vec Ideal S1024x16 .bf16) (x8 : Vec Ideal S1x16 .f32)
variable (he : ∀ a b : Fin 256, x4 (ix2 a b) = Ideal.ofBits .bf16 (bit (decide (a.val / 64 = b.val / 64))))

include he in
/-- The window of the queries after the body. -/
theorem out_q (y : S512x1024.Idx) : out0_9 x0 x1 x2 x3 x4 x5 x6 x7 x8 y = NB x0 x1 x5 y := by
  unfold_out out0_9
  exact two_rows (NB x0 x1 x5 : Vec Ideal S512x1024 .bf16) _ _ (fun y => (congrFun (q_hi _ _ _ _) y).trans (rows_n x0 x1 x4 x5 he 256 (by norm_num) _ _ _ _ y)) (fun y => (congrFun (q_lo _ _ _ _) y).trans (rows_n x0 x1 x4 x5 he 0 (by norm_num) _ _ _ _ y)) y

include he in
/-- The window of the rounded keys after the body. -/
theorem out_k (y : S512x1024.Idx) : out0_10 x0 x1 x2 x3 x4 x5 x6 x7 x8 y = NB x0 x2 x6 y := by
  unfold_out out0_10
  exact two_rows (NB x0 x2 x6 : Vec Ideal S512x1024 .bf16) _ _ (fun y => (congrFun (k_hi _ _ _ _) y).trans (rows_n x0 x2 x4 x6 he 256 (by norm_num) _ _ _ _ y)) (fun y => (congrFun (k_lo _ _ _ _) y).trans (rows_n x0 x2 x4 x6 he 0 (by norm_num) _ _ _ _ y)) y

/-- The window of the rounded values after the body. -/
theorem out_v (y : S512x1024.Idx) : out0_11 x0 x1 x2 x3 x4 x5 x6 x7 x8 y = VB x0 x3 y := by
  unfold_out out0_11
  exact two_rows (VB x0 x3 : Vec Ideal S512x1024 .bf16) _ _ (fun y => rows_v x0 x3 256 (by norm_num) _ _ y) (fun y => rows_v x0 x3 0 (by norm_num) _ _ y) y

include he in
/-- The window of the keys after the body. -/
theorem out_kf (y : S512x1024.Idx) : out0_12 x0 x1 x2 x3 x4 x5 x6 x7 x8 y = NB x0 x2 x6 y := by
  unfold_out out0_12
  exact two_rows (NB x0 x2 x6 : Vec Ideal S512x1024 .f32) _ _ (fun y => (congrFun (kf_hi _ _ _ _) y).trans (rows_n x0 x2 x4 x6 he 256 (by norm_num) _ _ _ _ y)) (fun y => rows_n x0 x2 x4 x6 he 0 (by norm_num) _ _ _ _ y) y

/-- The window of the values after the body. -/
theorem out_vf (y : S512x1024.Idx) : out0_13 x0 x1 x2 x3 x4 x5 x6 x7 x8 y = VB x0 x3 y := by
  unfold_out out0_13
  exact two_rows (VB x0 x3 : Vec Ideal S512x1024 .f32) _ _ (fun y => rows_v x0 x3 256 (by norm_num) _ _ y) (fun y => rows_v x0 x3 0 (by norm_num) _ _ y) y

/-- The window of the log forget gates after the body. -/
theorem out_g (y : S512x16.Idx) : out0_14 x0 x1 x2 x3 x4 x5 x6 x7 x8 y = GB x0 x7 x8 y := by
  unfold_out out0_14
  exact two_gates (GB x0 x7 x8 : Vec Ideal S512x16 .f32) _ _ (fun y => (congrFun (g_hi _ _ _) y).trans (rows_g x0 x7 x8 256 (by norm_num) _ _ _ _ y)) (fun y => rows_g x0 x7 x8 0 (by norm_num) _ _ _ _ y) y
end

end Cert.FoxSIdeal.Hand
-- ==== Proof.LitFoxS.lean ====
module

public import proofs.«01_k».proof.Defs
public import proofs.«01_k».proof.FoxSIdeal
public import proofs.«01_k».proof.Proof.LitMath

@[expose] public section

set_option maxRecDepth 16384
noncomputable section
open Idealize.ShloMosaic
open Cert.LitMath
namespace Cert.FoxSIdeal.Hand
open Cert.FoxSIdeal

/-! ## The table of ones on blocks of 64 -/

theorem lit_a (i : ℕ) : lit0t0_0 i = bit (decide (i % 128 < 64)) := by
  have h : ∀ k : Fin 128, lit0t0_0 k.val = bit (decide (k.val < 64)) := by decide +kernel
  have e : lit0t0_0 i = lit0t0_0 (i % 128) := by unfold lit0t0_0; rw [Nat.mod_mod]
  exact e.trans (h ⟨i % 128, Nat.mod_lt _ (by norm_num)⟩)

theorem lit_b (i : ℕ) : lit0t0_128 i = bit (decide (64 ≤ i % 128)) := by
  have h : ∀ k : Fin 128, lit0t0_128 k.val = bit (decide (64 ≤ k.val)) := by decide +kernel
  have e : lit0t0_128 i = lit0t0_128 (i % 128) := by unfold lit0t0_128; rw [Nat.mod_mod]
  exact e.trans (h ⟨i % 128, Nat.mod_lt _ (by norm_num)⟩)

theorem lit_z (i : ℕ) : lit0t0_1 i = bit false := by
  have h : ∀ k : Fin 128, lit0t0_1 k.val = bit false := by decide +kernel
  have e : lit0t0_1 i = lit0t0_1 (i % 128) := by unfold lit0t0_1; rw [Nat.mod_mod]
  exact e.trans (h ⟨i % 128, Nat.mod_lt _ (by norm_num)⟩)

theorem lit_0 (i : ℕ) : lit0t1_0 i = pick (i / 128 % 128) (lit0t0_0 i) (lit0t0_1 i) := rfl
theorem lit_1 (i : ℕ) : lit0t1_1 i = pick (i / 128 % 128) (lit0t0_128 i) (lit0t0_1 i) := rfl
theorem lit_2 (i : ℕ) : lit0t1_2 i = pick (i / 128 % 128) (lit0t0_1 i) (lit0t0_0 i) := rfl
theorem lit_3 (i : ℕ) : lit0t1_3 i = pick (i / 128 % 128) (lit0t0_1 i) (lit0t0_128 i) := rfl

/-- The table at row `a` and column `b`: one when both lie in the same block of 64. -/
theorem lit_at (a b : Fin 256) : lit0t (a.val * 256 + b.val) = bit (decide (a.val / 64 = b.val / 64)) := by
  have ha := a.isLt
  have hb := b.isLt
  have hm : (a.val * 256 + b.val) / 128 % 128 < 128 := Nat.mod_lt _ (by norm_num)
  have hq : (a.val * 256 + b.val) / 16384 = a.val / 64 := by omega
  unfold lit0t
  rw [hq]
  obtain h | h | h | h : a.val / 64 = 0 ∨ a.val / 64 = 1 ∨ a.val / 64 = 2 ∨ a.val / 64 = 3 := by omega
  · rw [h]
    show lit0t1_0 _ = _
    rw [lit_0, lit_a, lit_z, pick_at _ hm]
    refine congrArg bit ?_
    split_ifs
    · exact decide_eq_decide.2 (by omega)
    · exact (decide_eq_false (by omega)).symm
  · rw [h]
    show lit0t1_1 _ = _
    rw [lit_1, lit_b, lit_z, pick_at _ hm]
    refine congrArg bit ?_
    split_ifs
    · exact decide_eq_decide.2 (by omega)
    · exact (decide_eq_false (by omega)).symm
  · rw [h]
    show lit0t1_2 _ = _
    rw [lit_2, lit_a, lit_z, pick_at _ hm]
    refine congrArg bit ?_
    split_ifs
    · exact (decide_eq_false (by omega)).symm
    · exact decide_eq_decide.2 (by omega)
  · rw [h]
    show lit0t1_3 _ = _
    rw [lit_3, lit_b, lit_z, pick_at _ hm]
    refine congrArg bit ?_
    split_ifs
    · exact (decide_eq_false (by omega)).symm
    · exact decide_eq_decide.2 (by omega)

end Cert.FoxSIdeal.Hand
-- ==== Proof.FoxSArr.lean ====
module

public import proofs.«01_k».proof.Defs
public import proofs.«01_k».proof.Proof.FoxSKernel
public import proofs.«01_k».proof.Proof.LitFoxS

@[expose] public section

set_option maxRecDepth 16384
noncomputable section
open Idealize.ShloMosaic Idealize.ShloMosaic.TcCoe Idealize.SL.Sem
open Idealize.ShloMosaic.Pipeline (Dat)
open Cert.LitMath Cert.QkvMath Cert.BandSIdeal.Hand
namespace Cert.FoxSIdeal.Hand
open Cert.FoxSIdeal Cert.FoxSIdeal.Gen

variable (m : (ℓ : Loc nD τ sig) → Buf (Elt Ideal) ℓ)

/-! ## The operands the host prepares -/

theorem wq_at (c : Dev nD) (d n : Fin 1024) : V m c main_v10 (ix2 d n) = m (c, Proc.tc.devRef main_arg1) (ix2 d ⟨0 + n.val, by omega⟩) := by
  unfold V
  after_reads_at
theorem wk_at (c : Dev nD) (d n : Fin 1024) : V m c main_v12 (ix2 d n) = m (c, Proc.tc.devRef main_arg1) (ix2 d ⟨1024 + n.val, by omega⟩) := by
  unfold V
  after_reads_at
theorem wv_at (c : Dev nD) (d n : Fin 1024) : V m c main_v14 (ix2 d n) = m (c, Proc.tc.devRef main_arg1) (ix2 d ⟨2048 + n.val, by omega⟩) := by
  unfold V
  after_reads_at

/-- The gain of the queries, repeated over the heads and scaled. -/
theorem gq_at (c : Dev nD) (n : Fin 1024) : V m c main_v5 (ix2 0 n) = @HMul.hMul EReal EReal EReal _ (m (c, Proc.tc.devRef main_arg2) (ix1 ⟨n.val % 64, Nat.mod_lt _ (by norm_num)⟩)) (Ideal.ofBits .f32 0x3E38AA3B#32) := by
  unfold V
  after_reads_at
/-- The gain of the keys, repeated over the heads. -/
theorem gk_at (c : Dev nD) (n : Fin 1024) : V m c main_v15 (ix2 0 n) = m (c, Proc.tc.devRef main_arg3) (ix1 ⟨n.val % 64, Nat.mod_lt _ (by norm_num)⟩) := by
  unfold V
  after_reads_at
/-- The table of blocks. -/
theorem e_at (c : Dev nD) (a b : Fin 256) : V m c main_cst (ix2 a b) = Ideal.ofBits .bf16 (bit (decide (a.val / 64 = b.val / 64))) := by
  rw [← lit_at a b]
  unfold V
  after_reads_at
  have h : S256x256.rowMajor (ix2 a b) = ⟨a.val * 256 + b.val, by have := a.isLt; have := b.isLt; show _ < 65536; omega⟩ :=
    Fin.ext (Shape.rowMajor_val_two (ix2 a b))
  rw [h]
theorem wf_at (c : Dev nD) (d : Fin 1024) (n : Fin 16) : V m c main_v16 (ix2 d n) = m (c, Proc.tc.devRef main_arg4) (ix2 d n) := by
  unfold V
  after_reads_at
theorem bf_at (c : Dev nD) (n : Fin 16) : V m c main_v17 (ix2 0 n) = m (c, Proc.tc.devRef main_arg5) (ix1 n) := by
  unfold V
  after_reads_at

/-! ## What each window of the one grid step holds -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

theorem blk0 (c : Dev nD) (t : Fin cfg0.N) (i : Fin 512) (n : Fin 1024) : iblk m c 0 t (ix2 i n) = m (c, Proc.tc.devRef main_arg0) (ix2 i n) := by
  have h : (win0_0.blk t).view.emb (ix2 i n) = ix2 i n := by blk_ext [idx0]
  show V m c main_arg0 ((win0_0.blk t).view.emb (ix2 i n)) = _
  rw [h, V_main_arg0]
theorem blk1 (c : Dev nD) (t : Fin cfg0.N) (i : Fin 1024) (n : Fin 1024) : iblk m c 1 t (ix2 i n) = m (c, Proc.tc.devRef main_arg1) (ix2 i ⟨0 + n.val, by omega⟩) := by
  have h : (win0_1.blk t).view.emb (ix2 i n) = ix2 i n := by blk_ext [idx1]
  show V m c main_v10 ((win0_1.blk t).view.emb (ix2 i n)) = _
  rw [h, wq_at]
theorem blk2 (c : Dev nD) (t : Fin cfg0.N) (i : Fin 1024) (n : Fin 1024) : iblk m c 2 t (ix2 i n) = m (c, Proc.tc.devRef main_arg1) (ix2 i ⟨1024 + n.val, by omega⟩) := by
  have h : (win0_2.blk t).view.emb (ix2 i n) = ix2 i n := by blk_ext [idx2]
  show V m c main_v12 ((win0_2.blk t).view.emb (ix2 i n)) = _
  rw [h, wk_at]
theorem blk3 (c : Dev nD) (t : Fin cfg0.N) (i : Fin 1024) (n : Fin 1024) : iblk m c 3 t (ix2 i n) = m (c, Proc.tc.devRef main_arg1) (ix2 i ⟨2048 + n.val, by omega⟩) := by
  have h : (win0_3.blk t).view.emb (ix2 i n) = ix2 i n := by blk_ext [idx3]
  show V m c main_v14 ((win0_3.blk t).view.emb (ix2 i n)) = _
  rw [h, wv_at]
theorem blk4 (c : Dev nD) (t : Fin cfg0.N) (i : Fin 256) (n : Fin 256) : iblk m c 4 t (ix2 i n) = Ideal.ofBits .bf16 (bit (decide (i.val / 64 = n.val / 64))) := by
  have h : (win0_4.blk t).view.emb (ix2 i n) = ix2 i n := by blk_ext [idx4]
  show V m c main_cst ((win0_4.blk t).view.emb (ix2 i n)) = _
  rw [h, e_at]
theorem blk7 (c : Dev nD) (t : Fin cfg0.N) (i : Fin 1024) (n : Fin 16) : iblk m c 7 t (ix2 i n) = m (c, Proc.tc.devRef main_arg4) (ix2 i n) := by
  have h : (win0_7.blk t).view.emb (ix2 i n) = ix2 i n := by blk_ext [idx7]
  show V m c main_v16 ((win0_7.blk t).view.emb (ix2 i n)) = _
  rw [h, wf_at]
theorem blk5 (c : Dev nD) (t : Fin cfg0.N) (n : Fin 1024) (d : Fin 64) :
    iblk m c 5 t (ix2 0 ⟨n.val / 64 * 64 + d.val, by omega⟩) = @HMul.hMul EReal EReal EReal _ (m (c, Proc.tc.devRef main_arg2) (ix1 d)) (Ideal.ofBits .f32 0x3E38AA3B#32) := by
  have h : (win0_5.blk t).view.emb (ix2 0 ⟨n.val / 64 * 64 + d.val, by omega⟩) = ix2 0 ⟨n.val / 64 * 64 + d.val, by omega⟩ := by blk_ext [idx5]
  have e : (⟨(n.val / 64 * 64 + d.val) % 64, Nat.mod_lt _ (by norm_num)⟩ : Fin 64) = d := Fin.ext (by simp only []; omega)
  show V m c main_v5 ((win0_5.blk t).view.emb (ix2 0 ⟨n.val / 64 * 64 + d.val, by omega⟩)) = _
  rw [h, gq_at]
  simp only [e]
theorem blk6 (c : Dev nD) (t : Fin cfg0.N) (n : Fin 1024) (d : Fin 64) :
    iblk m c 6 t (ix2 0 ⟨n.val / 64 * 64 + d.val, by omega⟩) = m (c, Proc.tc.devRef main_arg3) (ix1 d) := by
  have h : (win0_6.blk t).view.emb (ix2 0 ⟨n.val / 64 * 64 + d.val, by omega⟩) = ix2 0 ⟨n.val / 64 * 64 + d.val, by omega⟩ := by blk_ext [idx6]
  have e : (⟨(n.val / 64 * 64 + d.val) % 64, Nat.mod_lt _ (by norm_num)⟩ : Fin 64) = d := Fin.ext (by simp only []; omega)
  show V m c main_v15 ((win0_6.blk t).view.emb (ix2 0 ⟨n.val / 64 * 64 + d.val, by omega⟩)) = _
  rw [h, gk_at]
  simp only [e]
theorem blk8 (c : Dev nD) (t : Fin cfg0.N) (n : Fin 16) : iblk m c 8 t (ix2 0 n) = m (c, Proc.tc.devRef main_arg5) (ix1 n) := by
  have h : (win0_8.blk t).view.emb (ix2 0 n) = ix2 0 n := by blk_ext [idx8]
  show V m c main_v17 ((win0_8.blk t).view.emb (ix2 0 n)) = _
  rw [h, bf_at]

theorem gb_at (x : Vec Ideal S512x1024 .bf16) (w : Vec Ideal S1024x16 .bf16) (b : Vec Ideal S1x16 .f32) (i : Fin 512) (n : Fin 16) :
    GB x w b (ix2 i n) = ls (lin (fun d => x (ix2 i d)) (fun l => w (ix2 l n)) + b (ix2 0 n)) := by
  unfold GB
  rfl

/-! ## The result arrays after the run -/

/-- The queries after the run. -/
theorem q_arr (c : Dev nD) : (dats m 0 c).arrAt 9 cfg0.N = QO (m (c, Proc.tc.devRef main_arg0)) (m (c, Proc.tc.devRef main_arg1)) (m (c, Proc.tc.devRef main_arg2)) := by
  refine (dats m 0 c).arrAt_eq_of_covers 9 _ (by decide +kernel) fun t hf y => ?_
  blk_simp
  rw [after0_9]
  idx_vars y
  have e : (win0_9.blk t).view.emb (ix2 y0 y1) = ix2 y0 y1 := by
    blk_ext [idx9]
  rw [e, out_q _ _ _ _ _ _ _ _ _ (blk4 m c t), nb_at]
  simp only [blk0, blk1, blk5]
  rw [hn_mul]
  rfl

/-- The rounded keys after the run. -/
theorem k_arr (c : Dev nD) : (dats m 0 c).arrAt 10 cfg0.N = KO (m (c, Proc.tc.devRef main_arg0)) (m (c, Proc.tc.devRef main_arg1)) (m (c, Proc.tc.devRef main_arg3)) := by
  refine (dats m 0 c).arrAt_eq_of_covers 10 _ (by decide +kernel) fun t hf y => ?_
  blk_simp
  rw [after0_10]
  idx_vars y
  have e : (win0_10.blk t).view.emb (ix2 y0 y1) = ix2 y0 y1 := by
    blk_ext [idx10]
  rw [e, out_k _ _ _ _ _ _ _ _ _ (blk4 m c t), nb_at]
  simp only [blk0, blk2, blk6]
  rfl

/-- The rounded values after the run. -/
theorem v_arr (c : Dev nD) : (dats m 0 c).arrAt 11 cfg0.N = VO (m (c, Proc.tc.devRef main_arg0)) (m (c, Proc.tc.devRef main_arg1)) := by
  refine (dats m 0 c).arrAt_eq_of_covers 11 _ (by decide +kernel) fun t hf y => ?_
  blk_simp
  rw [after0_11]
  idx_vars y
  have e : (win0_11.blk t).view.emb (ix2 y0 y1) = ix2 y0 y1 := by
    blk_ext [idx11]
  rw [e, out_v _ _ _ _ _ _ _ _ _, vb_at]
  simp only [blk0, blk3]
  rfl

/-- The keys after the run. -/
theorem kf_arr (c : Dev nD) : (dats m 0 c).arrAt 12 cfg0.N = KO (m (c, Proc.tc.devRef main_arg0)) (m (c, Proc.tc.devRef main_arg1)) (m (c, Proc.tc.devRef main_arg3)) := by
  refine (dats m 0 c).arrAt_eq_of_covers 12 _ (by decide +kernel) fun t hf y => ?_
  blk_simp
  rw [after0_12]
  idx_vars y
  have e : (win0_12.blk t).view.emb (ix2 y0 y1) = ix2 y0 y1 := by
    blk_ext [idx12]
  rw [e, out_kf _ _ _ _ _ _ _ _ _ (blk4 m c t), nb_at]
  simp only [blk0, blk2, blk6]
  rfl

/-- The values after the run. -/
theorem vf_arr (c : Dev nD) : (dats m 0 c).arrAt 13 cfg0.N = VO (m (c, Proc.tc.devRef main_arg0)) (m (c, Proc.tc.devRef main_arg1)) := by
  refine (dats m 0 c).arrAt_eq_of_covers 13 _ (by decide +kernel) fun t hf y => ?_
  blk_simp
  rw [after0_13]
  idx_vars y
  have e : (win0_13.blk t).view.emb (ix2 y0 y1) = ix2 y0 y1 := by
    blk_ext [idx13]
  rw [e, out_vf _ _ _ _ _ _ _ _ _, vb_at]
  simp only [blk0, blk3]
  rfl

/-- The log forget gates after the run. -/
theorem g_arr (c : Dev nD) : (dats m 0 c).arrAt 14 cfg0.N = FO (m (c, Proc.tc.devRef main_arg0)) (m (c, Proc.tc.devRef main_arg4)) (m (c, Proc.tc.devRef main_arg5)) := by
  refine (dats m 0 c).arrAt_eq_of_covers 14 _ (by decide +kernel) fun t hf y => ?_
  blk_simp
  rw [after0_14]
  idx_vars y
  have e : (win0_14.blk t).view.emb (ix2 y0 y1) = ix2 y0 y1 := by
    blk_ext [idx14]
  rw [e, out_g _ _ _ _ _ _ _ _ _, gb_at]
  simp only [blk0, blk7, blk8]
  rfl

end Cert.FoxSIdeal.Hand
-- ==== Proof.FoxSRef.lean ====
module

public import proofs.«01_k».proof.Defs
public import proofs.«01_k».proof.Proof.Gen.FoxSRefIdeal.Run
public import proofs.«01_k».proof.Proof.QkvMath
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem Idealize.ShloMosaic.StableHlo
open Cert.QkvMath
namespace Cert.FoxSRefIdeal.Hand
open Cert.FoxSRefIdeal Cert.FoxSRefIdeal.Gen Cert.FoxSRefIdeal.Value

/-! ## The projection, by head -/

/-- The rows by batch member and token. -/
def Hr (h : FVec Ideal S512x1024 .bf16) : FVec Ideal S32x16x1024 .f32 := shapeCast _ (extf .f32 h bitsLt_bf16_f32) shapeCasts_S512x1024_S32x16x1024

/-- The rows' products with all the weights. -/
def Pr (h : FVec Ideal S512x1024 .bf16) (w : FVec Ideal S1024x3072 .f32) : FVec Ideal S32x16x3072 .f32 :=
  Host.dotGeneral dot_S32x16x1024_S1024x3072_S32x16x3072_2_0_01_1_n_n none (Hr h) w

theorem hr_at (h : FVec Ideal S512x1024 .bf16) (b : Fin 32) (s : Fin 16) (d : Fin 1024) :
    (Hr h (ix3 b s d) : EReal) = h (ix2 ⟨b.val * 16 + s.val, by omega⟩ d) := by
  unfold Hr
  pointwise

theorem pr_at (h : FVec Ideal S512x1024 .bf16) (w : FVec Ideal S1024x3072 .f32) (b : Fin 32) (s : Fin 16) (j : Fin 3072) :
    (Pr h w (ix3 b s j) : EReal) = lin (fun d => h (ix2 ⟨b.val * 16 + s.val, by omega⟩ d)) (fun d => w (ix2 d j)) := by
  have e : (Pr h w (ix3 b s j) : EReal) = ∑ d : Fin 1024, Hr h (ix3 b s d) * w (ix2 d j) := by
    unfold Pr
    pointwise
  rw [e]
  simp only [hr_at]
  rfl

/-- The queries by head. -/
def Qp (p : FVec Ideal S32x16x3072 .f32) : FVec Ideal S32x16x16x64 .f32 :=
  shapeCast _ (extractStridedSlice S32x16x1024 ![0, 0, 0] p slices_S32x16x3072_S32x16x1024_0_0_0) shapeCasts_S32x16x1024_S32x16x16x64

theorem qp_at (h : FVec Ideal S512x1024 .bf16) (w : FVec Ideal S1024x3072 .f32) (b : Fin 32) (s : Fin 16) (a : Fin 16) (e : Fin 64) :
    (Qp (Pr h w) (ix4 b s a e) : EReal) = kv 0 (by norm_num) h w ⟨b.val * 16 + s.val, by omega⟩ ⟨a.val * 64 + e.val, by omega⟩ := by
  have hp : ∀ p : FVec Ideal S32x16x3072 .f32, (Qp p (ix4 b s a e) : EReal) = p (ix3 b s ⟨0 + (a.val * 64 + e.val), by omega⟩) := fun p => by
    unfold Qp
    pointwise
  rw [hp, pr_at]
  rfl

/-- The keys by head. -/
def Kp (p : FVec Ideal S32x16x3072 .f32) : FVec Ideal S32x16x16x64 .f32 :=
  shapeCast _ (extractStridedSlice S32x16x1024 ![0, 0, 1024] p slices_S32x16x3072_S32x16x1024_0_0_1024) shapeCasts_S32x16x1024_S32x16x16x64

theorem kp_at (h : FVec Ideal S512x1024 .bf16) (w : FVec Ideal S1024x3072 .f32) (b : Fin 32) (s : Fin 16) (a : Fin 16) (e : Fin 64) :
    (Kp (Pr h w) (ix4 b s a e) : EReal) = kv 1024 (by norm_num) h w ⟨b.val * 16 + s.val, by omega⟩ ⟨a.val * 64 + e.val, by omega⟩ := by
  have hp : ∀ p : FVec Ideal S32x16x3072 .f32, (Kp p (ix4 b s a e) : EReal) = p (ix3 b s ⟨1024 + (a.val * 64 + e.val), by omega⟩) := fun p => by
    unfold Kp
    pointwise
  rw [hp, pr_at]
  rfl

/-- The values by head. -/
def Vp (p : FVec Ideal S32x16x3072 .f32) : FVec Ideal S32x16x16x64 .f32 :=
  shapeCast _ (extractStridedSlice S32x16x1024 ![0, 0, 2048] p slices_S32x16x3072_S32x16x1024_0_0_2048) shapeCasts_S32x16x1024_S32x16x16x64

theorem vp_at (h : FVec Ideal S512x1024 .bf16) (w : FVec Ideal S1024x3072 .f32) (b : Fin 32) (s : Fin 16) (a : Fin 16) (e : Fin 64) :
    (Vp (Pr h w) (ix4 b s a e) : EReal) = kv 2048 (by norm_num) h w ⟨b.val * 16 + s.val, by omega⟩ ⟨a.val * 64 + e.val, by omega⟩ := by
  have hp : ∀ p : FVec Ideal S32x16x3072 .f32, (Vp p (ix4 b s a e) : EReal) = p (ix3 b s ⟨2048 + (a.val * 64 + e.val), by omega⟩) := fun p => by
    unfold Vp
    pointwise
  rw [hp, pr_at]
  rfl

/-- Each head over the root of its mean square, scaled. -/
def Nm (x : FVec Ideal S32x16x16x64 .f32) (g : FVec Ideal S64 .f32) : FVec Ideal S32x16x16x64 .f32 :=
  mulf (mulf x (broadcastInDim S32x16x16x64 ![0, 1, 2, 3] bcast_S32x16x16x1_S32x16x16x64_0_1_2_3 (Host.rsqrt (addf (Host.divf (broadcastInDim S32x16x16x1 ![0, 1, 2] bcast_S32x16x16_S32x16x16x1_0_1_2 (Host.reduceAdd (mulf x x) (constant S_ .f32 0x00000000#32) reducesTo_S32x16x16x64_S32x16x16_d3 h_S_)) (broadcastInDim S32x16x16x1 ![] bcast_S_S32x16x16x1 (constant S_ .f32 0x42800000#32))) (broadcastInDim S32x16x16x1 ![] bcast_S_S32x16x16x1 (constant S_ .f32 0x358637BD#32)))))) (broadcastInDim S32x16x16x64 ![0, 1, 2, 3] bcast_S1x1x1x64_S32x16x16x64_0_1_2_3 (broadcastInDim S1x1x1x64 ![3] bcast_S64_S1x1x1x64_3 g))

theorem nm_at (x : FVec Ideal S32x16x16x64 .f32) (g : FVec Ideal S64 .f32) (b : Fin 32) (s : Fin 16) (a : Fin 16) (e : Fin 64) :
    (Nm x g (ix4 b s a e) : EReal) = hn (fun d => x (ix4 b s a d)) (fun d => g (ix1 d)) e := by
  unfold Nm hn
  pointwise

/-- The scaled queries. -/
def Sc (x : FVec Ideal S32x16x16x64 .f32) : FVec Ideal S32x16x16x64 .f32 := mulf x (broadcastInDim S32x16x16x64 ![] bcast_S_S32x16x16x64 (constant S_ .f32 0x3E38AA3B#32))

theorem sc_at (x : FVec Ideal S32x16x16x64 .f32) (b : Fin 32) (s : Fin 16) (a : Fin 16) (e : Fin 64) :
    (Sc x (ix4 b s a e) : EReal) = x (ix4 b s a e) * Ideal.ofBits .f32 0x3E38AA3B#32 := by
  unfold Sc
  pointwise

/-- The heads' lanes in one row. -/
def Fl (x : FVec Ideal S32x16x16x64 .f32) : FVec Ideal S512x1024 .f32 := shapeCast _ x shapeCasts_S32x16x16x64_S512x1024

theorem fl_at (x : FVec Ideal S32x16x16x64 .f32) (i : Fin 512) (n : Fin 1024) :
    (Fl x (ix2 i n) : EReal) = x (ix4 ⟨i.val / 16, by omega⟩ ⟨i.val % 16, by omega⟩ ⟨n.val / 64, by omega⟩ ⟨n.val % 64, by omega⟩) := by
  unfold Fl
  pointwise

theorem row_eq (i : Fin 512) : (⟨i.val / 16 * 16 + i.val % 16, by omega⟩ : Fin 512) = i := Fin.ext (by simp only []; omega)
theorem lane_eq (n : Fin 1024) : (⟨n.val / 64 * 64 + n.val % 64, by omega⟩ : Fin 1024) = n := Fin.ext (by simp only []; omega)

/-- The queries are the spelt out ones. -/
theorem q_eq (h : FVec Ideal S512x1024 .bf16) (w : FVec Ideal S1024x3072 .f32) (g : FVec Ideal S64 .f32) :
    (truncf .bf16 (Fl (Sc (Nm (Qp (Pr h w)) g))) bitsLt_bf16_f32 : FVec Ideal S512x1024 .bf16) = QO h w g := by
  funext y
  idx_vars y
  have e : ∀ z : FVec Ideal S512x1024 .f32, ((truncf .bf16 z bitsLt_bf16_f32 : FVec Ideal S512x1024 .bf16) (ix2 y0 y1) : EReal) = z (ix2 y0 y1) := fun z => by
    pointwise
  refine (e _).trans ((fl_at _ y0 y1).trans ?_)
  rw [sc_at, nm_at]
  simp only [qp_at, row_eq]
  rfl

/-- The keys are the spelt out ones. -/
theorem k_eq (h : FVec Ideal S512x1024 .bf16) (w : FVec Ideal S1024x3072 .f32) (g : FVec Ideal S64 .f32) :
    Fl (Nm (Kp (Pr h w)) g) = KO h w g := by
  funext y
  idx_vars y
  refine (fl_at _ y0 y1).trans ?_
  rw [nm_at]
  simp only [kp_at, row_eq]
  rfl

/-- The values are the spelt out ones. -/
theorem v_eq (h : FVec Ideal S512x1024 .bf16) (w : FVec Ideal S1024x3072 .f32) : Fl (Vp (Pr h w)) = VO h w := by
  funext y
  idx_vars y
  refine (fl_at _ y0 y1).trans ?_
  rw [vp_at, row_eq, lane_eq]
  rfl

/-- The gates before the logistic function. -/
def Gp (h : FVec Ideal S512x1024 .bf16) (w : FVec Ideal S1024x16 .f32) (b : FVec Ideal S16 .f32) : FVec Ideal S32x16x16 .f32 :=
  addf (Host.dotGeneral dot_S32x16x1024_S1024x16_S32x16x16_2_0_01_1_n_n none (Hr h) w) (broadcastInDim S32x16x16 ![0, 1, 2] bcast_S1x1x16_S32x16x16_0_1_2 (broadcastInDim S1x1x16 ![2] bcast_S16_S1x1x16_2 b))

/-- The logarithm of the logistic function of `x`. -/
def Lf (x : FVec Ideal S32x16x16 .f32) : FVec Ideal S32x16x16 .f32 :=
  Host.negf (select (cmpf .une (subf (Host.negf x) (broadcastInDim S32x16x16 ![] bcast_S_S32x16x16 (constant S_ .f32 0x00000000#32))) (subf (Host.negf x) (broadcastInDim S32x16x16 ![] bcast_S_S32x16x16 (constant S_ .f32 0x00000000#32)))) (addf (Host.negf x) (broadcastInDim S32x16x16 ![] bcast_S_S32x16x16 (constant S_ .f32 0x00000000#32))) (addf (maximumf (Host.negf x) (broadcastInDim S32x16x16 ![] bcast_S_S32x16x16 (constant S_ .f32 0x00000000#32))) (Host.log1p (Host.exp (Host.negf (Host.absf (subf (Host.negf x) (broadcastInDim S32x16x16 ![] bcast_S_S32x16x16 (constant S_ .f32 0x00000000#32)))))))))

theorem gp_at (h : FVec Ideal S512x1024 .bf16) (w : FVec Ideal S1024x16 .f32) (v : FVec Ideal S16 .f32) (b : Fin 32) (s : Fin 16) (a : Fin 16) :
    (Gp h w v (ix3 b s a) : EReal) = lin (fun d => h (ix2 ⟨b.val * 16 + s.val, by omega⟩ d)) (fun d => w (ix2 d a)) + v (ix1 a) := by
  have e : (Gp h w v (ix3 b s a) : EReal) = (∑ d : Fin 1024, Hr h (ix3 b s d) * w (ix2 d a)) + v (ix1 a) := by
    unfold Gp
    pointwise
  rw [e]
  simp only [hr_at]
  rfl

theorem lf_at (x : FVec Ideal S32x16x16 .f32) (b : Fin 32) (s : Fin 16) (a : Fin 16) :
    (Lf x (ix3 b s a) : EReal) = ls (x (ix3 b s a)) := by
  rw [← ls_eq]
  unfold Lf
  pointwise
  exact congrArg Neg.neg (if_neg fun h => h rfl)

/-- The log gates are the spelt out ones. -/
theorem f_eq (h : FVec Ideal S512x1024 .bf16) (w : FVec Ideal S1024x16 .f32) (b : FVec Ideal S16 .f32) :
    (shapeCast S512x16 (Lf (Gp h w b)) shapeCasts_S32x16x16_S512x16 : FVec Ideal S512x16 .f32) = FO h w b := by
  funext y
  idx_vars y
  have e : ∀ x : FVec Ideal S32x16x16 .f32, ((shapeCast S512x16 x shapeCasts_S32x16x16_S512x16 : FVec Ideal S512x16 .f32) (ix2 y0 y1) : EReal) = x (ix3 ⟨y0.val / 16, by omega⟩ ⟨y0.val % 16, by omega⟩ y1) := fun x => by
    pointwise
  refine (e _).trans ?_
  rw [lf_at, gp_at, row_eq]
  rfl

end Cert.FoxSRefIdeal.Hand
-- ==== Proof.FoxSPair.lean ====
module

public import proofs.«01_k».proof.Defs
public import proofs.«01_k».proof.Proof.Gen.FoxS.Frame
public import proofs.«01_k».proof.Proof.Gen.FoxSIdeal.Value
public import proofs.«01_k».proof.Proof.FoxSArr
public import proofs.«01_k».proof.Proof.FoxSRef
public import Idealize.ShloMosaic.Lib.Quiescent

@[expose] public section

noncomputable section
open Idealize.ShloMosaic Idealize.SL.Sem Cert.QkvMath
namespace Cert.FoxSPair

/-- The reference of the forgetting-attention projections of the sampled rows ends with its arguments unchanged and its counters at zero. -/
theorem frame_ref :
    Cert.quiescent_FoxSRefIdeal (hFoxSRefIdeal := Cert.FoxSRefIdeal.Gen.facts) := fun m ρ _ =>
  (θ_run Cert.FoxSRefIdeal.defs _ _).mono (fun r h => ⟨fun c => (h c).2.2.2.2.2.2, sem_eq_zero_of_no_sems (by decide) r.2⟩)
    (Cert.FoxSRefIdeal.Value.run (F := Ideal) m ρ)

/-- The kernel of the forgetting-attention projections of the sampled rows and its reference end with the same results. -/
theorem value : Cert.algebraic_FoxSIdeal_FoxSRefIdeal (hFoxSIdeal := Cert.FoxSIdeal.Gen.facts) (hFoxSRefIdeal := Cert.FoxSRefIdeal.Gen.facts) := by
  intro m g m' g' _ agree
  refine ⟨_, _, _, _, _, _, Cert.FoxSIdeal.Value.run_blocks (F := Ideal) m g, ?_⟩
  refine (θ_run Cert.FoxSRefIdeal.defs _ _).mono (fun r h c => ?_) (Cert.FoxSRefIdeal.Value.run (F := Ideal) m' g')
  obtain ⟨a0, a1, a2, a3, a4, a5⟩ := agree c
  obtain ⟨h0, h1, h2, h3, h4, h5, h6⟩ := h c
  refine ⟨h0.trans ?_, h1.trans ?_, h2.trans ?_, h3.trans ?_, h4.trans ?_, h5.trans ?_, h6⟩
  · refine (Cert.FoxSRefIdeal.Hand.q_eq _ _ _).trans (Eq.trans ?_ (Cert.FoxSIdeal.Hand.q_arr m c).symm)
    exact congr (congr (congrArg QO a0) a1) a2
  · refine (Cert.FoxSRefIdeal.Hand.k_eq _ _ _).trans (Eq.trans ?_ (Cert.FoxSIdeal.Hand.k_arr m c).symm)
    exact congr (congr (congrArg KO a0) a1) a3
  · refine (Cert.FoxSRefIdeal.Hand.v_eq _ _).trans (Eq.trans ?_ (Cert.FoxSIdeal.Hand.v_arr m c).symm)
    exact congr (congrArg VO a0) a1
  · refine (Cert.FoxSRefIdeal.Hand.k_eq _ _ _).trans (Eq.trans ?_ (Cert.FoxSIdeal.Hand.kf_arr m c).symm)
    exact congr (congr (congrArg KO a0) a1) a3
  · refine (Cert.FoxSRefIdeal.Hand.v_eq _ _).trans (Eq.trans ?_ (Cert.FoxSIdeal.Hand.vf_arr m c).symm)
    exact congr (congrArg VO a0) a1
  · refine (Cert.FoxSRefIdeal.Hand.f_eq _ _ _).trans (Eq.trans ?_ (Cert.FoxSIdeal.Hand.g_arr m c).symm)
    exact congr (congr (congrArg FO a0) a4) a5

end Cert.FoxSPair
-- ==== Proof.FoxPKernel.lean ====
module

public import proofs.«01_k».proof.Defs
public import proofs.«01_k».proof.Proof.Gen.FoxPIdeal.Value
public import proofs.«01_k».proof.Proof.QkvMath
public import Idealize.ShloMosaic.Lib.Pipeline.ValueKit.Geometry
public import Idealize.ShloMosaic.Lib.Pipeline.ValueKit.Acc
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem
open Idealize.ShloMosaic.Pipeline (Dat)
open Cert.LitMath Cert.QkvMath
namespace Cert.FoxPIdeal.Hand
open Cert.FoxPIdeal Cert.FoxPIdeal.Gen

/-! ## A block of 256 rows, lane by token -/

/-- The weights' row times a token's row. -/
theorem vfm_at (h : Vec Ideal S256x1024 .bf16) (w : Vec Ideal S1024x1024 .bf16) (n : Fin 1024) (i : Fin 256) :
    k0_pay3 h w (ix2 n i) = lin (fun d => h (ix2 i d)) (fun d => w (ix2 n d)) := by
  have hc : ∀ d, h (ix2 i d) * w (ix2 n d) = w (ix2 n d) * h (ix2 i d) := fun d => mul_comm _ _
  unfold lin
  simp only [hc]
  pointwise [k0_pay3]

/-- A projected token with each head normalised, at a lane. -/
theorem kfm_at (h : Vec Ideal S256x1024 .bf16) (w : Vec Ideal S1024x1024 .bf16) (g : Vec Ideal S1024x1 .f32) (n : Fin 1024) (i : Fin 256) :
    k0_pay2 h w g (ix2 n i) = hn (fun d => lin (fun l => h (ix2 i l)) (fun l => w (ix2 ⟨n.val / 64 * 64 + d.val, by omega⟩ l)))
      (fun d => g (ix2 ⟨n.val / 64 * 64 + d.val, by omega⟩ 0)) ⟨n.val % 64, Nat.mod_lt _ (by norm_num)⟩ := by
  have hc : ∀ n d, h (ix2 i d) * w (ix2 n d) = w (ix2 n d) * h (ix2 i d) := fun n d => mul_comm _ _
  have e1 : (⟨n.val / 64 * 64 + n.val % 64, by omega⟩ : Fin 1024) = n := Fin.ext (by simp only []; omega)
  unfold hn lin
  simp only [hc]
  pointwise [k0_pay2]
  rw [e1]

/-- The normalised lanes of 256 queries. -/
theorem qrow_at (h : Vec Ideal S256x1024 .bf16) (w : Vec Ideal S1024x1024 .bf16) (e : Vec Ideal S256x256 .bf16) (g : Vec Ideal S1x1024 .f32)
    (he : ∀ a b : Fin 256, e (ix2 a b) = Ideal.ofBits .bf16 (bit (decide (a.val / 64 = b.val / 64)))) (i : Fin 256) (n : Fin 1024) :
    k0_pay8 h w e e e e g (ix2 i n) = hn (fun d => lin (fun d => h (ix2 i d)) (fun l => w (ix2 l ⟨n.val / 64 * 64 + d.val, by omega⟩)))
      (fun d => g (ix2 0 ⟨n.val / 64 * 64 + d.val, by omega⟩)) ⟨n.val % 64, Nat.mod_lt _ (by norm_num)⟩ := by
  unfold hn lin
  pointwise [k0_pay8]
  simp only [he]
  have e1 : (⟨n.val / 64 * 64 + n.val % 64, by omega⟩ : Fin 1024) = n := Fin.ext (by simp only []; omega)
  rw [e1]
  refine congrArg (fun z => _ * Ideal.rsqrt (z + _) * _) ?_
  refine (congrArg (· * _) ?_).trans (mul_64 _)
  exact sum_blocks (fun a => (∑ x, h (ix2 i x) * w (ix2 x a)) * ∑ x, h (ix2 i x) * w (ix2 x a)) n

/-- The log forget gates of 256 tokens, head by token. -/
theorem gate_at (h : Vec Ideal S256x1024 .bf16) (w : Vec Ideal S16x1024 .bf16) (b : Vec Ideal S16x1 .f32) (n : Fin 16) (i : Fin 256) :
    k0_pay9 h w b (ix3 0 n i) = ls (lin (fun d => h (ix2 i d)) (fun d => w (ix2 n d)) + b (ix2 n 0)) := by
  have hc : ∀ d, h (ix2 i d) * w (ix2 n d) = w (ix2 n d) * h (ix2 i d) := fun d => mul_comm _ _
  unfold ls lin
  simp only [hc]
  pointwise [k0_pay9]
  simp only [zero_sub]
  rfl

/-! ## The windows -/

/-- Rows of a window, loaded. -/
theorem ld_rows (x : Vec Ideal S1024x1024 .bf16) (n : ℕ) (hb) (i : Fin 256) (e : Fin 1024) (hn : n + i.val < 1024) :
    View.ld x (Rect.unit ![n, 0] ![256, 1024] hb : Rect S1024x1024) (ix2 i e) = x (ix2 ⟨n + i.val, hn⟩ e) := by
  refine congrArg x (funext fun ax => Fin.ext ?_)
  fin_cases ax <;> simp [Rect.unit, Rect.emb] <;> rfl

/-- A whole window, loaded. -/
theorem ld_all {a b : ℕ} {ty : EltTy} (x : Vec Ideal (⟨2, ![a, b]⟩ : Shape) ty) (hb) (i : Fin a) (j : Fin b) :
    View.ld x (Rect.unit ![0, 0] ![a, b] hb : Rect (⟨2, ![a, b]⟩ : Shape)) (ix2 i j) = x (ix2 i j) := by
  refine congrArg x (funext fun ax => Fin.ext ?_)
  fin_cases ax <;> simp [Rect.unit, Rect.emb] <;> rfl

/-- A window's queries: its rows projected, each head normalised. -/
@[irreducible] def NB (x : Vec Ideal S1024x1024 .bf16) (w : Vec Ideal S1024x1024 .bf16) (g : Vec Ideal S1x1024 .f32) : Vec Ideal S1024x1024 .f32 := fun y =>
  hn (fun d => lin (fun d => x (ix2 (y 0) d)) (fun l => w (ix2 l ⟨(show Fin 1024 from y 1).val / 64 * 64 + d.val, by omega⟩)))
      (fun d => g (ix2 0 ⟨(show Fin 1024 from y 1).val / 64 * 64 + d.val, by omega⟩)) ⟨(show Fin 1024 from y 1).val % 64, Nat.mod_lt _ (by norm_num)⟩

theorem nb_at (x : Vec Ideal S1024x1024 .bf16) (w : Vec Ideal S1024x1024 .bf16) (g : Vec Ideal S1x1024 .f32) (i : Fin 1024) (n : Fin 1024) :
    NB x w g (ix2 i n) = hn (fun d => lin (fun d => x (ix2 i d)) (fun l => w (ix2 l ⟨n.val / 64 * 64 + d.val, by omega⟩)))
      (fun d => g (ix2 0 ⟨n.val / 64 * 64 + d.val, by omega⟩)) ⟨n.val % 64, Nat.mod_lt _ (by norm_num)⟩ := by
  unfold NB
  rfl

/-- A window's key of token `i` at lane `n`. -/
@[irreducible] def KB (x : Vec Ideal S1024x1024 .bf16) (w : Vec Ideal S1024x1024 .bf16) (g : Vec Ideal S1024x1 .f32) (n : Fin 1024) (i : Fin 1024) : EReal :=
  hn (fun d => lin (fun l => x (ix2 i l)) (fun l => w (ix2 ⟨n.val / 64 * 64 + d.val, by omega⟩ l)))
      (fun d => g (ix2 ⟨n.val / 64 * 64 + d.val, by omega⟩ 0)) ⟨n.val % 64, Nat.mod_lt _ (by norm_num)⟩
/-- A window's value of token `i` at lane `n`. -/
@[irreducible] def VB (x : Vec Ideal S1024x1024 .bf16) (w : Vec Ideal S1024x1024 .bf16) (n : Fin 1024) (i : Fin 1024) : EReal :=
  lin (fun l => x (ix2 i l)) (fun l => w (ix2 n l))

/-- A lane by token table as a window with one unit axis. -/
def W3 (f : Fin 1024 → Fin 1024 → EReal) : Vec Ideal S1x1024x1024 .bf16 := fun y => f (y 1) (y 2)

/-- The block at row `n` leaves its 256 normalised rows. -/
theorem rows_n (x : Vec Ideal S1024x1024 .bf16) (w : Vec Ideal S1024x1024 .bf16) (e : Vec Ideal S256x256 .bf16) (g : Vec Ideal S1x1024 .f32)
    (he : ∀ a b : Fin 256, e (ix2 a b) = Ideal.ofBits .bf16 (bit (decide (a.val / 64 = b.val / 64)))) (n : ℕ) (hn : n + 256 ≤ 1024) (hb h1 h2 h3) (y : S256x1024.Idx) :
    k0_pay8 (View.ld x (Rect.unit ![n, 0] ![256, 1024] hb : Rect S1024x1024)) (View.ld w (Rect.unit ![0, 0] ![1024, 1024] h1 : Rect S1024x1024))
      (View.ld e (Rect.unit ![0, 0] ![256, 256] h2 : Rect S256x256)) (View.ld e (Rect.unit ![0, 0] ![256, 256] h2 : Rect S256x256))
      (View.ld e (Rect.unit ![0, 0] ![256, 256] h2 : Rect S256x256)) (View.ld e (Rect.unit ![0, 0] ![256, 256] h2 : Rect S256x256))
      (View.ld g (Rect.unit ![0, 0] ![1, 1024] h3 : Rect S1x1024)) y
      = NB x w g ((Rect.unit ![n, 0] ![256, 1024] hb : Rect S1024x1024).emb y) := by
  idx_vars y
  have hm : (Rect.unit ![n, 0] ![256, 1024] hb : Rect S1024x1024).emb (ix2 y0 y1) = ix2 ⟨n + y0.val, by omega⟩ y1 := by
    refine funext fun ax => Fin.ext ?_
    fin_cases ax <;> simp [Rect.unit, Rect.emb] <;> rfl
  have hel : ∀ a b : Fin 256, View.ld e (Rect.unit ![0, 0] ![256, 256] h2 : Rect S256x256) (ix2 a b) = Ideal.ofBits .bf16 (bit (decide (a.val / 64 = b.val / 64))) :=
    fun a b => (ld_all e h2 a b).trans (he a b)
  rw [qrow_at _ _ _ _ hel, hm, nb_at]
  have hx : ∀ d, View.ld x (Rect.unit ![n, 0] ![256, 1024] hb : Rect S1024x1024) (ix2 y0 d) = x (ix2 ⟨n + y0.val, by omega⟩ d) :=
    fun d => ld_rows x n hb y0 d (by omega)
  have hw : ∀ d j, View.ld w (Rect.unit ![0, 0] ![1024, 1024] h1 : Rect S1024x1024) (ix2 d j) = w (ix2 d j) := fun d j => ld_all w h1 d j
  have hg : ∀ j, View.ld g (Rect.unit ![0, 0] ![1, 1024] h3 : Rect S1x1024) (ix2 0 j) = g (ix2 0 j) := fun j => ld_all g h3 0 j
  simp only [hx, hw, hg]

/-- The 256 tokens at row `n`, keys. -/
theorem kb_ld (x : Vec Ideal S1024x1024 .bf16) (w : Vec Ideal S1024x1024 .bf16) (g : Vec Ideal S1024x1 .f32) (n : ℕ) (hn : n + 256 ≤ 1024) (hb h1 h3) (l : Fin 1024) (i : Fin 256) :
    k0_pay2 (View.ld x (Rect.unit ![n, 0] ![256, 1024] hb : Rect S1024x1024)) (View.ld w (Rect.unit ![0, 0] ![1024, 1024] h1 : Rect S1024x1024))
      (View.ld g (Rect.unit ![0, 0] ![1024, 1] h3 : Rect S1024x1)) (ix2 l i) = KB x w g l ⟨n + i.val, by omega⟩ := by
  rw [kfm_at]
  unfold KB
  have hx : ∀ d, View.ld x (Rect.unit ![n, 0] ![256, 1024] hb : Rect S1024x1024) (ix2 i d) = x (ix2 ⟨n + i.val, by omega⟩ d) :=
    fun d => ld_rows x n hb i d (by omega)
  have hw : ∀ d j, View.ld w (Rect.unit ![0, 0] ![1024, 1024] h1 : Rect S1024x1024) (ix2 d j) = w (ix2 d j) := fun d j => ld_all w h1 d j
  have hg : ∀ j, View.ld g (Rect.unit ![0, 0] ![1024, 1] h3 : Rect S1024x1) (ix2 j 0) = g (ix2 j 0) := fun j => ld_all g h3 j 0
  simp only [hx, hw, hg]

/-- The 256 tokens at row `n`, values. -/
theorem vb_ld (x : Vec Ideal S1024x1024 .bf16) (w : Vec Ideal S1024x1024 .bf16) (n : ℕ) (hn : n + 256 ≤ 1024) (hb h1) (l : Fin 1024) (i : Fin 256) :
    k0_pay3 (View.ld x (Rect.unit ![n, 0] ![256, 1024] hb : Rect S1024x1024)) (View.ld w (Rect.unit ![0, 0] ![1024, 1024] h1 : Rect S1024x1024)) (ix2 l i)
      = VB x w l ⟨n + i.val, by omega⟩ := by
  rw [vfm_at]
  unfold VB
  have hx : ∀ d, View.ld x (Rect.unit ![n, 0] ![256, 1024] hb : Rect S1024x1024) (ix2 i d) = x (ix2 ⟨n + i.val, by omega⟩ d) :=
    fun d => ld_rows x n hb i d (by omega)
  have hw : ∀ d j, View.ld w (Rect.unit ![0, 0] ![1024, 1024] h1 : Rect S1024x1024) (ix2 d j) = w (ix2 d j) := fun d j => ld_all w h1 d j
  simp only [hx, hw]

/-- 256 tokens stored in a window with one unit axis. -/
theorem rows_3 (f : Fin 1024 → Fin 1024 → EReal) (v : FVec Ideal S1024x256 .f32) (n : ℕ) (hn : n + 256 ≤ 1024)
    (h : ∀ (l : Fin 1024) (i : Fin 256), v (ix2 l i) = f l ⟨n + i.val, by omega⟩) (hc) (y : S1x1024x256.Idx) :
    k0_pay12 v y = W3 f ((Rect.unit ![0, 0, n] ![1, 1024, 256] hc : Rect S1x1024x1024).emb y) := by
  idx_vars y
  obtain rfl : y0 = 0 := Subsingleton.elim _ _
  have hm : (Rect.unit ![0, 0, n] ![1, 1024, 256] hc : Rect S1x1024x1024).emb (ix3 0 y1 y2) = ix3 0 y1 ⟨n + y2.val, by omega⟩ := by
    refine funext fun ax => Fin.ext ?_
    fin_cases ax <;> simp [Rect.unit, Rect.emb] <;> rfl
  have e : k0_pay12 v (ix3 0 y1 y2) = v (ix2 y1 y2) := by
    pointwise [k0_pay12]
  rw [e, hm, h]
  rfl

/-- A lane by token table as a window with two unit axes. -/
def W4 (f : Fin 1024 → Fin 1024 → EReal) : Vec Ideal S1x1x1024x1024 .f32 := fun y => f (y 2) (y 3)

/-- 256 tokens stored in a window with two unit axes. -/
theorem rows_4 (f : Fin 1024 → Fin 1024 → EReal) (v : FVec Ideal S1024x256 .f32) (n : ℕ) (hn : n + 256 ≤ 1024)
    (h : ∀ (l : Fin 1024) (i : Fin 256), v (ix2 l i) = f l ⟨n + i.val, by omega⟩) (hc) (y : S1x1x1024x256.Idx) :
    k0_pay14 v y = W4 f ((Rect.unit ![0, 0, 0, n] ![1, 1, 1024, 256] hc : Rect S1x1x1024x1024).emb y) := by
  idx_vars y
  obtain rfl : y0 = 0 := Subsingleton.elim _ _
  obtain rfl : y1 = 0 := Subsingleton.elim _ _
  have hm : (Rect.unit ![0, 0, 0, n] ![1, 1, 1024, 256] hc : Rect S1x1x1024x1024).emb (ix4 0 0 y2 y3) = ix4 0 0 y2 ⟨n + y3.val, by omega⟩ := by
    refine funext fun ax => Fin.ext ?_
    fin_cases ax <;> simp [Rect.unit, Rect.emb] <;> rfl
  have e : k0_pay14 v (ix4 0 0 y2 y3) = v (ix2 y2 y3) := by
    pointwise [k0_pay14]
  rw [e, hm, h]
  rfl

/-- A window's log forget gates, head by token. -/
@[irreducible] def GB (x : Vec Ideal S1024x1024 .bf16) (w : Vec Ideal S16x1024 .bf16) (b : Vec Ideal S16x1 .f32) : Vec Ideal S1x16x1024 .f32 := fun y =>
  ls (lin (fun d => x (ix2 (y 2) d)) (fun d => w (ix2 (y 1) d)) + b (ix2 (y 1) 0))

theorem gb_at (x : Vec Ideal S1024x1024 .bf16) (w : Vec Ideal S16x1024 .bf16) (b : Vec Ideal S16x1 .f32) (n : Fin 16) (i : Fin 1024) :
    GB x w b (ix3 0 n i) = ls (lin (fun d => x (ix2 i d)) (fun d => w (ix2 n d)) + b (ix2 n 0)) := by
  unfold GB
  rfl

theorem rows_g (x : Vec Ideal S1024x1024 .bf16) (w : Vec Ideal S16x1024 .bf16) (b : Vec Ideal S16x1 .f32) (n : ℕ) (hn : n + 256 ≤ 1024) (hb hc h1 h2) (y : S1x16x256.Idx) :
    k0_pay9 (View.ld x (Rect.unit ![n, 0] ![256, 1024] hb : Rect S1024x1024)) (View.ld w (Rect.unit ![0, 0] ![16, 1024] h1 : Rect S16x1024)) (View.ld b (Rect.unit ![0, 0] ![16, 1] h2 : Rect S16x1)) y
      = GB x w b ((Rect.unit ![0, 0, n] ![1, 16, 256] hc : Rect S1x16x1024).emb y) := by
  idx_vars y
  obtain rfl : y0 = 0 := Subsingleton.elim _ _
  have hm : (Rect.unit ![0, 0, n] ![1, 16, 256] hc : Rect S1x16x1024).emb (ix3 0 y1 y2) = ix3 0 y1 ⟨n + y2.val, by omega⟩ := by
    refine funext fun ax => Fin.ext ?_
    fin_cases ax <;> simp [Rect.unit, Rect.emb] <;> rfl
  rw [gate_at, hm, gb_at]
  have hx : ∀ d, View.ld x (Rect.unit ![n, 0] ![256, 1024] hb : Rect S1024x1024) (ix2 y2 d) = x (ix2 ⟨n + y2.val, by omega⟩ d) :=
    fun d => ld_rows x n hb y2 d (by omega)
  have hw : ∀ d j, View.ld w (Rect.unit ![0, 0] ![16, 1024] h1 : Rect S16x1024) (ix2 d j) = w (ix2 d j) := fun d j => ld_all w h1 d j
  have hg : ∀ j, View.ld b (Rect.unit ![0, 0] ![16, 1] h2 : Rect S16x1) (ix2 j 0) = b (ix2 j 0) := fun j => ld_all b h2 j 0
  simp only [hx, hw, hg]

/-! The copies of one value over the four blocks are the same. -/

theorem q_3 (h : Vec Ideal S256x1024 .bf16) (w : Vec Ideal S1024x1024 .bf16) (e : Vec Ideal S256x256 .bf16) (g : Vec Ideal S1x1024 .f32) :
    k0_pay42 (k0_pay37 h w) (k0_pay38 h w) (k0_pay39 h w e) (k0_pay40 h w e) (k0_pay41 h w) e e g = k0_pay8 h w e e e e g := by
  unfold k0_pay42 k0_pay41 k0_pay40 k0_pay39 k0_pay38 k0_pay37 k0_pay8
  rfl
theorem q_2 (h : Vec Ideal S256x1024 .bf16) (w : Vec Ideal S1024x1024 .bf16) (e : Vec Ideal S256x256 .bf16) (g : Vec Ideal S1x1024 .f32) :
    k0_pay29 h w e e e e g = k0_pay8 h w e e e e g := by
  unfold k0_pay29 k0_pay8
  rfl
theorem q_1 (h : Vec Ideal S256x1024 .bf16) (w : Vec Ideal S1024x1024 .bf16) (e : Vec Ideal S256x256 .bf16) (g : Vec Ideal S1x1024 .f32) :
    k0_pay21 (k0_pay16 h w) (k0_pay17 h w) (k0_pay18 h w e) (k0_pay19 h w e) (k0_pay20 h w) e e g = k0_pay8 h w e e e e g := by
  unfold k0_pay21 k0_pay20 k0_pay19 k0_pay18 k0_pay17 k0_pay16 k0_pay8
  rfl
theorem k_3 (h : Vec Ideal S256x1024 .bf16) (w : Vec Ideal S1024x1024 .bf16) (g : Vec Ideal S1024x1 .f32) :
    k0_pay33 (k0_pay31 h w g) = k0_pay12 (k0_pay2 h w g) := by
  unfold k0_pay33 k0_pay31 k0_pay12 k0_pay2
  rfl
theorem k_2 (h : Vec Ideal S256x1024 .bf16) (w : Vec Ideal S1024x1024 .bf16) (g : Vec Ideal S1024x1 .f32) :
    k0_pay25 h w g = k0_pay12 (k0_pay2 h w g) := by
  unfold k0_pay25 k0_pay23 k0_pay12 k0_pay2
  rfl
theorem k_1 (h : Vec Ideal S256x1024 .bf16) (w : Vec Ideal S1024x1024 .bf16) (g : Vec Ideal S1024x1 .f32) :
    k0_pay12 (k0_pay10 h w g) = k0_pay12 (k0_pay2 h w g) := by
  unfold k0_pay12 k0_pay10 k0_pay2
  rfl
theorem k_0 (h : Vec Ideal S256x1024 .bf16) (w : Vec Ideal S1024x1024 .bf16) (g : Vec Ideal S1024x1 .f32) :
    k0_pay4 h w g = k0_pay12 (k0_pay2 h w g) := by
  unfold k0_pay4 k0_pay12
  rfl
theorem v_3 (h : Vec Ideal S256x1024 .bf16) (w : Vec Ideal S1024x1024 .bf16) :
    k0_pay34 h w = k0_pay12 (k0_pay3 h w) := by
  unfold k0_pay34 k0_pay32 k0_pay12 k0_pay3
  rfl
theorem v_2 (h : Vec Ideal S256x1024 .bf16) (w : Vec Ideal S1024x1024 .bf16) :
    k0_pay26 h w = k0_pay12 (k0_pay3 h w) := by
  unfold k0_pay26 k0_pay24 k0_pay12 k0_pay3
  rfl
theorem v_1 (h : Vec Ideal S256x1024 .bf16) (w : Vec Ideal S1024x1024 .bf16) :
    k0_pay13 h w = k0_pay12 (k0_pay3 h w) := by
  unfold k0_pay13 k0_pay11 k0_pay12 k0_pay3
  rfl
theorem v_0 (h : Vec Ideal S256x1024 .bf16) (w : Vec Ideal S1024x1024 .bf16) :
    k0_pay5 h w = k0_pay12 (k0_pay3 h w) := by
  unfold k0_pay5 k0_pay12
  rfl
theorem kf_3 (h : Vec Ideal S256x1024 .bf16) (w : Vec Ideal S1024x1024 .bf16) (g : Vec Ideal S1024x1 .f32) :
    k0_pay35 (k0_pay31 h w g) = k0_pay14 (k0_pay2 h w g) := by
  unfold k0_pay35 k0_pay31 k0_pay14 k0_pay2
  rfl
theorem kf_2 (h : Vec Ideal S256x1024 .bf16) (w : Vec Ideal S1024x1024 .bf16) (g : Vec Ideal S1024x1 .f32) :
    k0_pay27 h w g = k0_pay14 (k0_pay2 h w g) := by
  unfold k0_pay27 k0_pay23 k0_pay14 k0_pay2
  rfl
theorem kf_1 (h : Vec Ideal S256x1024 .bf16) (w : Vec Ideal S1024x1024 .bf16) (g : Vec Ideal S1024x1 .f32) :
    k0_pay14 (k0_pay10 h w g) = k0_pay14 (k0_pay2 h w g) := by
  unfold k0_pay14 k0_pay10 k0_pay2
  rfl
theorem kf_0 (h : Vec Ideal S256x1024 .bf16) (w : Vec Ideal S1024x1024 .bf16) (g : Vec Ideal S1024x1 .f32) :
    k0_pay6 h w g = k0_pay14 (k0_pay2 h w g) := by
  unfold k0_pay6 k0_pay14
  rfl
theorem vf_3 (h : Vec Ideal S256x1024 .bf16) (w : Vec Ideal S1024x1024 .bf16) :
    k0_pay36 h w = k0_pay14 (k0_pay3 h w) := by
  unfold k0_pay36 k0_pay32 k0_pay14 k0_pay3
  rfl
theorem vf_2 (h : Vec Ideal S256x1024 .bf16) (w : Vec Ideal S1024x1024 .bf16) :
    k0_pay28 (k0_pay24 h w) = k0_pay14 (k0_pay3 h w) := by
  unfold k0_pay28 k0_pay24 k0_pay14 k0_pay3
  rfl
theorem vf_1 (h : Vec Ideal S256x1024 .bf16) (w : Vec Ideal S1024x1024 .bf16) :
    k0_pay15 h w = k0_pay14 (k0_pay3 h w) := by
  unfold k0_pay15 k0_pay11 k0_pay14 k0_pay3
  rfl
theorem vf_0 (h : Vec Ideal S256x1024 .bf16) (w : Vec Ideal S1024x1024 .bf16) :
    k0_pay7 (k0_pay3 h w) = k0_pay14 (k0_pay3 h w) := by
  unfold k0_pay7 k0_pay14
  rfl
theorem g_3 (h : Vec Ideal S256x1024 .bf16) (w : Vec Ideal S16x1024 .bf16) (b : Vec Ideal S16x1 .f32) :
    k0_pay1 (k0_pay43 h w b) = k0_pay9 h w b := by
  unfold k0_pay1 k0_pay43 k0_pay9
  rfl
theorem g_2 (h : Vec Ideal S256x1024 .bf16) (w : Vec Ideal S16x1024 .bf16) (b : Vec Ideal S16x1 .f32) :
    k0_pay30 h w b = k0_pay9 h w b := by
  unfold k0_pay30 k0_pay9
  rfl
theorem g_1 (h : Vec Ideal S256x1024 .bf16) (w : Vec Ideal S16x1024 .bf16) (b : Vec Ideal S16x1 .f32) :
    k0_pay22 h w b = k0_pay9 h w b := by
  unfold k0_pay22 k0_pay9
  rfl

/-- Blocks of 256 tokens fill the window of queries. -/
theorem four_q {ty : EltTy} (G : Vec Ideal S1024x1024 ty) (p0 p1 p2 p3 : Vec Ideal S256x1024 ty) (h0 : ∀ y, p0 y = G (r0_18.emb y)) (h1 : ∀ y, p1 y = G (r0_14.emb y)) (h2 : ∀ y, p2 y = G (r0_10.emb y)) (h3 : ∀ y, p3 y = G (r0_0.emb y)) (y : S1024x1024.Idx) :
    View.canon [⟨r0_18, p0⟩, ⟨r0_14, p1⟩, ⟨r0_10, p2⟩, ⟨r0_0, p3⟩] y = G y := by
  refine View.canon_apply_of_pieces G _ ?_ y ?_
  · simp only [List.forall_mem_cons]
    exact ⟨h0, h1, h2, h3, by simp⟩
  · idx_vars y
    simp only [List.exists_mem_cons_iff, Rect.mem_set_unit, Fin.forall_fin_two]
    have := y0.isLt
    have := y1.isLt
    simp [-Fin.is_lt]
    omega

/-- Blocks of 256 tokens fill a window with one unit axis. -/
theorem four_3 {ty : EltTy} (G : Vec Ideal S1x1024x1024 ty) (p0 p1 p2 p3 : Vec Ideal S1x1024x256 ty) (h0 : ∀ y, p0 y = G (r0_19.emb y)) (h1 : ∀ y, p1 y = G (r0_15.emb y)) (h2 : ∀ y, p2 y = G (r0_11.emb y)) (h3 : ∀ y, p3 y = G (r0_3.emb y)) (y : S1x1024x1024.Idx) :
    View.canon [⟨r0_19, p0⟩, ⟨r0_15, p1⟩, ⟨r0_11, p2⟩, ⟨r0_3, p3⟩] y = G y := by
  refine View.canon_apply_of_pieces G _ ?_ y ?_
  · simp only [List.forall_mem_cons]
    exact ⟨h0, h1, h2, h3, by simp⟩
  · idx_vars y
    simp only [List.exists_mem_cons_iff, Rect.mem_set_unit, Fin.forall_fin_succ, Fin.forall_fin_zero]
    have := y0.isLt
    have := y1.isLt
    have := y2.isLt
    simp [-Fin.is_lt]
    omega

/-- Blocks of 256 tokens fill a window with two unit axes. -/
theorem four_4 {ty : EltTy} (G : Vec Ideal S1x1x1024x1024 ty) (p0 p1 p2 p3 : Vec Ideal S1x1x1024x256 ty) (h0 : ∀ y, p0 y = G (r0_20.emb y)) (h1 : ∀ y, p1 y = G (r0_16.emb y)) (h2 : ∀ y, p2 y = G (r0_12.emb y)) (h3 : ∀ y, p3 y = G (r0_4.emb y)) (y : S1x1x1024x1024.Idx) :
    View.canon [⟨r0_20, p0⟩, ⟨r0_16, p1⟩, ⟨r0_12, p2⟩, ⟨r0_4, p3⟩] y = G y := by
  refine View.canon_apply_of_pieces G _ ?_ y ?_
  · simp only [List.forall_mem_cons]
    exact ⟨h0, h1, h2, h3, by simp⟩
  · idx_vars y
    simp only [List.exists_mem_cons_iff, Rect.mem_set_unit, Fin.forall_fin_succ, Fin.forall_fin_zero]
    have := y0.isLt
    have := y1.isLt
    have := y2.isLt
    have := y3.isLt
    simp [-Fin.is_lt]
    omega

/-- Blocks of 256 tokens fill the window of gates. -/
theorem four_g {ty : EltTy} (G : Vec Ideal S1x16x1024 ty) (p0 p1 p2 p3 : Vec Ideal S1x16x256 ty) (h0 : ∀ y, p0 y = G (r0_21.emb y)) (h1 : ∀ y, p1 y = G (r0_17.emb y)) (h2 : ∀ y, p2 y = G (r0_13.emb y)) (h3 : ∀ y, p3 y = G (r0_9.emb y)) (y : S1x16x1024.Idx) :
    View.canon [⟨r0_21, p0⟩, ⟨r0_17, p1⟩, ⟨r0_13, p2⟩, ⟨r0_9, p3⟩] y = G y := by
  refine View.canon_apply_of_pieces G _ ?_ y ?_
  · simp only [List.forall_mem_cons]
    exact ⟨h0, h1, h2, h3, by simp⟩
  · idx_vars y
    simp only [List.exists_mem_cons_iff, Rect.mem_set_unit, Fin.forall_fin_succ, Fin.forall_fin_zero]
    have := y0.isLt
    have := y1.isLt
    have := y2.isLt
    simp [-Fin.is_lt]
    omega

section
variable (x0 : Vec Ideal S1024x1024 .bf16) (x1 x2 x3 : Vec Ideal S1024x1024 .bf16) (x4 : Vec Ideal S256x256 .bf16) (x5 : Vec Ideal S1x1024 .f32) (x6 : Vec Ideal S1024x1 .f32)
  (x7 : Vec Ideal S16x1024 .bf16) (x8 : Vec Ideal S16x1 .f32)
variable (he : ∀ a b : Fin 256, x4 (ix2 a b) = Ideal.ofBits .bf16 (bit (decide (a.val / 64 = b.val / 64))))

include he in
/-- The window of the queries after the body. -/
theorem out_q (y : S1024x1024.Idx) : out0_9 x0 x1 x2 x3 x4 x5 x6 x7 x8 y = NB x0 x1 x5 y := by
  unfold_out out0_9
  exact four_q (NB x0 x1 x5 : Vec Ideal S1024x1024 .bf16) _ _ _ _
    (fun y => (congrFun (q_3 _ _ _ _) y).trans (rows_n x0 x1 x4 x5 he 768 (by norm_num) _ _ _ _ y))
    (fun y => (congrFun (q_2 _ _ _ _) y).trans (rows_n x0 x1 x4 x5 he 512 (by norm_num) _ _ _ _ y))
    (fun y => (congrFun (q_1 _ _ _ _) y).trans (rows_n x0 x1 x4 x5 he 256 (by norm_num) _ _ _ _ y))
    (fun y => rows_n x0 x1 x4 x5 he 0 (by norm_num) _ _ _ _ y) y

/-- The window of the rounded keys after the body. -/
theorem out_k (y : S1x1024x1024.Idx) : out0_10 x0 x1 x2 x3 x4 x5 x6 x7 x8 y = W3 (KB x0 x2 x6) y := by
  unfold_out out0_10
  exact four_3 (W3 (KB x0 x2 x6) : Vec Ideal S1x1024x1024 .bf16) _ _ _ _
    (fun y => (congrFun (k_3 _ _ _) y).trans (rows_3 (KB x0 x2 x6) _ 768 (by norm_num) (fun l i => kb_ld x0 x2 x6 768 (by norm_num) _ _ _ l i) _ y))
    (fun y => (congrFun (k_2 _ _ _) y).trans (rows_3 (KB x0 x2 x6) _ 512 (by norm_num) (fun l i => kb_ld x0 x2 x6 512 (by norm_num) _ _ _ l i) _ y))
    (fun y => (congrFun (k_1 _ _ _) y).trans (rows_3 (KB x0 x2 x6) _ 256 (by norm_num) (fun l i => kb_ld x0 x2 x6 256 (by norm_num) _ _ _ l i) _ y))
    (fun y => (congrFun (k_0 _ _ _) y).trans (rows_3 (KB x0 x2 x6) _ 0 (by norm_num) (fun l i => kb_ld x0 x2 x6 0 (by norm_num) _ _ _ l i) _ y)) y

/-- The window of the rounded values after the body. -/
theorem out_v (y : S1x1024x1024.Idx) : out0_11 x0 x1 x2 x3 x4 x5 x6 x7 x8 y = W3 (VB x0 x3) y := by
  unfold_out out0_11
  exact four_3 (W3 (VB x0 x3) : Vec Ideal S1x1024x1024 .bf16) _ _ _ _
    (fun y => (congrFun (v_3 _ _) y).trans (rows_3 (VB x0 x3) _ 768 (by norm_num) (fun l i => vb_ld x0 x3 768 (by norm_num) _ _ l i) _ y))
    (fun y => (congrFun (v_2 _ _) y).trans (rows_3 (VB x0 x3) _ 512 (by norm_num) (fun l i => vb_ld x0 x3 512 (by norm_num) _ _ l i) _ y))
    (fun y => (congrFun (v_1 _ _) y).trans (rows_3 (VB x0 x3) _ 256 (by norm_num) (fun l i => vb_ld x0 x3 256 (by norm_num) _ _ l i) _ y))
    (fun y => (congrFun (v_0 _ _) y).trans (rows_3 (VB x0 x3) _ 0 (by norm_num) (fun l i => vb_ld x0 x3 0 (by norm_num) _ _ l i) _ y)) y

/-- The window of the keys after the body. -/
theorem out_kf (y : S1x1x1024x1024.Idx) : out0_12 x0 x1 x2 x3 x4 x5 x6 x7 x8 y = W4 (KB x0 x2 x6) y := by
  unfold_out out0_12
  exact four_4 (W4 (KB x0 x2 x6) : Vec Ideal S1x1x1024x1024 .f32) _ _ _ _
    (fun y => (congrFun (kf_3 _ _ _) y).trans (rows_4 (KB x0 x2 x6) _ 768 (by norm_num) (fun l i => kb_ld x0 x2 x6 768 (by norm_num) _ _ _ l i) _ y))
    (fun y => (congrFun (kf_2 _ _ _) y).trans (rows_4 (KB x0 x2 x6) _ 512 (by norm_num) (fun l i => kb_ld x0 x2 x6 512 (by norm_num) _ _ _ l i) _ y))
    (fun y => (congrFun (kf_1 _ _ _) y).trans (rows_4 (KB x0 x2 x6) _ 256 (by norm_num) (fun l i => kb_ld x0 x2 x6 256 (by norm_num) _ _ _ l i) _ y))
    (fun y => (congrFun (kf_0 _ _ _) y).trans (rows_4 (KB x0 x2 x6) _ 0 (by norm_num) (fun l i => kb_ld x0 x2 x6 0 (by norm_num) _ _ _ l i) _ y)) y

/-- The window of the values after the body. -/
theorem out_vf (y : S1x1x1024x1024.Idx) : out0_13 x0 x1 x2 x3 x4 x5 x6 x7 x8 y = W4 (VB x0 x3) y := by
  unfold_out out0_13
  exact four_4 (W4 (VB x0 x3) : Vec Ideal S1x1x1024x1024 .f32) _ _ _ _
    (fun y => (congrFun (vf_3 _ _) y).trans (rows_4 (VB x0 x3) _ 768 (by norm_num) (fun l i => vb_ld x0 x3 768 (by norm_num) _ _ l i) _ y))
    (fun y => (congrFun (vf_2 _ _) y).trans (rows_4 (VB x0 x3) _ 512 (by norm_num) (fun l i => vb_ld x0 x3 512 (by norm_num) _ _ l i) _ y))
    (fun y => (congrFun (vf_1 _ _) y).trans (rows_4 (VB x0 x3) _ 256 (by norm_num) (fun l i => vb_ld x0 x3 256 (by norm_num) _ _ l i) _ y))
    (fun y => (congrFun (vf_0 _ _) y).trans (rows_4 (VB x0 x3) _ 0 (by norm_num) (fun l i => vb_ld x0 x3 0 (by norm_num) _ _ l i) _ y)) y

/-- The window of the log forget gates after the body. -/
theorem out_g (y : S1x16x1024.Idx) : out0_14 x0 x1 x2 x3 x4 x5 x6 x7 x8 y = GB x0 x7 x8 y := by
  unfold_out out0_14
  exact four_g (GB x0 x7 x8 : Vec Ideal S1x16x1024 .f32) _ _ _ _
    (fun y => (congrFun (g_3 _ _ _) y).trans (rows_g x0 x7 x8 768 (by norm_num) _ _ _ _ y))
    (fun y => (congrFun (g_2 _ _ _) y).trans (rows_g x0 x7 x8 512 (by norm_num) _ _ _ _ y))
    (fun y => (congrFun (g_1 _ _ _) y).trans (rows_g x0 x7 x8 256 (by norm_num) _ _ _ _ y))
    (fun y => rows_g x0 x7 x8 0 (by norm_num) _ _ _ _ y) y
end

end Cert.FoxPIdeal.Hand
-- ==== Proof.LitFoxP.lean ====
module

public import proofs.«01_k».proof.Defs
public import proofs.«01_k».proof.FoxPIdeal
public import proofs.«01_k».proof.Proof.LitMath

@[expose] public section

set_option maxRecDepth 16384
noncomputable section
open Idealize.ShloMosaic
open Cert.LitMath
namespace Cert.FoxPIdeal.Hand
open Cert.FoxPIdeal

/-! ## The table of ones on blocks of 64 -/

theorem lit_a (i : ℕ) : lit0t0_0 i = bit (decide (i % 128 < 64)) := by
  have h : ∀ k : Fin 128, lit0t0_0 k.val = bit (decide (k.val < 64)) := by decide +kernel
  have e : lit0t0_0 i = lit0t0_0 (i % 128) := by unfold lit0t0_0; rw [Nat.mod_mod]
  exact e.trans (h ⟨i % 128, Nat.mod_lt _ (by norm_num)⟩)

theorem lit_b (i : ℕ) : lit0t0_128 i = bit (decide (64 ≤ i % 128)) := by
  have h : ∀ k : Fin 128, lit0t0_128 k.val = bit (decide (64 ≤ k.val)) := by decide +kernel
  have e : lit0t0_128 i = lit0t0_128 (i % 128) := by unfold lit0t0_128; rw [Nat.mod_mod]
  exact e.trans (h ⟨i % 128, Nat.mod_lt _ (by norm_num)⟩)

theorem lit_z (i : ℕ) : lit0t0_1 i = bit false := by
  have h : ∀ k : Fin 128, lit0t0_1 k.val = bit false := by decide +kernel
  have e : lit0t0_1 i = lit0t0_1 (i % 128) := by unfold lit0t0_1; rw [Nat.mod_mod]
  exact e.trans (h ⟨i % 128, Nat.mod_lt _ (by norm_num)⟩)

theorem lit_0 (i : ℕ) : lit0t1_0 i = pick (i / 128 % 128) (lit0t0_0 i) (lit0t0_1 i) := rfl
theorem lit_1 (i : ℕ) : lit0t1_1 i = pick (i / 128 % 128) (lit0t0_128 i) (lit0t0_1 i) := rfl
theorem lit_2 (i : ℕ) : lit0t1_2 i = pick (i / 128 % 128) (lit0t0_1 i) (lit0t0_0 i) := rfl
theorem lit_3 (i : ℕ) : lit0t1_3 i = pick (i / 128 % 128) (lit0t0_1 i) (lit0t0_128 i) := rfl

/-- The table at row `a` and column `b`: one when both lie in the same block of 64. -/
theorem lit_at (a b : Fin 256) : lit0t (a.val * 256 + b.val) = bit (decide (a.val / 64 = b.val / 64)) := by
  have ha := a.isLt
  have hb := b.isLt
  have hm : (a.val * 256 + b.val) / 128 % 128 < 128 := Nat.mod_lt _ (by norm_num)
  have hq : (a.val * 256 + b.val) / 16384 = a.val / 64 := by omega
  unfold lit0t
  rw [hq]
  obtain h | h | h | h : a.val / 64 = 0 ∨ a.val / 64 = 1 ∨ a.val / 64 = 2 ∨ a.val / 64 = 3 := by omega
  · rw [h]
    show lit0t1_0 _ = _
    rw [lit_0, lit_a, lit_z, pick_at _ hm]
    refine congrArg bit ?_
    split_ifs
    · exact decide_eq_decide.2 (by omega)
    · exact (decide_eq_false (by omega)).symm
  · rw [h]
    show lit0t1_1 _ = _
    rw [lit_1, lit_b, lit_z, pick_at _ hm]
    refine congrArg bit ?_
    split_ifs
    · exact decide_eq_decide.2 (by omega)
    · exact (decide_eq_false (by omega)).symm
  · rw [h]
    show lit0t1_2 _ = _
    rw [lit_2, lit_a, lit_z, pick_at _ hm]
    refine congrArg bit ?_
    split_ifs
    · exact (decide_eq_false (by omega)).symm
    · exact decide_eq_decide.2 (by omega)
  · rw [h]
    show lit0t1_3 _ = _
    rw [lit_3, lit_b, lit_z, pick_at _ hm]
    refine congrArg bit ?_
    split_ifs
    · exact (decide_eq_false (by omega)).symm
    · exact decide_eq_decide.2 (by omega)

end Cert.FoxPIdeal.Hand
-- ==== Proof.FoxPArr.lean ====
module

public import proofs.«01_k».proof.Defs
public import proofs.«01_k».proof.Proof.FoxPKernel
public import proofs.«01_k».proof.Proof.LitFoxP
public import proofs.«01_k».proof.Proof.Gen.FoxPIdeal.Value

@[expose] public section

set_option maxRecDepth 16384
noncomputable section
open Idealize.ShloMosaic Idealize.ShloMosaic.TcCoe Idealize.SL.Sem
open Idealize.ShloMosaic.Pipeline (Dat)
open Cert.LitMath Cert.QkvMath
namespace Cert.FoxPIdeal.Hand
open Cert.FoxPIdeal Cert.FoxPIdeal.Gen

variable (m : (ℓ : Loc nD τ sig) → Buf (Elt Ideal) ℓ)

/-! ## The operands the host prepares -/

theorem wq_at (c : Dev nD) (d n : Fin 1024) : V m c main_v10 (ix2 d n) = m (c, Proc.tc.devRef main_arg1) (ix2 d ⟨0 + n.val, by omega⟩) := by
  unfold V
  after_reads_at
theorem wk_at (c : Dev nD) (n d : Fin 1024) : V m c main_v16 (ix2 n d) = m (c, Proc.tc.devRef main_arg1) (ix2 d ⟨1024 + n.val, by omega⟩) := by
  unfold V
  after_reads_at
theorem wv_at (c : Dev nD) (n d : Fin 1024) : V m c main_v17 (ix2 n d) = m (c, Proc.tc.devRef main_arg1) (ix2 d ⟨2048 + n.val, by omega⟩) := by
  unfold V
  after_reads_at

/-- The gain of the queries, repeated over the heads and scaled. -/
theorem gq_at (c : Dev nD) (n : Fin 1024) : V m c main_v5 (ix2 0 n) = @HMul.hMul EReal EReal EReal _ (m (c, Proc.tc.devRef main_arg2) (ix1 ⟨n.val % 64, Nat.mod_lt _ (by norm_num)⟩)) (Ideal.ofBits .f32 0x3E38AA3B#32) := by
  unfold V
  after_reads_at
/-- The gain of the keys, repeated over the heads. -/
theorem gk_at (c : Dev nD) (n : Fin 1024) : V m c main_v15 (ix2 n 0) = m (c, Proc.tc.devRef main_arg3) (ix1 ⟨n.val % 64, Nat.mod_lt _ (by norm_num)⟩) := by
  unfold V
  after_reads_at
/-- The table of blocks. -/
theorem e_at (c : Dev nD) (a b : Fin 256) : V m c main_cst (ix2 a b) = Ideal.ofBits .bf16 (bit (decide (a.val / 64 = b.val / 64))) := by
  rw [← lit_at a b]
  unfold V
  after_reads_at
  have h : S256x256.rowMajor (ix2 a b) = ⟨a.val * 256 + b.val, by have := a.isLt; have := b.isLt; show _ < 65536; omega⟩ :=
    Fin.ext (Shape.rowMajor_val_two (ix2 a b))
  rw [h]
theorem wf_at (c : Dev nD) (n : Fin 16) (d : Fin 1024) : V m c main_v19 (ix2 n d) = m (c, Proc.tc.devRef main_arg4) (ix2 d n) := by
  unfold V
  after_reads_at
theorem bf_at (c : Dev nD) (n : Fin 16) : V m c main_v20 (ix2 n 0) = m (c, Proc.tc.devRef main_arg5) (ix1 n) := by
  unfold V
  after_reads_at

/-! ## What each window of a grid step holds -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val / 2, 0, t.val % 2] := (by decide +kernel : ∀ t : Fin grid0.N, _)
theorem idx11 : ∀ t : Fin cfg0.N, win0_11.index t = ![t.val / 2, 0, t.val % 2] := (by decide +kernel : ∀ t : Fin grid0.N, _)
theorem idx12 : ∀ t : Fin cfg0.N, win0_12.index t = ![0, t.val / 2, 0, t.val % 2] := (by decide +kernel : ∀ t : Fin grid0.N, _)
theorem idx13 : ∀ t : Fin cfg0.N, win0_13.index t = ![0, t.val / 2, 0, t.val % 2] := (by decide +kernel : ∀ t : Fin grid0.N, _)
theorem idx14 : ∀ t : Fin cfg0.N, win0_14.index t = ![t.val / 2, 0, t.val % 2] := (by decide +kernel : ∀ t : Fin grid0.N, _)

/-- Row `i` of step `t`'s rows. -/
theorem row_lt (t : Fin cfg0.N) (i : Fin 1024) : t.val * 1024 + i.val < 65536 := by
  have h : t.val < 64 := t.isLt
  omega
/-- The batch member of step `t`. -/
def bOf (t : Fin cfg0.N) : Fin 32 := ⟨t.val / 2, by have h : t.val < 64 := t.isLt; omega⟩
/-- Token `i` of step `t`. -/
def sOf (t : Fin cfg0.N) (i : Fin 1024) : Fin 2048 := ⟨t.val % 2 * 1024 + i.val, by omega⟩
theorem tok_eq (t : Fin cfg0.N) (i : Fin 1024) : (⟨(bOf t).val * 2048 + (sOf t i).val, by omega⟩ : Fin 65536) = ⟨t.val * 1024 + i.val, row_lt t i⟩ :=
  Fin.ext (by simp only [bOf, sOf]; omega)

theorem blk0 (c : Dev nD) (t : Fin cfg0.N) (i : Fin 1024) (n : Fin 1024) : iblk m c 0 t (ix2 i n) = m (c, Proc.tc.devRef main_arg0) (ix2 ⟨t.val * 1024 + i.val, row_lt t i⟩ n) := by
  have h : (win0_0.blk t).view.emb (ix2 i n) = ix2 ⟨t.val * 1024 + i.val, row_lt t i⟩ n := by blk_ext [idx0]
  show V m c main_arg0 ((win0_0.blk t).view.emb (ix2 i n)) = _
  rw [h, V_main_arg0]
theorem blk1 (c : Dev nD) (t : Fin cfg0.N) (i : Fin 1024) (n : Fin 1024) : iblk m c 1 t (ix2 i n) = m (c, Proc.tc.devRef main_arg1) (ix2 i ⟨0 + n.val, by omega⟩) := by
  have h : (win0_1.blk t).view.emb (ix2 i n) = ix2 i n := by blk_ext [idx1]
  show V m c main_v10 ((win0_1.blk t).view.emb (ix2 i n)) = _
  rw [h, wq_at]
theorem blk2 (c : Dev nD) (t : Fin cfg0.N) (i : Fin 1024) (n : Fin 1024) : iblk m c 2 t (ix2 i n) = m (c, Proc.tc.devRef main_arg1) (ix2 n ⟨1024 + i.val, by omega⟩) := by
  have h : (win0_2.blk t).view.emb (ix2 i n) = ix2 i n := by blk_ext [idx2]
  show V m c main_v16 ((win0_2.blk t).view.emb (ix2 i n)) = _
  rw [h, wk_at]
theorem blk3 (c : Dev nD) (t : Fin cfg0.N) (i : Fin 1024) (n : Fin 1024) : iblk m c 3 t (ix2 i n) = m (c, Proc.tc.devRef main_arg1) (ix2 n ⟨2048 + i.val, by omega⟩) := by
  have h : (win0_3.blk t).view.emb (ix2 i n) = ix2 i n := by blk_ext [idx3]
  show V m c main_v17 ((win0_3.blk t).view.emb (ix2 i n)) = _
  rw [h, wv_at]
theorem blk4 (c : Dev nD) (t : Fin cfg0.N) (i : Fin 256) (n : Fin 256) : iblk m c 4 t (ix2 i n) = Ideal.ofBits .bf16 (bit (decide (i.val / 64 = n.val / 64))) := by
  have h : (win0_4.blk t).view.emb (ix2 i n) = ix2 i n := by blk_ext [idx4]
  show V m c main_cst ((win0_4.blk t).view.emb (ix2 i n)) = _
  rw [h, e_at]
theorem blk7 (c : Dev nD) (t : Fin cfg0.N) (i : Fin 16) (n : Fin 1024) : iblk m c 7 t (ix2 i n) = m (c, Proc.tc.devRef main_arg4) (ix2 n i) := by
  have h : (win0_7.blk t).view.emb (ix2 i n) = ix2 i n := by blk_ext [idx7]
  show V m c main_v19 ((win0_7.blk t).view.emb (ix2 i n)) = _
  rw [h, wf_at]
theorem blk5 (c : Dev nD) (t : Fin cfg0.N) (n : Fin 1024) (d : Fin 64) :
    iblk m c 5 t (ix2 0 ⟨n.val / 64 * 64 + d.val, by omega⟩) = @HMul.hMul EReal EReal EReal _ (m (c, Proc.tc.devRef main_arg2) (ix1 d)) (Ideal.ofBits .f32 0x3E38AA3B#32) := by
  have h : (win0_5.blk t).view.emb (ix2 0 ⟨n.val / 64 * 64 + d.val, by omega⟩) = ix2 0 ⟨n.val / 64 * 64 + d.val, by omega⟩ := by blk_ext [idx5]
  have e : (⟨(n.val / 64 * 64 + d.val) % 64, Nat.mod_lt _ (by norm_num)⟩ : Fin 64) = d := Fin.ext (by simp only []; omega)
  show V m c main_v5 ((win0_5.blk t).view.emb (ix2 0 ⟨n.val / 64 * 64 + d.val, by omega⟩)) = _
  rw [h, gq_at]
  simp only [e]
theorem blk6 (c : Dev nD) (t : Fin cfg0.N) (n : Fin 1024) (d : Fin 64) :
    iblk m c 6 t (ix2 ⟨n.val / 64 * 64 + d.val, by omega⟩ 0) = m (c, Proc.tc.devRef main_arg3) (ix1 d) := by
  have h : (win0_6.blk t).view.emb (ix2 ⟨n.val / 64 * 64 + d.val, by omega⟩ 0) = ix2 ⟨n.val / 64 * 64 + d.val, by omega⟩ 0 := by blk_ext [idx6]
  have e : (⟨(n.val / 64 * 64 + d.val) % 64, Nat.mod_lt _ (by norm_num)⟩ : Fin 64) = d := Fin.ext (by simp only []; omega)
  show V m c main_v15 ((win0_6.blk t).view.emb (ix2 ⟨n.val / 64 * 64 + d.val, by omega⟩ 0)) = _
  rw [h, gk_at]
  simp only [e]
theorem blk8 (c : Dev nD) (t : Fin cfg0.N) (n : Fin 16) : iblk m c 8 t (ix2 n 0) = m (c, Proc.tc.devRef main_arg5) (ix1 n) := by
  have h : (win0_8.blk t).view.emb (ix2 n 0) = ix2 n 0 := by blk_ext [idx8]
  show V m c main_v20 ((win0_8.blk t).view.emb (ix2 n 0)) = _
  rw [h, bf_at]

/-- The keys of a step, from the arguments. -/
theorem kb_at (c : Dev nD) (t : Fin cfg0.N) (n : Fin 1024) (i : Fin 1024) :
    KB (iblk m c 0 t) (iblk m c 2 t) (iblk m c 6 t) n i = KT (m (c, Proc.tc.devRef main_arg0)) (m (c, Proc.tc.devRef main_arg1)) (m (c, Proc.tc.devRef main_arg3)) (ix3 (bOf t) n (sOf t i)) := by
  unfold KB
  simp only [blk0, blk2, blk6]
  show _ = kn 1024 _ _ _ _ ⟨(bOf t).val * 2048 + (sOf t i).val, _⟩ n
  rw [tok_eq]
  rfl
/-- The values of a step, from the arguments. -/
theorem vb_at (c : Dev nD) (t : Fin cfg0.N) (n : Fin 1024) (i : Fin 1024) :
    VB (iblk m c 0 t) (iblk m c 3 t) n i = VT (m (c, Proc.tc.devRef main_arg0)) (m (c, Proc.tc.devRef main_arg1)) (ix3 (bOf t) n (sOf t i)) := by
  unfold VB
  simp only [blk0, blk3]
  show _ = kv 2048 _ _ _ ⟨(bOf t).val * 2048 + (sOf t i).val, _⟩ n
  rw [tok_eq]
  rfl

/-! ## The result arrays after the run -/

/-- The queries after the run. -/
theorem q_arr (c : Dev nD) : (dats m 0 c).arrAt 9 cfg0.N = QO (m (c, Proc.tc.devRef main_arg0)) (m (c, Proc.tc.devRef main_arg1)) (m (c, Proc.tc.devRef main_arg2)) := by
  refine (dats m 0 c).arrAt_eq_of_covers 9 _ (by decide +kernel) fun t hf y => ?_
  blk_simp
  rw [after0_9]
  idx_vars y
  have e : (win0_9.blk t).view.emb (ix2 y0 y1) = ix2 ⟨t.val * 1024 + y0.val, row_lt t y0⟩ y1 := by
    blk_ext [idx9]
  rw [e, out_q _ _ _ _ _ _ _ _ _ (blk4 m c t), nb_at]
  simp only [blk0, blk1, blk5]
  rw [hn_mul]
  rfl

/-- The rounded keys after the run. -/
theorem k_arr (c : Dev nD) : (dats m 0 c).arrAt 10 cfg0.N = KT (m (c, Proc.tc.devRef main_arg0)) (m (c, Proc.tc.devRef main_arg1)) (m (c, Proc.tc.devRef main_arg3)) := by
  refine (dats m 0 c).arrAt_eq_of_covers 10 _ (by decide +kernel) fun t hf y => ?_
  blk_simp
  rw [after0_10]
  idx_vars y
  obtain rfl : y0 = 0 := Subsingleton.elim _ _
  have e : (win0_10.blk t).view.emb (ix3 0 y1 y2) = ix3 (bOf t) y1 (sOf t y2) := by
    blk_ext [idx10, bOf, sOf]
  rw [e, out_k _ _ _ _ _ _ _ _ _]
  exact kb_at m c t y1 y2

/-- The rounded values after the run. -/
theorem v_arr (c : Dev nD) : (dats m 0 c).arrAt 11 cfg0.N = VT (m (c, Proc.tc.devRef main_arg0)) (m (c, Proc.tc.devRef main_arg1)) := by
  refine (dats m 0 c).arrAt_eq_of_covers 11 _ (by decide +kernel) fun t hf y => ?_
  blk_simp
  rw [after0_11]
  idx_vars y
  obtain rfl : y0 = 0 := Subsingleton.elim _ _
  have e : (win0_11.blk t).view.emb (ix3 0 y1 y2) = ix3 (bOf t) y1 (sOf t y2) := by
    blk_ext [idx11, bOf, sOf]
  rw [e, out_v _ _ _ _ _ _ _ _ _]
  exact vb_at m c t y1 y2

/-- The keys after the run. -/
theorem kf_arr (c : Dev nD) : (dats m 0 c).arrAt 12 cfg0.N = T1 (KT (m (c, Proc.tc.devRef main_arg0)) (m (c, Proc.tc.devRef main_arg1)) (m (c, Proc.tc.devRef main_arg3))) := by
  refine (dats m 0 c).arrAt_eq_of_covers 12 _ (by decide +kernel) fun t hf y => ?_
  blk_simp
  rw [after0_12]
  idx_vars y
  obtain rfl : y0 = 0 := Subsingleton.elim _ _
  obtain rfl : y1 = 0 := Subsingleton.elim _ _
  have e : (win0_12.blk t).view.emb (ix4 0 0 y2 y3) = ix4 0 (bOf t) y2 (sOf t y3) := by
    blk_ext [idx12, bOf, sOf]
  rw [e, out_kf _ _ _ _ _ _ _ _ _]
  exact kb_at m c t y2 y3

/-- The values after the run. -/
theorem vf_arr (c : Dev nD) : (dats m 0 c).arrAt 13 cfg0.N = T1 (VT (m (c, Proc.tc.devRef main_arg0)) (m (c, Proc.tc.devRef main_arg1))) := by
  refine (dats m 0 c).arrAt_eq_of_covers 13 _ (by decide +kernel) fun t hf y => ?_
  blk_simp
  rw [after0_13]
  idx_vars y
  obtain rfl : y0 = 0 := Subsingleton.elim _ _
  obtain rfl : y1 = 0 := Subsingleton.elim _ _
  have e : (win0_13.blk t).view.emb (ix4 0 0 y2 y3) = ix4 0 (bOf t) y2 (sOf t y3) := by
    blk_ext [idx13, bOf, sOf]
  rw [e, out_vf _ _ _ _ _ _ _ _ _]
  exact vb_at m c t y2 y3

/-- The log forget gates after the run. -/
theorem g_arr (c : Dev nD) : (dats m 0 c).arrAt 14 cfg0.N = FT (m (c, Proc.tc.devRef main_arg0)) (m (c, Proc.tc.devRef main_arg4)) (m (c, Proc.tc.devRef main_arg5)) := by
  refine (dats m 0 c).arrAt_eq_of_covers 14 _ (by decide +kernel) fun t hf y => ?_
  blk_simp
  rw [after0_14]
  idx_vars y
  obtain rfl : y0 = 0 := Subsingleton.elim _ _
  have e : (win0_14.blk t).view.emb (ix3 0 y1 y2) = ix3 (bOf t) y1 (sOf t y2) := by
    blk_ext [idx14, bOf, sOf]
  rw [e, out_g _ _ _ _ _ _ _ _ _, gb_at]
  simp only [blk0, blk7, blk8]
  show _ = fv _ _ _ ⟨(bOf t).val * 2048 + (sOf t y2).val, _⟩ y1
  rw [tok_eq]
  rfl

end Cert.FoxPIdeal.Hand
-- ==== Proof.FoxPRef.lean ====
module

public import proofs.«01_k».proof.Defs
public import proofs.«01_k».proof.Proof.Gen.FoxPRefIdeal.Run
public import proofs.«01_k».proof.Proof.QkvMath
public import Idealize.ShloMosaic.Lib.Pointwise
public import Idealize.ShloMosaic.Lib.StableHlo.ReadAt

@[expose] public section

set_option maxRecDepth 16384
noncomputable section
open Idealize.ShloMosaic Idealize.ShloMosaic.TcCoe Idealize.SL.Sem Idealize.ShloMosaic.StableHlo
open Cert.QkvMath
namespace Cert.FoxPRefIdeal.Hand
open Cert.FoxPRefIdeal Cert.FoxPRefIdeal.Gen Cert.FoxPRefIdeal.Value

/-! ## The projection, by head -/

/-- The rows by batch member and token. -/
def Hr (h : FVec Ideal S65536x1024 .bf16) : FVec Ideal S32x2048x1024 .f32 := shapeCast _ (extf .f32 h bitsLt_bf16_f32) shapeCasts_S65536x1024_S32x2048x1024

/-- The rows' products with all the weights. -/
def Pr (h : FVec Ideal S65536x1024 .bf16) (w : FVec Ideal S1024x3072 .f32) : FVec Ideal S32x2048x3072 .f32 :=
  Host.dotGeneral dot_S32x2048x1024_S1024x3072_S32x2048x3072_2_0_01_1_n_n none (Hr h) w

theorem hr_at (h : FVec Ideal S65536x1024 .bf16) (b : Fin 32) (s : Fin 2048) (d : Fin 1024) :
    (Hr h (ix3 b s d) : EReal) = h (ix2 ⟨b.val * 2048 + s.val, by omega⟩ d) := by
  unfold Hr
  pointwise

theorem pr_at (h : FVec Ideal S65536x1024 .bf16) (w : FVec Ideal S1024x3072 .f32) (b : Fin 32) (s : Fin 2048) (j : Fin 3072) :
    (Pr h w (ix3 b s j) : EReal) = lin (fun d => h (ix2 ⟨b.val * 2048 + s.val, by omega⟩ d)) (fun d => w (ix2 d j)) := by
  have e : (Pr h w (ix3 b s j) : EReal) = ∑ d : Fin 1024, Hr h (ix3 b s d) * w (ix2 d j) := by
    unfold Pr
    pointwise
  rw [e]
  simp only [hr_at]
  rfl

/-- The queries by head. -/
def Qp (p : FVec Ideal S32x2048x3072 .f32) : FVec Ideal S32x2048x16x64 .f32 :=
  shapeCast _ (extractStridedSlice S32x2048x1024 ![0, 0, 0] p slices_S32x2048x3072_S32x2048x1024_0_0_0) shapeCasts_S32x2048x1024_S32x2048x16x64

theorem qp_at (h : FVec Ideal S65536x1024 .bf16) (w : FVec Ideal S1024x3072 .f32) (b : Fin 32) (s : Fin 2048) (a : Fin 16) (e : Fin 64) :
    (Qp (Pr h w) (ix4 b s a e) : EReal) = kv 0 (by norm_num) h w ⟨b.val * 2048 + s.val, by omega⟩ ⟨a.val * 64 + e.val, by omega⟩ := by
  have hp : ∀ p : FVec Ideal S32x2048x3072 .f32, (Qp p (ix4 b s a e) : EReal) = p (ix3 b s ⟨0 + (a.val * 64 + e.val), by omega⟩) := fun p => by
    unfold Qp
    pointwise
  rw [hp, pr_at]
  rfl

/-- The keys by head. -/
def Kp (p : FVec Ideal S32x2048x3072 .f32) : FVec Ideal S32x2048x16x64 .f32 :=
  shapeCast _ (extractStridedSlice S32x2048x1024 ![0, 0, 1024] p slices_S32x2048x3072_S32x2048x1024_0_0_1024) shapeCasts_S32x2048x1024_S32x2048x16x64

theorem kp_at (h : FVec Ideal S65536x1024 .bf16) (w : FVec Ideal S1024x3072 .f32) (b : Fin 32) (s : Fin 2048) (a : Fin 16) (e : Fin 64) :
    (Kp (Pr h w) (ix4 b s a e) : EReal) = kv 1024 (by norm_num) h w ⟨b.val * 2048 + s.val, by omega⟩ ⟨a.val * 64 + e.val, by omega⟩ := by
  have hp : ∀ p : FVec Ideal S32x2048x3072 .f32, (Kp p (ix4 b s a e) : EReal) = p (ix3 b s ⟨1024 + (a.val * 64 + e.val), by omega⟩) := fun p => by
    unfold Kp
    pointwise
  rw [hp, pr_at]
  rfl

/-- The values by head. -/
def Vp (p : FVec Ideal S32x2048x3072 .f32) : FVec Ideal S32x2048x16x64 .f32 :=
  shapeCast _ (extractStridedSlice S32x2048x1024 ![0, 0, 2048] p slices_S32x2048x3072_S32x2048x1024_0_0_2048) shapeCasts_S32x2048x1024_S32x2048x16x64

theorem vp_at (h : FVec Ideal S65536x1024 .bf16) (w : FVec Ideal S1024x3072 .f32) (b : Fin 32) (s : Fin 2048) (a : Fin 16) (e : Fin 64) :
    (Vp (Pr h w) (ix4 b s a e) : EReal) = kv 2048 (by norm_num) h w ⟨b.val * 2048 + s.val, by omega⟩ ⟨a.val * 64 + e.val, by omega⟩ := by
  have hp : ∀ p : FVec Ideal S32x2048x3072 .f32, (Vp p (ix4 b s a e) : EReal) = p (ix3 b s ⟨2048 + (a.val * 64 + e.val), by omega⟩) := fun p => by
    unfold Vp
    pointwise
  rw [hp, pr_at]
  rfl

/-- Each head over the root of its mean square, scaled. -/
def Nm (x : FVec Ideal S32x2048x16x64 .f32) (g : FVec Ideal S64 .f32) : FVec Ideal S32x2048x16x64 .f32 :=
  mulf (mulf x (broadcastInDim S32x2048x16x64 ![0, 1, 2, 3] bcast_S32x2048x16x1_S32x2048x16x64_0_1_2_3 (Host.rsqrt (addf (Host.divf (broadcastInDim S32x2048x16x1 ![0, 1, 2] bcast_S32x2048x16_S32x2048x16x1_0_1_2 (Host.reduceAdd (mulf x x) (constant S_ .f32 0x00000000#32) reducesTo_S32x2048x16x64_S32x2048x16_d3 h_S_)) (broadcastInDim S32x2048x16x1 ![] bcast_S_S32x2048x16x1 (constant S_ .f32 0x42800000#32))) (broadcastInDim S32x2048x16x1 ![] bcast_S_S32x2048x16x1 (constant S_ .f32 0x358637BD#32)))))) (broadcastInDim S32x2048x16x64 ![0, 1, 2, 3] bcast_S1x1x1x64_S32x2048x16x64_0_1_2_3 (broadcastInDim S1x1x1x64 ![3] bcast_S64_S1x1x1x64_3 g))

theorem nm_at (x : FVec Ideal S32x2048x16x64 .f32) (g : FVec Ideal S64 .f32) (b : Fin 32) (s : Fin 2048) (a : Fin 16) (e : Fin 64) :
    (Nm x g (ix4 b s a e) : EReal) = hn (fun d => x (ix4 b s a d)) (fun d => g (ix1 d)) e := by
  unfold Nm hn
  pointwise

/-- The scaled queries. -/
def Sc (x : FVec Ideal S32x2048x16x64 .f32) : FVec Ideal S32x2048x16x64 .f32 := mulf x (broadcastInDim S32x2048x16x64 ![] bcast_S_S32x2048x16x64 (constant S_ .f32 0x3E38AA3B#32))

theorem sc_at (x : FVec Ideal S32x2048x16x64 .f32) (b : Fin 32) (s : Fin 2048) (a : Fin 16) (e : Fin 64) :
    (Sc x (ix4 b s a e) : EReal) = x (ix4 b s a e) * Ideal.ofBits .f32 0x3E38AA3B#32 := by
  unfold Sc
  pointwise

/-- The heads' lanes in one row. -/
def Fl (x : FVec Ideal S32x2048x16x64 .f32) : FVec Ideal S65536x1024 .f32 := shapeCast _ x shapeCasts_S32x2048x16x64_S65536x1024

theorem fl_at (x : FVec Ideal S32x2048x16x64 .f32) (i : Fin 65536) (n : Fin 1024) :
    (Fl x (ix2 i n) : EReal) = x (ix4 ⟨i.val / 2048, by omega⟩ ⟨i.val % 2048, by omega⟩ ⟨n.val / 64, by omega⟩ ⟨n.val % 64, by omega⟩) := by
  unfold Fl
  pointwise

theorem row_eq (i : Fin 65536) : (⟨i.val / 2048 * 2048 + i.val % 2048, by omega⟩ : Fin 65536) = i := Fin.ext (by simp only []; omega)
theorem lane_eq (n : Fin 1024) : (⟨n.val / 64 * 64 + n.val % 64, by omega⟩ : Fin 1024) = n := Fin.ext (by simp only []; omega)

/-- The queries are the spelt out ones. -/
theorem q_eq (h : FVec Ideal S65536x1024 .bf16) (w : FVec Ideal S1024x3072 .f32) (g : FVec Ideal S64 .f32) :
    (truncf .bf16 (Fl (Sc (Nm (Qp (Pr h w)) g))) bitsLt_bf16_f32 : FVec Ideal S65536x1024 .bf16) = QO h w g := by
  funext y
  idx_vars y
  have e : ∀ z : FVec Ideal S65536x1024 .f32, ((truncf .bf16 z bitsLt_bf16_f32 : FVec Ideal S65536x1024 .bf16) (ix2 y0 y1) : EReal) = z (ix2 y0 y1) := fun z => by
    pointwise
  refine (e _).trans ((fl_at _ y0 y1).trans ?_)
  rw [sc_at, nm_at]
  simp only [qp_at, row_eq]
  rfl

/-- The heads' lanes in one column per token. -/
def Ft (x : FVec Ideal S32x2048x16x64 .f32) : FVec Ideal S32x1024x2048 .f32 :=
  shapeCast _ (transpose S32x16x64x2048 [0, 2, 3, 1] x transposes_S32x2048x16x64_S32x16x64x2048_0_2_3_1) shapeCasts_S32x16x64x2048_S32x1024x2048

theorem ft_at (x : FVec Ideal S32x2048x16x64 .f32) (b : Fin 32) (n : Fin 1024) (s : Fin 2048) :
    (Ft x (ix3 b n s) : EReal) = x (ix4 b s ⟨n.val / 64, by omega⟩ ⟨n.val % 64, by omega⟩) := by
  unfold Ft
  pointwise

/-- The keys are the spelt out ones. -/
theorem k_eq (h : FVec Ideal S65536x1024 .bf16) (w : FVec Ideal S1024x3072 .f32) (g : FVec Ideal S64 .f32) :
    Ft (Nm (Kp (Pr h w)) g) = KT h w g := by
  funext y
  idx_vars y
  refine (ft_at _ y0 y1 y2).trans ?_
  rw [nm_at]
  simp only [kp_at]
  rfl

/-- The values are the spelt out ones. -/
theorem v_eq (h : FVec Ideal S65536x1024 .bf16) (w : FVec Ideal S1024x3072 .f32) : Ft (Vp (Pr h w)) = VT h w := by
  funext y
  idx_vars y
  refine (ft_at _ y0 y1 y2).trans ?_
  rw [vp_at, lane_eq]
  rfl

/-- A leading axis of one. -/
def L1 (x : FVec Ideal S32x1024x2048 .f32) : FVec Ideal S1x32x1024x2048 .f32 := broadcastInDim S1x32x1024x2048 ![1, 2, 3] bcast_S32x1024x2048_S1x32x1024x2048_1_2_3 x

theorem l1_eq (x : FVec Ideal S32x1024x2048 .f32) : L1 x = T1 x := by
  funext y
  idx_vars y
  unfold L1 T1
  pointwise

/-- The gates before the logistic function. -/
def Gp (h : FVec Ideal S65536x1024 .bf16) (w : FVec Ideal S1024x16 .f32) (b : FVec Ideal S16 .f32) : FVec Ideal S32x2048x16 .f32 :=
  addf (Host.dotGeneral dot_S32x2048x1024_S1024x16_S32x2048x16_2_0_01_1_n_n none (Hr h) w) (broadcastInDim S32x2048x16 ![0, 1, 2] bcast_S1x1x16_S32x2048x16_0_1_2 (broadcastInDim S1x1x16 ![2] bcast_S16_S1x1x16_2 b))

/-- The logarithm of the logistic function of `x`. -/
def Lf (x : FVec Ideal S32x2048x16 .f32) : FVec Ideal S32x2048x16 .f32 :=
  Host.negf (select (cmpf .une (subf (Host.negf x) (broadcastInDim S32x2048x16 ![] bcast_S_S32x2048x16 (constant S_ .f32 0x00000000#32))) (subf (Host.negf x) (broadcastInDim S32x2048x16 ![] bcast_S_S32x2048x16 (constant S_ .f32 0x00000000#32)))) (addf (Host.negf x) (broadcastInDim S32x2048x16 ![] bcast_S_S32x2048x16 (constant S_ .f32 0x00000000#32))) (addf (maximumf (Host.negf x) (broadcastInDim S32x2048x16 ![] bcast_S_S32x2048x16 (constant S_ .f32 0x00000000#32))) (Host.log1p (Host.exp (Host.negf (Host.absf (subf (Host.negf x) (broadcastInDim S32x2048x16 ![] bcast_S_S32x2048x16 (constant S_ .f32 0x00000000#32)))))))))

theorem gp_at (h : FVec Ideal S65536x1024 .bf16) (w : FVec Ideal S1024x16 .f32) (v : FVec Ideal S16 .f32) (b : Fin 32) (s : Fin 2048) (a : Fin 16) :
    (Gp h w v (ix3 b s a) : EReal) = lin (fun d => h (ix2 ⟨b.val * 2048 + s.val, by omega⟩ d)) (fun d => w (ix2 d a)) + v (ix1 a) := by
  have e : (Gp h w v (ix3 b s a) : EReal) = (∑ d : Fin 1024, Hr h (ix3 b s d) * w (ix2 d a)) + v (ix1 a) := by
    unfold Gp
    pointwise
  rw [e]
  simp only [hr_at]
  rfl

theorem lf_at (x : FVec Ideal S32x2048x16 .f32) (b : Fin 32) (s : Fin 2048) (a : Fin 16) :
    (Lf x (ix3 b s a) : EReal) = ls (x (ix3 b s a)) := by
  rw [← ls_eq]
  unfold Lf
  pointwise
  exact congrArg Neg.neg (if_neg fun h => h rfl)

/-- The log gates are the spelt out ones. -/
theorem f_eq (h : FVec Ideal S65536x1024 .bf16) (w : FVec Ideal S1024x16 .f32) (b : FVec Ideal S16 .f32) :
    transpose S32x16x2048 [0, 2, 1] (Lf (Gp h w b)) transposes_S32x2048x16_S32x16x2048_0_2_1 = FT h w b := by
  funext y
  idx_vars y
  have e : ∀ x : FVec Ideal S32x2048x16 .f32, (transpose S32x16x2048 [0, 2, 1] x transposes_S32x2048x16_S32x16x2048_0_2_1 (ix3 y0 y1 y2) : EReal) = x (ix3 y0 y2 y1) := fun x => by
    pointwise
  refine (e _).trans ?_
  rw [lf_at, gp_at]
  rfl

end Cert.FoxPRefIdeal.Hand
-- ==== Proof.FoxPPair.lean ====
module

public import proofs.«01_k».proof.Defs
public import proofs.«01_k».proof.Proof.Gen.FoxP.Frame
public import proofs.«01_k».proof.Proof.Gen.FoxPIdeal.Value
public import proofs.«01_k».proof.Proof.FoxPArr
public import proofs.«01_k».proof.Proof.FoxPRef
public import Idealize.ShloMosaic.Lib.Quiescent

@[expose] public section

noncomputable section
open Idealize.ShloMosaic Idealize.SL.Sem Cert.QkvMath
namespace Cert.FoxPPair

/-- The reference of the forgetting-attention projections of the prompt rows ends with its arguments unchanged and its counters at zero. -/
theorem frame_ref :
    Cert.quiescent_FoxPRefIdeal (hFoxPRefIdeal := Cert.FoxPRefIdeal.Gen.facts) := fun m ρ _ =>
  (θ_run Cert.FoxPRefIdeal.defs _ _).mono (fun r h => ⟨fun c => (h c).2.2.2.2.2.2, sem_eq_zero_of_no_sems (by decide) r.2⟩)
    (Cert.FoxPRefIdeal.Value.run (F := Ideal) m ρ)

/-- The kernel of the forgetting-attention projections of the prompt rows and its reference end with the same results. -/
theorem value : Cert.algebraic_FoxPIdeal_FoxPRefIdeal (hFoxPIdeal := Cert.FoxPIdeal.Gen.facts) (hFoxPRefIdeal := Cert.FoxPRefIdeal.Gen.facts) := by
  intro m g m' g' _ agree
  refine ⟨_, _, _, _, _, _, Cert.FoxPIdeal.Value.run_blocks (F := Ideal) m g, ?_⟩
  refine (θ_run Cert.FoxPRefIdeal.defs _ _).mono (fun r h c => ?_) (Cert.FoxPRefIdeal.Value.run (F := Ideal) m' g')
  obtain ⟨a0, a1, a2, a3, a4, a5⟩ := agree c
  obtain ⟨h0, h1, h2, h3, h4, h5, h6⟩ := h c
  refine ⟨h0.trans ?_, h1.trans ?_, h2.trans ?_, h3.trans ?_, h4.trans ?_, h5.trans ?_, h6⟩
  · refine (Cert.FoxPRefIdeal.Hand.q_eq _ _ _).trans (Eq.trans ?_ (Cert.FoxPIdeal.Hand.q_arr m c).symm)
    exact congr (congr (congrArg QO a0) a1) a2
  · refine (Cert.FoxPRefIdeal.Hand.k_eq _ _ _).trans (Eq.trans ?_ (Cert.FoxPIdeal.Hand.k_arr m c).symm)
    exact congr (congr (congrArg KT a0) a1) a3
  · refine (Cert.FoxPRefIdeal.Hand.v_eq _ _).trans (Eq.trans ?_ (Cert.FoxPIdeal.Hand.v_arr m c).symm)
    exact congr (congrArg VT a0) a1
  · refine ((Cert.FoxPRefIdeal.Hand.l1_eq _).trans (congrArg T1 (Cert.FoxPRefIdeal.Hand.k_eq _ _ _))).trans (Eq.trans ?_ (Cert.FoxPIdeal.Hand.kf_arr m c).symm)
    exact congrArg T1 (congr (congr (congrArg KT a0) a1) a3)
  · refine ((Cert.FoxPRefIdeal.Hand.l1_eq _).trans (congrArg T1 (Cert.FoxPRefIdeal.Hand.v_eq _ _))).trans (Eq.trans ?_ (Cert.FoxPIdeal.Hand.vf_arr m c).symm)
    exact congrArg T1 (congr (congrArg VT a0) a1)
  · refine (Cert.FoxPRefIdeal.Hand.f_eq _ _ _).trans (Eq.trans ?_ (Cert.FoxPIdeal.Hand.g_arr m c).symm)
    exact congr (congr (congrArg FT a0) a4) a5

end Cert.FoxPPair
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ret
public import proofs.«01_k».proof.Proof.Gen.Ffn.Frame
public import proofs.«01_k».proof.Proof.Gen.FfnIdeal.Value
public import proofs.«01_k».proof.Proof.Gen.FfnRefIdeal.Run
public import proofs.«01_k».proof.Proof.FfnPair
public import proofs.«01_k».proof.Proof.Gen.Mix.Frame
public import proofs.«01_k».proof.Proof.Gen.MixIdeal.Value
public import proofs.«01_k».proof.Proof.Gen.MixRefIdeal.Run
public import proofs.«01_k».proof.Proof.MixPair
public import proofs.«01_k».proof.Proof.Gen.Out.Frame
public import proofs.«01_k».proof.Proof.Gen.OutIdeal.Value
public import proofs.«01_k».proof.Proof.Gen.OutRefIdeal.Run
public import proofs.«01_k».proof.Proof.OutPair
public import proofs.«01_k».proof.Proof.Gen.OutS.Frame
public import proofs.«01_k».proof.Proof.Gen.OutSIdeal.Value
public import proofs.«01_k».proof.Proof.Gen.OutSRefIdeal.Run
public import proofs.«01_k».proof.Proof.OutSPair
public import proofs.«01_k».proof.Proof.Gen.FfnS.Frame
public import proofs.«01_k».proof.Proof.Gen.FfnSIdeal.Value
public import proofs.«01_k».proof.Proof.Gen.FfnSRefIdeal.Run
public import proofs.«01_k».proof.Proof.FfnSPair
public import proofs.«01_k».proof.Proof.Gen.RetS.Frame
public import proofs.«01_k».proof.Proof.Gen.RetSIdeal.Value
public import proofs.«01_k».proof.Proof.Gen.RetSRefIdeal.Run
public import proofs.«01_k».proof.Proof.RetSPair
public import proofs.«01_k».proof.Proof.Gen.BandS.Frame
public import proofs.«01_k».proof.Proof.Gen.BandSIdeal.Value
public import proofs.«01_k».proof.Proof.Gen.BandSRefIdeal.Run
public import proofs.«01_k».proof.Proof.BandSPair
public import proofs.«01_k».proof.Proof.Gen.FoxS.Frame
public import proofs.«01_k».proof.Proof.Gen.FoxSIdeal.Value
public import proofs.«01_k».proof.Proof.Gen.FoxSRefIdeal.Run
public import proofs.«01_k».proof.Proof.FoxSPair
public import proofs.«01_k».proof.Proof.Gen.FoxP.Frame
public import proofs.«01_k».proof.Proof.Gen.FoxPIdeal.Value
public import proofs.«01_k».proof.Proof.Gen.FoxPRefIdeal.Run
public import proofs.«01_k».proof.Proof.FoxPPair
public import Idealize.ShloMosaic.Adequacy
public import Idealize.ShloMosaic.Init

@[expose] public section

noncomputable section

namespace Cert.Proof

open Idealize.ShloMosaic Idealize.SL.Sem Cert.Kernel

/-- Everything claimed of the calls: what each leaves unchanged, and that each computes what its reference computes. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Out.Gen.facts, Cert.OutIdeal.Gen.facts, Cert.OutRefIdeal.Gen.facts,
  Cert.OutS.Gen.facts, Cert.OutSIdeal.Gen.facts, Cert.OutSRefIdeal.Gen.facts,
  Cert.FfnS.Gen.facts, Cert.FfnSIdeal.Gen.facts, Cert.FfnSRefIdeal.Gen.facts,
  Cert.RetS.Gen.facts, Cert.RetSIdeal.Gen.facts, Cert.RetSRefIdeal.Gen.facts,
  Cert.BandS.Gen.facts, Cert.BandSIdeal.Gen.facts, Cert.BandSRefIdeal.Gen.facts,
  Cert.FoxS.Gen.facts, Cert.FoxSIdeal.Gen.facts, Cert.FoxSRefIdeal.Gen.facts,
  Cert.FoxP.Gen.facts, Cert.FoxPIdeal.Gen.facts, Cert.FoxPRefIdeal.Gen.facts,
  Cert.Pre_finite_qkv.Hand.facts,
  fun m ρ _ => Cert.Kernel.Gen.frame m ρ, fun m ρ _ => Cert.KernelIdeal.Gen.frame m ρ, fun m ρ _ => Cert.KernelIdeal.Gen.frame m ρ,
  Cert.Ret.frame_ref, fun m ρ _ => Cert.Ret.frame_ref m ρ trivial,
  fun m ρ _ => Cert.Ffn.Gen.frame m ρ, fun m ρ _ => Cert.FfnIdeal.Gen.frame m ρ, Cert.FfnPair.frame_ref,
  fun m ρ _ => Cert.Mix.Gen.frame m ρ, fun m ρ _ => Cert.MixIdeal.Gen.frame m ρ, Cert.MixPair.frame_ref,
  fun m ρ _ => Cert.Out.Gen.frame m ρ, fun m ρ _ => Cert.OutIdeal.Gen.frame m ρ, Cert.OutPair.frame_ref,
  fun m ρ _ => Cert.OutS.Gen.frame m ρ, fun m ρ _ => Cert.OutSIdeal.Gen.frame m ρ, Cert.OutSPair.frame_ref,
  fun m ρ _ => Cert.FfnS.Gen.frame m ρ, fun m ρ _ => Cert.FfnSIdeal.Gen.frame m ρ, Cert.FfnSPair.frame_ref,
  fun m ρ _ => Cert.RetS.Gen.frame m ρ, fun m ρ _ => Cert.RetSIdeal.Gen.frame m ρ, Cert.RetSPair.frame_ref,
  fun m ρ _ => Cert.BandS.Gen.frame m ρ, fun m ρ _ => Cert.BandSIdeal.Gen.frame m ρ, Cert.BandSPair.frame_ref,
  fun m ρ _ => Cert.FoxS.Gen.frame m ρ, fun m ρ _ => Cert.FoxSIdeal.Gen.frame m ρ, Cert.FoxSPair.frame_ref,
  fun m ρ _ => Cert.FoxP.Gen.frame m ρ, fun m ρ _ => Cert.FoxPIdeal.Gen.frame m ρ, Cert.FoxPPair.frame_ref,
  trivial, Cert.Ret.value,
  trivial, Cert.FfnPair.value,
  trivial, Cert.MixPair.value,
  trivial, Cert.OutPair.value,
  trivial, Cert.OutSPair.value,
  trivial, Cert.FfnSPair.value,
  trivial, Cert.RetSPair.value,
  trivial, Cert.BandSPair.value,
  trivial, Cert.FoxSPair.value,
  trivial, Cert.FoxPPair.value⟩

end Cert.Proof

end
